-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))).2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))).2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))).2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))).2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))).2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))).2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v7) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v49) = v0 c
          ∧ r.2.mem ((c.tc : Thread Cert.Reference12Ideal.nD Cert.Reference12Ideal.τ).loc Cert.Reference12Ideal.main_v32) = v1 c
          ∧ r.2.mem ((c.tc : Thread Cert.Reference12Ideal.nD Cert.Reference12Ideal.τ).loc Cert.Reference12Ideal.main_v27) = v2 c
          ∧ r.2.mem ((c.tc : Thread Cert.Reference12Ideal.nD Cert.Reference12Ideal.τ).loc Cert.Reference12Ideal.main_v24) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v47) = v0 c
          ∧ r.2.mem ((c.tc : Thread Cert.Reference13Ideal.nD Cert.Reference13Ideal.τ).loc Cert.Reference13Ideal.main_v48) = v1 c
          ∧ r.2.mem ((c.tc : Thread Cert.Reference13Ideal.nD Cert.Reference13Ideal.τ).loc Cert.Reference13Ideal.main_v51) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v140) = v0 c
          ∧ r.2.mem ((c.tc : Thread Cert.Reference14Ideal.nD Cert.Reference14Ideal.τ).loc Cert.Reference14Ideal.main_v131) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_v48) = v1 c
          ∧ r.2.mem ((c.tc : Thread Cert.Reference15Ideal.nD Cert.Reference15Ideal.τ).loc Cert.Reference15Ideal.main_v32) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v49) = v0 c
          ∧ r.2.mem ((c.tc : Thread Cert.Reference17Ideal.nD Cert.Reference17Ideal.τ).loc Cert.Reference17Ideal.main_v50) = v1 c
          ∧ r.2.mem ((c.tc : Thread Cert.Reference17Ideal.nD Cert.Reference17Ideal.τ).loc Cert.Reference17Ideal.main_v27) = v2 c
          ∧ r.2.mem ((c.tc : Thread Cert.Reference17Ideal.nD Cert.Reference17Ideal.τ).loc Cert.Reference17Ideal.main_v24) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v32) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v24) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v20) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v45) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v19) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v33) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v53) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel16_Kernel16Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel16 : Cert.Kernel16.Facts) (hKernel16Ideal : Cert.Kernel16Ideal.Facts) (hPre_finite : Cert.Pre_finite.Facts) (hPre_finite11 : Cert.Pre_finite11.Facts) (hPre_finite12 : Cert.Pre_finite12.Facts) (hPre_finite13 : Cert.Pre_finite13.Facts) (hPre_finite14 : Cert.Pre_finite14.Facts) (hPre_finite15 : Cert.Pre_finite15.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel16 (hKernel16 := hKernel16)
    ∧ quiescent_Kernel16Ideal (hKernel16Ideal := hKernel16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel16_Kernel16Ideal
-- ==== Pre_finite.lean ====
abbrev S4096x16384 : Shape := ⟨2, ![4096, 16384]⟩
abbrev S4096x4096 : Shape := ⟨2, ![4096, 4096]⟩
abbrev S3x4096 : Shape := ⟨2, ![3, 4096]⟩
abbrev S_ : Shape := ⟨0, ![]⟩

class Facts : Prop where
  bcast_S_S4096x16384 : S_.BroadcastsInDim S4096x16384 (![] : Fin 0 → Fin S4096x16384.rank)
  bcast_S_S4096x4096 : S_.BroadcastsInDim S4096x4096 (![] : Fin 0 → Fin S4096x4096.rank)
  bcast_S_S3x4096 : S_.BroadcastsInDim S3x4096 (![] : Fin 0 → Fin S3x4096.rank)

variable [Facts]

def fn {F : FTy → Type} [FloatOps F] (main_arg0 : FVec F S4096x16384 .f32) (main_arg1 : FVec F S4096x4096 .f32) (main_arg2 : FVec F S3x4096 .f32) : IVec S4096x16384 1 × IVec S4096x4096 1 × IVec S3x4096 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S3x4096 .f32 := Host.absf main_arg2
  let main_cst_1 : FVec F S_ .f32 := constant S_ .f32 0x7F800000#32
  let main_v7 : FVec F S3x4096 .f32 := broadcastInDim S3x4096 ![] bcast_S_S3x4096 main_cst_1
  let main_v8 : IVec S3x4096 1 := cmpf .olt main_v6 main_v7
  (main_v2, main_v5, main_v8)
-- ==== Pre_finite11.lean ====
abbrev S4096x2048 : Shape := ⟨2, ![4096, 2048]⟩
abbrev S4352x12288 : Shape := ⟨2, ![4352, 12288]⟩
abbrev S4096x4096 : Shape := ⟨2, ![4096, 4096]⟩
abbrev S_ : Shape := ⟨0, ![]⟩

class Facts : Prop where
  bcast_S_S4096x2048 : S_.BroadcastsInDim S4096x2048 (![] : Fin 0 → Fin S4096x2048.rank)
  bcast_S_S4352x12288 : S_.BroadcastsInDim S4352x12288 (![] : Fin 0 → Fin S4352x12288.rank)
  bcast_S_S4096x4096 : S_.BroadcastsInDim S4096x4096 (![] : Fin 0 → Fin S4096x4096.rank)

variable [Facts]

def fn {F : FTy → Type} [FloatOps F] (main_arg0 : FVec F S4096x2048 .f32) (main_arg1 : FVec F S4352x12288 .f32) (main_arg2 : FVec F S4096x4096 .f32) : IVec S4096x2048 1 × IVec S4352x12288 1 × IVec S4096x4096 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4352x12288 .f32 := Host.absf main_arg1
  let main_cst_0 : FVec F S_ .f32 := constant S_ .f32 0x7F800000#32
  let main_v4 : FVec F S4352x12288 .f32 := broadcastInDim S4352x12288 ![] bcast_S_S4352x12288 main_cst_0
  let main_v5 : IVec S4352x12288 1 := cmpf .olt main_v3 main_v4
  let main_v6 : FVec F S4096x4096 .f32 := Host.absf main_arg2
  let main_cst_1 : FVec F S_ .f32 := constant S_ .f32 0x7F800000#32
  let main_v7 : FVec F S4096x4096 .f32 := broadcastInDim S4096x4096 ![] bcast_S_S4096x4096 main_cst_1
  let main_v8 : IVec S4096x4096 1 := cmpf .olt main_v6 main_v7
  (main_v2, main_v5, main_v8)
-- ==== Pre_finite12.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  bcast_S_S1x4096 : S_.BroadcastsInDim S1x4096 (![] : Fin 0 → Fin S1x4096.rank)

variable [Facts]

def fn {F : FTy → Type} [FloatOps F] (main_arg0 : FVec F S4096x4096 .f32) (main_arg1 : FVec F S1x4096 .f32) (main_arg2 : FVec F S1x4096 .f32) (main_arg3 : FVec F S4096x4096 .f32) (main_arg4 : FVec F S4096x4096 .f32) : IVec S4096x4096 1 × IVec S1x4096 1 × IVec S1x4096 1 × IVec S4096x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S1x4096 .f32 := Host.absf main_arg1
  let main_cst_0 : FVec F S_ .f32 := constant S_ .f32 0x7F800000#32
  let main_v4 : FVec F S1x4096 .f32 := broadcastInDim S1x4096 ![] bcast_S_S1x4096 main_cst_0
  let main_v5 : IVec S1x4096 1 := cmpf .olt main_v3 main_v4
  let main_v6 : FVec F S1x4096 .f32 := Host.absf main_arg2
  let main_cst_1 : FVec F S_ .f32 := constant S_ .f32 0x7F800000#32
  let main_v7 : FVec F S1x4096 .f32 := broadcastInDim S1x4096 ![] bcast_S_S1x4096 main_cst_1
  let main_v8 : IVec S1x4096 1 := cmpf .olt main_v6 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  (main_v2, main_v5, main_v8, main_v11)
-- ==== Pre_finite13.lean ====
abbrev S4096x2048 : Shape := ⟨2, ![4096, 2048]⟩
abbrev S4352x12288 : Shape := ⟨2, ![4352, 12288]⟩
abbrev S4096x4096 : Shape := ⟨2, ![4096, 4096]⟩
abbrev S1x128 : Shape := ⟨2, ![1, 128]⟩
abbrev S_ : Shape := ⟨0, ![]⟩

class Facts : Prop where
  bcast_S_S4096x2048 : S_.BroadcastsInDim S4096x2048 (![] : Fin 0 → Fin S4096x2048.rank)
  bcast_S_S4352x12288 : S_.BroadcastsInDim S4352x12288 (![] : Fin 0 → Fin S4352x12288.rank)
  bcast_S_S4096x4096 : S_.BroadcastsInDim S4096x4096 (![] : Fin 0 → Fin S4096x4096.rank)
  bcast_S_S1x128 : S_.BroadcastsInDim S1x128 (![] : Fin 0 → Fin S1x128.rank)

variable [Facts]

def fn {F : FTy → Type} [FloatOps F] (main_arg0 : FVec F S4096x2048 .f32) (main_arg1 : FVec F S4352x12288 .f32) (main_arg2 : FVec F S4096x4096 .f32) (main_arg3 : FVec F S1x128 .f32) : IVec S4096x2048 1 × IVec S4352x12288 1 × IVec S4096x4096 1 × IVec S1x128 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4352x12288 .f32 := Host.absf main_arg1
  let main_cst_0 : FVec F S_ .f32 := constant S_ .f32 0x7F800000#32
  let main_v4 : FVec F S4352x12288 .f32 := broadcastInDim S4352x12288 ![] bcast_S_S4352x12288 main_cst_0
  let main_v5 : IVec S4352x12288 1 := cmpf .olt main_v3 main_v4
  let main_v6 : FVec F S4096x4096 .f32 := Host.absf main_arg2
  let main_cst_1 : FVec F S_ .f32 := constant S_ .f32 0x7F800000#32
  let main_v7 : FVec F S4096x4096 .f32 := broadcastInDim S4096x4096 ![] bcast_S_S4096x4096 main_cst_1
  let main_v8 : IVec S4096x4096 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  (main_v2, main_v5, main_v8, main_v11)
-- ==== Pre_finite14.lean ====
abbrev S4352x12288 : Shape := ⟨2, ![4352, 12288]⟩
abbrev S4x6144 : Shape := ⟨2, ![4, 6144]⟩
abbrev S3x4352x2048 : Shape := ⟨3, ![3, 4352, 2048]⟩
abbrev S_ : Shape := ⟨0, ![]⟩

class Facts : Prop where
  bcast_S_S4352x12288 : S_.BroadcastsInDim S4352x12288 (![] : Fin 0 → Fin S4352x12288.rank)
  bcast_S_S4x6144 : S_.BroadcastsInDim S4x6144 (![] : Fin 0 → Fin S4x6144.rank)
  bcast_S_S3x4352x2048 : S_.BroadcastsInDim S3x4352x2048 (![] : Fin 0 → Fin S3x4352x2048.rank)

variable [Facts]

def fn {F : FTy → Type} [FloatOps F] (main_arg0 : FVec F S4352x12288 .f32) (main_arg1 : FVec F S4x6144 .f32) (main_arg2 : FVec F S3x4352x2048 .f32) : IVec S4352x12288 1 × IVec S4x6144 1 × IVec S3x4352x2048 1 :=
  let main_v0 : FVec F S4352x12288 .f32 := Host.absf main_arg0
  let main_cst : FVec F S_ .f32 := constant S_ .f32 0x7F800000#32
  let main_v1 : FVec F S4352x12288 .f32 := broadcastInDim S4352x12288 ![] bcast_S_S4352x12288 main_cst
  let main_v2 : IVec S4352x12288 1 := cmpf .olt main_v0 main_v1
  let main_v3 : FVec F S4x6144 .f32 := Host.absf main_arg1
  let main_cst_0 : FVec F S_ .f32 := constant S_ .f32 0x7F800000#32
  let main_v4 : FVec F S4x6144 .f32 := broadcastInDim S4x6144 ![] bcast_S_S4x6144 main_cst_0
  let main_v5 : IVec S4x6144 1 := cmpf .olt main_v3 main_v4
  let main_v6 : FVec F S3x4352x2048 .f32 := Host.absf main_arg2
  let main_cst_1 : FVec F S_ .f32 := constant S_ .f32 0x7F800000#32
  let main_v7 : FVec F S3x4352x2048 .f32 := broadcastInDim S3x4352x2048 ![] bcast_S_S3x4352x2048 main_cst_1
  let main_v8 : IVec S3x4352x2048 1 := cmpf .olt main_v6 main_v7
  (main_v2, main_v5, main_v8)
-- ==== Pre_finite15.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  bcast_S_S1x4096 : S_.BroadcastsInDim S1x4096 (![] : Fin 0 → Fin S1x4096.rank)

variable [Facts]

def fn {F : FTy → Type} [FloatOps F] (main_arg0 : FVec F S4096x4096 .f32) (main_arg1 : FVec F S1x4096 .f32) (main_arg2 : FVec F S4096x4096 .f32) : IVec S4096x4096 1 × IVec S1x4096 1 × IVec S4096x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S1x4096 .f32 := Host.absf main_arg1
  let main_cst_0 : FVec F S_ .f32 := constant S_ .f32 0x7F800000#32
  let main_v4 : FVec F S1x4096 .f32 := broadcastInDim S1x4096 ![] bcast_S_S1x4096 main_cst_0
  let main_v5 : IVec S1x4096 1 := cmpf .olt main_v3 main_v4
  let main_v6 : FVec F S4096x4096 .f32 := Host.absf main_arg2
  let main_cst_1 : FVec F S_ .f32 := constant S_ .f32 0x7F800000#32
  let main_v7 : FVec F S4096x4096 .f32 := broadcastInDim S4096x4096 ![] bcast_S_S4096x4096 main_cst_1
  let main_v8 : IVec S4096x4096 1 := cmpf .olt main_v6 main_v7
  (main_v2, main_v5, main_v8)
-- ==== Pre_finite17.lean ====
abbrev S4096x4096 : Shape := ⟨2, ![4096, 4096]⟩
abbrev S1x4096 : Shape := ⟨2, ![1, 4096]⟩
abbrev S4352x4096 : Shape := ⟨2, ![4352, 4096]⟩
abbrev S_ : Shape := ⟨0, ![]⟩

class Facts : Prop where
  bcast_S_S4096x4096 : S_.BroadcastsInDim S4096x4096 (![] : Fin 0 → Fin S4096x4096.rank)
  bcast_S_S1x4096 : S_.BroadcastsInDim S1x4096 (![] : Fin 0 → Fin S1x4096.rank)
  bcast_S_S4352x4096 : S_.BroadcastsInDim S4352x4096 (![] : Fin 0 → Fin S4352x4096.rank)

variable [Facts]

def fn {F : FTy → Type} [FloatOps F] (main_arg0 : FVec F S4096x4096 .f32) (main_arg1 : FVec F S1x4096 .f32) (main_arg2 : FVec F S1x4096 .f32) (main_arg3 : FVec F S4352x4096 .f32) (main_arg4 : FVec F S4096x4096 .f32) (main_arg5 : FVec F S1x4096 .f32) : IVec S4096x4096 1 × IVec S1x4096 1 × IVec S1x4096 1 × IVec S4352x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S1x4096 .f32 := Host.absf main_arg1
  let main_cst_0 : FVec F S_ .f32 := constant S_ .f32 0x7F800000#32
  let main_v4 : FVec F S1x4096 .f32 := broadcastInDim S1x4096 ![] bcast_S_S1x4096 main_cst_0
  let main_v5 : IVec S1x4096 1 := cmpf .olt main_v3 main_v4
  let main_v6 : FVec F S1x4096 .f32 := Host.absf main_arg2
  let main_cst_1 : FVec F S_ .f32 := constant S_ .f32 0x7F800000#32
  let main_v7 : FVec F S1x4096 .f32 := broadcastInDim S1x4096 ![] bcast_S_S1x4096 main_cst_1
  let main_v8 : IVec S1x4096 1 := cmpf .olt main_v6 main_v7
  let main_v9 : FVec F S4352x4096 .f32 := Host.absf main_arg3
  let main_cst_2 : FVec F S_ .f32 := constant S_ .f32 0x7F800000#32
  let main_v10 : FVec F S4352x4096 .f32 := broadcastInDim S4352x4096 ![] bcast_S_S4352x4096 main_cst_2
  let main_v11 : IVec S4352x4096 1 := cmpf .olt main_v9 main_v10
  (main_v2, main_v5, main_v8, main_v11)
-- ==== Kernel.lean ====
abbrev S4096x16384 : Shape := ⟨2, ![4096, 16384]⟩
abbrev S4096x4096 : Shape := ⟨2, ![4096, 4096]⟩
abbrev S3x4096 : Shape := ⟨2, ![3, 4096]⟩
abbrev S128x16384 : Shape := ⟨2, ![128, 16384]⟩
abbrev S128x4096 : Shape := ⟨2, ![128, 4096]⟩
abbrev S1x4096 : Shape := ⟨2, ![1, 4096]⟩
abbrev S128x1 : Shape := ⟨2, ![128, 1]⟩
abbrev S4096 : Shape := ⟨1, ![4096]⟩

abbrev nBuf : Space → Nat
  | .hbm => 5
  | .vmem => 8
  | .smem => 0
  | _ => 0

abbrev bufTy : (tb : Table) → Fin (tcTables nBuf tb) → BufTy
  | .hbm, ⟨0, _⟩ => ⟨S4096x16384, .f32⟩
  | .hbm, ⟨1, _⟩ => ⟨S4096x4096, .f32⟩
  | .hbm, ⟨2, _⟩ => ⟨S3x4096, .f32⟩
  | .hbm, ⟨3, _⟩ => ⟨S4096x16384, .bf16⟩
  | .hbm, ⟨4, _⟩ => ⟨S3x4096, .f32⟩
  | .local _ .vmem, ⟨0, _⟩ => ⟨S128x16384, .f32⟩
  | .local _ .vmem, ⟨1, _⟩ => ⟨S128x16384, .f32⟩
  | .local _ .vmem, ⟨2, _⟩ => ⟨S128x4096, .f32⟩
  | .local _ .vmem, ⟨3, _⟩ => ⟨S128x4096, .f32⟩
  | .local _ .vmem, ⟨4, _⟩ => ⟨S3x4096, .f32⟩
  | .local _ .vmem, ⟨5, _⟩ => ⟨S128x16384, .bf16⟩
  | .local _ .vmem, ⟨6, _⟩ => ⟨S128x16384, .bf16⟩
  | .local _ .vmem, ⟨7, _⟩ => ⟨S3x4096, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x16384 : Shape := ⟨2, ![4096, 16384]⟩
abbrev S4096x4096 : Shape := ⟨2, ![4096, 4096]⟩
abbrev S3x4096 : Shape := ⟨2, ![3, 4096]⟩
abbrev S64x64x4096 : Shape := ⟨3, ![64, 64, 4096]⟩
abbrev S64x1x4096 : Shape := ⟨3, ![64, 1, 4096]⟩
abbrev S_ : Shape := ⟨0, ![]⟩
abbrev S64x63x4096 : Shape := ⟨3, ![64, 63, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 112
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x4096, .f32⟩
  | .hbm, ⟨2, _⟩ => ⟨S3x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S64x64x4096, .f32⟩
  | .hbm, ⟨9, _⟩ => ⟨S64x1x4096, .f32⟩
  | .hbm, ⟨10, _⟩ => ⟨S_, .f32⟩
  | .hbm, ⟨11, _⟩ => ⟨S64x1x4096, .f32⟩
  | .hbm, ⟨12, _⟩ => ⟨S64x63x4096, .f32⟩
  | .hbm, ⟨13, _⟩ => ⟨S64x64x4096, .f32⟩
  | .hbm, ⟨14, _⟩ => ⟨S_, .f32⟩
  | .hbm, ⟨15, _⟩ => ⟨S64x1x4096, .f32⟩
  | .hbm, ⟨16, _⟩ => ⟨S64x63x4096, .f32⟩
  | .hbm, ⟨17, _⟩ => ⟨S64x64x4096, .f32⟩
  | .hbm, ⟨18, _⟩ => ⟨S_, .f32⟩
  | .hbm, ⟨19, _⟩ => ⟨S64x1x4096, .f32⟩
  | .hbm, ⟨20, _⟩ => ⟨S1x4096, .f32⟩
  | .hbm, ⟨21, _⟩ => ⟨S4096, .f32⟩
  | .hbm, ⟨22, _⟩ => ⟨S1x1x4096, .f32⟩
  | .hbm, ⟨23, _⟩ => ⟨S64x64x4096, .f32⟩
  | .hbm, ⟨24, _⟩ => ⟨S64x64x4096, .f32⟩
  | .hbm, ⟨25, _⟩ => ⟨S1x4096, .f32⟩
  | .hbm, ⟨26, _⟩ => ⟨S4096, .f32⟩
  | .hbm, ⟨27, _⟩ => ⟨S1x1x4096, .f32⟩
  | .hbm, ⟨28, _⟩ => ⟨S64x64x4096, .f32⟩
  | .hbm, ⟨29, _⟩ => ⟨S64x64x4096, .f32⟩
  | .hbm, ⟨30, _⟩ => ⟨S64x64x4096, .f32⟩
  | .hbm, ⟨31, _⟩ => ⟨S1x4096, .f32⟩
  | .hbm, ⟨32, _⟩ => ⟨S4096, .f32⟩
  | .hbm, ⟨33, _⟩ => ⟨S1x1x4096, .f32⟩
  | .hbm, ⟨34, _⟩ => ⟨S64x64x4096, .f32⟩
  | .hbm, ⟨35, _⟩ => ⟨S64x64x4096, .f32⟩
  | .hbm, ⟨36, _⟩ => ⟨S64x64x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S64x64x4096, .f32⟩
  | .hbm, ⟨62, _⟩ => ⟨S64x64x4096, .f32⟩
  | .hbm, ⟨63, _⟩ => ⟨S64x64x4096, .f32⟩
  | .hbm, ⟨64, _⟩ => ⟨S64x64x4096, .f32⟩
  | .hbm, ⟨65, _⟩ => ⟨S_, .f32⟩
  | .hbm, ⟨66, _⟩ => ⟨S4096, .f32⟩
  | .hbm, ⟨67, _⟩ => ⟨S1x1x4096, .f32⟩
  | .hbm, ⟨68, _⟩ => ⟨S_, .f32⟩
  | .hbm, ⟨69, _⟩ => ⟨S4096, .f32⟩
  | .hbm, ⟨70, _⟩ => ⟨S1x4096, .f32⟩
  | .hbm, ⟨71, _⟩ => ⟨S_, .f32⟩
  | .hbm, ⟨72, _⟩ => ⟨S3x4096, .f32⟩
  | .hbm, ⟨73, _⟩ => ⟨S64x64x4096, .f32⟩
  | .hbm, ⟨74, _⟩ => ⟨S64x64x4096, .f32⟩
  | .hbm, ⟨75, _⟩ => ⟨S64x64x4096, .f32⟩
  | .hbm, ⟨76, _⟩ => ⟨S_, .f32⟩
  | .hbm, ⟨77, _⟩ => ⟨S4096, .f32⟩
  | .hbm, ⟨78, _⟩ => ⟨S1x1x4096, .f32⟩
  | .hbm, ⟨79, _⟩ => ⟨S_, .f32⟩
  | .hbm, ⟨80, _⟩ => ⟨S4096, .f32⟩
  | .hbm, ⟨81, _⟩ => ⟨S1x4096, .f32⟩
  | .hbm, ⟨82, _⟩ => ⟨S_, .f32⟩
  | .hbm, ⟨83, _⟩ => ⟨S3x4096, .f32⟩
  | .hbm, ⟨84, _⟩ => ⟨S3x4096, .f32⟩
  | .hbm, ⟨85, _⟩ => ⟨S64x64x4096, .f32⟩
  | .hbm, ⟨86, _⟩ => ⟨S64x64x4096, .f32⟩
  | .hbm, ⟨87, _⟩ => ⟨S64x64x4096, .f32⟩
  | .hbm, ⟨88, _⟩ => ⟨S_, .f32⟩
  | .hbm, ⟨89, _⟩ => ⟨S4096, .f32⟩
  | .hbm, ⟨90, _⟩ => ⟨S1x1x4096, .f32⟩
  | .hbm, ⟨91, _⟩ => ⟨S_, .f32⟩
  | .hbm, ⟨92, _⟩ => ⟨S4096, .f32⟩
  | .hbm, ⟨93, _⟩ => ⟨S1x4096, .f32⟩
  | .hbm, ⟨94, _⟩ => ⟨S_, .f32⟩
  | .hbm, ⟨95, _⟩ => ⟨S3x4096, .f32⟩
  | .hbm, ⟨96, _⟩ => ⟨S3x4096, .f32⟩
  | .hbm, ⟨97, _⟩ => ⟨S64x63x4096, .f32⟩
  | .hbm, ⟨98, _⟩ => ⟨S64x1x4096, .f32⟩
  | .hbm, ⟨99, _⟩ => ⟨S_, .f32⟩
  | .hbm, ⟨100, _⟩ => ⟨S64x64x4096, .f32⟩
  | .hbm, ⟨101, _⟩ => ⟨S64x64x4096, .f32⟩
  | .hbm, ⟨102, _⟩ => ⟨S64x1x4096, .f32⟩
  | .hbm, ⟨103, _⟩ => ⟨S64x63x4096, .f32⟩
  | .hbm, ⟨104, _⟩ => ⟨S_, .f32⟩
  | .hbm, ⟨105, _⟩ => ⟨S64x64x4096, .f32⟩
  | .hbm, ⟨106, _⟩ => ⟨S64x64x4096, .f32⟩
  | .hbm, ⟨107, _⟩ => ⟨S4096x4096, .f32⟩
  | .hbm, ⟨108, _⟩ => ⟨S4096x4096, .f32⟩
  | .hbm, ⟨109, _⟩ => ⟨S4096x4096, .f32⟩
  | .hbm, ⟨110, _⟩ => ⟨S4096x16384, .f32⟩
  | .hbm, ⟨111, _⟩ => ⟨S4096x16384, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v33_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v33_1 : Ref sig .tc := ⟨.hbm, 50, rfl⟩
abbrev main_v33_0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_2 : Ref sig .tc := ⟨.hbm, 65, rfl⟩
abbrev main_v44 : Ref sig .tc := ⟨.hbm, 66, rfl⟩
abbrev main_v45 : Ref sig .tc := ⟨.hbm, 67, rfl⟩
abbrev main_cst_3 : Ref sig .tc := ⟨.hbm, 68, rfl⟩
abbrev main_v46 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_5 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_8 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_12 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]
-- ==== Kernel2.lean ====
abbrev S4096x16384 : Shape := ⟨2, ![4096, 16384]⟩
abbrev S4x4096x4096 : Shape := ⟨3, ![4, 4096, 4096]⟩
abbrev S4096x4096 : Shape := ⟨2, ![4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S4x4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x16384 : Shape := ⟨2, ![4096, 16384]⟩
abbrev S4x4096x4096 : Shape := ⟨3, ![4, 4096, 4096]⟩
abbrev S_ : Shape := ⟨0, ![]⟩
abbrev S4096x4096 : Shape := ⟨2, ![4096, 4096]⟩
abbrev S1x4096x4096 : Shape := ⟨3, ![1, 4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4x4096x4096, .bf16⟩
  | .hbm, ⟨2, _⟩ => ⟨S_, .f32⟩
  | .hbm, ⟨3, _⟩ => ⟨S4096x4096, .f32⟩
  | .hbm, ⟨4, _⟩ => ⟨S4x4096x4096, .f32⟩
  | .hbm, ⟨5, _⟩ => ⟨S1x4096x4096, .f32⟩
  | .hbm, ⟨6, _⟩ => ⟨S4096x4096, .f32⟩
  | .hbm, ⟨7, _⟩ => ⟨S1x4096x4096, .f32⟩
  | .hbm, ⟨8, _⟩ => ⟨S4096x4096, .f32⟩
  | .hbm, ⟨9, _⟩ => ⟨S1x4096x4096, .f32⟩
  | .hbm, ⟨10, _⟩ => ⟨S4096x4096, .f32⟩
  | .hbm, ⟨11, _⟩ => ⟨S1x4096x4096, .f32⟩
  | .hbm, ⟨12, _⟩ => ⟨S4096x4096, .f32⟩
  | .hbm, ⟨13, _⟩ => ⟨S4096x16384, .f32⟩
  | .hbm, ⟨14, _⟩ => ⟨S4096x16384, .f32⟩
  | .hbm, ⟨15, _⟩ => ⟨S4096x16384, .f32⟩
  | .hbm, ⟨16, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel3.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4x4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x16384 : Shape := ⟨2, ![4096, 16384]⟩
abbrev S_ : Shape := ⟨0, ![]⟩
abbrev S4x4096x4096 : Shape := ⟨3, ![4, 4096, 4096]⟩
abbrev S1x4096x4096 : Shape := ⟨3, ![1, 4096, 4096]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S_, .f32⟩
  | .hbm, ⟨3, _⟩ => ⟨S4x4096x4096, .f32⟩
  | .hbm, ⟨4, _⟩ => ⟨S4096x4096, .f32⟩
  | .hbm, ⟨5, _⟩ => ⟨S1x4096x4096, .f32⟩
  | .hbm, ⟨6, _⟩ => ⟨S4096x4096, .f32⟩
  | .hbm, ⟨7, _⟩ => ⟨S1x4096x4096, .f32⟩
  | .hbm, ⟨8, _⟩ => ⟨S4096x4096, .f32⟩
  | .hbm, ⟨9, _⟩ => ⟨S1x4096x4096, .f32⟩
  | .hbm, ⟨10, _⟩ => ⟨S4096x4096, .f32⟩
  | .hbm, ⟨11, _⟩ => ⟨S1x4096x4096, .f32⟩
  | .hbm, ⟨12, _⟩ => ⟨S4096x4096, .f32⟩
  | .hbm, ⟨13, _⟩ => ⟨S4096x16384, .f32⟩
  | .hbm, ⟨14, _⟩ => ⟨S4096x16384, .f32⟩
  | .hbm, ⟨15, _⟩ => ⟨S4096x16384, .f32⟩
  | .hbm, ⟨16, _⟩ => ⟨S16384x4096, .f32⟩
  | .hbm, ⟨17, _⟩ => ⟨S4096x16384, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S1x4096x4096, .f32⟩
  | .hbm, ⟨23, _⟩ => ⟨S1x4096x4096, .f32⟩
  | .hbm, ⟨24, _⟩ => ⟨S1x4096x4096, .f32⟩
  | .hbm, ⟨25, _⟩ => ⟨S1x4096x4096, .f32⟩
  | .hbm, ⟨26, _⟩ => ⟨S4x4096x4096, .f32⟩
  | .hbm, ⟨27, _⟩ => ⟨S4x4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== Kernel4.lean ====
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4352x4096 : Shape := ⟨2, ![4352, 4096]⟩
abbrev S4352x12288 : Shape := ⟨2, ![4352, 12288]⟩
abbrev S4096x12288 : Shape := ⟨2, ![4096, 12288]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S4352x12288, .bf16⟩
  | .hbm, ⟨2, _⟩ => ⟨S4096x12288, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x4096 : Shape := ⟨2, ![4352, 4096]⟩
abbrev S4352x12288 : Shape := ⟨2, ![4352, 12288]⟩
abbrev S_ : Shape := ⟨0, ![]⟩
abbrev S4096x12288 : Shape := ⟨2, ![4096, 12288]⟩
abbrev S12288x4096 : Shape := ⟨2, ![12288, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x12288, .bf16⟩
  | .hbm, ⟨2, _⟩ => ⟨S_, .f32⟩
  | .hbm, ⟨3, _⟩ => ⟨S4096x12288, .f32⟩
  | .hbm, ⟨4, _⟩ => ⟨S4352x4096, .f32⟩
  | .hbm, ⟨5, _⟩ => ⟨S4352x12288, .f32⟩
  | .hbm, ⟨6, _⟩ => ⟨S4352x12288, .f32⟩
  | .hbm, ⟨7, _⟩ => ⟨S12288x4096, .f32⟩
  | .hbm, ⟨8, _⟩ => ⟨S4096x12288, .f32⟩
  | .hbm, ⟨9, _⟩ => ⟨S4096x12288, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x4096 : Shape := ⟨2, ![4096, 4096]⟩
abbrev S4x4096x4096 : Shape := ⟨3, ![4, 4096, 4096]⟩
abbrev S4096x16384 : Shape := ⟨2, ![4096, 16384]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4096x16384, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S4x4096x4096 : Shape := ⟨3, ![4, 4096, 4096]⟩
abbrev S1x4096x4096 : Shape := ⟨3, ![1, 4096, 4096]⟩
abbrev S4096x16384 : Shape := ⟨2, ![4096, 16384]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S1x4096x4096, .bf16⟩
  | .hbm, ⟨3, _⟩ => ⟨S4096x4096, .bf16⟩
  | .hbm, ⟨4, _⟩ => ⟨S1x4096x4096, .bf16⟩
  | .hbm, ⟨5, _⟩ => ⟨S4096x4096, .bf16⟩
  | .hbm, ⟨6, _⟩ => ⟨S1x4096x4096, .bf16⟩
  | .hbm, ⟨7, _⟩ => ⟨S4096x4096, .bf16⟩
  | .hbm, ⟨8, _⟩ => ⟨S1x4096x4096, .bf16⟩
  | .hbm, ⟨9, _⟩ => ⟨S4096x4096, .bf16⟩
  | .hbm, ⟨10, _⟩ => ⟨S4096x16384, .bf16⟩
  | .hbm, ⟨11, _⟩ => ⟨S4096x16384, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel8.lean ====
abbrev S4352x4096 : Shape := ⟨2, ![4352, 4096]⟩
abbrev S4096x12288 : Shape := ⟨2, ![4096, 12288]⟩
abbrev S4352x12288 : Shape := ⟨2, ![4352, 12288]⟩
abbrev S1088x4096 : Shape := ⟨2, ![1088, 4096]⟩
abbrev S4096x1024 : Shape := ⟨2, ![4096, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S4096x12288, .bf16⟩
  | .hbm, ⟨2, _⟩ => ⟨S4352x12288, .f32⟩
  | .local _ .vmem, ⟨0, _⟩ => ⟨S1088x4096, .bf16⟩
  | .local _ .vmem, ⟨1, _⟩ => ⟨S1088x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1088x1024, .f32⟩
  | .local _ .vmem, ⟨5, _⟩ => ⟨S1088x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x4096 : Shape := ⟨2, ![4352, 4096]⟩
abbrev S4096x12288 : Shape := ⟨2, ![4096, 12288]⟩
abbrev S4352x12288 : Shape := ⟨2, ![4352, 12288]⟩

abbrev nBuf : Space → Nat
  | .hbm => 3
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x12288, .bf16⟩
  | .hbm, ⟨2, _⟩ => ⟨S4352x12288, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x4096 : Shape := ⟨2, ![4096, 4096]⟩
abbrev S1x4096 : Shape := ⟨2, ![1, 4096]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference9Ideal.lean ====
abbrev S4096x4096 : Shape := ⟨2, ![4096, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S4096x4096 : Shape := ⟨2, ![4096, 4096]⟩
abbrev S1x4096 : Shape := ⟨2, ![1, 4096]⟩
abbrev S256x4096 : Shape := ⟨2, ![256, 4096]⟩
abbrev S4096 : Shape := ⟨1, ![4096]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S1x4096, .f32⟩
  | .hbm, ⟨3, _⟩ => ⟨S4096x4096, .bf16⟩
  | .hbm, ⟨4, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | .local _ .vmem, ⟨7, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference10Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S1x4096, .f32⟩
  | .hbm, ⟨12, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel11.lean ====
abbrev S4096x2048 : Shape := ⟨2, ![4096, 2048]⟩
abbrev S4352x12288 : Shape := ⟨2, ![4352, 12288]⟩
abbrev S4096x4096 : Shape := ⟨2, ![4096, 4096]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4352x12288, .f32⟩
  | .hbm, ⟨2, _⟩ => ⟨S4096x4096, .f32⟩
  | .hbm, ⟨3, _⟩ => ⟨S4096x2048, .f32⟩
  | .hbm, ⟨4, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S4096x2048 : Shape := ⟨2, ![4096, 2048]⟩
abbrev S4352x12288 : Shape := ⟨2, ![4352, 12288]⟩
abbrev S4096x4096 : Shape := ⟨2, ![4096, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4352x12288, .f32⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v6 : Ref sig .tc := ⟨.hbm, 24, rfl⟩
abbrev main_v7 : Ref sig .tc := ⟨.hbm, 25, rfl⟩

abbrev nD : Nat := 1
abbrev τ : Topo := Topo.v7x

variable {F : FTy → Type} [FloatOps F]
-- ==== Kernel12.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S1x4096, .f32⟩
  | .hbm, ⟨7, _⟩ => ⟨S1x4096, .f32⟩
  | .hbm, ⟨8, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference12Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S1x4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S1x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S1x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x4096, .f32⟩
  | .hbm, ⟨54, _⟩ => ⟨S4096x4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel13.lean ====
abbrev S4096x2048 : Shape := ⟨2, ![4096, 2048]⟩
abbrev S4352x12288 : Shape := ⟨2, ![4352, 12288]⟩
abbrev S4096x4096 : Shape := ⟨2, ![4096, 4096]⟩
abbrev S1x128 : Shape := ⟨2, ![1, 128]⟩
abbrev S8x128 : Shape := ⟨2, ![8, 128]⟩
abbrev S1024x128 : Shape := ⟨2, ![1024, 128]⟩
abbrev S1024 : Shape := ⟨1, ![1024]⟩
abbrev S1024x1 : Shape := ⟨2, ![1024, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4352x12288, .f32⟩
  | .hbm, ⟨2, _⟩ => ⟨S4096x4096, .f32⟩
  | .hbm, ⟨3, _⟩ => ⟨S1x128, .f32⟩
  | .hbm, ⟨4, _⟩ => ⟨S4096x2048, .f32⟩
  | .hbm, ⟨5, _⟩ => ⟨S4096x2048, .bf16⟩
  | .hbm, ⟨6, _⟩ => ⟨S8x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .bf16⟩
  | .local _ .vmem, ⟨10, _⟩ => ⟨S1024x128, .bf16⟩
  | .local _ .vmem, ⟨11, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference13Ideal.lean ====
abbrev S4096x2048 : Shape := ⟨2, ![4096, 2048]⟩
abbrev S4352x12288 : Shape := ⟨2, ![4352, 12288]⟩
abbrev S4096x4096 : Shape := ⟨2, ![4096, 4096]⟩
abbrev S1x128 : Shape := ⟨2, ![1, 128]⟩
abbrev S128 : Shape := ⟨1, ![128]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩
abbrev S7x128 : Shape := ⟨2, ![7, 128]⟩
abbrev S8x128 : Shape := ⟨2, ![8, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4352x12288, .f32⟩
  | .hbm, ⟨2, _⟩ => ⟨S4096x4096, .f32⟩
  | .hbm, ⟨3, _⟩ => ⟨S1x128, .f32⟩
  | .hbm, ⟨4, _⟩ => ⟨S4096x2048, .f32⟩
  | .hbm, ⟨5, _⟩ => ⟨S128, .f32⟩
  | .hbm, ⟨6, _⟩ => ⟨S4096x16x128, .f32⟩
  | .hbm, ⟨7, _⟩ => ⟨S4096x16x128, .f32⟩
  | .hbm, ⟨8, _⟩ => ⟨S_, .f32⟩
  | .hbm, ⟨9, _⟩ => ⟨S4096x16, .f32⟩
  | .hbm, ⟨10, _⟩ => ⟨S4096x16x1, .f32⟩
  | .hbm, ⟨11, _⟩ => ⟨S_, .f32⟩
  | .hbm, ⟨12, _⟩ => ⟨S4096x16x1, .f32⟩
  | .hbm, ⟨13, _⟩ => ⟨S4096x16x1, .f32⟩
  | .hbm, ⟨14, _⟩ => ⟨S_, .f32⟩
  | .hbm, ⟨15, _⟩ => ⟨S4096x16x1, .f32⟩
  | .hbm, ⟨16, _⟩ => ⟨S4096x16x1, .f32⟩
  | .hbm, ⟨17, _⟩ => ⟨S4096x16x1, .f32⟩
  | .hbm, ⟨18, _⟩ => ⟨S4096x16x1, .f32⟩
  | .hbm, ⟨19, _⟩ => ⟨S_, .f32⟩
  | .hbm, ⟨20, _⟩ => ⟨S4096x16x1, .f32⟩
  | .hbm, ⟨21, _⟩ => ⟨S4096x16x1, .f32⟩
  | .hbm, ⟨22, _⟩ => ⟨S4096x16x128, .f32⟩
  | .hbm, ⟨23, _⟩ => ⟨S4096x16x128, .f32⟩
  | .hbm, ⟨24, _⟩ => ⟨S1x1x128, .f32⟩
  | .hbm, ⟨25, _⟩ => ⟨S4096x16x128, .f32⟩
  | .hbm, ⟨26, _⟩ => ⟨S4096x16x128, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x16x128, .f32⟩
  | .hbm, ⟨50, _⟩ => ⟨S4096x16x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S4096x16x128, .f32⟩
  | .hbm, ⟨55, _⟩ => ⟨S4096x16x128, .f32⟩
  | .hbm, ⟨56, _⟩ => ⟨S_, .f32⟩
  | .hbm, ⟨57, _⟩ => ⟨S128, .f32⟩
  | .hbm, ⟨58, _⟩ => ⟨S4096x16x128, .f32⟩
  | .hbm, ⟨59, _⟩ => ⟨S_, .f32⟩
  | .hbm, ⟨60, _⟩ => ⟨S4096x16, .f32⟩
  | .hbm, ⟨61, _⟩ => ⟨S4096x16x1, .f32⟩
  | .hbm, ⟨62, _⟩ => ⟨S4096x16x128, .f32⟩
  | .hbm, ⟨63, _⟩ => ⟨S4096x16x128, .f32⟩
  | .hbm, ⟨64, _⟩ => ⟨S4096x16x1, .f32⟩
  | .hbm, ⟨65, _⟩ => ⟨S_, .f32⟩
  | .hbm, ⟨66, _⟩ => ⟨S4096x16x1, .f32⟩
  | .hbm, ⟨67, _⟩ => ⟨S4096x16x1, .f32⟩
  | .hbm, ⟨68, _⟩ => ⟨S_, .f32⟩
  | .hbm, ⟨69, _⟩ => ⟨S4096x16, .f32⟩
  | .hbm, ⟨70, _⟩ => ⟨S4096x16x128, .f32⟩
  | .hbm, ⟨71, _⟩ => ⟨S4096x16x128, .f32⟩
  | .hbm, ⟨72, _⟩ => ⟨S4096x16x128, .f32⟩
  | .hbm, ⟨73, _⟩ => ⟨S4096x16x128, .f32⟩
  | .hbm, ⟨74, _⟩ => ⟨S4096x16x128, .f32⟩
  | .hbm, ⟨75, _⟩ => ⟨S4096x2048, .f32⟩
  | .hbm, ⟨76, _⟩ => ⟨S4096x2048, .bf16⟩
  | .hbm, ⟨77, _⟩ => ⟨S1x128, .f32⟩
  | .hbm, ⟨78, _⟩ => ⟨S_, .f32⟩
  | .hbm, ⟨79, _⟩ => ⟨S7x128, .f32⟩
  | .hbm, ⟨80, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Kernel14.lean ====
abbrev S4352x12288 : Shape := ⟨2, ![4352, 12288]⟩
abbrev S4x6144 : Shape := ⟨2, ![4, 6144]⟩
abbrev S3x4352x2048 : Shape := ⟨3, ![3, 4352, 2048]⟩
abbrev S4352x6144 : Shape := ⟨2, ![4352, 6144]⟩
abbrev S4352x128 : Shape := ⟨2, ![4352, 128]⟩
abbrev S4x128 : Shape := ⟨2, ![4, 128]⟩
abbrev S1x4352x128 : Shape := ⟨3, ![1, 4352, 128]⟩
abbrev S1x128 : Shape := ⟨2, ![1, 128]⟩
abbrev S4352x1 : Shape := ⟨2, ![4352, 1]⟩
abbrev S4352 : Shape := ⟨1, ![4352]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S4352x12288, .f32⟩
  | .hbm, ⟨1, _⟩ => ⟨S4x6144, .f32⟩
  | .hbm, ⟨2, _⟩ => ⟨S3x4352x2048, .f32⟩
  | .hbm, ⟨3, _⟩ => ⟨S4352x6144, .bf16⟩
  | .hbm, ⟨4, _⟩ => ⟨S4x6144, .f32⟩
  | .local _ .vmem, ⟨0, _⟩ => ⟨S4352x128, .f32⟩
  | .local _ .vmem, ⟨1, _⟩ => ⟨S4352x128, .f32⟩
  | .local _ .vmem, ⟨2, _⟩ => ⟨S4x128, .f32⟩
  | .local _ .vmem, ⟨3, _⟩ => ⟨S4x128, .f32⟩
  | .local _ .vmem, ⟨4, _⟩ => ⟨S1x4352x128, .f32⟩
  | .local _ .vmem, ⟨5, _⟩ => ⟨S1x4352x128, .f32⟩
  | .local _ .vmem, ⟨6, _⟩ => ⟨S4352x128, .bf16⟩
  | .local _ .vmem, ⟨7, _⟩ => ⟨S4352x128, .bf16⟩
  | .local _ .vmem, ⟨8, _⟩ => ⟨S4x128, .f32⟩
  | .local _ .vmem, ⟨9, _⟩ => ⟨S4x128, .f32⟩
  | _, _ => ⟨S4352x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S4352x12288 : Shape := ⟨2, ![4352, 12288]⟩
abbrev S4x6144 : Shape := ⟨2, ![4, 6144]⟩
abbrev S3x4352x2048 : Shape := ⟨3, ![3, 4352, 2048]⟩
abbrev S4352x6144 : Shape := ⟨2, ![4352, 6144]⟩
abbrev S4096x6144 : Shape := ⟨2, ![4096, 6144]⟩
abbrev S256x6144 : Shape := ⟨2, ![256, 6144]⟩
abbrev S_ : Shape := ⟨0, ![]⟩
abbrev S1x6144 : Shape := ⟨2, ![1, 6144]⟩
abbrev S4357x6144 : Shape := ⟨2, ![4357, 6144]⟩
abbrev S6144 : Shape := ⟨1, ![6144]⟩
abbrev S4354x6144 : Shape := ⟨2, ![4354, 6144]⟩
abbrev S4352x4096 : Shape := ⟨2, ![4352, 4096]⟩
abbrev S4352x2048 : Shape := ⟨2, ![4352, 2048]⟩
abbrev S4352x32x128 : Shape := ⟨3, ![4352, 32, 128]⟩
abbrev S4352x32 : Shape := ⟨2, ![4352, 32]⟩
abbrev S4352x32x1 : Shape := ⟨3, ![4352, 32, 1]⟩
abbrev S1x4352x2048 : Shape := ⟨3, ![1, 4352, 2048]⟩

abbrev nBuf : Space → Nat
  | .hbm => 190
  | .vmem => 0
  | .smem => 0
  | _ => 0

abbrev hbmTy0_0 (i : Nat) : BufTy := match i % 128 with
  | 0 => ⟨S4352x12288, .f32⟩
  | 1 => ⟨S4x6144, .f32⟩
  | 2 => ⟨S3x4352x2048, .f32⟩
  | 3 => ⟨S4352x6144, .f32⟩
  | 4 => ⟨S4096x6144, .f32⟩
  | 5 => ⟨S256x6144, .f32⟩
  | 6 => ⟨S_, .f32⟩
  | 7 => ⟨S1x6144, .f32⟩
  | 8 => ⟨S4357x6144, .f32⟩
  | 9 => ⟨S_, .f32⟩
  | 10 => ⟨S1x6144, .f32⟩
  | 11 => ⟨S_, .f32⟩
  | 12 => ⟨S1x6144, .f32⟩
  | 13 => ⟨S_, .f32⟩
  | 14 => ⟨S1x6144, .f32⟩
  | 15 => ⟨S_, .f32⟩
  | 16 => ⟨S1x6144, .f32⟩
  | 17 => ⟨S_, .f32⟩
  | 18 => ⟨S1x6144, .f32⟩
  | 19 => ⟨S1x6144, .f32⟩
  | 20 => ⟨S6144, .f32⟩
  | 21 => ⟨S4354x6144, .f32⟩
  | 22 => ⟨S1x6144, .f32⟩
  | 23 => ⟨S4354x6144, .f32⟩
  | 24 => ⟨S4354x6144, .f32⟩
  | 25 => ⟨S1x6144, .f32⟩
  | 26 => ⟨S6144, .f32⟩
  | 27 => ⟨S4354x6144, .f32⟩
  | 28 => ⟨S1x6144, .f32⟩
  | 29 => ⟨S4354x6144, .f32⟩
  | 30 => ⟨S4354x6144, .f32⟩
  | 31 => ⟨S4354x6144, .f32⟩
  | 32 => ⟨S1x6144, .f32⟩
  | 33 => ⟨S6144, .f32⟩
  | 34 => ⟨S4354x6144, .f32⟩
  | 35 => ⟨S1x6144, .f32⟩
  | 36 => ⟨S4354x6144, .f32⟩
  | 37 => ⟨S4354x6144, .f32⟩
  | 38 => ⟨S4354x6144, .f32⟩
  | 39 => ⟨S1x6144, .f32⟩
  | 40 => ⟨S6144, .f32⟩
  | 41 => ⟨S4354x6144, .f32⟩
  | 42 => ⟨S1x6144, .f32⟩
  | 43 => ⟨S4354x6144, .f32⟩
  | 44 => ⟨S4354x6144, .f32⟩
  | 45 => ⟨S4354x6144, .f32⟩
  | 46 => ⟨S4096x6144, .f32⟩
  | 47 => ⟨S256x6144, .f32⟩
  | 48 => ⟨S4352x6144, .f32⟩
  | 49 => ⟨S4352x6144, .f32⟩
  | 50 => ⟨S4352x6144, .f32⟩
  | 51 => ⟨S_, .f32⟩
  | 52 => ⟨S4352x6144, .f32⟩
  | 53 => ⟨S4352x6144, .f32⟩
  | 54 => ⟨S_, .f32⟩
  | 55 => ⟨S4352x6144, .f32⟩
  | 56 => ⟨S4352x6144, .f32⟩
  | 57 => ⟨S_, .f32⟩
  | 58 => ⟨S4352x6144, .f32⟩
  | 59 => ⟨S4352x6144, .f32⟩
  | 60 => ⟨S4352x6144, .f32⟩
  | 61 => ⟨S4352x6144, .f32⟩
  | 62 => ⟨S4352x4096, .f32⟩
  | 63 => ⟨S4352x2048, .f32⟩
  | 64 => ⟨S4352x32x128, .f32⟩
  | 65 => ⟨S4352x32x128, .f32⟩
  | 66 => ⟨S_, .f32⟩
  | 67 => ⟨S4352x32, .f32⟩
  | 68 => ⟨S4352x32x1, .f32⟩
  | 69 => ⟨S_, .f32⟩
  | 70 => ⟨S4352x32x1, .f32⟩
  | 71 => ⟨S4352x32x1, .f32⟩
  | 72 => ⟨S4352x32x1, .f32⟩
  | 73 => ⟨S4352x32x1, .f32⟩
  | 74 => ⟨S_, .f32⟩
  | 75 => ⟨S4352x32x1, .f32⟩
  | 76 => ⟨S4352x32x1, .f32⟩
  | 77 => ⟨S4352x32x128, .f32⟩
  | 78 => ⟨S4352x32x128, .f32⟩
  | 79 => ⟨S4352x4096, .f32⟩
  | 80 => ⟨S4352x2048, .f32⟩
  | 81 => ⟨S4352x2048, .f32⟩
  | 82 => ⟨S_, .f32⟩
  | 83 => ⟨S4352x2048, .f32⟩
  | 84 => ⟨S4352x2048, .f32⟩
  | 85 => ⟨S1x4352x2048, .f32⟩
  | 86 => ⟨S4352x2048, .f32⟩
  | 87 => ⟨S1x4352x2048, .f32⟩
  | 88 => ⟨S4352x2048, .f32⟩
  | 89 => ⟨S1x4352x2048, .f32⟩
  | 90 => ⟨S4352x2048, .f32⟩
  | 91 => ⟨S_, .f32⟩
  | 92 => ⟨S4352x2048, .f32⟩
  | 93 => ⟨S4352x2048, .f32⟩
  | 94 => ⟨S4352x4096, .f32⟩
  | 95 => ⟨S4352x32x128, .f32⟩
  | 96 => ⟨S4352x32x128, .f32⟩
  | 97 => ⟨S_, .f32⟩
  | 98 => ⟨S4352x32, .f32⟩
  | 99 => ⟨S4352x32x1, .f32⟩
  | 100 => ⟨S4352x32x128, .f32⟩
  | 101 => ⟨S4352x32x128, .f32⟩
  | 102 => ⟨S4352x32x1, .f32⟩
  | 103 => ⟨S_, .f32⟩
  | 104 => ⟨S4352x32, .f32⟩
  | 105 => ⟨S4352x32x128, .f32⟩
  | 106 => ⟨S4352x32x128, .f32⟩
  | 107 => ⟨S4352x32x128, .f32⟩
  | 108 => ⟨S4352x32x128, .f32⟩
  | 109 => ⟨S4352x32x128, .f32⟩
  | 110 => ⟨S4352x4096, .f32⟩
  | 111 => ⟨S4352x6144, .f32⟩
  | 112 => ⟨S4352x6144, .f32⟩
  | 113 => ⟨S4352x6144, .f32⟩
  | 114 => ⟨S4352x6144, .f32⟩
  | 115 => ⟨S4352x6144, .f32⟩
  | 116 => ⟨S4096x6144, .f32⟩
  | 117 => ⟨S256x6144, .f32⟩
  | 118 => ⟨S_, .f32⟩
  | 119 => ⟨S4354x6144, .f32⟩
  | 120 => ⟨S_, .f32⟩
  | 121 => ⟨S4354x6144, .f32⟩
  | 122 => ⟨S4354x6144, .f32⟩
  | 123 => ⟨S4354x6144, .f32⟩
  | 124 => ⟨S4354x6144, .f32⟩
  | 125 => ⟨S4354x6144, .f32⟩
  | 126 => ⟨S_, .f32⟩
  | 127 => ⟨S6144, .f32⟩
  | _ => ⟨S4352x12288, .f32⟩

abbrev hbmTy0_1 (i : Nat) : BufTy := match i % 128 with
  | 0 => ⟨S1x6144, .f32⟩
  | 1 => ⟨S_, .f32⟩
  | 2 => ⟨S6144, .f32⟩
  | 3 => ⟨S_, .f32⟩
  | 4 => ⟨S4357x6144, .f32⟩
  | 5 => ⟨S1x6144, .f32⟩
  | 6 => ⟨S_, .f32⟩
  | 7 => ⟨S4x6144, .f32⟩
  | 8 => ⟨S4354x6144, .f32⟩
  | 9 => ⟨S4354x6144, .f32⟩
  | 10 => ⟨S4354x6144, .f32⟩
  | 11 => ⟨S_, .f32⟩
  | 12 => ⟨S6144, .f32⟩
  | 13 => ⟨S1x6144, .f32⟩
  | 14 => ⟨S_, .f32⟩
  | 15 => ⟨S6144, .f32⟩
  | 16 => ⟨S_, .f32⟩
  | 17 => ⟨S4357x6144, .f32⟩
  | 18 => ⟨S4357x6144, .f32⟩
  | 19 => ⟨S1x6144, .f32⟩
  | 20 => ⟨S_, .f32⟩
  | 21 => ⟨S4x6144, .f32⟩
  | 22 => ⟨S4x6144, .f32⟩
  | 23 => ⟨S4354x6144, .f32⟩
  | 24 => ⟨S4354x6144, .f32⟩
  | 25 => ⟨S4354x6144, .f32⟩
  | 26 => ⟨S_, .f32⟩
  | 27 => ⟨S6144, .f32⟩
  | 28 => ⟨S1x6144, .f32⟩
  | 29 => ⟨S_, .f32⟩
  | 30 => ⟨S6144, .f32⟩
  | 31 => ⟨S_, .f32⟩
  | 32 => ⟨S4357x6144, .f32⟩
  | 33 => ⟨S4357x6144, .f32⟩
  | 34 => ⟨S1x6144, .f32⟩
  | 35 => ⟨S_, .f32⟩
  | 36 => ⟨S4x6144, .f32⟩
  | 37 => ⟨S4x6144, .f32⟩
  | 38 => ⟨S4354x6144, .f32⟩
  | 39 => ⟨S4354x6144, .f32⟩
  | 40 => ⟨S4354x6144, .f32⟩
  | 41 => ⟨S_, .f32⟩
  | 42 => ⟨S6144, .f32⟩
  | 43 => ⟨S1x6144, .f32⟩
  | 44 => ⟨S_, .f32⟩
  | 45 => ⟨S6144, .f32⟩
  | 46 => ⟨S_, .f32⟩
  | 47 => ⟨S4357x6144, .f32⟩
  | 48 => ⟨S4357x6144, .f32⟩
  | 49 => ⟨S1x6144, .f32⟩
  | 50 => ⟨S_, .f32⟩
  | 51 => ⟨S4x6144, .f32⟩
  | 52 => ⟨S4x6144, .f32⟩
  | 53 => ⟨S1x6144, .f32⟩
  | 54 => ⟨S1x6144, .f32⟩
  | 55 => ⟨S4096x6144, .f32⟩
  | 56 => ⟨S1x6144, .f32⟩
  | 57 => ⟨S1x6144, .f32⟩
  | 58 => ⟨S256x6144, .f32⟩
  | 59 => ⟨S1x6144, .f32⟩
  | 60 => ⟨S4352x6144, .f32⟩
  | 61 => ⟨S4352x6144, .bf16⟩
  | _ => ⟨S4352x12288, .f32⟩

abbrev hbmTy (i : Nat) : BufTy := match i / 128 with
  | 0 => hbmTy0_0 i
  | 1 => hbmTy0_1 i
  | _ => ⟨S4352x12288, .f32⟩

abbrev bufTy : (tb : Table) → Fin (tcTables nBuf tb) → BufTy
  | .hbm, ⟨i, _⟩ => hbmTy i
  | _, _ => ⟨S4352x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v40_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v40_1 : Ref sig .tc := ⟨.hbm, 60, rfl⟩
abbrev main_v40_0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_9 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_11 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_12 : Ref sig .tc := ⟨.hbm, 118, rfl⟩
abbrev main_v87 : Ref sig .tc := ⟨.hbm, 119, rfl⟩
abbrev main_cst_13 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_14 : Ref sig .tc := ⟨.hbm, 126, rfl⟩
abbrev main_v93 : Ref sig .tc := ⟨.hbm, 127, rfl⟩
abbrev main_v94 : Ref sig .tc := ⟨.hbm, 128, rfl⟩
abbrev main_cst_15 : Ref sig .tc := ⟨.hbm, 129, rfl⟩
abbrev main_v95 : Ref sig .tc := ⟨.hbm, 130, rfl⟩
abbrev main_cst_16 : Ref sig .tc := ⟨.hbm, 131, rfl⟩
abbrev main_v96 : Ref sig .tc := ⟨.hbm, 132, rfl⟩
abbrev main_v97 : Ref sig .tc := ⟨.hbm, 133, rfl⟩
abbrev main_cst_17 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_18 : Ref sig .tc := ⟨.hbm, 139, rfl⟩
abbrev main_v102 : Ref sig .tc := ⟨.hbm, 140, rfl⟩
abbrev main_v103 : Ref sig .tc := ⟨.hbm, 141, rfl⟩
abbrev main_cst_19 : Ref sig .tc := ⟨.hbm, 142, rfl⟩
abbrev main_v104 : Ref sig .tc := ⟨.hbm, 143, rfl⟩
abbrev main_cst_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_21 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_22 : Ref sig .tc := ⟨.hbm, 154, rfl⟩
abbrev main_v113 : Ref sig .tc := ⟨.hbm, 155, rfl⟩
abbrev main_v114 : Ref sig .tc := ⟨.hbm, 156, rfl⟩
abbrev main_cst_23 : Ref sig .tc := ⟨.hbm, 157, rfl⟩
abbrev main_v115 : Ref sig .tc := ⟨.hbm, 158, rfl⟩
abbrev main_cst_24 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_25 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_26 : Ref sig .tc := ⟨.hbm, 169, rfl⟩
abbrev main_v124 : Ref sig .tc := ⟨.hbm, 170, rfl⟩
abbrev main_v125 : Ref sig .tc := ⟨.hbm, 171, rfl⟩
abbrev main_cst_27 : Ref sig .tc := ⟨.hbm, 172, rfl⟩
abbrev main_v126 : Ref sig .tc := ⟨.hbm, 173, rfl⟩
abbrev main_cst_28 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_29 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩

abbrev nD : Nat := 1
abbrev τ : Topo := Topo.v7x

variable {F : FTy → Type} [FloatOps F]
-- ==== Kernel15.lean ====
abbrev S4096x4096 : Shape := ⟨2, ![4096, 4096]⟩
abbrev S1x4096 : Shape := ⟨2, ![1, 4096]⟩
abbrev S8x128 : Shape := ⟨2, ![8, 128]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S4096 : Shape := ⟨1, ![4096]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S8x128, .f32⟩
  | .hbm, ⟨4, _⟩ => ⟨S4096x4096, .f32⟩
  | .hbm, ⟨5, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S8x128, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 68
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x4096, .f32⟩
  | .hbm, ⟨55, _⟩ => ⟨S4096x4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S8x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Kernel17.lean ====
abbrev S4096x4096 : Shape := ⟨2, ![4096, 4096]⟩
abbrev S1x4096 : Shape := ⟨2, ![1, 4096]⟩
abbrev S4352x4096 : Shape := ⟨2, ![4352, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 10
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S4352x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S1x4096, .f32⟩
  | .hbm, ⟨8, _⟩ => ⟨S1x4096, .f32⟩
  | .hbm, ⟨9, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference17Ideal.lean ====
abbrev S4096x4096 : Shape := ⟨2, ![4096, 4096]⟩
abbrev S1x4096 : Shape := ⟨2, ![1, 4096]⟩
abbrev S4352x4096 : Shape := ⟨2, ![4352, 4096]⟩
abbrev S_ : Shape := ⟨0, ![]⟩
abbrev S4096 : Shape := ⟨1, ![4096]⟩
abbrev S4096x1 : Shape := ⟨2, ![4096, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S4352x4096, .f32⟩
  | .hbm, ⟨4, _⟩ => ⟨S4096x4096, .f32⟩
  | .hbm, ⟨5, _⟩ => ⟨S1x4096, .f32⟩
  | .hbm, ⟨6, _⟩ => ⟨S_, .f32⟩
  | .hbm, ⟨7, _⟩ => ⟨S1x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S1x4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S1x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S1x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x4096, .f32⟩
  | .hbm, ⟨55, _⟩ => ⟨S4096x4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel18.lean ====
abbrev S256x4096 : Shape := ⟨2, ![256, 4096]⟩
abbrev S1x4096 : Shape := ⟨2, ![1, 4096]⟩
abbrev S4352x4096 : Shape := ⟨2, ![4352, 4096]⟩
abbrev S256 : Shape := ⟨1, ![256]⟩
abbrev S256x1 : Shape := ⟨2, ![256, 1]⟩
abbrev S4096 : Shape := ⟨1, ![4096]⟩

abbrev nBuf : Space → Nat
  | .hbm => 7
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S4352x4096, .f32⟩
  | .hbm, ⟨4, _⟩ => ⟨S1x4096, .f32⟩
  | .hbm, ⟨5, _⟩ => ⟨S1x4096, .f32⟩
  | .hbm, ⟨6, _⟩ => ⟨S1x4096, .f32⟩
  | .local _ .vmem, ⟨0, _⟩ => ⟨S256x4096, .f32⟩
  | .local _ .vmem, ⟨1, _⟩ => ⟨S1x4096, .f32⟩
  | .local _ .vmem, ⟨2, _⟩ => ⟨S1x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S256x4096 : Shape := ⟨2, ![256, 4096]⟩
abbrev S1x4096 : Shape := ⟨2, ![1, 4096]⟩
abbrev S4352x4096 : Shape := ⟨2, ![4352, 4096]⟩
abbrev S_ : Shape := ⟨0, ![]⟩
abbrev S256 : Shape := ⟨1, ![256]⟩
abbrev S256x1 : Shape := ⟨2, ![256, 1]⟩
abbrev S4096 : Shape := ⟨1, ![4096]⟩

abbrev nBuf : Space → Nat
  | .hbm => 65
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S4352x4096, .f32⟩
  | .hbm, ⟨4, _⟩ => ⟨S_, .f32⟩
  | .hbm, ⟨5, _⟩ => ⟨S1x4096, .f32⟩
  | .hbm, ⟨6, _⟩ => ⟨S256x4096, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S256x4096, .f32⟩
  | .hbm, ⟨29, _⟩ => ⟨S256x4096, .f32⟩
  | .hbm, ⟨30, _⟩ => ⟨S256x4096, .f32⟩
  | .hbm, ⟨31, _⟩ => ⟨S256x4096, .f32⟩
  | .hbm, ⟨32, _⟩ => ⟨S256x4096, .f32⟩
  | .hbm, ⟨33, _⟩ => ⟨S_, .f32⟩
  | .hbm, ⟨34, _⟩ => ⟨S4096, .f32⟩
  | .hbm, ⟨35, _⟩ => ⟨S1x4096, .f32⟩
  | .hbm, ⟨36, _⟩ => ⟨S256x4096, .f32⟩
  | .hbm, ⟨37, _⟩ => ⟨S_, .f32⟩
  | .hbm, ⟨38, _⟩ => ⟨S4096, .f32⟩
  | .hbm, ⟨39, _⟩ => ⟨S1x4096, .f32⟩
  | .hbm, ⟨40, _⟩ => ⟨S256x4096, .f32⟩
  | .hbm, ⟨41, _⟩ => ⟨S256x4096, .f32⟩
  | .hbm, ⟨42, _⟩ => ⟨S256x4096, .f32⟩
  | .hbm, ⟨43, _⟩ => ⟨S_, .f32⟩
  | .hbm, ⟨44, _⟩ => ⟨S4096, .f32⟩
  | .hbm, ⟨45, _⟩ => ⟨S1x4096, .f32⟩
  | .hbm, ⟨46, _⟩ => ⟨S256x4096, .f32⟩
  | .hbm, ⟨47, _⟩ => ⟨S256x4096, .f32⟩
  | .hbm, ⟨48, _⟩ => ⟨S256x4096, .f32⟩
  | .hbm, ⟨49, _⟩ => ⟨S_, .f32⟩
  | .hbm, ⟨50, _⟩ => ⟨S256, .f32⟩
  | .hbm, ⟨51, _⟩ => ⟨S256x1, .f32⟩
  | .hbm, ⟨52, _⟩ => ⟨S256x4096, .f32⟩
  | .hbm, ⟨53, _⟩ => ⟨S256x4096, .f32⟩
  | .hbm, ⟨54, _⟩ => ⟨S256x1, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S_, .f32⟩
  | .hbm, ⟨59, _⟩ => ⟨S256, .f32⟩
  | .hbm, ⟨60, _⟩ => ⟨S256x4096, .f32⟩
  | .hbm, ⟨61, _⟩ => ⟨S256x4096, .f32⟩
  | .hbm, ⟨62, _⟩ => ⟨S256x4096, .f32⟩
  | .hbm, ⟨63, _⟩ => ⟨S256x4096, .f32⟩
  | .hbm, ⟨64, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel19.lean ====
abbrev S4096x4096 : Shape := ⟨2, ![4096, 4096]⟩
abbrev S1x4096 : Shape := ⟨2, ![1, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x1x4096, .f32⟩
  | .hbm, ⟨3, _⟩ => ⟨S1x1x4096, .f32⟩
  | .hbm, ⟨4, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S4096x4096 : Shape := ⟨2, ![4096, 4096]⟩
abbrev S1x4096 : Shape := ⟨2, ![1, 4096]⟩
abbrev S1x1x4096 : Shape := ⟨3, ![1, 1, 4096]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x1x4096, .f32⟩
  | .hbm, ⟨3, _⟩ => ⟨S1x1x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel20.lean ====
abbrev S4096x4096 : Shape := ⟨2, ![4096, 4096]⟩
abbrev S256x4096 : Shape := ⟨2, ![256, 4096]⟩
abbrev S1x4096 : Shape := ⟨2, ![1, 4096]⟩
abbrev S2x1x4096 : Shape := ⟨3, ![2, 1, 4096]⟩
abbrev S4352x4096 : Shape := ⟨2, ![4352, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S1x4096, .f32⟩
  | .hbm, ⟨3, _⟩ => ⟨S2x1x4096, .f32⟩
  | .hbm, ⟨4, _⟩ => ⟨S2x1x4096, .f32⟩
  | .hbm, ⟨5, _⟩ => ⟨S4352x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S256x4096, .bf16⟩
  | .local _ .vmem, ⟨10, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference20Ideal.lean ====
abbrev S4096x4096 : Shape := ⟨2, ![4096, 4096]⟩
abbrev S256x4096 : Shape := ⟨2, ![256, 4096]⟩
abbrev S1x4096 : Shape := ⟨2, ![1, 4096]⟩
abbrev S2x1x4096 : Shape := ⟨3, ![2, 1, 4096]⟩
abbrev S1x1x4096 : Shape := ⟨3, ![1, 1, 4096]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4352x4096 : Shape := ⟨2, ![4352, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S1x4096, .f32⟩
  | .hbm, ⟨3, _⟩ => ⟨S2x1x4096, .f32⟩
  | .hbm, ⟨4, _⟩ => ⟨S2x1x4096, .f32⟩
  | .hbm, ⟨5, _⟩ => ⟨S1x1x4096, .f32⟩
  | .hbm, ⟨6, _⟩ => ⟨S1x4096, .f32⟩
  | .hbm, ⟨7, _⟩ => ⟨S1x1x4096, .f32⟩
  | .hbm, ⟨8, _⟩ => ⟨S1x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S1x1x4096, .f32⟩
  | .hbm, ⟨32, _⟩ => ⟨S1x4096, .f32⟩
  | .hbm, ⟨33, _⟩ => ⟨S1x1x4096, .f32⟩
  | .hbm, ⟨34, _⟩ => ⟨S1x4096, .f32⟩
  | .hbm, ⟨35, _⟩ => ⟨S256x4096, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x1, .f32⟩
  | .hbm, ⟨46, _⟩ => ⟨S256x4096, .f32⟩
  | .hbm, ⟨47, _⟩ => ⟨S256x4096, .f32⟩
  | .hbm, ⟨48, _⟩ => ⟨S256x4096, .f32⟩
  | .hbm, ⟨49, _⟩ => ⟨S256x4096, .f32⟩
  | .hbm, ⟨50, _⟩ => ⟨S_, .f32⟩
  | .hbm, ⟨51, _⟩ => ⟨S1x4096, .f32⟩
  | .hbm, ⟨52, _⟩ => ⟨S1x4096, .f32⟩
  | .hbm, ⟨53, _⟩ => ⟨S256x4096, .f32⟩
  | .hbm, ⟨54, _⟩ => ⟨S256x4096, .f32⟩
  | .hbm, ⟨55, _⟩ => ⟨S256x4096, .f32⟩
  | .hbm, ⟨56, _⟩ => ⟨S256x4096, .f32⟩
  | .hbm, ⟨57, _⟩ => ⟨S4352x4096, .f32⟩
  | .hbm, ⟨58, _⟩ => ⟨S4352x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel21.lean ====
abbrev S4096x2048 : Shape := ⟨2, ![4096, 2048]⟩
abbrev S4352x12288 : Shape := ⟨2, ![4352, 12288]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4352x12288, .f32⟩
  | .hbm, ⟨2, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S4096x2048 : Shape := ⟨2, ![4096, 2048]⟩
abbrev S4352x12288 : Shape := ⟨2, ![4352, 12288]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4352x12288, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Kernel22.lean ====
abbrev S4096x2048 : Shape := ⟨2, ![4096, 2048]⟩
abbrev S4352x12288 : Shape := ⟨2, ![4352, 12288]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4352x12288, .f32⟩
  | .hbm, ⟨2, _⟩ => ⟨S1x128, .f32⟩
  | .hbm, ⟨3, _⟩ => ⟨S4096x2048, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference22Ideal.lean ====
abbrev S4096x2048 : Shape := ⟨2, ![4096, 2048]⟩
abbrev S4352x12288 : Shape := ⟨2, ![4352, 12288]⟩
abbrev S1x128 : Shape := ⟨2, ![1, 128]⟩
abbrev S128 : Shape := ⟨1, ![128]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4352x12288, .f32⟩
  | .hbm, ⟨2, _⟩ => ⟨S1x128, .f32⟩
  | .hbm, ⟨3, _⟩ => ⟨S4096x2048, .f32⟩
  | .hbm, ⟨4, _⟩ => ⟨S128, .f32⟩
  | .hbm, ⟨5, _⟩ => ⟨S4096x16x128, .f32⟩
  | .hbm, ⟨6, _⟩ => ⟨S4096x16x128, .f32⟩
  | .hbm, ⟨7, _⟩ => ⟨S_, .f32⟩
  | .hbm, ⟨8, _⟩ => ⟨S4096x16, .f32⟩
  | .hbm, ⟨9, _⟩ => ⟨S4096x16x1, .f32⟩
  | .hbm, ⟨10, _⟩ => ⟨S_, .f32⟩
  | .hbm, ⟨11, _⟩ => ⟨S4096x16x1, .f32⟩
  | .hbm, ⟨12, _⟩ => ⟨S4096x16x1, .f32⟩
  | .hbm, ⟨13, _⟩ => ⟨S_, .f32⟩
  | .hbm, ⟨14, _⟩ => ⟨S4096x16x1, .f32⟩
  | .hbm, ⟨15, _⟩ => ⟨S4096x16x1, .f32⟩
  | .hbm, ⟨16, _⟩ => ⟨S4096x16x1, .f32⟩
  | .hbm, ⟨17, _⟩ => ⟨S4096x16x128, .f32⟩
  | .hbm, ⟨18, _⟩ => ⟨S4096x16x128, .f32⟩
  | .hbm, ⟨19, _⟩ => ⟨S1x1x128, .f32⟩
  | .hbm, ⟨20, _⟩ => ⟨S4096x16x128, .f32⟩
  | .hbm, ⟨21, _⟩ => ⟨S4096x16x128, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel23.lean ====
abbrev S4096x16384 : Shape := ⟨2, ![4096, 16384]⟩
abbrev S3x4096 : Shape := ⟨2, ![3, 4096]⟩
abbrev S4096x4096 : Shape := ⟨2, ![4096, 4096]⟩
abbrev S128x16384 : Shape := ⟨2, ![128, 16384]⟩
abbrev S128x4096 : Shape := ⟨2, ![128, 4096]⟩
abbrev S1x4096 : Shape := ⟨2, ![1, 4096]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x16384, .f32⟩
  | .hbm, ⟨1, _⟩ => ⟨S3x4096, .f32⟩
  | .hbm, ⟨2, _⟩ => ⟨S4096x4096, .bf16⟩
  | .local _ .vmem, ⟨0, _⟩ => ⟨S128x16384, .f32⟩
  | .local _ .vmem, ⟨1, _⟩ => ⟨S128x16384, .f32⟩
  | .local _ .vmem, ⟨2, _⟩ => ⟨S3x4096, .f32⟩
  | .local _ .vmem, ⟨3, _⟩ => ⟨S128x4096, .bf16⟩
  | .local _ .vmem, ⟨4, _⟩ => ⟨S128x4096, .bf16⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x16384 : Shape := ⟨2, ![4096, 16384]⟩
abbrev S3x4096 : Shape := ⟨2, ![3, 4096]⟩
abbrev S4096x4096 : Shape := ⟨2, ![4096, 4096]⟩
abbrev S64x64x4096 : Shape := ⟨3, ![64, 64, 4096]⟩
abbrev S64x1x4096 : Shape := ⟨3, ![64, 1, 4096]⟩
abbrev S_ : Shape := ⟨0, ![]⟩
abbrev S64x63x4096 : Shape := ⟨3, ![64, 63, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S3x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S64x64x4096, .f32⟩
  | .hbm, ⟨8, _⟩ => ⟨S64x1x4096, .f32⟩
  | .hbm, ⟨9, _⟩ => ⟨S_, .f32⟩
  | .hbm, ⟨10, _⟩ => ⟨S64x1x4096, .f32⟩
  | .hbm, ⟨11, _⟩ => ⟨S64x63x4096, .f32⟩
  | .hbm, ⟨12, _⟩ => ⟨S64x64x4096, .f32⟩
  | .hbm, ⟨13, _⟩ => ⟨S64x63x4096, .f32⟩
  | .hbm, ⟨14, _⟩ => ⟨S64x64x4096, .f32⟩
  | .hbm, ⟨15, _⟩ => ⟨S1x4096, .f32⟩
  | .hbm, ⟨16, _⟩ => ⟨S4096, .f32⟩
  | .hbm, ⟨17, _⟩ => ⟨S1x1x4096, .f32⟩
  | .hbm, ⟨18, _⟩ => ⟨S64x64x4096, .f32⟩
  | .hbm, ⟨19, _⟩ => ⟨S64x64x4096, .f32⟩
  | .hbm, ⟨20, _⟩ => ⟨S1x4096, .f32⟩
  | .hbm, ⟨21, _⟩ => ⟨S4096, .f32⟩
  | .hbm, ⟨22, _⟩ => ⟨S1x1x4096, .f32⟩
  | .hbm, ⟨23, _⟩ => ⟨S64x64x4096, .f32⟩
  | .hbm, ⟨24, _⟩ => ⟨S64x64x4096, .f32⟩
  | .hbm, ⟨25, _⟩ => ⟨S64x64x4096, .f32⟩
  | .hbm, ⟨26, _⟩ => ⟨S1x4096, .f32⟩
  | .hbm, ⟨27, _⟩ => ⟨S4096, .f32⟩
  | .hbm, ⟨28, _⟩ => ⟨S1x1x4096, .f32⟩
  | .hbm, ⟨29, _⟩ => ⟨S64x64x4096, .f32⟩
  | .hbm, ⟨30, _⟩ => ⟨S64x64x4096, .f32⟩
  | .hbm, ⟨31, _⟩ => ⟨S64x64x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel24.lean ====
abbrev S4352x12288 : Shape := ⟨2, ![4352, 12288]⟩
abbrev S4x6144 : Shape := ⟨2, ![4, 6144]⟩
abbrev S4352x6144 : Shape := ⟨2, ![4352, 6144]⟩
abbrev S4352x128 : Shape := ⟨2, ![4352, 128]⟩
abbrev S4x128 : Shape := ⟨2, ![4, 128]⟩
abbrev S1x128 : Shape := ⟨2, ![1, 128]⟩
abbrev S4352x1 : Shape := ⟨2, ![4352, 1]⟩
abbrev S4352 : Shape := ⟨1, ![4352]⟩

abbrev nBuf : Space → Nat
  | .hbm => 3
  | .vmem => 6
  | .smem => 0
  | _ => 0

abbrev bufTy : (tb : Table) → Fin (tcTables nBuf tb) → BufTy
  | .hbm, ⟨0, _⟩ => ⟨S4352x12288, .f32⟩
  | .hbm, ⟨1, _⟩ => ⟨S4x6144, .f32⟩
  | .hbm, ⟨2, _⟩ => ⟨S4352x6144, .bf16⟩
  | .local _ .vmem, ⟨0, _⟩ => ⟨S4352x128, .f32⟩
  | .local _ .vmem, ⟨1, _⟩ => ⟨S4352x128, .f32⟩
  | .local _ .vmem, ⟨2, _⟩ => ⟨S4x128, .f32⟩
  | .local _ .vmem, ⟨3, _⟩ => ⟨S4x128, .f32⟩
  | .local _ .vmem, ⟨4, _⟩ => ⟨S4352x128, .bf16⟩
  | .local _ .vmem, ⟨5, _⟩ => ⟨S4352x128, .bf16⟩
  | _, _ => ⟨S4352x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S4352x12288 : Shape := ⟨2, ![4352, 12288]⟩
abbrev S4x6144 : Shape := ⟨2, ![4, 6144]⟩
abbrev S4352x6144 : Shape := ⟨2, ![4352, 6144]⟩
abbrev S4096x6144 : Shape := ⟨2, ![4096, 6144]⟩
abbrev S256x6144 : Shape := ⟨2, ![256, 6144]⟩
abbrev S_ : Shape := ⟨0, ![]⟩
abbrev S1x6144 : Shape := ⟨2, ![1, 6144]⟩
abbrev S4357x6144 : Shape := ⟨2, ![4357, 6144]⟩
abbrev S6144 : Shape := ⟨1, ![6144]⟩
abbrev S4354x6144 : Shape := ⟨2, ![4354, 6144]⟩
abbrev S4352x4096 : Shape := ⟨2, ![4352, 4096]⟩
abbrev S4352x2048 : Shape := ⟨2, ![4352, 2048]⟩
abbrev S4352x32x128 : Shape := ⟨3, ![4352, 32, 128]⟩
abbrev S4352x32 : Shape := ⟨2, ![4352, 32]⟩
abbrev S4352x32x1 : Shape := ⟨3, ![4352, 32, 1]⟩

abbrev nBuf : Space → Nat
  | .hbm => 68
  | .vmem => 0
  | .smem => 0
  | _ => 0

abbrev bufTy : (tb : Table) → Fin (tcTables nBuf tb) → BufTy
  | .hbm, ⟨0, _⟩ => ⟨S4352x12288, .f32⟩
  | .hbm, ⟨1, _⟩ => ⟨S4x6144, .f32⟩
  | .hbm, ⟨2, _⟩ => ⟨S4352x6144, .f32⟩
  | .hbm, ⟨3, _⟩ => ⟨S4096x6144, .f32⟩
  | .hbm, ⟨4, _⟩ => ⟨S256x6144, .f32⟩
  | .hbm, ⟨5, _⟩ => ⟨S_, .f32⟩
  | .hbm, ⟨6, _⟩ => ⟨S1x6144, .f32⟩
  | .hbm, ⟨7, _⟩ => ⟨S4357x6144, .f32⟩
  | .hbm, ⟨8, _⟩ => ⟨S1x6144, .f32⟩
  | .hbm, ⟨9, _⟩ => ⟨S6144, .f32⟩
  | .hbm, ⟨10, _⟩ => ⟨S4354x6144, .f32⟩
  | .hbm, ⟨11, _⟩ => ⟨S1x6144, .f32⟩
  | .hbm, ⟨12, _⟩ => ⟨S4354x6144, .f32⟩
  | .hbm, ⟨13, _⟩ => ⟨S4354x6144, .f32⟩
  | .hbm, ⟨14, _⟩ => ⟨S1x6144, .f32⟩
  | .hbm, ⟨15, _⟩ => ⟨S6144, .f32⟩
  | .hbm, ⟨16, _⟩ => ⟨S4354x6144, .f32⟩
  | .hbm, ⟨17, _⟩ => ⟨S1x6144, .f32⟩
  | .hbm, ⟨18, _⟩ => ⟨S4354x6144, .f32⟩
  | .hbm, ⟨19, _⟩ => ⟨S4354x6144, .f32⟩
  | .hbm, ⟨20, _⟩ => ⟨S4354x6144, .f32⟩
  | .hbm, ⟨21, _⟩ => ⟨S1x6144, .f32⟩
  | .hbm, ⟨22, _⟩ => ⟨S6144, .f32⟩
  | .hbm, ⟨23, _⟩ => ⟨S4354x6144, .f32⟩
  | .hbm, ⟨24, _⟩ => ⟨S1x6144, .f32⟩
  | .hbm, ⟨25, _⟩ => ⟨S4354x6144, .f32⟩
  | .hbm, ⟨26, _⟩ => ⟨S4354x6144, .f32⟩
  | .hbm, ⟨27, _⟩ => ⟨S4354x6144, .f32⟩
  | .hbm, ⟨28, _⟩ => ⟨S1x6144, .f32⟩
  | .hbm, ⟨29, _⟩ => ⟨S6144, .f32⟩
  | .hbm, ⟨30, _⟩ => ⟨S4354x6144, .f32⟩
  | .hbm, ⟨31, _⟩ => ⟨S1x6144, .f32⟩
  | .hbm, ⟨32, _⟩ => ⟨S4354x6144, .f32⟩
  | .hbm, ⟨33, _⟩ => ⟨S4354x6144, .f32⟩
  | .hbm, ⟨34, _⟩ => ⟨S4354x6144, .f32⟩
  | .hbm, ⟨35, _⟩ => ⟨S4096x6144, .f32⟩
  | .hbm, ⟨36, _⟩ => ⟨S256x6144, .f32⟩
  | .hbm, ⟨37, _⟩ => ⟨S4352x6144, .f32⟩
  | .hbm, ⟨38, _⟩ => ⟨S4352x6144, .f32⟩
  | .hbm, ⟨39, _⟩ => ⟨S4352x6144, .f32⟩
  | .hbm, ⟨40, _⟩ => ⟨S_, .f32⟩
  | .hbm, ⟨41, _⟩ => ⟨S4352x6144, .f32⟩
  | .hbm, ⟨42, _⟩ => ⟨S4352x6144, .f32⟩
  | .hbm, ⟨43, _⟩ => ⟨S_, .f32⟩
  | .hbm, ⟨44, _⟩ => ⟨S4352x6144, .f32⟩
  | .hbm, ⟨45, _⟩ => ⟨S4352x6144, .f32⟩
  | .hbm, ⟨46, _⟩ => ⟨S4352x6144, .f32⟩
  | .hbm, ⟨47, _⟩ => ⟨S4352x4096, .f32⟩
  | .hbm, ⟨48, _⟩ => ⟨S4352x2048, .f32⟩
  | .hbm, ⟨49, _⟩ => ⟨S4352x32x128, .f32⟩
  | .hbm, ⟨50, _⟩ => ⟨S4352x32x128, .f32⟩
  | .hbm, ⟨51, _⟩ => ⟨S_, .f32⟩
  | .hbm, ⟨52, _⟩ => ⟨S4352x32, .f32⟩
  | .hbm, ⟨53, _⟩ => ⟨S4352x32x1, .f32⟩
  | .hbm, ⟨54, _⟩ => ⟨S_, .f32⟩
  | .hbm, ⟨55, _⟩ => ⟨S4352x32x1, .f32⟩
  | .hbm, ⟨56, _⟩ => ⟨S4352x32x1, .f32⟩
  | .hbm, ⟨57, _⟩ => ⟨S4352x32x1, .f32⟩
  | .hbm, ⟨58, _⟩ => ⟨S4352x32x128, .f32⟩
  | .hbm, ⟨59, _⟩ => ⟨S4352x32x128, .f32⟩
  | .hbm, ⟨60, _⟩ => ⟨S4352x4096, .f32⟩
  | .hbm, ⟨61, _⟩ => ⟨S4352x2048, .f32⟩
  | .hbm, ⟨62, _⟩ => ⟨S4352x2048, .f32⟩
  | .hbm, ⟨63, _⟩ => ⟨S_, .f32⟩
  | .hbm, ⟨64, _⟩ => ⟨S4352x2048, .f32⟩
  | .hbm, ⟨65, _⟩ => ⟨S4352x2048, .f32⟩
  | .hbm, ⟨66, _⟩ => ⟨S4352x6144, .f32⟩
  | .hbm, ⟨67, _⟩ => ⟨S4352x6144, .bf16⟩
  | _, _ => ⟨S4352x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_cst_1 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_2 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Kernel25.lean ====
abbrev S4352x4096 : Shape := ⟨2, ![4352, 4096]⟩
abbrev S4096x128 : Shape := ⟨2, ![4096, 128]⟩
abbrev S4352x128 : Shape := ⟨2, ![4352, 128]⟩
abbrev S1088x4096 : Shape := ⟨2, ![1088, 4096]⟩
abbrev S1088x128 : Shape := ⟨2, ![1088, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x4096, .bf16⟩
  | .hbm, ⟨1, _⟩ => ⟨S4096x128, .bf16⟩
  | .hbm, ⟨2, _⟩ => ⟨S4352x128, .f32⟩
  | .local _ .vmem, ⟨0, _⟩ => ⟨S1088x4096, .bf16⟩
  | .local _ .vmem, ⟨1, _⟩ => ⟨S1088x4096, .bf16⟩
  | .local _ .vmem, ⟨2, _⟩ => ⟨S4096x128, .bf16⟩
  | .local _ .vmem, ⟨3, _⟩ => ⟨S1088x128, .f32⟩
  | .local _ .vmem, ⟨4, _⟩ => ⟨S1088x128, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4352x4096 : Shape := ⟨2, ![4352, 4096]⟩
abbrev S4096x128 : Shape := ⟨2, ![4096, 128]⟩
abbrev S4352x128 : Shape := ⟨2, ![4352, 128]⟩

abbrev nBuf : Space → Nat
  | .hbm => 3
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x128, .bf16⟩
  | .hbm, ⟨2, _⟩ => ⟨S4352x128, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S4352x4096 : Shape := ⟨2, ![4352, 4096]⟩
abbrev S4352x128 : Shape := ⟨2, ![4352, 128]⟩
abbrev S4096x128 : Shape := ⟨2, ![4096, 128]⟩
abbrev S4352x1024 : Shape := ⟨2, ![4352, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x4096, .bf16⟩
  | .hbm, ⟨1, _⟩ => ⟨S4352x128, .f32⟩
  | .hbm, ⟨2, _⟩ => ⟨S4096x128, .bf16⟩
  | .local _ .vmem, ⟨0, _⟩ => ⟨S4352x1024, .bf16⟩
  | .local _ .vmem, ⟨1, _⟩ => ⟨S4352x1024, .bf16⟩
  | .local _ .vmem, ⟨2, _⟩ => ⟨S4352x128, .f32⟩
  | .local _ .vmem, ⟨3, _⟩ => ⟨S1024x128, .bf16⟩
  | .local _ .vmem, ⟨4, _⟩ => ⟨S1024x128, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4352x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4352x4096 : Shape := ⟨2, ![4352, 4096]⟩
abbrev S4352x128 : Shape := ⟨2, ![4352, 128]⟩
abbrev S_ : Shape := ⟨0, ![]⟩
abbrev S4096x128 : Shape := ⟨2, ![4096, 128]⟩
abbrev S128x4096 : Shape := ⟨2, ![128, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x128, .f32⟩
  | .hbm, ⟨2, _⟩ => ⟨S_, .f32⟩
  | .hbm, ⟨3, _⟩ => ⟨S4096x128, .f32⟩
  | .hbm, ⟨4, _⟩ => ⟨S4352x4096, .f32⟩
  | .hbm, ⟨5, _⟩ => ⟨S4352x128, .f32⟩
  | .hbm, ⟨6, _⟩ => ⟨S128x4096, .f32⟩
  | .hbm, ⟨7, _⟩ => ⟨S4096x128, .f32⟩
  | .hbm, ⟨8, _⟩ => ⟨S4096x128, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S4352x128 : Shape := ⟨2, ![4352, 128]⟩
abbrev S4096x128 : Shape := ⟨2, ![4096, 128]⟩
abbrev S4352x4096 : Shape := ⟨2, ![4352, 4096]⟩
abbrev S1088x128 : Shape := ⟨2, ![1088, 128]⟩
abbrev S1024x128 : Shape := ⟨2, ![1024, 128]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x128, .f32⟩
  | .hbm, ⟨1, _⟩ => ⟨S4096x128, .bf16⟩
  | .hbm, ⟨2, _⟩ => ⟨S4352x4096, .f32⟩
  | .local _ .vmem, ⟨0, _⟩ => ⟨S1088x128, .f32⟩
  | .local _ .vmem, ⟨1, _⟩ => ⟨S1088x128, .f32⟩
  | .local _ .vmem, ⟨2, _⟩ => ⟨S1024x128, .bf16⟩
  | .local _ .vmem, ⟨3, _⟩ => ⟨S1024x128, .bf16⟩
  | .local _ .vmem, ⟨4, _⟩ => ⟨S1088x1024, .f32⟩
  | .local _ .vmem, ⟨5, _⟩ => ⟨S1088x1024, .f32⟩
  | _, _ => ⟨S4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4352x128 : Shape := ⟨2, ![4352, 128]⟩
abbrev S4096x128 : Shape := ⟨2, ![4096, 128]⟩
abbrev S_ : Shape := ⟨0, ![]⟩
abbrev S4352x4096 : Shape := ⟨2, ![4352, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4352x128, .f32⟩
  | .hbm, ⟨1, _⟩ => ⟨S4096x128, .bf16⟩
  | .hbm, ⟨2, _⟩ => ⟨S_, .f32⟩
  | .hbm, ⟨3, _⟩ => ⟨S4352x4096, .f32⟩
  | .hbm, ⟨4, _⟩ => ⟨S4096x128, .f32⟩
  | .hbm, ⟨5, _⟩ => ⟨S4352x128, .f32⟩
  | .hbm, ⟨6, _⟩ => ⟨S4352x4096, .f32⟩
  | _, _ => ⟨S4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4352x2048 : Shape := ⟨2, ![4352, 2048]⟩
abbrev S4096x2048 : Shape := ⟨2, ![4096, 2048]⟩
abbrev S4x2048 : Shape := ⟨2, ![4, 2048]⟩
abbrev S1x2048 : Shape := ⟨2, ![1, 2048]⟩
abbrev S2x16x128x128 : Shape := ⟨4, ![2, 16, 128, 128]⟩
abbrev S2x2048 : Shape := ⟨2, ![2, 2048]⟩
abbrev S4352x128 : Shape := ⟨2, ![4352, 128]⟩
abbrev S4096x128 : Shape := ⟨2, ![4096, 128]⟩
abbrev S4x128 : Shape := ⟨2, ![4, 128]⟩
abbrev S1x128 : Shape := ⟨2, ![1, 128]⟩
abbrev S2x1x128x128 : Shape := ⟨4, ![2, 1, 128, 128]⟩
abbrev S2x128 : Shape := ⟨2, ![2, 128]⟩
abbrev S4352x1 : Shape := ⟨2, ![4352, 1]⟩
abbrev S1x1x128x128 : Shape := ⟨4, ![1, 1, 128, 128]⟩
abbrev S128x128 : Shape := ⟨2, ![128, 128]⟩
abbrev S256x128 : Shape := ⟨2, ![256, 128]⟩
abbrev S256x1 : Shape := ⟨2, ![256, 1]⟩
abbrev S4096x1 : Shape := ⟨2, ![4096, 1]⟩
abbrev S128 : Shape := ⟨1, ![128]⟩

abbrev nBuf : Space → Nat
  | .hbm => 17
  | .vmem => 34
  | .smem => 0
  | _ => 0

abbrev bufTy : (tb : Table) → Fin (tcTables nBuf tb) → BufTy
  | .hbm, ⟨0, _⟩ => ⟨S4352x2048, .f32⟩
  | .hbm, ⟨1, _⟩ => ⟨S4096x2048, .f32⟩
  | .hbm, ⟨2, _⟩ => ⟨S4x2048, .f32⟩
  | .hbm, ⟨3, _⟩ => ⟨S1x2048, .f32⟩
  | .hbm, ⟨4, _⟩ => ⟨S2x16x128x128, .f32⟩
  | .hbm, ⟨5, _⟩ => ⟨S2x2048, .f32⟩
  | .hbm, ⟨6, _⟩ => ⟨S2x16x128x128, .f32⟩
  | .hbm, ⟨7, _⟩ => ⟨S2x2048, .f32⟩
  | .hbm, ⟨8, _⟩ => ⟨S2x2048, .f32⟩
  | .hbm, ⟨9, _⟩ => ⟨S4352x2048, .bf16⟩
  | .hbm, ⟨10, _⟩ => ⟨S4x2048, .f32⟩
  | .hbm, ⟨11, _⟩ => ⟨S1x2048, .f32⟩
  | .hbm, ⟨12, _⟩ => ⟨S2x16x128x128, .f32⟩
  | .hbm, ⟨13, _⟩ => ⟨S2x2048, .f32⟩
  | .hbm, ⟨14, _⟩ => ⟨S2x16x128x128, .f32⟩
  | .hbm, ⟨15, _⟩ => ⟨S2x2048, .f32⟩
  | .hbm, ⟨16, _⟩ => ⟨S2x2048, .f32⟩
  | .local _ .vmem, ⟨0, _⟩ => ⟨S4352x128, .f32⟩
  | .local _ .vmem, ⟨1, _⟩ => ⟨S4352x128, .f32⟩
  | .local _ .vmem, ⟨2, _⟩ => ⟨S4096x128, .f32⟩
  | .local _ .vmem, ⟨3, _⟩ => ⟨S4096x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S2x1x128x128, .f32⟩
  | .local _ .vmem, ⟨9, _⟩ => ⟨S2x1x128x128, .f32⟩
  | .local _ .vmem, ⟨10, _⟩ => ⟨S2x128, .f32⟩
  | .local _ .vmem, ⟨11, _⟩ => ⟨S2x128, .f32⟩
  | .local _ .vmem, ⟨12, _⟩ => ⟨S2x1x128x128, .f32⟩
  | .local _ .vmem, ⟨13, _⟩ => ⟨S2x1x128x128, .f32⟩
  | .local _ .vmem, ⟨14, _⟩ => ⟨S2x128, .f32⟩
  | .local _ .vmem, ⟨15, _⟩ => ⟨S2x128, .f32⟩
  | .local _ .vmem, ⟨16, _⟩ => ⟨S2x128, .f32⟩
  | .local _ .vmem, ⟨17, _⟩ => ⟨S2x128, .f32⟩
  | .local _ .vmem, ⟨18, _⟩ => ⟨S4352x128, .bf16⟩
  | .local _ .vmem, ⟨19, _⟩ => ⟨S4352x128, .bf16⟩
  | .local _ .vmem, ⟨20, _⟩ => ⟨S4x128, .f32⟩
  | .local _ .vmem, ⟨21, _⟩ => ⟨S4x128, .f32⟩
  | .local _ .vmem, ⟨22, _⟩ => ⟨S1x128, .f32⟩
  | .local _ .vmem, ⟨23, _⟩ => ⟨S1x128, .f32⟩
  | .local _ .vmem, ⟨24, _⟩ => ⟨S2x1x128x128, .f32⟩
  | .local _ .vmem, ⟨25, _⟩ => ⟨S2x1x128x128, .f32⟩
  | .local _ .vmem, ⟨26, _⟩ => ⟨S2x128, .f32⟩
  | .local _ .vmem, ⟨27, _⟩ => ⟨S2x128, .f32⟩
  | .local _ .vmem, ⟨28, _⟩ => ⟨S2x1x128x128, .f32⟩
  | .local _ .vmem, ⟨29, _⟩ => ⟨S2x1x128x128, .f32⟩
  | .local _ .vmem, ⟨30, _⟩ => ⟨S2x128, .f32⟩
  | .local _ .vmem, ⟨31, _⟩ => ⟨S2x128, .f32⟩
  | .local _ .vmem, ⟨32, _⟩ => ⟨S2x128, .f32⟩
  | .local _ .vmem, ⟨33, _⟩ => ⟨S2x128, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4352x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Proof.ShortConvSpec.lean ====
/- The gradient of the short gated convolution mixer, element by element. Rows are numbered through the
   grid's rows of 64 positions: a position whose number is a multiple of 64 has no left neighbour, one
   whose number leaves 63 has no right neighbour. Arrays are read as functions of two numbers. -/
module

public import Idealize.ShloMosaic.Lib.Pointwise

@[expose] public section

noncomputable section

open Idealize.ShloMosaic

namespace Cert.ShortConv

/-- A rank-2 array as a function of two numbers, zero outside. -/
def rd {a b : ℕ} {φ : FTy} (X : FVec Ideal ⟨2, ![a, b]⟩ φ) (r c : ℕ) : EReal :=
  if h : r < a ∧ c < b then X (ix2 ⟨r, h.1⟩ ⟨c, h.2⟩) else 0

theorem rd_eq {a b : ℕ} {φ : FTy} (X : FVec Ideal ⟨2, ![a, b]⟩ φ) (i : Fin a) (j : Fin b) :
    X (ix2 i j) = rd X i j := by
  unfold rd; rw [dif_pos ⟨i.isLt, j.isLt⟩]

/-- The left neighbour in the same row of 64 positions, zero at the edge. -/
def prev (f : ℕ → ℕ → EReal) (r c : ℕ) : EReal := if r % 64 = 0 then 0 else f (r - 1) c

/-- The right neighbour in the same row of 64 positions, zero at the edge. -/
def next (f : ℕ → ℕ → EReal) (r c : ℕ) : EReal := if r % 64 = 63 then 0 else f (r + 1) c

/-- What the convolution reads: the second and third gates' product. -/
def u (p : ℕ → ℕ → EReal) (r c : ℕ) : EReal := p r (4096 + c) * p r (8192 + c)

/-- The convolution with three taps along a row. -/
def z (p w : ℕ → ℕ → EReal) (r c : ℕ) : EReal :=
  w 0 c * prev (u p) r c + w 1 c * u p r c + w 2 c * next (u p) r c

/-- The gate `g · σ(g)`. -/
def sg (p : ℕ → ℕ → EReal) (r c : ℕ) : EReal := p r (12288 + c) * Ideal.logistic (p r (12288 + c))

/-- The gradient arriving at the convolution's result. -/
def dz (p d : ℕ → ℕ → EReal) (r c : ℕ) : EReal := d r c * p r c * sg p r c

/-- The gradient of the convolution's operand: the transposed taps. -/
def du (p d w : ℕ → ℕ → EReal) (r c : ℕ) : EReal :=
  w 0 c * next (dz p d) r c + w 1 c * dz p d r c + w 2 c * prev (dz p d) r c

/-- The derivative of the gate. -/
def dsg (x : EReal) : EReal := Ideal.logistic x * (1 + x * (1 - Ideal.logistic x))

/-- The four parts of the projection's gradient. -/
def dp (p d w : ℕ → ℕ → EReal) (k r c : ℕ) : EReal :=
  if k = 0 then d r c * z p w r c * sg p r c
  else if k = 1 then du p d w r c * p r (8192 + c)
  else if k = 2 then du p d w r c * p r (4096 + c)
  else d r c * p r c * z p w r c * dsg (p r (12288 + c))

/-- Row `r`'s contribution to the gradient of tap `j`. -/
def dwTerm (p d : ℕ → ℕ → EReal) (j r c : ℕ) : EReal :=
  dz p d r c * (if j = 0 then prev (u p) r c else if j = 1 then u p r c else next (u p) r c)

/-! Finite arguments: every intermediate value is a real number. -/

/-- A value that is no infinity. -/
def Fine (x : EReal) : Prop := ∃ r : ℝ, x = r

theorem Fine.mul {x y : EReal} : Fine x → Fine y → Fine (x * y) := fun ⟨a, ha⟩ ⟨b, hb⟩ => ⟨a * b, by rw [ha, hb, EReal.coe_mul]⟩
theorem Fine.add {x y : EReal} : Fine x → Fine y → Fine (x + y) := fun ⟨a, ha⟩ ⟨b, hb⟩ => ⟨a + b, by rw [ha, hb, EReal.coe_add]⟩
theorem Fine.zero : Fine 0 := ⟨0, rfl⟩

theorem fine_rd {a b : ℕ} {φ : FTy} {X : FVec Ideal ⟨2, ![a, b]⟩ φ} (h : ∀ i, Fine (X i)) (r c : ℕ) : Fine (rd X r c) := by
  unfold rd; split_ifs
  · exact h _
  · exact .zero

theorem fine_z {p w : ℕ → ℕ → EReal} (hp : ∀ r c, Fine (p r c)) (hw : ∀ r c, Fine (w r c)) (r c : ℕ) : Fine (z p w r c) := by
  have hu : ∀ r c, Fine (u p r c) := fun r c => (hp _ _).mul (hp _ _)
  have hprev : Fine (prev (u p) r c) := by unfold prev; split_ifs; exacts [.zero, hu _ _]
  have hnext : Fine (next (u p) r c) := by unfold next; split_ifs; exacts [.zero, hu _ _]
  exact (((hw _ _).mul hprev).add ((hw _ _).mul (hu _ _))).add ((hw _ _).mul hnext)

/-- The gate's derivative, distributed: this is where the arguments have to be finite. -/
theorem dsg_distrib {a x : EReal} : Fine a → Fine x →
    a * Ideal.logistic x + x * a * (Ideal.logistic x * (1 - Ideal.logistic x)) = a * dsg x := by
  rintro ⟨a, rfl⟩ ⟨x, rfl⟩
  unfold dsg
  rw [Ideal.logistic_coe, ← EReal.coe_one]
  norm_cast
  ring

end Cert.ShortConv

end
-- ==== Proof.Gate1.lean ====
/- The gated residual's backward call: the gradient of the gated product and of the gate, the latter summed over
   all rows. -/
module

public import proofs.«01_k».proof.Defs
public import proofs.«01_k».proof.Proof.ShortConvSpec
public import proofs.«01_k».proof.Proof.Gen.Kernel10Ideal.Value
public import proofs.«01_k».proof.Proof.Gen.Reference10Ideal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen Cert.ShortConv

/-- What a block stores: the gradient times the gate's row, and its rows' part of the gate's gradient. -/
theorem dyo_at (x : Vec Ideal S256x4096 .f32) (g : Vec Ideal S1x4096 .f32) (i : Fin 256) (j : Fin 4096) :
    k0_pay3 (F := Ideal) x g (ix2 i j) = x (ix2 i j) * g (ix2 0 j) := by
  pointwise [k0_pay3]

theorem dg_at (x : Vec Ideal S256x4096 .f32) (a : Vec Ideal S1x4096 .f32) (y : Vec Ideal S256x4096 .bf16) (j : Fin 4096) :
    k0_pay2 (F := Ideal) x a y (ix2 0 j) = a (ix2 0 j) + ∑ i : Fin 256, x (ix2 i j) * y (ix2 i j) := by
  pointwise [k0_pay2]

variable (m : (ℓ : Loc nD τ sig) → Buf (Elt Ideal) ℓ) (c : Dev nD)

/-- The residual stream's gradient, the product, the gate's row. -/
abbrev D : ℕ → ℕ → EReal := rd (a := 4096) (b := 4096) (φ := .f32) (m ((c : Thread nD τ).loc main_arg0))
abbrev Y : ℕ → ℕ → EReal := rd (a := 4096) (b := 4096) (φ := .bf16) (m ((c : Thread nD τ).loc main_arg1))
abbrev W : ℕ → ℕ → EReal := rd (a := 1) (b := 4096) (φ := .f32) (m ((c : Thread nD τ).loc main_arg2))

/-- The blocks' indices. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![0, 0])

theorem block0 (t : Fin cfg0.N) (i : Fin 256) (j : Fin 4096) :
    (iblk m c 0 t : Vec Ideal S256x4096 .f32) (ix2 i j) = D m c (256 * t.val + i) j := by
  have hN : cfg0.N = 16 := N_0
  have := t.isLt; have := i.isLt
  unfold D rd
  rw [dif_pos ⟨by omega, j.isLt⟩]
  blk_ext [iblk, V, idx t]

theorem block1 (t : Fin cfg0.N) (i : Fin 256) (j : Fin 4096) :
    (iblk m c 1 t : Vec Ideal S256x4096 .bf16) (ix2 i j) = Y m c (256 * t.val + i) j := by
  have hN : cfg0.N = 16 := N_0
  have := t.isLt; have := i.isLt
  unfold Y rd
  rw [dif_pos ⟨by omega, j.isLt⟩]
  blk_ext [iblk, V, idx t]

theorem block2 (t : Fin cfg0.N) (j : Fin 4096) : (iblk m c 2 t : Vec Ideal S1x4096 .f32) (ix2 0 j) = W m c 0 j := by
  unfold W rd
  rw [dif_pos ⟨by omega, j.isLt⟩]
  blk_ext [iblk, V, idx t]

/-- The two results. -/
def G : FVec Ideal S4096x4096 .bf16 := fun y => D m c (y 0).val (y 1).val * W m c 0 (y 1).val
def H : FVec Ideal S1x4096 .f32 := fun y => ∑ r : Fin 4096, D m c r (y 1).val * Y m c r (y 1).val

/-- What a point leaves in its block of the first result, in both of the body's cases. -/
theorem dyo_out (t : Fin cfg0.N) (i : Fin 256) (j : Fin 4096) :
    (outsAt0 m c t.val t.isLt).1 (ix2 i j) = D m c (256 * t.val + i) j * W m c 0 j := by
  by_cases h : t.val % 16 = 0
  · rw [outsAt0_A m c t h]; frame_out
    exact (dyo_at _ _ i j).trans (congrArg₂ _ (block0 m c t i j) (block2 m c t j))
  · rw [outsAt0_B m c t h]; frame_out
    exact (dyo_at _ _ i j).trans (congrArg₂ _ (block0 m c t i j) (block2 m c t j))

theorem final_dyo : (dats m 0 c).arrAt 3 cfg0.N = G m c := by
  refine (dats m 0 c).arrAt_eq_of_covers 3 (G m c) (by decide +kernel) fun t hf y => ?_
  rw [after0_3]
  obtain ⟨i, j, e⟩ : ∃ (i : Fin 256) (j : Fin 4096), (((cfg0.win 3).xinj (grid0.coords t) y : S256x4096.Idx)) = ix2 i j :=
    ⟨((cfg0.win 3).xinj (grid0.coords t) y : S256x4096.Idx) 0, ((cfg0.win 3).xinj (grid0.coords t) y : S256x4096.Idx) 1, by ext a; fin_cases a <;> rfl⟩
  refine (congrArg (outsAt0 m c t.val t.isLt).1 e).trans ((dyo_out m c t i j).trans ?_)
  have h0 : (((cfg0.win 3).blk t).view.emb y 0).val = 256 * t.val + i := by
    have e0' : (y 0).val = i.val := congrArg (fun z : S256x4096.Idx => (z 0).val) e
    rw [← e0']; blk_simp [idx t]; omega
  have h1 : (((cfg0.win 3).blk t).view.emb y 1).val = j := by
    have e1' : (y 1).val = j.val := congrArg (fun z : S256x4096.Idx => (z 1).val) e
    rw [← e1']; blk_simp [idx t]
  unfold G
  rw [h0, h1]

theorem final_dg : (dats m 0 c).arrAt 4 cfg0.N = H m c := by
  refine (dats m 0 c).arrAt_eq_of_covers 4 (H m c) (by decide +kernel) fun t hf y => ?_
  rw [after0_4, Pipeline.eq_sum_fin_of_reset_step_apply_of_flush (fun n h => (outsAt0 m c n h).2) 16 (fun _ => 0)
    (fun t x => ∑ i : Fin 256, D m c (256 * t.val + i) (x 1).val * Y m c (256 * t.val + i) (x 1).val)
    (fun t h x => by
      obtain ⟨k, j, rfl⟩ : ∃ (k : Fin 1) (j : Fin 4096), x = ix2 k j := ⟨x 0, x 1, by ext a; fin_cases a <;> rfl⟩
      obtain rfl : k = 0 := Subsingleton.elim _ _
      rw [outsAt0_A m c t h]; frame_out
      refine (dg_at _ _ _ j).trans ?_
      rw [show k0_pay1 (F := Ideal) (ix2 0 j) = 0 by pointwise [k0_pay1]]
      exact congrArg _ (Finset.sum_congr rfl fun i _ => congrArg₂ _ (block0 m c t i j) (block1 m c t i j)))
    (fun t h x => by
      obtain ⟨k, j, rfl⟩ : ∃ (k : Fin 1) (j : Fin 4096), x = ix2 k j := ⟨x 0, x 1, by ext a; fin_cases a <;> rfl⟩
      obtain rfl : k = 0 := Subsingleton.elim _ _
      rw [outsAt0_B m c t h]; frame_out
      refine (dg_at _ _ _ j).trans ?_
      exact congrArg _ (Finset.sum_congr rfl fun i _ => congrArg₂ _ (block0 m c t i j) (block1 m c t i j)))
    t ((flush0_4 t).mp hf) _]
  have h1 : (((cfg0.win 4).blk t).view.emb y 1).val = ((cfg0.win 4).xinj (cfg0.grid.coords t) y 1).val := by
    blk_simp [idx t]
  have ht : t.val / 16 = 0 := Nat.div_eq_of_lt (lt_of_lt_of_eq t.isLt N_0)
  show 0 + _ = ∑ r : Fin 4096, D m c r (((cfg0.win 4).blk t).view.emb y 1).val * Y m c r (((cfg0.win 4).blk t).view.emb y 1).val
  rw [h1, zero_add]
  refine Fin.sum_mul_add_congr fun s i h => ?_
  exact congrArg (fun r => D m c r _ * Y m c r _) (by
    show 256 * (16 * (t.val / 16) + s.val) + i.val = s.val * 256 + i.val
    omega)

/-- The reference's arrays. -/
theorem reference_dyo_at (d : FVec Ideal S4096x4096 .f32) (g : FVec Ideal S1x4096 .f32) (i j : Fin 4096) :
    Cert.Reference10Ideal.Read.val_main_v8 (F := Ideal) d g (ix2 i j) = rd d i j * rd g 0 j := by
  rw [show Cert.Reference10Ideal.Read.val_main_v8 (F := Ideal) d g (ix2 i j) = g (ix2 0 j) * d (ix2 i j) by
    pointwise [Cert.Reference10Ideal.Read.val_main_v8, Cert.Reference10Ideal.Read.val_main_v4, Cert.Reference10Ideal.Read.val_main_v3],
    mul_comm]
  exact congrArg₂ _ (rd_eq d i j) (rd_eq g 0 j)

theorem reference_dg_at (d : FVec Ideal S4096x4096 .f32) (y : FVec Ideal S4096x4096 .bf16) (j : Fin 4096) :
    Cert.Reference10Ideal.Read.val_main_v7 (F := Ideal) d y (ix2 0 j) = ∑ r : Fin 4096, rd d r j * rd y r j := by
  pointwise [Cert.Reference10Ideal.Read.val_main_v7, Cert.Reference10Ideal.Read.val_main_v6, Cert.Reference10Ideal.Read.val_main_v5,
    Cert.Reference10Ideal.Read.val_main_v0, Cert.Reference10Ideal.Read.val_main_cst]
  exact Finset.sum_congr rfl fun r _ => congrArg₂ _ (rd_eq d r j) (rd_eq y r j)

end Cert.Kernel10Ideal.Value

namespace Cert.Proof

theorem gate1_reference_frame : Cert.quiescent_Reference10Ideal := fun m g _ =>
  (θ_run Cert.Reference10Ideal.defs _ _).mono
    (fun r h => ⟨fun c => (h c).2.2, sem_eq_zero_of_no_sems (by decide) r.2⟩) (Cert.Reference10Ideal.Value.run m g)

theorem gate1_algebraic : Cert.algebraic_Kernel10Ideal_Reference10Ideal := by
  intro m g m' g' _ hagree
  refine ⟨fun c => (Cert.Kernel10Ideal.Gen.dats m 0 c).arrAt 3 Cert.Kernel10Ideal.cfg0.N,
    fun c => (Cert.Kernel10Ideal.Gen.dats m 0 c).arrAt 4 Cert.Kernel10Ideal.cfg0.N, Cert.Kernel10Ideal.Value.run_blocks m g, ?_⟩
  refine (θ_run Cert.Reference10Ideal.defs _ _).mono
    (fun r h c => ⟨(h c).1.trans ?_, (h c).2.1.trans ?_, (h c).2.2⟩) (Cert.Reference10Ideal.Value.run m' g')
  · refine Eq.trans ?_ (Cert.Kernel10Ideal.Value.final_dyo m c).symm
    rw [Cert.Reference10Ideal.Read.val_main_v8_eq, (hagree c).1, (hagree c).2.2]
    funext x
    obtain ⟨i, j, rfl⟩ : ∃ i j, x = ix2 i j := ⟨x 0, x 1, by ext a; fin_cases a <;> rfl⟩
    exact Cert.Kernel10Ideal.Value.reference_dyo_at _ _ i j
  · refine Eq.trans ?_ (Cert.Kernel10Ideal.Value.final_dg m c).symm
    rw [Cert.Reference10Ideal.Read.val_main_v7_eq, (hagree c).1, (hagree c).2.1]
    funext x
    obtain ⟨k, j, rfl⟩ : ∃ (k : Fin 1) (j : Fin 4096), x = ix2 k j := ⟨x 0, x 1, by ext a; fin_cases a <;> rfl⟩
    obtain rfl : k = 0 := Subsingleton.elim _ _
    exact Cert.Kernel10Ideal.Value.reference_dg_at _ _ j

end Cert.Proof

end
-- ==== Proof.ShortConvFinite.lean ====
/- What the precondition says: no element of the three arguments is an infinity. -/
module

public import proofs.«01_k».proof.Defs
public import proofs.«01_k».proof.Proof.ShortConvSpec
public import proofs.«01_k».proof.Proof.Gen.Pre_finite
public import Idealize.ShloMosaic.Lib.Pipeline.ValueKit

@[expose] public section

noncomputable section

open Idealize.ShloMosaic Idealize.ShloMosaic.TcCoe Idealize.SL.Sem

namespace Cert.ShortConv

/-- An element whose magnitude is below the infinity is a real number. -/
theorem fine_of_lt {x : EReal} (h : max x (-x) < ⊤) : Fine x := by
  induction x with
  | bot => simp at h
  | top => simp at h
  | coe r => exact ⟨r, rfl⟩

theorem fine_of_mask {s : Shape} (hb : Cert.Pre_finite.S_.BroadcastsInDim s ![]) (X : FVec Ideal s .f32) (i : s.Idx)
    (h : cmpf .olt (Host.absf X) (broadcastInDim s ![] hb (constant (F := Ideal) Cert.Pre_finite.S_ .f32 0x7F800000#32)) i = 1#1) :
    Fine (X i) := by
  apply fine_of_lt
  revert h
  pointwise
  rw [show Ideal.ofBits .f32 2139095040#32 = ⊤ by simp [Ideal.ofBits, Ideal.ieee]]
  intro h
  by_contra hn
  rw [show decide (FloatOps.absf (F := Ideal) (φ := .f32) (X i) < (⊤ : EReal)) = false from decide_eq_false hn] at h
  exact absurd h (by decide)

end Cert.ShortConv

end
-- ==== Proof.LruGate.lean ====
/- The recurrence's output gate, backwards: the states' gradient and the gate's, in blocks of 512 rows and columns. -/
module

public import proofs.«01_k».proof.Defs
public import proofs.«01_k».proof.Proof.ShortConvFinite
public import proofs.«01_k».proof.Proof.Gen.Kernel11Ideal.Value
public import proofs.«01_k».proof.Proof.Gen.Pre_finite11
public import proofs.«01_k».proof.Proof.Gen.Reference11Ideal.Run
public import proofs.«01_k».proof.Proof.Gen.Reference11Ideal.Read
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen Cert.ShortConv

/-- What a block stores, element by element. -/
theorem dh_at (g d : Vec Ideal S512x512 .f32) (i j : Fin 512) :
    k0_pay1 (F := Ideal) g d (ix2 i j) = d (ix2 i j) * (g (ix2 i j) * Ideal.logistic (g (ix2 i j))) := by
  pointwise [k0_pay1]

theorem dg_at (g d h : Vec Ideal S512x512 .f32) (i j : Fin 512) :
    k0_pay2 (F := Ideal) g d h (ix2 i j) = d (ix2 i j) * h (ix2 i j) * dsg (g (ix2 i j)) := by
  pointwise [k0_pay2]
  rfl

variable (m : (ℓ : Loc nD τ sig) → Buf (Elt Ideal) ℓ) (c : Dev nD)

/-- The states, the projection, the output's gradient. -/
abbrev H : ℕ → ℕ → EReal := rd (a := 4096) (b := 2048) (φ := .f32) (m ((c : Thread nD τ).loc main_arg0))
abbrev P : ℕ → ℕ → EReal := rd (a := 4352) (b := 12288) (φ := .f32) (m ((c : Thread nD τ).loc main_arg1))
abbrev D : ℕ → ℕ → EReal := rd (a := 4096) (b := 4096) (φ := .f32) (m ((c : Thread nD τ).loc main_arg2))

/-- The blocks' indices. -/
theorem idx : ∀ t : Fin cfg0.N, win0_0.index t = ![t.val / 4, t.val % 4] ∧ win0_1.index t = ![t.val / 4, 20 + t.val % 4]
    ∧ win0_2.index t = ![t.val / 4, 4 + t.val % 4] ∧ win0_3.index t = ![t.val / 4, t.val % 4] ∧ win0_4.index t = ![t.val / 4, t.val % 4] :=
  (by decide +kernel : ∀ t : Fin grid0.N, win0_0.index t = ![t.val / 4, t.val % 4] ∧ win0_1.index t = ![t.val / 4, 20 + t.val % 4]
    ∧ win0_2.index t = ![t.val / 4, 4 + t.val % 4] ∧ win0_3.index t = ![t.val / 4, t.val % 4] ∧ win0_4.index t = ![t.val / 4, t.val % 4])

theorem block0 (t : Fin cfg0.N) (i j : Fin 512) :
    (iblk m c 0 t : Vec Ideal S512x512 .f32) (ix2 i j) = H m c (512 * (t.val / 4) + i) (512 * (t.val % 4) + j) := by
  have hN : cfg0.N = 32 := N_0
  have := t.isLt; have := i.isLt; have := j.isLt
  unfold H rd
  rw [dif_pos ⟨by omega, by omega⟩]
  blk_ext [iblk, V, idx t]

theorem block1 (t : Fin cfg0.N) (i j : Fin 512) :
    (X0_1 m c t : Vec Ideal S512x512 .f32) (ix2 i j) = P m c (512 * (t.val / 4) + i) (10240 + (512 * (t.val % 4) + j)) := by
  have hN : cfg0.N = 32 := N_0
  have := t.isLt; have := i.isLt; have := j.isLt
  unfold P rd
  rw [dif_pos ⟨by omega, by omega⟩]
  unfold X0_1 Pipeline.Window.fill
  rw [dif_pos (moved0_1 t _)]
  blk_ext [iblk, V, idx t]

theorem block2 (t : Fin cfg0.N) (i j : Fin 512) :
    (iblk m c 2 t : Vec Ideal S512x512 .f32) (ix2 i j) = D m c (512 * (t.val / 4) + i) (2048 + (512 * (t.val % 4) + j)) := by
  have hN : cfg0.N = 32 := N_0
  have := t.isLt; have := i.isLt; have := j.isLt
  unfold D rd
  rw [dif_pos ⟨by omega, by omega⟩]
  blk_ext [iblk, V, idx t]

/-- The two results: the states' gradient, and the gate's. -/
def dh (p d : ℕ → ℕ → EReal) (i j : ℕ) : EReal := d i (2048 + j) * (p i (10240 + j) * Ideal.logistic (p i (10240 + j)))
def dg (h p d : ℕ → ℕ → EReal) (i j : ℕ) : EReal := d i (2048 + j) * h i j * dsg (p i (10240 + j))
def GH : FVec Ideal S4096x2048 .f32 := fun y => dh (P m c) (D m c) (y 0).val (y 1).val
def GG : FVec Ideal S4096x2048 .bf16 := fun y => dg (H m c) (P m c) (D m c) (y 0).val (y 1).val

theorem dh_out (t : Fin cfg0.N) (i j : Fin 512) :
    (outsAt0 m c t).1 (ix2 i j) = dh (P m c) (D m c) (512 * (t.val / 4) + i) (512 * (t.val % 4) + j) := by
  unfold outsAt0; frame_out
  exact (dh_at _ _ i j).trans (congrArg₂ _ (block2 m c t i j) (congrArg (fun x => x * Ideal.logistic x) (block1 m c t i j)))

theorem dg_out (t : Fin cfg0.N) (i j : Fin 512) :
    (outsAt0 m c t).2 (ix2 i j) = dg (H m c) (P m c) (D m c) (512 * (t.val / 4) + i) (512 * (t.val % 4) + j) := by
  unfold outsAt0; frame_out
  exact (dg_at _ _ _ i j).trans (congrArg₂ _ (congrArg₂ _ (block2 m c t i j) (block0 m c t i j)) (congrArg dsg (block1 m c t i j)))

theorem final_dh : (dats m 0 c).arrAt 3 cfg0.N = GH m c := by
  refine (dats m 0 c).arrAt_eq_of_covers 3 (GH m c) (by decide +kernel) fun t hf y => ?_
  rw [after0_3]
  obtain ⟨i, j, e⟩ : ∃ (i j : Fin 512), (((cfg0.win 3).xinj (grid0.coords t) y : S512x512.Idx)) = ix2 i j :=
    ⟨((cfg0.win 3).xinj (grid0.coords t) y : S512x512.Idx) 0, ((cfg0.win 3).xinj (grid0.coords t) y : S512x512.Idx) 1, by ext a; fin_cases a <;> rfl⟩
  refine (congrArg (outsAt0 m c t).1 e).trans ((dh_out m c t i j).trans ?_)
  have h0 : (((cfg0.win 3).blk t).view.emb y 0).val = 512 * (t.val / 4) + i := by
    have e0' : (y 0).val = i.val := congrArg (fun z : S512x512.Idx => (z 0).val) e
    rw [← e0']; blk_simp [idx t]; omega
  have h1 : (((cfg0.win 3).blk t).view.emb y 1).val = 512 * (t.val % 4) + j := by
    have e1' : (y 1).val = j.val := congrArg (fun z : S512x512.Idx => (z 1).val) e
    rw [← e1']; blk_simp [idx t]; omega
  unfold GH
  rw [h0, h1]

theorem final_dg : (dats m 0 c).arrAt 4 cfg0.N = GG m c := by
  refine (dats m 0 c).arrAt_eq_of_covers 4 (GG m c) (by decide +kernel) fun t hf y => ?_
  rw [after0_4]
  obtain ⟨i, j, e⟩ : ∃ (i j : Fin 512), (((cfg0.win 4).xinj (grid0.coords t) y : S512x512.Idx)) = ix2 i j :=
    ⟨((cfg0.win 4).xinj (grid0.coords t) y : S512x512.Idx) 0, ((cfg0.win 4).xinj (grid0.coords t) y : S512x512.Idx) 1, by ext a; fin_cases a <;> rfl⟩
  refine (congrArg (outsAt0 m c t).2 e).trans ((dg_out m c t i j).trans ?_)
  have h0 : (((cfg0.win 4).blk t).view.emb y 0).val = 512 * (t.val / 4) + i := by
    have e0' : (y 0).val = i.val := congrArg (fun z : S512x512.Idx => (z 0).val) e
    rw [← e0']; blk_simp [idx t]; omega
  have h1 : (((cfg0.win 4).blk t).view.emb y 1).val = 512 * (t.val % 4) + j := by
    have e1' : (y 1).val = j.val := congrArg (fun z : S512x512.Idx => (z 1).val) e
    rw [← e1']; blk_simp [idx t]; omega
  unfold GG
  rw [h0, h1]

end Cert.Kernel11Ideal.Value

namespace Cert.Reference11Ideal.Gate

open Cert.Reference11Ideal Cert.Reference11Ideal.Read Cert.ShortConv

variable (h : FVec Ideal S4096x2048 .f32) (p : FVec Ideal S4352x12288 .f32) (d : FVec Ideal S4096x4096 .f32)

theorem gate_at (i : Fin 4096) (j : Fin 2048) : val_main_v0 (F := Ideal) p (ix2 i j) = rd p i (10240 + j) := by
  rw [show val_main_v0 (F := Ideal) p (ix2 i j) = p (ix2 ⟨i.val, by omega⟩ ⟨10240 + j.val, by omega⟩) by pointwise [val_main_v0], rd_eq p]

theorem grad_at (i : Fin 4096) (j : Fin 2048) : val_main_v3 (F := Ideal) d (ix2 i j) = rd d i (2048 + j) := by
  rw [show val_main_v3 (F := Ideal) d (ix2 i j) = d (ix2 i ⟨2048 + j.val, by omega⟩) by pointwise [val_main_v3], rd_eq d]

theorem sigma_at (i : Fin 4096) (j : Fin 2048) : val_main_v1_2 (F := Ideal) p (ix2 i j) = Ideal.logistic (rd p i (10240 + j)) := by
  rw [← gate_at]
  have e : ∀ Y : FVec Ideal S4096x2048 .f32, Host.divf (val_main_call0_v4 (F := Ideal)) (addf (val_main_call0_v2 (F := Ideal)) (Host.exp (Host.negf Y))) (ix2 i j)
      = Ideal.logistic (Y (ix2 i j)) := fun Y => by
    pointwise [val_main_call0_v4, val_main_call0_v2, val_main_call0_cst, val_main_call0_cst_0]
    rfl
  exact e _

/-- The states' gradient. -/
theorem v5_at (i : Fin 4096) (j : Fin 2048) :
    val_main_v5 (F := Ideal) p d (ix2 i j) = Cert.Kernel11Ideal.Value.dh (rd p) (rd d) i j := by
  rw [show val_main_v5 (F := Ideal) p d (ix2 i j) = val_main_v3 (F := Ideal) d (ix2 i j)
    * (val_main_v0 (F := Ideal) p (ix2 i j) * val_main_v1_2 (F := Ideal) p (ix2 i j)) from rfl, gate_at, grad_at, sigma_at]; rfl

/-- The gate's gradient, for finite arguments. -/
theorem v7_at (hh : ∀ i, Fine (h i)) (hp : ∀ i, Fine (p i)) (hd : ∀ i, Fine (d i)) (i : Fin 4096) (j : Fin 2048) :
    val_main_v7 (F := Ideal) h p d (ix2 i j) = Cert.Kernel11Ideal.Value.dg (rd h) (rd p) (rd d) i j := by
  have hone : val_main_call0_v6 (F := Ideal) (ix2 i j) = 1 := by pointwise [val_main_call0_v6, val_main_call0_cst_1]
  rw [show val_main_v7 (F := Ideal) h p d (ix2 i j)
      = h (ix2 i j) * val_main_v3 (F := Ideal) d (ix2 i j) * val_main_v1_2 (F := Ideal) p (ix2 i j)
        + val_main_v0 (F := Ideal) p (ix2 i j) * (h (ix2 i j) * val_main_v3 (F := Ideal) d (ix2 i j))
          * (val_main_v1_2 (F := Ideal) p (ix2 i j) * (val_main_call0_v6 (F := Ideal) (ix2 i j) - val_main_v1_2 (F := Ideal) p (ix2 i j))) from rfl,
    hone, gate_at, grad_at, sigma_at, rd_eq h, dsg_distrib ((fine_rd hh _ _).mul (fine_rd hd _ _)) (fine_rd hp _ _), mul_comm (rd h i j)]
  rfl

end Cert.Reference11Ideal.Gate

namespace Cert.Proof

open Cert.ShortConv

theorem lru_gate_reference_frame : Cert.quiescent_Reference11Ideal := fun m g _ =>
  (θ_run Cert.Reference11Ideal.defs _ _).mono
    (fun r h => ⟨fun c => (h c).2.2, sem_eq_zero_of_no_sems (by decide) r.2⟩) (Cert.Reference11Ideal.Value.run m g)

theorem lru_gate_algebraic : Cert.algebraic_Kernel11Ideal_Reference11Ideal_pre_finite11 := by
  intro m g m' g' hpre hagree
  refine ⟨fun c => (Cert.Kernel11Ideal.Gen.dats m 0 c).arrAt 3 Cert.Kernel11Ideal.cfg0.N,
    fun c => (Cert.Kernel11Ideal.Gen.dats m 0 c).arrAt 4 Cert.Kernel11Ideal.cfg0.N, Cert.Kernel11Ideal.Value.run_blocks m g, ?_⟩
  refine (θ_run Cert.Reference11Ideal.defs _ _).mono
    (fun r h c => ⟨(h c).1.trans ?_, (h c).2.1.trans ?_, (h c).2.2⟩) (Cert.Reference11Ideal.Value.run m' g')
  · refine Eq.trans ?_ (Cert.Kernel11Ideal.Value.final_dh m c).symm
    rw [Cert.Reference11Ideal.Read.val_main_v5_eq, (hagree c).2.1, (hagree c).2.2]
    funext x
    obtain ⟨i, j, rfl⟩ : ∃ i j, x = ix2 i j := ⟨x 0, x 1, by ext a; fin_cases a <;> rfl⟩
    exact Cert.Reference11Ideal.Gate.v5_at _ _ i j
  · refine Eq.trans ?_ (Cert.Kernel11Ideal.Value.final_dg m c).symm
    rw [Cert.Reference11Ideal.Read.val_main_v7_eq, (hagree c).1, (hagree c).2.1, (hagree c).2.2]
    funext x
    obtain ⟨i, j, rfl⟩ : ∃ i j, x = ix2 i j := ⟨x 0, x 1, by ext a; fin_cases a <;> rfl⟩
    exact Cert.Reference11Ideal.Gate.v7_at _ _ _ (fun i => fine_of_mask _ _ i (congrFun (hpre c).1 i))
      (fun i => fine_of_mask _ _ i (congrFun (hpre c).2.1 i)) (fun i => fine_of_mask _ _ i (congrFun (hpre c).2.2 i)) i j

end Cert.Proof

end
-- ==== Proof.NormSpec.lean ====
/- The derivative of the root mean square norm, over the real numbers: what the kernels write and what the chain rule
   writes are one number. Where every value is a real number, a sum or product of extended reals is that of the reals. -/
module

public import proofs.«01_k».proof.Proof.ShortConvSpec

@[expose] public section

noncomputable section

open Idealize.ShloMosaic Cert.ShortConv

namespace Cert.Norm

theorem coe_sum {n : ℕ} (f : Fin n → ℝ) : (∑ i, (f i : EReal)) = ((∑ i, f i : ℝ) : EReal) :=
  (map_sum (⟨⟨Real.toEReal, EReal.coe_zero⟩, EReal.coe_add⟩ : ℝ →+ EReal) f Finset.univ).symm

/-- A finite array is an array of real numbers. -/
theorem reals {ι : Type} {f : ι → EReal} (h : ∀ i, Fine (f i)) : ∃ g : ι → ℝ, f = fun i => (g i : EReal) :=
  ⟨fun i => (h i).choose, funext fun i => (h i).choose_spec⟩

theorem _root_.Cert.ShortConv.Fine.sub {x y : EReal} : Fine x → Fine y → Fine (x - y) := fun ⟨a, ha⟩ ⟨b, hb⟩ => ⟨a - b, by rw [ha, hb, EReal.coe_sub]⟩
theorem _root_.Cert.ShortConv.Fine.sum {n : ℕ} {f : Fin n → EReal} (h : ∀ i, Fine (f i)) : Fine (∑ i, f i) := by
  obtain ⟨g, rfl⟩ := reals h
  exact ⟨_, coe_sum g⟩
theorem mul_sum {n : ℕ} {a : EReal} {f : Fin n → EReal} (ha : Fine a) (hf : ∀ i, Fine (f i)) : a * ∑ i, f i = ∑ i, a * f i := by
  obtain ⟨a, rfl⟩ := ha
  obtain ⟨g, rfl⟩ := reals hf
  simp only [← EReal.coe_mul, coe_sum, Finset.mul_sum]
theorem _root_.Cert.ShortConv.Fine.div {x : EReal} {N : ℝ} (hN : N ≠ 0) : Fine x → Fine (Ideal.div x N) := fun ⟨a, ha⟩ =>
  ⟨a * (1 / N), by rw [ha, Ideal.div_coe hN, EReal.coe_mul]⟩
theorem _root_.Cert.ShortConv.Fine.coe (r : ℝ) : Fine (r : EReal) := ⟨r, rfl⟩

/-- The constants' values: the width, the offset under the root, the factor of the root's derivative. -/
theorem width_eq : Ideal.ofBits .f32 0x45800000#32 = ((4096 : ℝ) : EReal) := by
  simp [Ideal.ofBits, Ideal.ieee]; norm_num; rw [← EReal.coe_mul]; norm_num
def eps : ℝ := 8796093 / 8796093022208
theorem eps_pos : 0 < eps := by unfold eps; norm_num
theorem eps_eq : Ideal.ofBits .f32 0x358637BD#32 = ((eps : ℝ) : EReal) := by
  unfold eps; simp [Ideal.ofBits, Ideal.ieee]; norm_num; rw [← EReal.coe_mul]; norm_num
theorem half_eq : Ideal.ofBits .f32 0xBF000000#32 = ((-1 / 2 : ℝ) : EReal) := by
  simp [Ideal.ofBits, Ideal.ieee]; norm_num; rw [← EReal.coe_mul]; norm_num

/-- The factors of the loss and of its gradient: a half, and the width's reciprocal. -/
theorem pos_half_eq : Ideal.ofBits .f32 0x3F000000#32 = ((1 / 2 : ℝ) : EReal) := by
  simp [Ideal.ofBits, Ideal.ieee]; norm_num; rw [← EReal.coe_mul]; norm_num
theorem recip_eq : Ideal.ofBits .f32 0x39800000#32 = ((1 / 4096 : ℝ) : EReal) := by
  simp [Ideal.ofBits, Ideal.ieee]; norm_num; rw [← EReal.coe_mul]; norm_num

/-- The square's derivative: two halves of the error's share are one share. -/
theorem halves {x : EReal} (hx : Fine x) :
    x * Ideal.div (Ideal.ofBits .f32 0x3F000000#32 * 1) (Ideal.ofBits .f32 0x45800000#32) + Ideal.div (Ideal.ofBits .f32 0x3F000000#32 * 1) (Ideal.ofBits .f32 0x45800000#32) * x
      = x * Ideal.ofBits .f32 0x39800000#32 := by
  obtain ⟨x, rfl⟩ := hx
  rw [pos_half_eq, width_eq, recip_eq, Ideal.div_coe (by norm_num), mul_one]
  simp only [← EReal.coe_mul, ← EReal.coe_add]
  congr 1
  ring

/-- The reciprocal root of a mean of squares. -/
def scl {n : ℕ} (N e : EReal) (x : Fin n → EReal) : EReal := Ideal.rsqrt (Ideal.div (∑ k, x k * x k) N + e)

def sclR {n : ℕ} (N e : ℝ) (x : Fin n → ℝ) : ℝ := (Real.sqrt ((∑ k, x k * x k) * (1 / N) + e))⁻¹

theorem mean_pos {n : ℕ} {N e : ℝ} (hN : 0 < N) (he : 0 < e) (x : Fin n → ℝ) : 0 < (∑ k, x k * x k) * (1 / N) + e := by
  have : 0 ≤ ∑ k, x k * x k := Finset.sum_nonneg fun k _ => mul_self_nonneg _
  positivity

theorem scl_coe {n : ℕ} {N e : ℝ} (hN : 0 < N) (he : 0 < e) (x : Fin n → ℝ) : scl N e (fun k => (x k : EReal)) = (sclR N e x : EReal) := by
  have hp := mean_pos hN he x
  unfold scl sclR
  rw [Ideal.div_coe hN.ne']
  simp only [← EReal.coe_mul, coe_sum, ← EReal.coe_add]
  rw [Ideal.rsqrt_coe, if_neg (not_lt.mpr hp.le), if_neg hp.ne']

/-- The root's defining property. -/
theorem sclR_div {n : ℕ} {N e : ℝ} (hN : 0 < N) (he : 0 < e) (x : Fin n → ℝ) :
    sclR N e x * (1 / ((∑ k, x k * x k) * (1 / N) + e)) = sclR N e x * (sclR N e x * sclR N e x) := by
  have hp := mean_pos hN he x
  unfold sclR
  rw [← mul_inv, Real.mul_self_sqrt hp.le, one_div ((_ : ℝ) + e)]

theorem fine_scl {n : ℕ} {N e : ℝ} (hN : 0 < N) (he : 0 < e) {x : Fin n → EReal} (h : ∀ k, Fine (x k)) : Fine (scl N e x) := by
  obtain ⟨g, rfl⟩ := reals h
  exact ⟨_, scl_coe hN he g⟩

/-- The gradient as the kernels write it: `r (c - x r mean (c x r))`. -/
def dx {n : ℕ} (N e : EReal) (x c : Fin n → EReal) (j : Fin n) : EReal :=
  scl N e x * (c j - x j * scl N e x * Ideal.div (∑ k, c k * (x k * scl N e x)) N)

/-- The gradient as the chain rule writes it: through the product, the root, the mean and the square's two factors. -/
def chain {n : ℕ} (N e h : EReal) (x c : Fin n → EReal) : EReal :=
  Ideal.div ((∑ k, x k * c k) * (h * Ideal.div (scl N e x) (Ideal.div (∑ k, x k * x k) N + e))) N

theorem chain_eq {n : ℕ} {N e : ℝ} (hN : 0 < N) (he : 0 < e) {x c : Fin n → EReal} (hx : ∀ k, Fine (x k)) (hc : ∀ k, Fine (c k)) (j : Fin n) :
    c j * scl N e x + x j * chain N e ((-1 / 2 : ℝ) : EReal) x c + chain N e ((-1 / 2 : ℝ) : EReal) x c * x j = dx N e x c j := by
  obtain ⟨x, rfl⟩ := reals hx
  obtain ⟨c, rfl⟩ := reals hc
  have hp := mean_pos hN he x
  have hs : ∑ k, c k * (x k * sclR N e x) = (∑ k, x k * c k) * sclR N e x := by
    rw [Finset.sum_mul]; exact Finset.sum_congr rfl fun k _ => by ring
  have hd := sclR_div hN he x
  unfold chain dx
  rw [scl_coe hN he]
  simp only [Ideal.div_coe hN.ne', ← EReal.coe_mul, coe_sum, ← EReal.coe_add, ← EReal.coe_sub]
  simp only [Ideal.div_coe hp.ne', ← EReal.coe_mul, ← EReal.coe_add]
  rw [hs, hd]
  congr 1
  ring

end Cert.Norm

end
-- ==== Proof.RowSum.lean ====
/- A value that starts at zero and grows by each block's sum, over sixteen blocks of 256 rows. -/
module

public import proofs.«01_k».proof.Proof.ShortConvSpec
public import Idealize.ShloMosaic.Lib.Pipeline.ValueKit

@[expose] public section

noncomputable section

open Idealize.ShloMosaic

namespace Cert.RowSum

/-- After the last block it holds what it began with and the sum over all rows. -/
theorem acc_from {ι : Type} {N : ℕ} (hN : N = 16) (f : (n : ℕ) → n < N → ι → EReal) (init : ι → EReal) (term : ℕ → ι → EReal)
    (hA : ∀ t : Fin N, t.val % 16 = 0 → ∀ x, f t.val t.isLt x = init x + ∑ i : Fin 256, term (256 * t.val + i) x)
    (hB : ∀ t : Fin N, ¬t.val % 16 = 0 → ∀ x, f t.val t.isLt x
      = f (t.val - 1) (Nat.lt_of_le_of_lt (Nat.sub_le _ _) t.isLt) x + ∑ i : Fin 256, term (256 * t.val + i) x)
    (t : Fin N) (ht : t.val % 16 = 15) (x : ι) : f t.val t.isLt x = init x + ∑ r : Fin 4096, term r x := by
  rw [Pipeline.eq_sum_fin_of_reset_step_apply_of_flush f 16 init (fun t x => ∑ i : Fin 256, term (256 * t.val + i) x) hA hB t ht x]
  have h0 : t.val / 16 = 0 := Nat.div_eq_of_lt (lt_of_lt_of_eq t.isLt hN)
  refine congrArg (init x + ·) (Fin.sum_mul_add_congr fun s i h => ?_)
  exact congrArg (fun r => term r _) (by
    show 256 * (16 * (t.val / 16) + s.val) + i.val = s.val * 256 + i.val
    omega)

/-- After the last block it holds the sum over all rows. -/
theorem acc {ι : Type} {N : ℕ} (hN : N = 16) (f : (n : ℕ) → n < N → ι → EReal) (term : ℕ → ι → EReal)
    (hA : ∀ t : Fin N, t.val % 16 = 0 → ∀ x, f t.val t.isLt x = 0 + ∑ i : Fin 256, term (256 * t.val + i) x)
    (hB : ∀ t : Fin N, ¬t.val % 16 = 0 → ∀ x, f t.val t.isLt x
      = f (t.val - 1) (Nat.lt_of_le_of_lt (Nat.sub_le _ _) t.isLt) x + ∑ i : Fin 256, term (256 * t.val + i) x)
    (t : Fin N) (ht : t.val % 16 = 15) (x : ι) : f t.val t.isLt x = ∑ r : Fin 4096, term r x :=
  (acc_from hN f (fun _ => 0) term hA hB t ht x).trans (zero_add _)

/-- A single row of columns. -/
theorem row {b : ℕ} (x : (⟨2, ![1, b]⟩ : Shape).Idx) : x = ix2 (0 : Fin 1) (x 1 : Fin b) := by
  obtain ⟨k, j, rfl⟩ : ∃ (k : Fin 1) (j : Fin b), x = ix2 k j := ⟨x 0, x 1, by ext a; fin_cases a <;> rfl⟩
  obtain rfl : k = 0 := Subsingleton.elim _ _
  rfl

/-- The same of a row of columns, each a sum of its own. -/
theorem acc_row {N b : ℕ} (hN : N = 16) (f : (n : ℕ) → n < N → (⟨2, ![1, b]⟩ : Shape).Idx → EReal) (term : ℕ → ℕ → EReal)
    (hA : ∀ t : Fin N, t.val % 16 = 0 → ∀ j : Fin b, f t.val t.isLt (ix2 0 j) = 0 + ∑ i : Fin 256, term (256 * t.val + i) j)
    (hB : ∀ t : Fin N, ¬t.val % 16 = 0 → ∀ j : Fin b, f t.val t.isLt (ix2 0 j)
      = f (t.val - 1) (Nat.lt_of_le_of_lt (Nat.sub_le _ _) t.isLt) (ix2 0 j) + ∑ i : Fin 256, term (256 * t.val + i) j)
    (t : Fin N) (ht : t.val % 16 = 15) (x : (⟨2, ![1, b]⟩ : Shape).Idx) : f t.val t.isLt x = ∑ r : Fin 4096, term r (x 1).val :=
  acc hN f (fun r x => term r (x 1).val) (fun t h x => by rw [row x]; exact hA t h (x 1)) (fun t h x => by rw [row x]; exact hB t h (x 1)) t ht x

/-- A row of columns that begins with another. -/
theorem acc_row_from {N b : ℕ} (hN : N = 16) (f : (n : ℕ) → n < N → (⟨2, ![1, b]⟩ : Shape).Idx → EReal) (init : ℕ → EReal) (term : ℕ → ℕ → EReal)
    (hA : ∀ t : Fin N, t.val % 16 = 0 → ∀ j : Fin b, f t.val t.isLt (ix2 0 j) = init j + ∑ i : Fin 256, term (256 * t.val + i) j)
    (hB : ∀ t : Fin N, ¬t.val % 16 = 0 → ∀ j : Fin b, f t.val t.isLt (ix2 0 j)
      = f (t.val - 1) (Nat.lt_of_le_of_lt (Nat.sub_le _ _) t.isLt) (ix2 0 j) + ∑ i : Fin 256, term (256 * t.val + i) j)
    (t : Fin N) (ht : t.val % 16 = 15) (x : (⟨2, ![1, b]⟩ : Shape).Idx) :
    f t.val t.isLt x = init (x 1).val + ∑ r : Fin 4096, term r (x 1).val :=
  acc_from hN f (fun x => init (x 1).val) (fun r x => term r (x 1).val) (fun t h x => by rw [row x]; exact hA t h (x 1))
    (fun t h x => by rw [row x]; exact hB t h (x 1)) t ht x

end Cert.RowSum

end
-- ==== Proof.Norm1.lean ====
/- The modulated norm's backward call: the stream's gradient, and the gradients of the norm's weight, the scale and the
   shift, summed over all rows. -/
module

public import proofs.«01_k».proof.Defs
public import proofs.«01_k».proof.Proof.NormSpec
public import proofs.«01_k».proof.Proof.ShortConvFinite
public import proofs.«01_k».proof.Proof.RowSum
public import proofs.«01_k».proof.Proof.Gen.Kernel12Ideal.Value
public import proofs.«01_k».proof.Proof.Gen.Pre_finite12
public import proofs.«01_k».proof.Proof.Gen.Reference12Ideal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen Cert.ShortConv Cert.Norm

/-- The constants as both programs write them. -/
abbrev width : EReal := Ideal.ofBits .f32 0x45800000#32
abbrev offset : EReal := Ideal.ofBits .f32 0x358637BD#32

/-- What a block stores: the stream's gradient, and its rows' parts of the three others. -/
theorem root_at (x : Vec Ideal S256x4096 .f32) (i : Fin 256) :
    k0_pay7 (F := Ideal) x (ix2 i 0) = scl width offset fun k : Fin 4096 => x (ix2 i k) := by
  pointwise [k0_pay7]
  rfl

theorem dx_at (x d e : Vec Ideal S256x4096 .f32) (w s : Vec Ideal S1x4096 .f32) (i : Fin 256) (j : Fin 4096) :
    k0_pay3 (F := Ideal) (k0_pay7 x) (k0_pay8 x) w d s (Scalar.ofBits .f32 0x3F800000#32) e (ix2 i j)
      = dx width offset (fun k : Fin 4096 => x (ix2 i k)) (fun k => d (ix2 i k) * (1 + s (ix2 0 k)) * w (ix2 0 k)) j + e (ix2 i j) := by
  unfold dx
  simp only [← root_at]
  pointwise [k0_pay3, k0_pay8, k0_pay1]

theorem dw_at (x d : Vec Ideal S256x4096 .f32) (s a : Vec Ideal S1x4096 .f32) (j : Fin 4096) :
    k0_pay2 (F := Ideal) (k0_pay8 x) d s (Scalar.ofBits .f32 0x3F800000#32) a (ix2 0 j)
      = a (ix2 0 j) + ∑ i : Fin 256, d (ix2 i j) * (1 + s (ix2 0 j)) * (x (ix2 i j) * scl width offset fun k : Fin 4096 => x (ix2 i k)) := by
  simp only [← root_at]
  pointwise [k0_pay2, k0_pay8, k0_pay1]

theorem ds_at (x d : Vec Ideal S256x4096 .f32) (w a : Vec Ideal S1x4096 .f32) (j : Fin 4096) :
    k0_pay10 (F := Ideal) x w d a (ix2 0 j)
      = a (ix2 0 j) + ∑ i : Fin 256, d (ix2 i j) * (x (ix2 i j) * (scl width offset fun k : Fin 4096 => x (ix2 i k)) * w (ix2 0 j)) := by
  simp only [← root_at]
  pointwise [k0_pay10, k0_pay8]

theorem db_at (d : Vec Ideal S256x4096 .f32) (a : Vec Ideal S1x4096 .f32) (j : Fin 4096) :
    k0_pay9 (F := Ideal) d a (ix2 0 j) = a (ix2 0 j) + ∑ i : Fin 256, d (ix2 i j) := by
  pointwise [k0_pay9]

variable (m : (ℓ : Loc nD τ sig) → Buf (Elt Ideal) ℓ) (c : Dev nD)

/-- The stream, the norm's weight, the scale, the gradient, the residual's gradient. -/
abbrev X : ℕ → ℕ → EReal := rd (a := 4096) (b := 4096) (φ := .f32) (m ((c : Thread nD τ).loc main_arg0))
abbrev W : ℕ → ℕ → EReal := rd (a := 1) (b := 4096) (φ := .f32) (m ((c : Thread nD τ).loc main_arg1))
abbrev S : ℕ → ℕ → EReal := rd (a := 1) (b := 4096) (φ := .f32) (m ((c : Thread nD τ).loc main_arg2))
abbrev D : ℕ → ℕ → EReal := rd (a := 4096) (b := 4096) (φ := .f32) (m ((c : Thread nD τ).loc main_arg3))
abbrev E : ℕ → ℕ → EReal := rd (a := 4096) (b := 4096) (φ := .f32) (m ((c : Thread nD τ).loc main_arg4))

/-- A row of the normed stream's factor, and the four results. -/
def rs (x : ℕ → ℕ → EReal) (r : ℕ) : EReal := scl width offset fun k : Fin 4096 => x r k
def gx (x w s d e : ℕ → ℕ → EReal) (r : ℕ) (j : Fin 4096) : EReal :=
  dx width offset (fun k : Fin 4096 => x r k) (fun k => d r k * (1 + s 0 k) * w 0 k) j + e r j
def gw (x s d : ℕ → ℕ → EReal) (r j : ℕ) : EReal := d r j * (1 + s 0 j) * (x r j * rs x r)
def gs (x w d : ℕ → ℕ → EReal) (r j : ℕ) : EReal := d r j * (x r j * rs x r * w 0 j)

/-- The blocks' indices. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0])

theorem block0 (t : Fin cfg0.N) (i : Fin 256) (j : Fin 4096) :
    (iblk m c 0 t : Vec Ideal S256x4096 .f32) (ix2 i j) = X m c (256 * t.val + i) j := by
  have hN : cfg0.N = 16 := N_0
  have := t.isLt; have := i.isLt
  unfold X rd
  rw [dif_pos ⟨by omega, j.isLt⟩]
  blk_ext [iblk, V, idx t]

theorem block1 (t : Fin cfg0.N) (j : Fin 4096) : (iblk m c 1 t : Vec Ideal S1x4096 .f32) (ix2 0 j) = W m c 0 j := by
  unfold W rd
  rw [dif_pos ⟨by omega, j.isLt⟩]
  blk_ext [iblk, V, idx t]

theorem block2 (t : Fin cfg0.N) (j : Fin 4096) : (iblk m c 2 t : Vec Ideal S1x4096 .f32) (ix2 0 j) = S m c 0 j := by
  unfold S rd
  rw [dif_pos ⟨by omega, j.isLt⟩]
  blk_ext [iblk, V, idx t]

theorem block3 (t : Fin cfg0.N) (i : Fin 256) (j : Fin 4096) :
    (iblk m c 3 t : Vec Ideal S256x4096 .f32) (ix2 i j) = D m c (256 * t.val + i) j := by
  have hN : cfg0.N = 16 := N_0
  have := t.isLt; have := i.isLt
  unfold D rd
  rw [dif_pos ⟨by omega, j.isLt⟩]
  blk_ext [iblk, V, idx t]

theorem block4 (t : Fin cfg0.N) (i : Fin 256) (j : Fin 4096) :
    (iblk m c 4 t : Vec Ideal S256x4096 .f32) (ix2 i j) = E m c (256 * t.val + i) j := by
  have hN : cfg0.N = 16 := N_0
  have := t.isLt; have := i.isLt
  unfold E rd
  rw [dif_pos ⟨by omega, j.isLt⟩]
  blk_ext [iblk, V, idx t]

/-- What a point leaves in its block of the stream's gradient, in both of the body's cases. -/
theorem dx_out (t : Fin cfg0.N) (i : Fin 256) (j : Fin 4096) :
    (outsAt0 m c t.val t.isLt).1 (ix2 i j) = gx (X m c) (W m c) (S m c) (D m c) (E m c) (256 * t.val + i) j := by
  have e := dx_at (iblk m c 0 t) (iblk m c 3 t) (iblk m c 4 t) (iblk m c 1 t) (iblk m c 2 t) i j
  simp only [block0, block1, block2, block3, block4] at e
  by_cases h : t.val % 16 = 0
  · rw [outsAt0_A m c t h]; frame_out
    exact e
  · rw [outsAt0_B m c t h]; frame_out
    exact e

theorem final_dx : (dats m 0 c).arrAt 5 cfg0.N = (fun y => gx (X m c) (W m c) (S m c) (D m c) (E m c) (y 0).val (y 1) : FVec Ideal S4096x4096 .f32) := by
  refine (dats m 0 c).arrAt_eq_of_covers 5 (fun y => gx (X m c) (W m c) (S m c) (D m c) (E m c) (y 0).val (y 1) : FVec Ideal S4096x4096 .f32)
    (by decide +kernel) fun t hf y => ?_
  rw [after0_5]
  obtain ⟨i, j, e⟩ : ∃ (i : Fin 256) (j : Fin 4096), (((cfg0.win 5).xinj (grid0.coords t) y : S256x4096.Idx)) = ix2 i j :=
    ⟨((cfg0.win 5).xinj (grid0.coords t) y : S256x4096.Idx) 0, ((cfg0.win 5).xinj (grid0.coords t) y : S256x4096.Idx) 1, by ext a; fin_cases a <;> rfl⟩
  refine (congrArg (outsAt0 m c t.val t.isLt).1 e).trans ((dx_out m c t i j).trans ?_)
  have h0 : (((cfg0.win 5).blk t).view.emb y 0).val = 256 * t.val + i := by
    have e0' : (y 0).val = i.val := congrArg (fun z : S256x4096.Idx => (z 0).val) e
    rw [← e0']; blk_simp [idx t]; omega
  have h1 : ((cfg0.win 5).blk t).view.emb y 1 = j := by
    have e1' : (y 1).val = j.val := congrArg (fun z : S256x4096.Idx => (z 1).val) e
    apply Fin.ext
    rw [← e1']; blk_simp [idx t]
  show _ = gx _ _ _ _ _ (((cfg0.win 5).blk t).view.emb y 0).val (((cfg0.win 5).blk t).view.emb y 1)
  rw [h0, h1]

theorem dw_out (t : Fin cfg0.N) (ht : t.val % 16 = 15) (x : S1x4096.Idx) :
    (outsAt0 m c t.val t.isLt).2.1 x = ∑ r : Fin 4096, gw (X m c) (S m c) (D m c) r (x 1).val := by
  have e := fun (t : Fin cfg0.N) a j => dw_at (iblk m c 0 t) (iblk m c 3 t) (iblk m c 2 t) a j
  simp only [block0, block2, block3] at e
  refine RowSum.acc_row N_0 (fun n h => (outsAt0 m c n h).2.1) _ (fun t h j => ?_) (fun t h j => ?_) t ht x
  · rw [outsAt0_A m c t h]; frame_out
    refine (e t _ j).trans ?_
    rw [show k0_pay4 (F := Ideal) (ix2 0 j) = 0 by pointwise [k0_pay4]]; rfl
  · rw [outsAt0_B m c t h]; frame_out
    exact e t _ j

theorem ds_out (t : Fin cfg0.N) (ht : t.val % 16 = 15) (x : S1x4096.Idx) :
    (outsAt0 m c t.val t.isLt).2.2.1 x = ∑ r : Fin 4096, gs (X m c) (W m c) (D m c) r (x 1).val := by
  have e := fun (t : Fin cfg0.N) a j => ds_at (iblk m c 0 t) (iblk m c 3 t) (iblk m c 1 t) a j
  simp only [block0, block1, block3] at e
  refine RowSum.acc_row N_0 (fun n h => (outsAt0 m c n h).2.2.1) _ (fun t h j => ?_) (fun t h j => ?_) t ht x
  · rw [outsAt0_A m c t h]; frame_out
    refine (e t _ j).trans ?_
    rw [show k0_pay5 (F := Ideal) (ix2 0 j) = 0 by pointwise [k0_pay5]]; rfl
  · rw [outsAt0_B m c t h]; frame_out
    exact e t _ j

theorem db_out (t : Fin cfg0.N) (ht : t.val % 16 = 15) (x : S1x4096.Idx) :
    (outsAt0 m c t.val t.isLt).2.2.2 x = ∑ r : Fin 4096, D m c r (x 1).val := by
  have e := fun (t : Fin cfg0.N) a j => db_at (iblk m c 3 t) a j
  simp only [block3] at e
  refine RowSum.acc_row N_0 (fun n h => (outsAt0 m c n h).2.2.2) _ (fun t h j => ?_) (fun t h j => ?_) t ht x
  · rw [outsAt0_A m c t h]; frame_out
    refine (e t _ j).trans ?_
    rw [show k0_pay6 (F := Ideal) (ix2 0 j) = 0 by pointwise [k0_pay6]]
  · rw [outsAt0_B m c t h]; frame_out
    exact e t _ j

theorem final_dw : (dats m 0 c).arrAt 6 cfg0.N = (fun y => ∑ r : Fin 4096, gw (X m c) (S m c) (D m c) r (y 1).val : FVec Ideal S1x4096 .f32) := by
  refine (dats m 0 c).arrAt_eq_of_covers 6 (fun y => ∑ r : Fin 4096, gw (X m c) (S m c) (D m c) r (y 1).val : FVec Ideal S1x4096 .f32)
    (by decide +kernel) fun t hf y => ?_
  rw [after0_6]
  refine (dw_out m c t ((flush0_6 t).mp hf) _).trans ?_
  have h1 : (((cfg0.win 6).blk t).view.emb y 1).val = ((cfg0.win 6).xinj (cfg0.grid.coords t) y 1).val := by
    blk_simp [idx t]
  exact Finset.sum_congr rfl fun r _ => congrArg (gw _ _ _ r) h1.symm

theorem final_ds : (dats m 0 c).arrAt 7 cfg0.N = (fun y => ∑ r : Fin 4096, gs (X m c) (W m c) (D m c) r (y 1).val : FVec Ideal S1x4096 .f32) := by
  refine (dats m 0 c).arrAt_eq_of_covers 7 (fun y => ∑ r : Fin 4096, gs (X m c) (W m c) (D m c) r (y 1).val : FVec Ideal S1x4096 .f32)
    (by decide +kernel) fun t hf y => ?_
  rw [after0_7]
  refine (ds_out m c t ((flush0_7 t).mp hf) _).trans ?_
  have h1 : (((cfg0.win 7).blk t).view.emb y 1).val = ((cfg0.win 7).xinj (cfg0.grid.coords t) y 1).val := by
    blk_simp [idx t]
  exact Finset.sum_congr rfl fun r _ => congrArg (gs _ _ _ r) h1.symm

theorem final_db : (dats m 0 c).arrAt 8 cfg0.N = (fun y => ∑ r : Fin 4096, D m c r (y 1).val : FVec Ideal S1x4096 .f32) := by
  refine (dats m 0 c).arrAt_eq_of_covers 8 (fun y => ∑ r : Fin 4096, D m c r (y 1).val : FVec Ideal S1x4096 .f32)
    (by decide +kernel) fun t hf y => ?_
  rw [after0_8]
  refine (db_out m c t ((flush0_8 t).mp hf) _).trans ?_
  have h1 : (((cfg0.win 8).blk t).view.emb y 1).val = ((cfg0.win 8).xinj (cfg0.grid.coords t) y 1).val := by
    blk_simp [idx t]
  exact Finset.sum_congr rfl fun r _ => congrArg (D m c r) h1.symm

end Cert.Kernel12Ideal.Value

namespace Cert.Reference12Ideal.Norm

open Cert.Reference12Ideal Cert.Reference12Ideal.Read Cert.ShortConv Cert.Norm
open Cert.Kernel12Ideal.Value (width offset rs gx gw gs)

variable (x : FVec Ideal S4096x4096 .f32) (w s : FVec Ideal S1x4096 .f32) (d e : FVec Ideal S4096x4096 .f32)

theorem root_at (i : Fin 4096) : val_main_v8 (F := Ideal) x (ix2 i 0) = rs (rd x) i := by
  unfold rs scl
  simp only [← rd_eq]
  pointwise [val_main_v8, val_main_v7, val_main_v6, val_main_v5, val_main_v4, val_main_v3, val_main_v2, val_main_v1,
    val_main_cst_0, val_main_cst_1, val_main_cst_2]

theorem cot_at (i j : Fin 4096) : val_main_v34 (F := Ideal) w s d (ix2 i j) = rd d i j * (1 + rd s 0 j) * rd w 0 j := by
  rw [show val_main_v34 (F := Ideal) w s d (ix2 i j) = d (ix2 i j) * (1 + s (ix2 0 j)) * w (ix2 0 j) by
    pointwise [val_main_v34, val_main_v33, val_main_v29, val_main_v28, val_main_v22, val_main_v17, val_main_v16, val_main_cst_4],
    rd_eq d, rd_eq s, rd_eq w]
  rfl

/-- The square's factor of the gradient, of a row. -/
theorem chain_at (i : Fin 4096) : val_main_v43 (F := Ideal) x w s d (ix1 i)
    = chain width offset ((-1 / 2 : ℝ) : EReal) (fun k : Fin 4096 => rd x i k) (fun k : Fin 4096 => rd d i k * (1 + rd s 0 k) * rd w 0 k) := by
  unfold chain
  rw [← half_eq, show scl width offset (fun k : Fin 4096 => rd x i k) = val_main_v8 (F := Ideal) x (ix2 i 0) from (root_at x i).symm]
  simp only [show ∀ k : Fin 4096, rd d i k * (1 + rd s 0 k) * rd w 0 k = val_main_v34 (F := Ideal) w s d (ix2 i k)
    from fun k => (cot_at w s d i k).symm, ← rd_eq x]
  pointwise [val_main_v43, val_main_v42, val_main_v41, val_main_v40, val_main_v37, val_main_v36, val_main_v35, val_main_v11, val_main_v10, val_main_v9,
    val_main_v7, val_main_v6, val_main_v5, val_main_v4, val_main_v3, val_main_v2, val_main_v1, val_main_cst_0, val_main_cst_1, val_main_cst_2, val_main_cst_3,
    val_main_cst_8, val_main_cst_9, val_main_cst_10]
  rw [Fin.sum_univ_one]

theorem dx_at (hx : ∀ i, Fine (x i)) (hw : ∀ i, Fine (w i)) (hs : ∀ i, Fine (s i)) (hd : ∀ i, Fine (d i)) (i j : Fin 4096) :
    val_main_v49 (F := Ideal) x w s d e (ix2 i j) = gx (rd x) (rd w) (rd s) (rd d) (rd e) i j := by
  rw [show val_main_v49 (F := Ideal) x w s d e (ix2 i j) = e (ix2 i j) + (val_main_v34 (F := Ideal) w s d (ix2 i j) * val_main_v8 (F := Ideal) x (ix2 i 0)
      + x (ix2 i j) * val_main_v43 (F := Ideal) x w s d (ix1 i) + val_main_v43 (F := Ideal) x w s d (ix1 i) * x (ix2 i j)) by
    pointwise [val_main_v49, val_main_v48, val_main_v47, val_main_v46, val_main_v45, val_main_v44, val_main_v39, val_main_v38],
    cot_at, root_at, chain_at, rd_eq x, rd_eq e, add_comm]
  unfold gx rs width offset
  rw [width_eq, eps_eq]
  exact congrArg (· + _) (chain_eq (by norm_num) eps_pos (fun k => fine_rd hx _ _)
    (fun k => ((fine_rd hd _ _).mul ((Fine.coe 1).add (fine_rd hs _ _))).mul (fine_rd hw _ _)) j)

theorem dw_at (j : Fin 4096) : val_main_v32 (F := Ideal) x s d (ix2 0 j) = ∑ r : Fin 4096, gw (rd x) (rd s) (rd d) r j := by
  unfold gw
  simp only [← root_at, ← rd_eq, show rd s 0 j = s (ix2 0 j) from (rd_eq s 0 j).symm]
  rw [show val_main_v32 (F := Ideal) x s d (ix2 0 j) = ∑ r : Fin 4096, x (ix2 r j) * val_main_v8 (F := Ideal) x (ix2 r 0) * (d (ix2 r j) * (1 + s (ix2 0 j))) by
    pointwise [val_main_v32, val_main_v31, val_main_v30, val_main_v29, val_main_v28, val_main_v22, val_main_v17, val_main_v16, val_main_v13, val_main_v12, val_main_cst_4, val_main_cst_7]]
  exact Finset.sum_congr rfl fun r _ => mul_comm _ _

theorem ds_at (j : Fin 4096) : val_main_v27 (F := Ideal) x w d (ix2 0 j) = ∑ r : Fin 4096, gs (rd x) (rd w) (rd d) r j := by
  unfold gs
  simp only [← root_at, ← rd_eq, show rd w 0 j = w (ix2 0 j) from (rd_eq w 0 j).symm]
  rw [show val_main_v27 (F := Ideal) x w d (ix2 0 j) = ∑ r : Fin 4096, x (ix2 r j) * val_main_v8 (F := Ideal) x (ix2 r 0) * w (ix2 0 j) * d (ix2 r j) by
    pointwise [val_main_v27, val_main_v26, val_main_v25, val_main_v22, val_main_v15, val_main_v14, val_main_v13, val_main_v12, val_main_cst_6]]
  exact Finset.sum_congr rfl fun r _ => mul_comm _ _

theorem db_at (j : Fin 4096) : val_main_v24 (F := Ideal) d (ix2 0 j) = ∑ r : Fin 4096, rd d r j := by
  simp only [← rd_eq]
  pointwise [val_main_v24, val_main_v23, val_main_cst_5]

end Cert.Reference12Ideal.Norm

namespace Cert.Proof

open Cert.ShortConv

theorem norm1_reference_frame : Cert.quiescent_Reference12Ideal := fun m g _ =>
  (θ_run Cert.Reference12Ideal.defs _ _).mono
    (fun r h => ⟨fun c => (h c).2.2.2.2, sem_eq_zero_of_no_sems (by decide) r.2⟩) (Cert.Reference12Ideal.Value.run m g)

theorem norm1_algebraic : Cert.algebraic_Kernel12Ideal_Reference12Ideal_pre_finite12 := by
  intro m g m' g' hpre hagree
  have hf := fun c => (⟨fun i => fine_of_mask _ _ i (congrFun (hpre c).1 i), fun i => fine_of_mask _ _ i (congrFun (hpre c).2.1 i),
    fun i => fine_of_mask _ _ i (congrFun (hpre c).2.2.1 i), fun i => fine_of_mask _ _ i (congrFun (hpre c).2.2.2 i)⟩ : _ ∧ _ ∧ _ ∧ _)
  refine ⟨fun c => (Cert.Kernel12Ideal.Gen.dats m 0 c).arrAt 5 Cert.Kernel12Ideal.cfg0.N,
    fun c => (Cert.Kernel12Ideal.Gen.dats m 0 c).arrAt 6 Cert.Kernel12Ideal.cfg0.N,
    fun c => (Cert.Kernel12Ideal.Gen.dats m 0 c).arrAt 7 Cert.Kernel12Ideal.cfg0.N,
    fun c => (Cert.Kernel12Ideal.Gen.dats m 0 c).arrAt 8 Cert.Kernel12Ideal.cfg0.N, Cert.Kernel12Ideal.Value.run_blocks m g, ?_⟩
  refine (θ_run Cert.Reference12Ideal.defs _ _).mono
    (fun r h c => ⟨(h c).1.trans ?_, (h c).2.1.trans ?_, (h c).2.2.1.trans ?_, (h c).2.2.2.1.trans ?_, (h c).2.2.2.2⟩) (Cert.Reference12Ideal.Value.run m' g')
  · refine Eq.trans ?_ (Cert.Kernel12Ideal.Value.final_dx m c).symm
    rw [Cert.Reference12Ideal.Read.val_main_v49_eq, (hagree c).1, (hagree c).2.1, (hagree c).2.2.1, (hagree c).2.2.2.1, (hagree c).2.2.2.2]
    funext x
    obtain ⟨i, j, rfl⟩ : ∃ i j, x = ix2 i j := ⟨x 0, x 1, by ext a; fin_cases a <;> rfl⟩
    exact Cert.Reference12Ideal.Norm.dx_at _ _ _ _ _ (hf c).1 (hf c).2.1 (hf c).2.2.1 (hf c).2.2.2 i j
  · refine Eq.trans ?_ (Cert.Kernel12Ideal.Value.final_dw m c).symm
    refine (Cert.Reference12Ideal.Read.val_main_v32_eq _ _ _).trans ?_
    rw [(hagree c).1, (hagree c).2.2.1, (hagree c).2.2.2.1]
    funext x
    rw [RowSum.row x]
    exact Cert.Reference12Ideal.Norm.dw_at _ _ _ _
  · refine Eq.trans ?_ (Cert.Kernel12Ideal.Value.final_ds m c).symm
    refine (Cert.Reference12Ideal.Read.val_main_v27_eq _ _ _).trans ?_
    rw [(hagree c).1, (hagree c).2.1, (hagree c).2.2.2.1]
    funext x
    rw [RowSum.row x]
    exact Cert.Reference12Ideal.Norm.ds_at _ _ _ _
  · refine Eq.trans ?_ (Cert.Kernel12Ideal.Value.final_db m c).symm
    refine (Cert.Reference12Ideal.Read.val_main_v24_eq _).trans ?_
    rw [(hagree c).2.2.2.1]
    funext x
    rw [RowSum.row x]
    exact Cert.Reference12Ideal.Norm.db_at _ _

end Cert.Proof

end
-- ==== Proof.DnOut.lean ====
/- The delta rule's output path, backwards: the gradient through each head's norm, the gate's, and that of the norm's
   weight, summed over all rows and heads. -/
module

public import proofs.«01_k».proof.Defs
public import proofs.«01_k».proof.Proof.NormSpec
public import proofs.«01_k».proof.Proof.ShortConvFinite
public import proofs.«01_k».proof.Proof.Gen.Kernel13Ideal.Value
public import proofs.«01_k».proof.Proof.Gen.Pre_finite13
public import proofs.«01_k».proof.Proof.Gen.Reference13Ideal.Read
public import Idealize.ShloMosaic.Lib.IdealHost
public import Idealize.ShloMosaic.Lib.WritesUnit
public import Idealize.ShloMosaic.Lib.VecWindow
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Norm

/-- A host's sum over the first two of three axes. -/
theorem reduce01 {n0 n1 n2 : ℕ} (h : (⟨3, ![n0, n1, n2]⟩ : Shape).ReducesTo [0, 1] ⟨1, ![n2]⟩) (v : (⟨3, ![n0, n1, n2]⟩ : Shape).Idx → EReal)
    (init : EReal) (j : Fin n2) : Ideal.hostReduceAdd h v init (ix1 j) = init + ∑ k0 : Fin n0, ∑ k1 : Fin n1, v (ix3 k0 k1 j) := by
  refine congrArg (init + ·) ((Finset.sum_filter_eq_sum_of_fiber _ (fun k : Fin n0 × Fin n1 => ix3 k.1 k.2 j)
    (fun _ _ e => Prod.ext (congrFun e 0) (congrFun e 1)) (fun i => ⟨fun e => ⟨(i 0, i 1), ?_⟩, ?_⟩) v).trans ?_)
  · funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl
  · simp only [Fintype.sum_prod_type]

end Cert.Norm

namespace Cert.Kernel13Ideal.Value

open Cert.Kernel13Ideal Cert.Kernel13Ideal.Gen Cert.ShortConv Cert.Norm

/-- The constants as both programs write them. -/
abbrev width : EReal := Ideal.ofBits .f32 0x43000000#32
abbrev offset : EReal := Ideal.ofBits .f32 0x358637BD#32

theorem width128_eq : Ideal.ofBits .f32 0x43000000#32 = ((128 : ℝ) : EReal) := by
  simp [Ideal.ofBits, Ideal.ieee]; norm_num; rw [← EReal.coe_mul]; norm_num

theorem fine_logistic {x : EReal} : Fine x → Fine (Ideal.logistic x) := by
  rintro ⟨x, rfl⟩
  exact ⟨_, Ideal.logistic_coe x⟩

/-- What a block stores: the gradient of its head's outputs, of the gate, and its rows' part of the weight's. -/
theorem root_at (x : Vec Ideal S1024x128 .f32) (i : Fin 1024) :
    k0_pay4 (F := Ideal) x (ix2 i 0) = scl width offset fun k : Fin 128 => x (ix2 i k) := by
  pointwise [k0_pay4]
  rfl

theorem dy_at (g d : Vec Ideal S1024x128 .f32) (i : Fin 1024) (j : Fin 128) :
    k0_pay7 (F := Ideal) g d (ix2 i j) = d (ix2 i j) * (g (ix2 i j) * Ideal.logistic (g (ix2 i j))) := by
  pointwise [k0_pay7]

theorem do_at (x : Vec Ideal S1024x128 .f32) (w : Vec Ideal S1x128 .f32) (d : FVec Ideal S1024x128 .f32) (i : Fin 1024) (j : Fin 128) :
    k0_pay2 (F := Ideal) (k0_pay4 x) (k0_pay5 x) w d (ix2 i j)
      = dx width offset (fun k : Fin 128 => x (ix2 i k)) (fun k => d (ix2 i k) * w (ix2 0 k)) j := by
  unfold dx
  simp only [← root_at]
  pointwise [k0_pay2, k0_pay5]

theorem dg_at (x g d : Vec Ideal S1024x128 .f32) (w : Vec Ideal S1x128 .f32) (i : Fin 1024) (j : Fin 128) :
    k0_pay6 (F := Ideal) x w g d (ix2 i j)
      = d (ix2 i j) * (x (ix2 i j) * (scl width offset fun k : Fin 128 => x (ix2 i k)) * w (ix2 0 j)) * dsg (g (ix2 i j)) := by
  simp only [← root_at]
  unfold dsg
  pointwise [k0_pay6, k0_pay5]

theorem dn_at (x : Vec Ideal S1024x128 .f32) (d : FVec Ideal S1024x128 .f32) (a : Vec Ideal S1x128 .f32) (j : Fin 128) :
    k0_pay1 (F := Ideal) (k0_pay5 x) d a (ix2 0 j)
      = a (ix2 0 j) + ∑ i : Fin 1024, d (ix2 i j) * (x (ix2 i j) * scl width offset fun k : Fin 128 => x (ix2 i k)) := by
  simp only [← root_at]
  pointwise [k0_pay1, k0_pay5]

variable (m : (ℓ : Loc nD τ sig) → Buf (Elt Ideal) ℓ) (c : Dev nD)

/-- The delta rule's output, the projection, the gradient, the norm's weight. -/
abbrev O : ℕ → ℕ → EReal := rd (a := 4096) (b := 2048) (φ := .f32) (m ((c : Thread nD τ).loc main_arg0))
abbrev P : ℕ → ℕ → EReal := rd (a := 4352) (b := 12288) (φ := .f32) (m ((c : Thread nD τ).loc main_arg1))
abbrev D : ℕ → ℕ → EReal := rd (a := 4096) (b := 4096) (φ := .f32) (m ((c : Thread nD τ).loc main_arg2))
abbrev W : ℕ → ℕ → EReal := rd (a := 1) (b := 128) (φ := .f32) (m ((c : Thread nD τ).loc main_arg3))

/-- Row `r`, head `h`, column `j` of the head: the norm's factor, the gradient before the gate, and the results. -/
def rs (o : ℕ → ℕ → EReal) (r h : ℕ) : EReal := scl width offset fun k : Fin 128 => o r (128 * h + k)
theorem fine_rs {o : ℕ → ℕ → EReal} (ho : ∀ r c, Fine (o r c)) (r h : ℕ) : Fine (rs o r h) := by
  unfold rs width offset
  rw [width128_eq, eps_eq]
  exact fine_scl (by norm_num) eps_pos fun k => ho _ _
def dy (p d : ℕ → ℕ → EReal) (r h j : ℕ) : EReal :=
  d r (128 * h + j) * (p r (8192 + (128 * h + j)) * Ideal.logistic (p r (8192 + (128 * h + j))))
def go (o p d w : ℕ → ℕ → EReal) (r h : ℕ) (j : Fin 128) : EReal :=
  dx width offset (fun k : Fin 128 => o r (128 * h + k)) (fun k => dy p d r h k * w 0 k) j
def gg (o p d w : ℕ → ℕ → EReal) (r h j : ℕ) : EReal :=
  d r (128 * h + j) * (o r (128 * h + j) * rs o r h * w 0 j) * dsg (p r (8192 + (128 * h + j)))
def gn (o p d : ℕ → ℕ → EReal) (r h j : ℕ) : EReal := dy p d r h j * (o r (128 * h + j) * rs o r h)

/-- The column of a flat index within its head. -/
def lane (c : ℕ) : Fin 128 := ⟨c % 128, Nat.mod_lt _ (by norm_num)⟩

/-- The blocks' indices: four row blocks, sixteen heads; the gate's columns are 64 heads' widths to the right. -/
theorem idx : ∀ t : Fin cfg0.N, win0_0.index t = ![t.val / 16, t.val % 16] ∧ win0_1.index t = ![t.val / 16, 64 + t.val % 16]
    ∧ win0_2.index t = ![t.val / 16, t.val % 16] ∧ win0_3.index t = ![0, 0] ∧ win0_4.index t = ![t.val / 16, t.val % 16]
    ∧ win0_5.index t = ![t.val / 16, t.val % 16] ∧ win0_6.index t = ![0, 0] :=
  (by decide +kernel : ∀ t : Fin grid0.N, win0_0.index t = ![t.val / 16, t.val % 16] ∧ win0_1.index t = ![t.val / 16, 64 + t.val % 16]
    ∧ win0_2.index t = ![t.val / 16, t.val % 16] ∧ win0_3.index t = ![0, 0] ∧ win0_4.index t = ![t.val / 16, t.val % 16]
    ∧ win0_5.index t = ![t.val / 16, t.val % 16] ∧ win0_6.index t = ![0, 0])

theorem block0 (t : Fin cfg0.N) (i : Fin 1024) (j : Fin 128) :
    (iblk m c 0 t : Vec Ideal S1024x128 .f32) (ix2 i j) = O m c (1024 * (t.val / 16) + i) (128 * (t.val % 16) + j) := by
  have hN : cfg0.N = 64 := N_0
  have := t.isLt; have := i.isLt; have := j.isLt
  unfold O rd
  rw [dif_pos ⟨by omega, by omega⟩]
  blk_ext [iblk, V, idx t]

theorem block1 (t : Fin cfg0.N) (i : Fin 1024) (j : Fin 128) :
    (X0_1 m c t : Vec Ideal S1024x128 .f32) (ix2 i j) = P m c (1024 * (t.val / 16) + i) (8192 + (128 * (t.val % 16) + j)) := by
  have hN : cfg0.N = 64 := N_0
  have := t.isLt; have := i.isLt; have := j.isLt
  unfold P rd
  rw [dif_pos ⟨by omega, by omega⟩]
  unfold X0_1 Pipeline.Window.fill
  rw [dif_pos (moved0_1 t _)]
  blk_ext [iblk, V, idx t]

theorem block2 (t : Fin cfg0.N) (i : Fin 1024) (j : Fin 128) :
    (iblk m c 2 t : Vec Ideal S1024x128 .f32) (ix2 i j) = D m c (1024 * (t.val / 16) + i) (128 * (t.val % 16) + j) := by
  have hN : cfg0.N = 64 := N_0
  have := t.isLt; have := i.isLt; have := j.isLt
  unfold D rd
  rw [dif_pos ⟨by omega, by omega⟩]
  blk_ext [iblk, V, idx t]

theorem block3 (t : Fin cfg0.N) (j : Fin 128) : (iblk m c 3 t : Vec Ideal S1x128 .f32) (ix2 0 j) = W m c 0 j := by
  unfold W rd
  rw [dif_pos ⟨by omega, j.isLt⟩]
  blk_ext [iblk, V, idx t]

theorem dy_block (t : Fin cfg0.N) (i : Fin 1024) (j : Fin 128) :
    k0_pay7 (F := Ideal) (X0_1 m c t) (iblk m c 2 t) (ix2 i j) = dy (P m c) (D m c) (1024 * (t.val / 16) + i) (t.val % 16) j :=
  (dy_at _ _ i j).trans (congrArg₂ _ (block2 m c t i j) (congrArg (fun x => x * Ideal.logistic x) (block1 m c t i j)))

/-- What a point leaves in its blocks of the two gradients, in both of the body's cases. -/
theorem do_out (t : Fin cfg0.N) (i : Fin 1024) (j : Fin 128) :
    (outsAt0 m c t.val t.isLt).1 (ix2 i j) = go (O m c) (P m c) (D m c) (W m c) (1024 * (t.val / 16) + i) (t.val % 16) j := by
  have e := do_at (iblk m c 0 t) (iblk m c 3 t) (k0_pay7 (X0_1 m c t) (iblk m c 2 t)) i j
  simp only [dy_block, block0, block3] at e
  by_cases h : t.val % 64 = 0
  · rw [outsAt0_A m c t h]; frame_out
    exact e
  · rw [outsAt0_B m c t h]; frame_out
    exact e

theorem dg_out (t : Fin cfg0.N) (i : Fin 1024) (j : Fin 128) :
    (outsAt0 m c t.val t.isLt).2.1 (ix2 i j) = gg (O m c) (P m c) (D m c) (W m c) (1024 * (t.val / 16) + i) (t.val % 16) j := by
  have e := dg_at (iblk m c 0 t) (X0_1 m c t) (iblk m c 2 t) (iblk m c 3 t) i j
  simp only [block0, block1, block2, block3] at e
  by_cases h : t.val % 64 = 0
  · rw [outsAt0_A m c t h]; frame_out
    exact e
  · rw [outsAt0_B m c t h]; frame_out
    exact e

/-- The two gradients, over the whole arrays. -/
def GO : FVec Ideal S4096x2048 .f32 := fun y => go (O m c) (P m c) (D m c) (W m c) (y 0).val ((y 1).val / 128) (lane (y 1).val)
def GG : FVec Ideal S4096x2048 .bf16 := fun y => gg (O m c) (P m c) (D m c) (W m c) (y 0).val ((y 1).val / 128) (lane (y 1).val)

theorem final_do : (dats m 0 c).arrAt 4 cfg0.N = GO m c := by
  refine (dats m 0 c).arrAt_eq_of_covers 4 (GO m c) (by decide +kernel) fun t hf y => ?_
  rw [after0_4]
  obtain ⟨i, j, e⟩ : ∃ (i : Fin 1024) (j : Fin 128), (((cfg0.win 4).xinj (grid0.coords t) y : S1024x128.Idx)) = ix2 i j :=
    ⟨((cfg0.win 4).xinj (grid0.coords t) y : S1024x128.Idx) 0, ((cfg0.win 4).xinj (grid0.coords t) y : S1024x128.Idx) 1, by ext a; fin_cases a <;> rfl⟩
  refine (congrArg (outsAt0 m c t.val t.isLt).1 e).trans ((do_out m c t i j).trans ?_)
  have h0 : (((cfg0.win 4).blk t).view.emb y 0).val = 1024 * (t.val / 16) + i := by
    have e0' : (y 0).val = i.val := congrArg (fun z : S1024x128.Idx => (z 0).val) e
    rw [← e0']; blk_simp [idx t]; omega
  have h1 : (((cfg0.win 4).blk t).view.emb y 1).val = 128 * (t.val % 16) + j := by
    have e1' : (y 1).val = j.val := congrArg (fun z : S1024x128.Idx => (z 1).val) e
    rw [← e1']; blk_simp [idx t]; omega
  have := j.isLt
  unfold GO
  rw [h0, h1, show (128 * (t.val % 16) + j.val) / 128 = t.val % 16 by omega,
    show lane (128 * (t.val % 16) + j.val) = j from Fin.ext (by show (128 * (t.val % 16) + j.val) % 128 = j.val; omega)]

theorem final_dg : (dats m 0 c).arrAt 5 cfg0.N = GG m c := by
  refine (dats m 0 c).arrAt_eq_of_covers 5 (GG m c) (by decide +kernel) fun t hf y => ?_
  rw [after0_5]
  obtain ⟨i, j, e⟩ : ∃ (i : Fin 1024) (j : Fin 128), (((cfg0.win 5).xinj (grid0.coords t) y : S1024x128.Idx)) = ix2 i j :=
    ⟨((cfg0.win 5).xinj (grid0.coords t) y : S1024x128.Idx) 0, ((cfg0.win 5).xinj (grid0.coords t) y : S1024x128.Idx) 1, by ext a; fin_cases a <;> rfl⟩
  refine (congrArg (outsAt0 m c t.val t.isLt).2.1 e).trans ((dg_out m c t i j).trans ?_)
  have h0 : (((cfg0.win 5).blk t).view.emb y 0).val = 1024 * (t.val / 16) + i := by
    have e0' : (y 0).val = i.val := congrArg (fun z : S1024x128.Idx => (z 0).val) e
    rw [← e0']; blk_simp [idx t]; omega
  have h1 : (((cfg0.win 5).blk t).view.emb y 1).val = 128 * (t.val % 16) + j := by
    have e1' : (y 1).val = j.val := congrArg (fun z : S1024x128.Idx => (z 1).val) e
    rw [← e1']; blk_simp [idx t]; omega
  have := j.isLt
  unfold GG
  rw [h0, h1, show (128 * (t.val % 16) + j.val) / 128 = t.val % 16 by omega,
    show lane (128 * (t.val % 16) + j.val) = j from Fin.ext (by show (128 * (t.val % 16) + j.val) % 128 = j.val; omega)]

/-- The weight's tile: its first row grows by each block's sum, the others stay zero. -/
theorem zero_at (y : S8x128.Idx) : k0_pay3 (F := Ideal) y = 0 := by
  rw [show y = ix2 (y 0 : Fin 8) (y 1 : Fin 128) by ext a; fin_cases a <;> rfl]
  pointwise [k0_pay3]

theorem dn_A (t : Fin cfg0.N) (h : t.val % 64 = 0) (p : Fin 8) (j : Fin 128) :
    (outsAt0 m c t.val t.isLt).2.2 (ix2 p j)
      = 0 + if p.val = 0 then ∑ i : Fin 1024, gn (O m c) (P m c) (D m c) (1024 * (t.val / 16) + i) (t.val % 16) j else 0 := by
  have e := fun a => dn_at (iblk m c 0 t) (k0_pay7 (X0_1 m c t) (iblk m c 2 t)) a j
  simp only [dy_block, block0] at e
  rw [outsAt0_A m c t h]; frame_out
  rw [← View.read_writes_junk_apply_eq_canon (ms0_6 t).view]
  split_ifs with hp
  · refine (View.read_writes_cons_rows_of_mem _ _ _ _ _ (ix2 p j) (ix2 (0 : Fin 1) j) rfl hp rfl).trans ((e _).trans ?_)
    refine congrArg (· + _) ((congrFun (View.readCov_eq_canon' _ _ _) _).trans ?_)
    exact (congrFun (View.canon_unit_zero (by funext a; fin_cases a <;> rfl) _ _) _).trans (zero_at _)
  · rw [View.read_writes_cons_rows_of_not_mem _ _ _ _ _ (ix2 p j) rfl rfl (Or.inr (Nat.one_le_iff_ne_zero.mpr hp)), View.read_writes_full,
      add_zero]
    exact zero_at _

theorem dn_B (t : Fin cfg0.N) (h : ¬t.val % 64 = 0) (p : Fin 8) (j : Fin 128) :
    (outsAt0 m c t.val t.isLt).2.2 (ix2 p j)
      = (outsAt0 m c (t.val - 1) (Nat.lt_of_le_of_lt (Nat.sub_le _ _) t.isLt)).2.2 (ix2 p j)
        + if p.val = 0 then ∑ i : Fin 1024, gn (O m c) (P m c) (D m c) (1024 * (t.val / 16) + i) (t.val % 16) j else 0 := by
  have e := fun a => dn_at (iblk m c 0 t) (k0_pay7 (X0_1 m c t) (iblk m c 2 t)) a j
  simp only [dy_block, block0] at e
  rw [outsAt0_B m c t h]; frame_out
  split_ifs with hp
  · refine (View.read_writes_cons_rows_of_mem _ _ _ _ _ (ix2 p j) (ix2 (0 : Fin 1) j) rfl hp rfl).trans ((e _).trans ?_)
    obtain rfl : p = 0 := Fin.ext hp
    refine congrArg (· + _) (congrArg (outsAt0 m c (t.val - 1) _).2.2 ?_)
    ext a; fin_cases a <;> simp
  · rw [View.read_writes_cons_rows_of_not_mem _ _ _ _ _ (ix2 p j) rfl rfl (Or.inr (Nat.one_le_iff_ne_zero.mpr hp)), View.writes_nil,
      Memref.IsWhole.read_unread, add_zero]

/-- The blocks' sums, over four row blocks and sixteen heads, are the sum over all rows and heads. -/
theorem blocks_sum (f : ℕ → ℕ → EReal) :
    ∑ s : Fin 64, ∑ i : Fin 1024, f (1024 * (s.val / 16) + i.val) (s.val % 16) = ∑ r : Fin 4096, ∑ h : Fin 16, f r.val h.val := by
  rw [← Fin.sum_mul_add_congr (L := 64) (S := 4) (n := 16) (F := fun a h => ∑ i : Fin 1024, f (1024 * a.val + i.val) h.val)
    (f := fun s => ∑ i : Fin 1024, f (1024 * (s.val / 16) + i.val) (s.val % 16)) fun a h hl => by
      show _ = ∑ i : Fin 1024, f (1024 * ((a.val * 16 + h.val) / 16) + i.val) ((a.val * 16 + h.val) % 16)
      have := h.isLt
      rw [show (a.val * 16 + h.val) / 16 = a.val by omega, show (a.val * 16 + h.val) % 16 = h.val by omega]]
  rw [← Fin.sum_mul_add_congr (L := 4096) (S := 4) (n := 1024) (F := fun a i => ∑ h : Fin 16, f (1024 * a.val + i.val) h.val)
    (f := fun r => ∑ h : Fin 16, f r.val h.val) fun a i hl => by
      show _ = ∑ h : Fin 16, f (a.val * 1024 + i.val) h.val
      rw [Nat.mul_comm]]
  exact Finset.sum_congr rfl fun a _ => Finset.sum_comm

theorem dn_out (t : Fin cfg0.N) (ht : t.val % 64 = 63) (x : S8x128.Idx) :
    (outsAt0 m c t.val t.isLt).2.2 x = if (x 0).val = 0 then ∑ r : Fin 4096, ∑ h : Fin 16, gn (O m c) (P m c) (D m c) r h (x 1).val else 0 := by
  have hx : ∀ x : S8x128.Idx, x = ix2 (x 0 : Fin 8) (x 1 : Fin 128) := fun x => by ext a; fin_cases a <;> rfl
  rw [Pipeline.eq_sum_fin_of_reset_step_apply_of_flush (fun n h => (outsAt0 m c n h).2.2) 64 (fun _ => 0)
    (fun t x => if (x 0).val = 0 then ∑ i : Fin 1024, gn (O m c) (P m c) (D m c) (1024 * (t.val / 16) + i) (t.val % 16) (x 1).val else 0)
    (fun t h x => by rw [hx x]; exact dn_A m c t h (x 0) (x 1)) (fun t h x => by rw [hx x]; exact dn_B m c t h (x 0) (x 1)) t ht x]
  have h0 : t.val / 64 = 0 := Nat.div_eq_of_lt (lt_of_lt_of_eq t.isLt N_0)
  rw [zero_add]
  simp only [h0, Nat.mul_zero, Nat.zero_add]
  split_ifs
  · exact blocks_sum fun r h => gn (O m c) (P m c) (D m c) r h (x 1).val
  · exact Finset.sum_const_zero

/-- The weight's tile over the whole array. -/
def GN : FVec Ideal S8x128 .f32 := fun y => if (y 0).val = 0 then ∑ r : Fin 4096, ∑ h : Fin 16, gn (O m c) (P m c) (D m c) r h (y 1).val else 0

theorem final_dn : (dats m 0 c).arrAt 6 cfg0.N = GN m c := by
  refine (dats m 0 c).arrAt_eq_of_covers 6 (GN m c) (by decide +kernel) fun t hf y => ?_
  rw [after0_6]
  refine (dn_out m c t ((flush0_6 t).mp hf) _).trans ?_
  have h0 : (((cfg0.win 6).blk t).view.emb y 0).val = ((cfg0.win 6).xinj (cfg0.grid.coords t) y 0).val := by
    blk_simp [idx t]
  have h1 : (((cfg0.win 6).blk t).view.emb y 1).val = ((cfg0.win 6).xinj (cfg0.grid.coords t) y 1).val := by
    blk_simp [idx t]
  unfold GN
  rw [h0, h1]

end Cert.Kernel13Ideal.Value

namespace Cert.Reference13Ideal.Norm

open Cert.Reference13Ideal Cert.Reference13Ideal.Read Cert.Reference13Ideal.Gen Cert.ShortConv Cert.Norm
open Cert.Kernel13Ideal.Value (width offset width128_eq fine_logistic fine_rs rs dy go gg gn lane)

variable (o : FVec Ideal S4096x2048 .f32) (p : FVec Ideal S4352x12288 .f32) (d : FVec Ideal S4096x4096 .f32) (w : FVec Ideal S1x128 .f32)

/-- Columns in heads. -/
theorem split_at (Y : FVec Ideal S4096x2048 .f32) (i : Fin 4096) (h : Fin 16) (k : Fin 128) :
    shapeCast S4096x16x128 Y shapeCasts_S4096x2048_S4096x16x128 (ix3 i h k) = rd Y i (128 * h + k) := by
  have := h.isLt; have := k.isLt
  rw [show (128 * h.val + k.val : ℕ) = h.val * 128 + k.val from by omega]
  refine Eq.trans ?_ (rd_eq Y i ⟨h.val * 128 + k.val, by omega⟩)
  pointwise []

theorem head_at (i : Fin 4096) (h : Fin 16) (k : Fin 128) : val_main_v2 (F := Ideal) o (ix3 i h k) = rd o i (128 * h + k) := split_at o i h k

theorem root_at (i : Fin 4096) (h : Fin 16) : val_main_v10 (F := Ideal) o (ix3 i h 0) = rs (rd o) i h := by
  unfold rs scl
  simp only [← head_at]
  pointwise [val_main_v10, val_main_v9, val_main_v8, val_main_v7, val_main_v6, val_main_v5, val_main_v4, val_main_v3,
    val_main_cst, val_main_cst_0, val_main_cst_1]

theorem weight_at (h : Fin 16) (i : Fin 4096) (k : Fin 128) : val_main_v17 (F := Ideal) w (ix3 i h k) = rd w 0 k := by
  rw [show rd w 0 k = w (ix2 0 k) from (rd_eq w 0 k).symm]
  pointwise [val_main_v17, val_main_v16, val_main_v1]

theorem gate_at (i : Fin 4096) (c : Fin 2048) : val_main_v0 (F := Ideal) p (ix2 i c) = rd p i (8192 + c) := by
  have := i.isLt; have := c.isLt
  refine Eq.trans ?_ (rd_eq p ⟨i.val, by omega⟩ ⟨8192 + c.val, by omega⟩)
  pointwise [val_main_v0]

theorem grad_at (i : Fin 4096) (c : Fin 2048) : val_main_v22 (F := Ideal) d (ix2 i c) = rd d i c := by
  have := i.isLt; have := c.isLt
  refine Eq.trans ?_ (rd_eq d i ⟨c.val, by omega⟩)
  pointwise [val_main_v22]

theorem sigma_at (i : Fin 4096) (c : Fin 2048) : val_main_v20_2 (F := Ideal) p (ix2 i c) = Ideal.logistic (rd p i (8192 + c)) := by
  rw [← gate_at]
  have e : ∀ Y : FVec Ideal S4096x2048 .f32, Host.divf (val_main_call0_v4 (F := Ideal)) (addf (val_main_call0_v2 (F := Ideal)) (Host.exp (Host.negf Y))) (ix2 i c)
      = Ideal.logistic (Y (ix2 i c)) := fun Y => by
    pointwise [val_main_call0_v4, val_main_call0_v2, val_main_call0_cst, val_main_call0_cst_0]
    rfl
  exact e _

theorem before_gate (i : Fin 4096) (c : Fin 2048) :
    val_main_v24 (F := Ideal) p d (ix2 i c) = rd d i c * (rd p i (8192 + c) * Ideal.logistic (rd p i (8192 + c))) := by
  rw [show val_main_v24 (F := Ideal) p d (ix2 i c) = val_main_v22 (F := Ideal) d (ix2 i c)
    * (val_main_v0 (F := Ideal) p (ix2 i c) * val_main_v20_2 (F := Ideal) p (ix2 i c)) from rfl, gate_at, grad_at, sigma_at]

theorem dy_at (i : Fin 4096) (h : Fin 16) (k : Fin 128) : val_main_v26 (F := Ideal) p d (ix3 i h k) = dy (rd p) (rd d) i h k := by
  have := h.isLt; have := k.isLt
  have e := split_at (val_main_v24 (F := Ideal) p d) i h k
  rw [← rd_eq _ i ⟨128 * h.val + k.val, by omega⟩, before_gate] at e
  exact e

/-- The square's factor of the gradient, of a head's row. -/
theorem chain_at (i : Fin 4096) (h : Fin 16) : val_main_v41 (F := Ideal) o p d w (ix2 i h)
    = chain width offset ((-1 / 2 : ℝ) : EReal) (fun k : Fin 128 => rd o i (128 * h + k)) (fun k : Fin 128 => dy (rd p) (rd d) i h k * rd w 0 k) := by
  unfold chain
  rw [← half_eq, show scl width offset (fun k : Fin 128 => rd o i (128 * h + k)) = val_main_v10 (F := Ideal) o (ix3 i h 0) from (root_at o i h).symm]
  simp only [← dy_at, ← head_at, ← weight_at w h i]
  pointwise [val_main_v41, val_main_v40, val_main_v39, val_main_v38, val_main_v35, val_main_v34, val_main_v33, val_main_v31, val_main_v30, val_main_v17,
    val_main_v13, val_main_v12, val_main_v11, val_main_v9, val_main_v8, val_main_v7, val_main_v6, val_main_v5, val_main_v4, val_main_v3,
    val_main_cst, val_main_cst_0, val_main_cst_1, val_main_cst_2, val_main_cst_5, val_main_cst_6, val_main_cst_7]
  rw [Fin.sum_univ_one]

theorem do_at (ho : ∀ i, Fine (o i)) (hp : ∀ i, Fine (p i)) (hd : ∀ i, Fine (d i)) (hw : ∀ i, Fine (w i)) (i : Fin 4096) (h : Fin 16) (k : Fin 128) :
    val_main_v46 (F := Ideal) o p d w (ix3 i h k) = go (rd o) (rd p) (rd d) (rd w) i h k := by
  rw [show val_main_v46 (F := Ideal) o p d w (ix3 i h k) = val_main_v26 (F := Ideal) p d (ix3 i h k) * val_main_v17 (F := Ideal) w (ix3 i h k) * val_main_v10 (F := Ideal) o (ix3 i h 0)
      + val_main_v2 (F := Ideal) o (ix3 i h k) * val_main_v41 (F := Ideal) o p d w (ix2 i h) + val_main_v41 (F := Ideal) o p d w (ix2 i h) * val_main_v2 (F := Ideal) o (ix3 i h k) by
    pointwise [val_main_v46, val_main_v45, val_main_v44, val_main_v43, val_main_v42, val_main_v37, val_main_v36, val_main_v31, val_main_v30, val_main_v17],
    dy_at, root_at, chain_at, weight_at, head_at]
  unfold go rs width offset
  rw [width128_eq, eps_eq]
  exact chain_eq (N := 128) (x := fun k : Fin 128 => rd o i (128 * h + k)) (c := fun k : Fin 128 => dy (rd p) (rd d) i h k * rd w 0 k)
    (by norm_num) eps_pos (fun k => fine_rd ho _ _)
    (fun k => ((fine_rd hd _ _).mul ((fine_rd hp _ _).mul (fine_logistic (fine_rd hp _ _)))).mul (fine_rd hw _ _)) k

theorem dx_at (ho : ∀ i, Fine (o i)) (hp : ∀ i, Fine (p i)) (hd : ∀ i, Fine (d i)) (hw : ∀ i, Fine (w i)) (i : Fin 4096) (c : Fin 2048) :
    val_main_v47 (F := Ideal) o p d w (ix2 i c) = go (rd o) (rd p) (rd d) (rd w) i (c.val / 128) (lane c) := by
  rw [show val_main_v47 (F := Ideal) o p d w (ix2 i c) = val_main_v46 (F := Ideal) o p d w (ix3 i ⟨c.val / 128, by have := c.isLt; omega⟩ (lane c)) by
    pointwise [val_main_v47]
    rfl, do_at o p d w ho hp hd hw]

/-- The gate's incoming gradient: the derivative of a product is a sum of two terms. -/
theorem dg_at (ho : ∀ i, Fine (o i)) (hp : ∀ i, Fine (p i)) (hd : ∀ i, Fine (d i)) (hw : ∀ i, Fine (w i)) (i : Fin 4096) (c : Fin 2048) :
    val_main_v48 (F := Ideal) o p d w (ix2 i c) = gg (rd o) (rd p) (rd d) (rd w) i (c.val / 128) (lane c) := by
  have hc := c.isLt
  have hl : 128 * (c.val / 128) + (lane c).val = c.val := by show 128 * (c.val / 128) + c.val % 128 = c.val; omega
  have e19 : val_main_v19 (F := Ideal) o w (ix2 i c) = rd o i c * rs (rd o) i (c.val / 128) * rd w 0 (lane c) := by
    rw [show val_main_v19 (F := Ideal) o w (ix2 i c) = val_main_v2 (F := Ideal) o (ix3 i ⟨c.val / 128, by omega⟩ (lane c))
        * val_main_v10 (F := Ideal) o (ix3 i ⟨c.val / 128, by omega⟩ 0) * val_main_v17 (F := Ideal) w (ix3 i ⟨c.val / 128, by omega⟩ (lane c)) by
      pointwise [val_main_v19, val_main_v18, val_main_v15, val_main_v14]
      rfl, head_at, root_at, weight_at]
    show rd o i (128 * (c.val / 128) + (lane c).val) * _ * _ = _
    rw [hl]
  have hone : val_main_call0_v6 (F := Ideal) (ix2 i c) = 1 := by
    pointwise [val_main_call0_v6, val_main_call0_cst_1]
  rw [show val_main_v48 (F := Ideal) o p d w (ix2 i c) = val_main_v19 (F := Ideal) o w (ix2 i c) * val_main_v22 (F := Ideal) d (ix2 i c) * val_main_v20_2 (F := Ideal) p (ix2 i c)
      + val_main_v0 (F := Ideal) p (ix2 i c) * (val_main_v19 (F := Ideal) o w (ix2 i c) * val_main_v22 (F := Ideal) d (ix2 i c))
        * (val_main_v20_2 (F := Ideal) p (ix2 i c) * (val_main_call0_v6 (F := Ideal) (ix2 i c) - val_main_v20_2 (F := Ideal) p (ix2 i c))) from rfl,
    hone, gate_at, grad_at, sigma_at, e19,
    dsg_distrib ((((fine_rd ho _ _).mul (fine_rs (fine_rd ho) _ _)).mul (fine_rd hw _ _)).mul (fine_rd hd _ _)) (fine_rd hp _ _), mul_comm _ (rd d i c)]
  unfold gg
  rw [hl]

/-- The weight's gradient, over all rows and heads. -/
theorem dn_at (j : Fin 128) : val_main_v32 (F := Ideal) o p d (ix1 j) = ∑ r : Fin 4096, ∑ h : Fin 16, gn (rd o) (rd p) (rd d) r h j := by
  unfold gn
  simp only [← dy_at, ← head_at, ← root_at]
  have e28 : ∀ j : Fin 128, val_main_v28 (F := Ideal) o p d (ix1 j) = ∑ r : Fin 4096, ∑ h : Fin 16,
      val_main_v2 (F := Ideal) o (ix3 r h j) * val_main_v10 (F := Ideal) o (ix3 r h 0) * val_main_v26 (F := Ideal) p d (ix3 r h j) := fun j => by
    refine (reduce01 reducesTo_S4096x16x128_S128_d0_1 (val_main_v27 (F := Ideal) o p d) _ j).trans ?_
    rw [show (val_main_cst_3 (F := Ideal)) (Shape.Idx.first h_S_) = 0 by pointwise [val_main_cst_3], zero_add]
    refine Finset.sum_congr rfl fun r _ => Finset.sum_congr rfl fun h _ => ?_
    pointwise [val_main_v27, val_main_v15, val_main_v14]
  have e32 : val_main_v32 (F := Ideal) o p d (ix1 j) = val_main_v28 (F := Ideal) o p d (ix1 j) := by
    refine (reduce01 reducesTo_S1x1x128_S128_d0_1 (val_main_v29 (F := Ideal) o p d) _ j).trans ?_
    rw [show (val_main_cst_4 (F := Ideal)) (Shape.Idx.first h_S_) = 0 by pointwise [val_main_cst_4], zero_add, Fin.sum_univ_one, Fin.sum_univ_one]
    pointwise [val_main_v29]
  rw [e32, e28]
  exact Finset.sum_congr rfl fun r _ => Finset.sum_congr rfl fun h _ => mul_comm _ _

theorem tile_at (y : S8x128.Idx) : val_main_v51 (F := Ideal) o p d y
    = if (y 0).val = 0 then ∑ r : Fin 4096, ∑ h : Fin 16, gn (rd o) (rd p) (rd d) r h (y 1).val else 0 := by
  obtain ⟨i, j, rfl⟩ : ∃ (i : Fin 8) (j : Fin 128), y = ix2 i j := ⟨y 0, y 1, by ext a; fin_cases a <;> rfl⟩
  show _ = if i.val = 0 then ∑ r : Fin 4096, ∑ h : Fin 16, gn (rd o) (rd p) (rd d) r h j else 0
  rw [← dn_at]
  pointwise [val_main_v51, val_main_v50, val_main_v49, val_main_cst_8]
  split_ifs <;> first | rfl | omega

end Cert.Reference13Ideal.Norm

namespace Cert.Proof

open Cert.ShortConv

theorem dn_out_reference_frame : Cert.quiescent_Reference13Ideal := fun m g _ =>
  (θ_run Cert.Reference13Ideal.defs _ _).mono
    (fun r h => ⟨fun c => (h c).2.2.2, sem_eq_zero_of_no_sems (by decide) r.2⟩) (Cert.Reference13Ideal.Value.run m g)

theorem dn_out_algebraic : Cert.algebraic_Kernel13Ideal_Reference13Ideal_pre_finite13 := by
  intro m g m' g' hpre hagree
  have hf := fun c => (⟨fun i => fine_of_mask _ _ i (congrFun (hpre c).1 i), fun i => fine_of_mask _ _ i (congrFun (hpre c).2.1 i),
    fun i => fine_of_mask _ _ i (congrFun (hpre c).2.2.1 i), fun i => fine_of_mask _ _ i (congrFun (hpre c).2.2.2 i)⟩ : _ ∧ _ ∧ _ ∧ _)
  refine ⟨fun c => (Cert.Kernel13Ideal.Gen.dats m 0 c).arrAt 4 Cert.Kernel13Ideal.cfg0.N,
    fun c => (Cert.Kernel13Ideal.Gen.dats m 0 c).arrAt 5 Cert.Kernel13Ideal.cfg0.N,
    fun c => (Cert.Kernel13Ideal.Gen.dats m 0 c).arrAt 6 Cert.Kernel13Ideal.cfg0.N, Cert.Kernel13Ideal.Value.run_blocks m g, ?_⟩
  refine (θ_run Cert.Reference13Ideal.defs _ _).mono
    (fun r h c => ⟨(h c).1.trans ?_, (h c).2.1.trans ?_, (h c).2.2.1.trans ?_, (h c).2.2.2⟩) (Cert.Reference13Ideal.Value.run m' g')
  · refine Eq.trans ?_ (Cert.Kernel13Ideal.Value.final_do m c).symm
    rw [Cert.Reference13Ideal.Read.val_main_v47_eq, (hagree c).1, (hagree c).2.1, (hagree c).2.2.1, (hagree c).2.2.2]
    funext x
    obtain ⟨i, j, rfl⟩ : ∃ i j, x = ix2 i j := ⟨x 0, x 1, by ext a; fin_cases a <;> rfl⟩
    exact Cert.Reference13Ideal.Norm.dx_at _ _ _ _ (hf c).1 (hf c).2.1 (hf c).2.2.1 (hf c).2.2.2 i j
  · refine Eq.trans ?_ (Cert.Kernel13Ideal.Value.final_dg m c).symm
    refine (Cert.Reference13Ideal.Read.val_main_v48_eq _ _ _ _).trans ?_
    rw [(hagree c).1, (hagree c).2.1, (hagree c).2.2.1, (hagree c).2.2.2]
    funext x
    obtain ⟨i, j, rfl⟩ : ∃ i j, x = ix2 i j := ⟨x 0, x 1, by ext a; fin_cases a <;> rfl⟩
    exact Cert.Reference13Ideal.Norm.dg_at _ _ _ _ (hf c).1 (hf c).2.1 (hf c).2.2.1 (hf c).2.2.2 i j
  · refine Eq.trans ?_ (Cert.Kernel13Ideal.Value.final_dn m c).symm
    refine (Cert.Reference13Ideal.Read.val_main_v51_eq _ _ _).trans ?_
    rw [(hagree c).1, (hagree c).2.1, (hagree c).2.2.1]
    funext x
    exact Cert.Reference13Ideal.Norm.tile_at _ _ _ x

end Cert.Proof

end
-- ==== Proof.QkvSpec.lean ====
/- The delta rule's q, k and v, backwards, element by element: the gradient through each head's normalisation, the
   activation and the convolution along the tokens. The first 4096 rows and the last 256 are convolved apart. -/
module

public import proofs.«01_k».proof.Proof.NormSpec

@[expose] public section

noncomputable section

open Idealize.ShloMosaic Cert.ShortConv Cert.Norm

namespace Cert.Qkv

/-- Whether the row `a` after and `b` before row `t` is one of the same tokens. -/
abbrev seg (t a b : ℕ) : Prop := (t < 4096 ∧ b ≤ t + a ∧ t + a < 4096 + b) ∨ (4096 ≤ t ∧ 4096 + b ≤ t + a ∧ t + a < 4352 + b)

/-- The value `a` rows after and `b` before, zero beyond the tokens. -/
def sh (f : ℕ → ℕ → EReal) (a b t c : ℕ) : EReal := if seg t a b then f (t + a - b) c else 0

/-- What tap `k` reads. -/
def tap (f : ℕ → ℕ → EReal) (k t c : ℕ) : EReal :=
  if k = 0 then sh f 0 2 t c else if k = 1 then sh f 0 1 t c else if k = 2 then f t c else sh f 1 0 t c

/-- The convolution with four taps, and its activation. -/
def y (p w : ℕ → ℕ → EReal) (t c : ℕ) : EReal := w 0 c * sh p 0 2 t c + w 1 c * sh p 0 1 t c + w 2 c * p t c + w 3 c * sh p 1 0 t c
def act (p w : ℕ → ℕ → EReal) (t c : ℕ) : EReal := y p w t c * Ideal.logistic (y p w t c)

/-- The query's factor and the offset under the root, as both programs write them. -/
abbrev factor : EReal := Ideal.ofBits .f32 0x3DB504F3#32
abbrev offset : EReal := Ideal.ofBits .f32 0x358637BD#32

/-- The gradient arriving at the normalised heads: the query's scaled. -/
def dout (d : ℕ → ℕ → EReal) (t c : ℕ) : EReal := d t c * if c < 2048 then factor else 1

/-- The column of a flat index within its head. -/
def lane (c : ℕ) : Fin 128 := ⟨c % 128, Nat.mod_lt _ (by norm_num)⟩

/-- The gradient through a head's normalisation; the values have none. -/
def dn (p w d : ℕ → ℕ → EReal) (t c : ℕ) : EReal :=
  dx ((1 : ℝ) : EReal) offset (fun k : Fin 128 => act p w t (128 * (c / 128) + k)) (fun k => dout d t (128 * (c / 128) + k)) (lane c)
def da (p w d : ℕ → ℕ → EReal) (t c : ℕ) : EReal := if c < 4096 then dn p w d t c else dout d t c
def dy (p w d : ℕ → ℕ → EReal) (t c : ℕ) : EReal := da p w d t c * dsg (y p w t c)

/-- The gradient of the convolution's operand, and of its taps. -/
def back (w f : ℕ → ℕ → EReal) (t c : ℕ) : EReal := w 0 c * sh f 2 0 t c + w 1 c * sh f 1 0 t c + w 2 c * f t c + w 3 c * sh f 0 1 t c
def gw (p w d : ℕ → ℕ → EReal) (k c : ℕ) : EReal := ∑ t : Fin 4352, dy p w d t c * tap p k t c

/-- Three arrays of 2048 columns read side by side, zero outside. -/
def side {φ : FTy} (X : FVec Ideal ⟨3, ![3, 4352, 2048]⟩ φ) (t c : ℕ) : EReal :=
  if h : t < 4352 ∧ c < 6144 then X (ix3 ⟨c / 2048, by omega⟩ ⟨t, h.1⟩ ⟨c % 2048, Nat.mod_lt _ (by norm_num)⟩) else 0

theorem fine_side {φ : FTy} {X : FVec Ideal ⟨3, ![3, 4352, 2048]⟩ φ} (h : ∀ i, Fine (X i)) (t c : ℕ) : Fine (side X t c) := by
  unfold side; split_ifs
  exacts [h _, .zero]

theorem div_one (x : EReal) : Ideal.div x ((1 : ℝ) : EReal) = x := by
  rw [Ideal.div_coe one_ne_zero, _root_.div_one, EReal.coe_one, mul_one]

theorem fine_sh {f : ℕ → ℕ → EReal} (hf : ∀ t c, Fine (f t c)) (a b t c : ℕ) : Fine (sh f a b t c) := by
  unfold sh; split_ifs
  exacts [hf _ _, .zero]

theorem fine_logistic {x : EReal} : Fine x → Fine (Ideal.logistic x) := by
  rintro ⟨x, rfl⟩
  exact ⟨_, Ideal.logistic_coe x⟩

theorem fine_y {p w : ℕ → ℕ → EReal} (hp : ∀ t c, Fine (p t c)) (hw : ∀ t c, Fine (w t c)) (t c : ℕ) : Fine (y p w t c) :=
  ((((hw _ _).mul (fine_sh hp _ _ _ _)).add ((hw _ _).mul (fine_sh hp _ _ _ _))).add ((hw _ _).mul (hp _ _))).add ((hw _ _).mul (fine_sh hp _ _ _ _))

theorem fine_act {p w : ℕ → ℕ → EReal} (hp : ∀ t c, Fine (p t c)) (hw : ∀ t c, Fine (w t c)) (t c : ℕ) : Fine (act p w t c) :=
  (fine_y hp hw t c).mul (fine_logistic (fine_y hp hw t c))

theorem fine_factor : Fine factor := by
  refine ⟨11863283 / 134217728, ?_⟩
  simp [Ideal.ofBits, Ideal.ieee]; norm_num; rw [← EReal.coe_mul]; norm_num

theorem fine_dout {d : ℕ → ℕ → EReal} (hd : ∀ t c, Fine (d t c)) (t c : ℕ) : Fine (dout d t c) := by
  unfold dout; split_ifs
  exacts [(hd _ _).mul fine_factor, (hd _ _).mul (.coe 1)]

theorem fine_da {p w d : ℕ → ℕ → EReal} (hp : ∀ t c, Fine (p t c)) (hw : ∀ t c, Fine (w t c)) (hd : ∀ t c, Fine (d t c)) (t c : ℕ) :
    Fine (da p w d t c) := by
  have hs : Fine (scl ((1 : ℝ) : EReal) offset fun k : Fin 128 => act p w t (128 * (c / 128) + k)) := by
    unfold offset; rw [eps_eq]
    exact fine_scl one_pos eps_pos fun k => fine_act hp hw _ _
  unfold da dn dx; split_ifs
  · exact hs.mul ((fine_dout hd _ _).sub (((fine_act hp hw _ _).mul hs).mul
      (Fine.div one_ne_zero (.sum fun k => (fine_dout hd _ _).mul ((fine_act hp hw _ _).mul hs)))))
  · exact fine_dout hd _ _

end Cert.Qkv

end
-- ==== Proof.QkvBlock.lean ====
/- What one block of 128 columns computes on the way back through the delta rule's q, k and v. -/
module

public import proofs.«01_k».proof.Proof.QkvSpec
public import proofs.«01_k».proof.Proof.Gen.Kernel14Ideal.Skeleton

@[expose] public section

set_option maxRecDepth 16384

noncomputable section

open Idealize.ShloMosaic Idealize.ShloMosaic.TcCoe Idealize.SL.Sem

namespace Cert.Kernel14Ideal.Block

open Cert.Kernel14Ideal Cert.Kernel14Ideal.Gen Cert.ShortConv Cert.Norm Cert.Qkv

/-- A selection by a word that tests a proposition. -/
theorem select_word {p : Prop} [Decidable p] {b : BitVec 1} (h : b = if p then 1#1 else 0#1) (x y : EReal) :
    Scalar.select b x y = if p then x else y := by
  subst h; by_cases hp : p <;> simp [Scalar.select, hp]

/-- The position of row `i` among its tokens, and their number. -/
def pos (i : ℕ) : BitVec 32 :=
  Scalar.select (IntOp.cmpi .slt (BitVec.ofNat 32 i) 4096#32) (BitVec.ofNat 32 i) (IntOp.subi (BitVec.ofNat 32 i) 4096#32)
def len (i : ℕ) : BitVec 32 := Scalar.select (IntOp.cmpi .slt (BitVec.ofNat 32 i) 4096#32) 4096#32 256#32

/-- Whether the row at offset `o` is one of the same tokens. -/
def inSeg (i : ℕ) (o : BitVec 32) : BitVec 1 :=
  IntOp.andi (IntOp.cmpi .sge (IntOp.addi (pos i) o) 0#32) (IntOp.cmpi .slt (IntOp.addi (pos i) o) (len i))

theorem inSeg_02 : ∀ i : Fin 4352, inSeg i 4294967294#32 = if seg i 0 2 then 1#1 else 0#1 := by decide +kernel
theorem inSeg_01 : ∀ i : Fin 4352, inSeg i 4294967295#32 = if seg i 0 1 then 1#1 else 0#1 := by decide +kernel
theorem inSeg_10 : ∀ i : Fin 4352, inSeg i 1#32 = if seg i 1 0 then 1#1 else 0#1 := by decide +kernel
theorem inSeg_20 : ∀ i : Fin 4352, inSeg i 2#32 = if seg i 2 0 then 1#1 else 0#1 := by decide +kernel

/-- The block's rows, zero where `o` rows further are other tokens; and a rotation of them. -/
def gated (o : BitVec 32) (U : FVec Ideal S4352x128 .f32) : FVec Ideal S4352x128 .f32 :=
  select (broadcastTo S4352x128 (shapeCast S4352x1
      (andi (cmpi .sge (addi k0_pay22 (broadcast S4352x1 o)) (broadcast S4352x1 0#32))
        (cmpi .slt (addi k0_pay22 (broadcast S4352x1 o)) k0_pay23)) shapeCasts_S4352x1_S4352x1) broadcasts_S4352x1_S4352x128)
    U (broadcast S4352x128 (Scalar.ofBits (F := Ideal) .f32 0x00000000#32))

def masked (r o : BitVec 32) (U : FVec Ideal S4352x128 .f32) : FVec Ideal S4352x128 .f32 := gated o (dynamicRotate 0 r none U rotates_S4352x128_d0)

/-- A sum of the block's rows, in the row of the taps' gradient that `K` marks with `k`. -/
def placed (k : BitVec 32) (V : FVec Ideal S4352x128 .f32) : FVec Ideal S4x128 .f32 :=
  select (cmpi .eq (iota .tc S4x128 32 [0] iota_S4x128_d0_w32) (broadcast S4x128 k))
    (broadcastTo S4x128 (shapeCast S1x128 (shapeCast S1x128
      (multiReduction .add [0] S128 V 0x00000000#32 reduces_S4352x128_S128 (.inl rfl) rfl)
      shapeCasts_S128_S1x128) shapeCasts_S1x128_S1x128) broadcasts_S1x128_S4x128)
    (broadcast S4x128 (Scalar.ofBits (F := Ideal) .f32 0x00000000#32))

/-- One tap's weight along the rows. -/
def row (k : ℕ) (W : Vec Ideal S4x128 .f32) (h : S4x128.Slices ![k, 0] S1x128) : FVec Ideal S4352x128 .f32 :=
  broadcastTo S4352x128 (extractStridedSlice S1x128 ![k, 0] W h) broadcasts_S1x128_S4352x128

section
variable (U : FVec Ideal S4352x128 .f32) (i : Fin 4352) (j : Fin 128)

/-- A rotation. -/
theorem rotate_at (r : BitVec 32) : dynamicRotate 0 r none U rotates_S4352x128_d0 (ix2 i j)
    = U (ix2 ⟨(i.val + 4352 - r.toNat % 4352) % 4352, Nat.mod_lt _ (by decide)⟩ j) := by
  refine congrArg U (funext fun b => Fin.ext ?_)
  match b with
  | ⟨0, _⟩ => rfl
  | ⟨1, _⟩ => rfl

theorem gated_at (o : BitVec 32) : gated o U (ix2 i j) = Scalar.select (inSeg i o) (U (ix2 i j)) 0 := by
  pointwise [gated, k0_pay22, k0_pay23, inSeg, pos, len]

theorem masked_at (r o : BitVec 32) (k : ℕ) (hk : k < 4352) (h : inSeg i o = 1#1 → (i.val + 4352 - r.toNat % 4352) % 4352 = k) :
    masked r o U (ix2 i j) = Scalar.select (inSeg i o) (U (ix2 ⟨k, hk⟩ j)) 0 := by
  unfold masked
  rw [gated_at, rotate_at]
  by_cases e : inSeg i o = 1#1
  · exact congrArg (fun q => Scalar.select _ (U (ix2 q j)) 0) (Fin.ext (h e))
  · exact (if_neg e).trans (if_neg e).symm

variable {U} {f : ℕ → ℕ → EReal} {b : ℕ} (hU : ∀ i j, U (ix2 i j) = f i.val (128 * b + j.val))
include hU

theorem masked_sh (r o : BitVec 32) (p q : ℕ) (ho : inSeg i o = if seg i p q then 1#1 else 0#1)
    (h : seg i p q → i.val + p - q < 4352 ∧ (i.val + 4352 - r.toNat % 4352) % 4352 = i.val + p - q) :
    masked r o U (ix2 i j) = sh f p q i (128 * b + j) := by
  unfold sh
  by_cases e : seg i p q
  · rw [masked_at U i j r o _ (h e).1 fun _ => (h e).2, select_word ho, if_pos e, if_pos e, hU]
  · unfold masked
    rw [gated_at, select_word ho, if_neg e, if_neg e]

theorem masked_02 : masked 2#32 4294967294#32 U (ix2 i j) = sh f 0 2 i (128 * b + j) := masked_sh i j hU _ _ 0 2 (inSeg_02 i) (by have := i.isLt; rw [show (2#32).toNat = 2 from rfl]; omega)
theorem masked_01 : masked 1#32 4294967295#32 U (ix2 i j) = sh f 0 1 i (128 * b + j) := masked_sh i j hU _ _ 0 1 (inSeg_01 i) (by have := i.isLt; rw [show (1#32).toNat = 1 from rfl]; omega)
theorem masked_10 : masked 4351#32 1#32 U (ix2 i j) = sh f 1 0 i (128 * b + j) := masked_sh i j hU _ _ 1 0 (inSeg_10 i) (by have := i.isLt; rw [show (4351#32).toNat = 4351 from rfl]; omega)
theorem masked_20 : masked 4350#32 2#32 U (ix2 i j) = sh f 2 0 i (128 * b + j) := masked_sh i j hU _ _ 2 0 (inSeg_20 i) (by have := i.isLt; rw [show (4350#32).toNat = 4350 from rfl]; omega)

end

theorem placed_at (n : BitVec 32) (V : FVec Ideal S4352x128 .f32) (k : Fin 4) (j : Fin 128) :
    placed n V (ix2 k j) = Scalar.select (IntOp.cmpi .eq (BitVec.ofNat 32 k.val) n) (∑ i : Fin 4352, V (ix2 i j)) 0 := by
  pointwise [placed]

theorem row0_at (W : Vec Ideal S4x128 .f32) (i : Fin 4352) (j : Fin 128) : row 0 W slices_S4x128_o0_0_S1x128 (ix2 i j) = W (ix2 0 j) := by pointwise [row]
theorem row1_at (W : Vec Ideal S4x128 .f32) (i : Fin 4352) (j : Fin 128) : row 1 W slices_S4x128_o1_0_S1x128 (ix2 i j) = W (ix2 1 j) := by pointwise [row]
theorem row2_at (W : Vec Ideal S4x128 .f32) (i : Fin 4352) (j : Fin 128) : row 2 W slices_S4x128_o2_0_S1x128 (ix2 i j) = W (ix2 2 j) := by pointwise [row]
theorem row3_at (W : Vec Ideal S4x128 .f32) (i : Fin 4352) (j : Fin 128) : row 3 W slices_S4x128_o3_0_S1x128 (ix2 i j) = W (ix2 3 j) := by pointwise [row]

variable (X : Vec Ideal S4352x128 .f32) (W : Vec Ideal S4x128 .f32) (D : Vec Ideal S1x4352x128 .f32) (g : BitVec 32)

/-- The convolution, as the block's first part computes it. -/
def conv : FVec Ideal S4352x128 .f32 :=
  k0_pay9 X (k0_pay6 X W (k0_pay1 W) (k0_pay3 X) k0_pay4 k0_pay5) (k0_pay7 W) (iota .tc S4352x1 32 [0] iota_S4352x1_d0_w32) k0_pay8 4096#32

theorem conv_eq : conv X W = addf (addf (addf (mulf (row 0 W slices_S4x128_o0_0_S1x128) (masked 2#32 4294967294#32 X))
    (mulf (row 1 W slices_S4x128_o1_0_S1x128) (masked 1#32 4294967295#32 X))) (mulf (row 2 W slices_S4x128_o2_0_S1x128) X))
    (mulf (row 3 W slices_S4x128_o3_0_S1x128) (masked 4351#32 1#32 X)) := rfl

/-- The heads' reciprocal root, the gradient less its part along the head, and the gradient of the convolution's result. -/
def root : FVec Ideal S4352x128 .f32 :=
  k0_pay14 X (k0_pay6 X W (k0_pay1 W) (k0_pay3 X) k0_pay4 k0_pay5) (k0_pay7 W) (iota .tc S4352x1 32 [0] iota_S4352x1_d0_w32) k0_pay8 4096#32
def centred : FVec Ideal S4352x128 .f32 :=
  k0_pay13 g X (k0_pay6 X W (k0_pay1 W) (k0_pay3 X) k0_pay4 k0_pay5) (k0_pay7 W) (iota .tc S4352x1 32 [0] iota_S4352x1_d0_w32) k0_pay8 4096#32 D
def grad : FVec Ideal S4352x128 .f32 := k0_pay15 g (conv X W) (k0_pay12 g D) (centred X W D g) (root X W)

theorem act_at (X : Vec Ideal S4352x128 .f32) (V : FVec Ideal S4352x128 .f32) (R : FVec Ideal S1x128 .f32) (I J : IVec S4352x1 32) (i : Fin 4352) (j : Fin 128) :
    k0_pay10 (F := Ideal) X V R I J 4096#32 (ix2 i j)
      = k0_pay9 X V R I J 4096#32 (ix2 i j) * Ideal.logistic (k0_pay9 X V R I J 4096#32 (ix2 i j)) := by
  pointwise [k0_pay10]

theorem root_at (X : Vec Ideal S4352x128 .f32) (V : FVec Ideal S4352x128 .f32) (R : FVec Ideal S1x128 .f32) (I J : IVec S4352x1 32) (i : Fin 4352) :
    k0_pay11 (F := Ideal) X V R I J 4096#32 (ix2 i 0) = scl ((1 : ℝ) : EReal) offset fun k : Fin 128 => k0_pay10 X V R I J 4096#32 (ix2 i k) := by
  unfold scl
  rw [div_one]
  pointwise [k0_pay11]

theorem norm_at (X : Vec Ideal S4352x128 .f32) (V : FVec Ideal S4352x128 .f32) (R : FVec Ideal S1x128 .f32) (I J : IVec S4352x1 32) (i : Fin 4352) (j : Fin 128) :
    k0_pay14 (F := Ideal) X V R I J 4096#32 (ix2 i j) * k0_pay13 g X V R I J 4096#32 D (ix2 i j)
      = dx ((1 : ℝ) : EReal) offset (fun k : Fin 128 => k0_pay10 X V R I J 4096#32 (ix2 i k)) (fun k => k0_pay12 g D (ix2 i k)) j := by
  unfold dx
  rw [div_one]
  simp only [← root_at]
  pointwise [k0_pay14, k0_pay13]

theorem dout_at (i : Fin 4352) (j : Fin 128) :
    k0_pay12 (F := Ideal) g D (ix2 i j) = D (ix3 0 i j) * Scalar.select (Scalar.cmpi .eq g 0#32) factor 1 := by
  pointwise [k0_pay12]

theorem grad_at (Y O P R : FVec Ideal S4352x128 .f32) (i : Fin 4352) (j : Fin 128) :
    k0_pay15 (F := Ideal) g Y O P R (ix2 i j)
      = Scalar.select (Scalar.cmpi .eq g 2#32) (O (ix2 i j)) (R (ix2 i j) * P (ix2 i j)) * dsg (Y (ix2 i j)) := by
  unfold dsg
  pointwise [k0_pay15]

end Cert.Kernel14Ideal.Block

end
-- ==== Proof.QkvKernel.lean ====
/- The way back through the delta rule's q, k and v, over the whole arrays: 48 blocks of 128 columns, each one head. -/
module

public import proofs.«01_k».proof.Defs
public import proofs.«01_k».proof.Proof.QkvBlock
public import proofs.«01_k».proof.Proof.Gen.Kernel14Ideal.Value
public import Idealize.ShloMosaic.Lib.VecWindow
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel14Ideal.Block

open Cert.Kernel14Ideal Cert.Kernel14Ideal.Gen Cert.ShortConv Cert.Norm Cert.Qkv

section
variable {X : Vec Ideal S4352x128 .f32} {W : Vec Ideal S4x128 .f32} {D : Vec Ideal S1x4352x128 .f32} {p w d : ℕ → ℕ → EReal} {b : ℕ}
  (hX : ∀ i j, X (ix2 i j) = p i.val (128 * b + j.val)) (hW : ∀ k j, W (ix2 k j) = w k.val (128 * b + j.val))
  (hD : ∀ i j, D (ix3 0 i j) = d i.val (128 * b + j.val)) (i : Fin 4352) (j : Fin 128)

include hX hW in
theorem conv_at : conv X W (ix2 i j) = y p w i (128 * b + j) := by
  rw [conv_eq]
  show row 0 W slices_S4x128_o0_0_S1x128 (ix2 i j) * masked 2#32 4294967294#32 X (ix2 i j)
    + row 1 W slices_S4x128_o1_0_S1x128 (ix2 i j) * masked 1#32 4294967295#32 X (ix2 i j)
    + row 2 W slices_S4x128_o2_0_S1x128 (ix2 i j) * X (ix2 i j)
    + row 3 W slices_S4x128_o3_0_S1x128 (ix2 i j) * masked 4351#32 1#32 X (ix2 i j) = _
  rw [row0_at, row1_at, row2_at, row3_at, masked_02 i j hX, masked_01 i j hX, masked_10 i j hX, hX, hW, hW, hW, hW]
  rfl

include hX hW in
theorem act_block : k0_pay10 X (k0_pay6 X W (k0_pay1 W) (k0_pay3 X) k0_pay4 k0_pay5) (k0_pay7 W) (iota .tc S4352x1 32 [0] iota_S4352x1_d0_w32) k0_pay8 4096#32 (ix2 i j)
    = act p w i (128 * b + j) :=
  (act_at _ _ _ _ _ i j).trans (congrArg (fun x => x * Ideal.logistic x) (conv_at hX hW i j))

/-- The group's tests: the first third of the heads are queries, the last are values. -/
theorem first_group (hb : b < 48) (j : Fin 128) : Scalar.cmpi .eq (BitVec.ofNat 32 (b / 16)) 0#32 = if 128 * b + j.val < 2048 then 1#1 else 0#1 := by
  have := j.isLt
  rw [(by decide : ∀ b : Fin 48, Scalar.cmpi .eq (BitVec.ofNat 32 (b.val / 16)) 0#32 = if b.val < 16 then 1#1 else 0#1) ⟨b, hb⟩]
  exact if_congr (by show b < 16 ↔ _; omega) rfl rfl
theorem last_group (hb : b < 48) (j : Fin 128) : Scalar.cmpi .eq (BitVec.ofNat 32 (b / 16)) 2#32 = if ¬128 * b + j.val < 4096 then 1#1 else 0#1 := by
  have := j.isLt
  rw [(by decide : ∀ b : Fin 48, Scalar.cmpi .eq (BitVec.ofNat 32 (b.val / 16)) 2#32 = if ¬b.val < 32 then 1#1 else 0#1) ⟨b, hb⟩]
  exact if_congr (by show ¬b < 32 ↔ _; omega) rfl rfl

include hD in
theorem dout_block (hb : b < 48) : k0_pay12 (F := Ideal) (BitVec.ofNat 32 (b / 16)) D (ix2 i j) = dout d i (128 * b + j) := by
  rw [dout_at, hD, select_word (first_group hb j)]
  rfl

include hX hW hD in
theorem grad_block (hb : b < 48) : grad X W D (BitVec.ofNat 32 (b / 16)) (ix2 i j) = dy p w d i (128 * b + j) := by
  have := j.isLt
  unfold grad centred root
  rw [grad_at, norm_at, conv_at hX hW, select_word (last_group hb j), dout_block hD i j hb]
  simp only [act_block hX hW, dout_block hD _ _ hb]
  unfold dy da dn
  rw [show (128 * b + j.val) / 128 = b by omega, show lane (128 * b + j.val) = j from Fin.ext (by show (128 * b + j.val) % 128 = j.val; omega)]
  by_cases h : 128 * b + j.val < 4096
  · rw [if_neg (not_not.mpr h), if_pos h]
  · rw [if_pos h, if_neg h]

end

section
variable (W : Vec Ideal S4x128 .f32) (Z V : FVec Ideal S4352x128 .f32)

theorem back0_eq (g : BitVec 32) (Y O P R : FVec Ideal S4352x128 .f32) : k0_pay17 g W Y O P R
    = mulf (row 0 W slices_S4x128_o0_0_S1x128) (masked 4350#32 2#32 (k0_pay15 g Y O P R)) := rfl
theorem back1_eq : k0_pay25 V (k0_pay21 W) k0_pay22 k0_pay23 (k0_pay24 Z)
    = addf V (mulf (row 1 W slices_S4x128_o1_0_S1x128) (masked 4351#32 1#32 Z)) := rfl
theorem back2_eq : k0_pay28 W Z V = addf V (mulf (row 2 W slices_S4x128_o2_0_S1x128) Z) := rfl
theorem back3_eq : k0_pay30 W Z = mulf (row 3 W slices_S4x128_o3_0_S1x128) (masked 1#32 4294967295#32 Z) := rfl
theorem back_sum (i : Fin 4352) (j : Fin 128) : k0_pay32 V Z (ix2 i j) = V (ix2 i j) + Z (ix2 i j) := by
  pointwise [k0_pay32]

theorem back_parts (A B C E R S T U : FVec Ideal S4352x128 .f32) (i : Fin 4352) (j : Fin 128) :
    k0_pay32 (addf (addf (mulf A B) (mulf C E)) (mulf R S)) (mulf T U) (ix2 i j)
      = A (ix2 i j) * B (ix2 i j) + C (ix2 i j) * E (ix2 i j) + R (ix2 i j) * S (ix2 i j) + T (ix2 i j) * U (ix2 i j) := by
  rw [back_sum]
  rfl

end

/-- What a block stores of the operand's gradient. -/
theorem back_at {W : Vec Ideal S4x128 .f32} {w f : ℕ → ℕ → EReal} {b : ℕ} (hW : ∀ k j, W (ix2 k j) = w k.val (128 * b + j.val))
    (g : BitVec 32) (Y O P R : FVec Ideal S4352x128 .f32) (hZ : ∀ i j, k0_pay15 g Y O P R (ix2 i j) = f i.val (128 * b + j.val)) (i : Fin 4352) (j : Fin 128) :
    k0_pay32 (k0_pay28 W (k0_pay15 g Y O P R) (k0_pay25 (k0_pay17 g W Y O P R) (k0_pay21 W) k0_pay22 k0_pay23 (k0_pay24 (k0_pay15 g Y O P R))))
      (k0_pay30 W (k0_pay15 g Y O P R)) (ix2 i j) = back w f i (128 * b + j) := by
  rw [back0_eq, back1_eq, back2_eq, back3_eq]
  generalize k0_pay15 g Y O P R = Z at hZ ⊢
  rw [back_parts, row0_at, row1_at, row2_at, row3_at, masked_20 i j hZ, masked_10 i j hZ, masked_01 i j hZ, hZ, hW, hW, hW, hW]
  rfl

/-- What a block stores of the taps' gradient. -/
theorem taps_at {X Z : FVec Ideal S4352x128 .f32} {p f : ℕ → ℕ → EReal} {b : ℕ} (hX : ∀ i j, X (ix2 i j) = p i.val (128 * b + j.val))
    (hZ : ∀ i j, Z (ix2 i j) = f i.val (128 * b + j.val)) (k : Fin 4) (j : Fin 128) :
    k0_pay31 X Z (iota .tc S4x128 32 [0] iota_S4x128_d0_w32) (k0_pay29 X Z (iota .tc S4x128 32 [0] iota_S4x128_d0_w32)
      (k0_pay20 X Z (k0_pay16 (F := Ideal)) (iota .tc S4x128 32 [0] iota_S4x128_d0_w32) (iota .tc S4352x1 32 [0] iota_S4352x1_d0_w32) k0_pay18 k0_pay19)
      (k0_pay26 X Z) (k0_pay27 (iota .tc S4x128 32 [0] iota_S4x128_d0_w32))) (ix2 k j)
      = ∑ t : Fin 4352, f t (128 * b + j) * tap p k t (128 * b + j) := by
  have hz : k0_pay16 (F := Ideal) (ix2 k j) = 0 := by pointwise [k0_pay16]
  have e0 : ∀ i, mulf Z (masked 2#32 4294967294#32 X) (ix2 i j) = f i.val (128 * b + j) * sh p 0 2 i (128 * b + j) := fun i =>
    congrArg₂ (· * ·) (hZ i j) (masked_02 i j hX)
  have e1 : ∀ i, mulf Z (masked 1#32 4294967295#32 X) (ix2 i j) = f i.val (128 * b + j) * sh p 0 1 i (128 * b + j) := fun i =>
    congrArg₂ (· * ·) (hZ i j) (masked_01 i j hX)
  have e2 : ∀ i, mulf Z X (ix2 i j) = f i.val (128 * b + j) * p i (128 * b + j) := fun i => congrArg₂ (· * ·) (hZ i j) (hX i j)
  have e3 : ∀ i, mulf Z (masked 4351#32 1#32 X) (ix2 i j) = f i.val (128 * b + j) * sh p 1 0 i (128 * b + j) := fun i =>
    congrArg₂ (· * ·) (hZ i j) (masked_10 i j hX)
  refine Eq.trans (b := k0_pay16 (F := Ideal) (ix2 k j) + placed 0#32 (mulf Z (masked 2#32 4294967294#32 X)) (ix2 k j)
    + placed 1#32 (mulf Z (masked 1#32 4294967295#32 X)) (ix2 k j) + placed 2#32 (mulf Z X) (ix2 k j)
    + placed 3#32 (mulf Z (masked 4351#32 1#32 X)) (ix2 k j)) rfl ?_
  rw [hz, placed_at, placed_at, placed_at, placed_at]
  simp only [e0, e1, e2, e3]
  unfold tap
  fin_cases k <;> simp [Scalar.select, IntOp.cmpi]

end Cert.Kernel14Ideal.Block

namespace Cert.Kernel14Ideal.Value

open Cert.Kernel14Ideal Cert.Kernel14Ideal.Gen Cert.Kernel14Ideal.Block Cert.ShortConv Cert.Norm Cert.Qkv

variable (m : (ℓ : Loc nD τ sig) → Buf (Elt Ideal) ℓ) (c : Dev nD)

/-- The projection, the taps, and the three gradients side by side. -/
abbrev P : ℕ → ℕ → EReal := rd (a := 4352) (b := 12288) (φ := .f32) (m ((c : Thread nD τ).loc main_arg0))
abbrev W : ℕ → ℕ → EReal := rd (a := 4) (b := 6144) (φ := .f32) (m ((c : Thread nD τ).loc main_arg1))
abbrev D : ℕ → ℕ → EReal := side (φ := .f32) (m ((c : Thread nD τ).loc main_arg2))

/-- The blocks' indices, and the group as the block computes it. -/
theorem idx : ∀ t : Fin cfg0.N, win0_0.index t = ![0, t.val] ∧ win0_1.index t = ![0, t.val]
    ∧ win0_2.index t = ![t.val / 16, 0, t.val % 16] ∧ win0_3.index t = ![0, t.val] ∧ win0_4.index t = ![0, t.val] :=
  (by decide +kernel : ∀ t : Fin grid0.N, win0_0.index t = ![0, t.val] ∧ win0_1.index t = ![0, t.val]
    ∧ win0_2.index t = ![t.val / 16, 0, t.val % 16] ∧ win0_3.index t = ![0, t.val] ∧ win0_4.index t = ![0, t.val])

def group (i : grid0.Coords) : BitVec 32 :=
  Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 16#32 0#32)) (Scalar.extui (Scalar.cmpi .slt 16#32 0#32)))) (Scalar.cmpi .ne (Scalar.remsi (BitVec.ofNat 32 (i 0).val) 16#32) 0#32)) (Scalar.subi (Scalar.divsi (BitVec.ofNat 32 (i 0).val) 16#32) 1#32) (Scalar.divsi (BitVec.ofNat 32 (i 0).val) 16#32)

theorem group_at : ∀ t : Fin cfg0.N, group (grid0.coords t) = BitVec.ofNat 32 (t.val / 16) :=
  (by decide +kernel : ∀ t : Fin grid0.N, group (grid0.coords t) = BitVec.ofNat 32 (t.val / 16))

theorem lt48 (t : Fin cfg0.N) : t.val < 48 := lt_of_lt_of_eq t.isLt N_0

theorem block0 (t : Fin cfg0.N) (i : Fin 4352) (j : Fin 128) :
    (iblk m c 0 t : Vec Ideal S4352x128 .f32) (ix2 i j) = P m c i (128 * t.val + j) := by
  have := lt48 t; have := i.isLt; have := j.isLt
  unfold P rd
  rw [dif_pos ⟨by omega, by omega⟩]
  blk_ext [iblk, V, idx t]

theorem block1 (t : Fin cfg0.N) (k : Fin 4) (j : Fin 128) :
    (iblk m c 1 t : Vec Ideal S4x128 .f32) (ix2 k j) = W m c k (128 * t.val + j) := by
  have := lt48 t; have := k.isLt; have := j.isLt
  unfold W rd
  rw [dif_pos ⟨by omega, by omega⟩]
  blk_ext [iblk, V, idx t]

theorem block2 (t : Fin cfg0.N) (i : Fin 4352) (j : Fin 128) :
    (iblk m c 2 t : Vec Ideal S1x4352x128 .f32) (ix3 0 i j) = D m c i (128 * t.val + j) := by
  have := lt48 t; have := i.isLt; have := j.isLt
  unfold D side
  rw [dif_pos ⟨by omega, by omega⟩]
  blk_ext [iblk, V, idx t]

/-- The two results over the whole arrays. -/
def GX : FVec Ideal S4352x6144 .bf16 := fun x => back (W m c) (dy (P m c) (W m c) (D m c)) (x 0).val (x 1).val
def GW : FVec Ideal S4x6144 .f32 := fun x => gw (P m c) (W m c) (D m c) (x 0).val (x 1).val

theorem grad_out (t : Fin cfg0.N) (i : Fin 4352) (j : Fin 128) :
    grad (iblk m c 0 t) (iblk m c 1 t) (iblk m c 2 t) (group (grid0.coords t)) (ix2 i j) = dy (P m c) (W m c) (D m c) i (128 * t.val + j) := by
  rw [group_at]
  exact grad_block (block0 m c t) (block1 m c t) (block2 m c t) i j (lt48 t)

section
variable (i : grid0.Coords) (x : Vec Ideal S4352x128 .f32) (w : Vec Ideal S4x128 .f32) (d : Vec Ideal S1x4352x128 .f32)

theorem ld0 : View.ld x r0_0 = x := View.ld_unit_zero (by funext a; fin_cases a <;> rfl) _ _
theorem ld1 : View.ld w r0_1 = w := View.ld_unit_zero (by funext a; fin_cases a <;> rfl) _ _
theorem ld2 : View.ld d r0_2 = d := View.ld_unit_zero (by funext a; fin_cases a <;> rfl) _ _

/-- What a point leaves in its two blocks, in the terms above. -/
theorem out3_eq : out0_3 i x w d = k0_pay32 (k0_pay28 w (grad x w d (group i)) (k0_pay25
      (k0_pay17 (group i) w (conv x w) (k0_pay12 (group i) d) (centred x w d (group i)) (root x w)) (k0_pay21 w) k0_pay22 k0_pay23 (k0_pay24 (grad x w d (group i)))))
    (k0_pay30 w (grad x w d (group i))) := by
  unfold_out out0_3
  rw [View.canon_unit_zero (by funext a; fin_cases a <;> rfl), ld0, ld1, ld2]
  rfl

theorem out4_eq : out0_4 i x w d = k0_pay31 x (grad x w d (group i)) (iota .tc S4x128 32 [0] iota_S4x128_d0_w32)
    (k0_pay29 x (grad x w d (group i)) (iota .tc S4x128 32 [0] iota_S4x128_d0_w32)
      (k0_pay20 x (grad x w d (group i)) (k0_pay16 (F := Ideal)) (iota .tc S4x128 32 [0] iota_S4x128_d0_w32) (iota .tc S4352x1 32 [0] iota_S4352x1_d0_w32) k0_pay18 k0_pay19)
      (k0_pay26 x (grad x w d (group i))) (k0_pay27 (iota .tc S4x128 32 [0] iota_S4x128_d0_w32))) := by
  unfold_out out0_4
  rw [View.canon_unit_zero (by funext a; fin_cases a <;> rfl), ld0, ld1, ld2]
  rfl

end

theorem out3 (t : Fin cfg0.N) (i : Fin 4352) (j : Fin 128) :
    out0_3 (grid0.coords t) (iblk m c 0 t) (iblk m c 1 t) (iblk m c 2 t) (ix2 i j)
      = back (W m c) (dy (P m c) (W m c) (D m c)) i (128 * t.val + j) :=
  (congrFun (out3_eq _ _ _ _) _).trans (back_at (block1 m c t) (group (grid0.coords t)) _ _ _ _ (grad_out m c t) i j)

theorem out4 (t : Fin cfg0.N) (k : Fin 4) (j : Fin 128) :
    out0_4 (grid0.coords t) (iblk m c 0 t) (iblk m c 1 t) (iblk m c 2 t) (ix2 k j)
      = gw (P m c) (W m c) (D m c) k (128 * t.val + j) :=
  (congrFun (out4_eq _ _ _ _) _).trans (taps_at (block0 m c t) (grad_out m c t) k j)

theorem final_x : (dats m 0 c).arrAt 3 cfg0.N = GX m c := by
  refine (dats m 0 c).arrAt_eq_of_covers 3 (GX m c) (by decide +kernel) fun t hf y => ?_
  rw [after0_3]
  obtain ⟨i, j, e⟩ : ∃ (i : Fin 4352) (j : Fin 128), (((cfg0.win 3).xinj (grid0.coords t) y : S4352x128.Idx)) = ix2 i j :=
    ⟨((cfg0.win 3).xinj (grid0.coords t) y : S4352x128.Idx) 0, ((cfg0.win 3).xinj (grid0.coords t) y : S4352x128.Idx) 1, by ext a; fin_cases a <;> rfl⟩
  have key := out3 m c t i j
  generalize out0_3 (grid0.coords t) (iblk m c 0 t) (iblk m c 1 t) (iblk m c 2 t) = K at key ⊢
  refine (congrArg K e).trans (key.trans ?_)
  have h0 : (((cfg0.win 3).blk t).view.emb y 0).val = i := by
    have e0' : (y 0).val = i.val := congrArg (fun z : S4352x128.Idx => (z 0).val) e
    rw [← e0']; blk_simp [idx t]
  have h1 : (((cfg0.win 3).blk t).view.emb y 1).val = 128 * t.val + j := by
    have e1' : (y 1).val = j.val := congrArg (fun z : S4352x128.Idx => (z 1).val) e
    rw [← e1']; blk_simp [idx t]; omega
  unfold GX
  rw [h0, h1]

theorem final_w : (dats m 0 c).arrAt 4 cfg0.N = GW m c := by
  refine (dats m 0 c).arrAt_eq_of_covers 4 (GW m c) (by decide +kernel) fun t hf y => ?_
  rw [after0_4]
  obtain ⟨i, j, e⟩ : ∃ (i : Fin 4) (j : Fin 128), (((cfg0.win 4).xinj (grid0.coords t) y : S4x128.Idx)) = ix2 i j :=
    ⟨((cfg0.win 4).xinj (grid0.coords t) y : S4x128.Idx) 0, ((cfg0.win 4).xinj (grid0.coords t) y : S4x128.Idx) 1, by ext a; fin_cases a <;> rfl⟩
  have key := out4 m c t i j
  generalize out0_4 (grid0.coords t) (iblk m c 0 t) (iblk m c 1 t) (iblk m c 2 t) = K at key ⊢
  refine (congrArg K e).trans (key.trans ?_)
  have h0 : (((cfg0.win 4).blk t).view.emb y 0).val = i := by
    have e0' : (y 0).val = i.val := congrArg (fun z : S4x128.Idx => (z 0).val) e
    rw [← e0']; blk_simp [idx t]
  have h1 : (((cfg0.win 4).blk t).view.emb y 1).val = 128 * t.val + j := by
    have e1' : (y 1).val = j.val := congrArg (fun z : S4x128.Idx => (z 1).val) e
    rw [← e1']; blk_simp [idx t]; omega
  unfold GW
  rw [h0, h1]

end Cert.Kernel14Ideal.Value

end
-- ==== Proof.QkvReference.lean ====
/- The reference's gradients of the delta rule's q, k and v, element by element. It lays the two kinds of tokens out in
   one array of 4357 rows with rows of zeros before, between and after them; `place t` is row `t`'s first neighbour in it. -/
module

public import proofs.«01_k».proof.Proof.QkvSpec
public import proofs.«01_k».proof.Proof.Gen.Reference14Ideal.Read
public import Idealize.ShloMosaic.Lib.IdealHost
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.Qkv

open Cert.ShortConv

/-- Rows laid out with zeros before, between and after, and with zeros between them only. -/
def wide (f : ℕ → ℕ → EReal) (s c : ℕ) : EReal :=
  if 2 ≤ s ∧ s < 4098 then f (s - 2) c else if 4100 ≤ s ∧ s < 4356 then f (s - 4) c else 0
def apart (f : ℕ → ℕ → EReal) (s c : ℕ) : EReal :=
  if s < 4096 then f s c else if 4098 ≤ s ∧ s < 4354 then f (s - 2) c else 0
def place (t : ℕ) : ℕ := if t < 4096 then t else t + 2

/-- `a` rows of zeros before. -/
def after (a : ℕ) (f : ℕ → EReal) (s : ℕ) : EReal := if a ≤ s ∧ s < 4354 + a then f (s - a) else 0

section
variable (f w : ℕ → ℕ → EReal) (t c : ℕ) (ht : t < 4352)
include ht

theorem wide_0 : wide f (place t) c = sh f 0 2 t c := by
  unfold wide place sh
  split_ifs <;> first | rfl | omega | exact congrArg (f · c) (by omega)
theorem wide_1 : wide f (place t + 1) c = sh f 0 1 t c := by
  unfold wide place sh
  split_ifs <;> first | rfl | omega | exact congrArg (f · c) (by omega)
theorem wide_2 : wide f (place t + 2) c = f t c := by
  unfold wide place
  split_ifs <;> first | rfl | omega | exact congrArg (f · c) (by omega)
theorem wide_3 : wide f (place t + 3) c = sh f 1 0 t c := by
  unfold wide place sh
  split_ifs <;> first | rfl | omega | exact congrArg (f · c) (by omega)
theorem apart_0 : apart f (place t) c = f t c := by
  unfold apart place
  split_ifs <;> first | rfl | omega | exact congrArg (f · c) (by omega)
theorem after_3 : after 3 (fun s => w 3 c * apart f s c) (place t + 2) = w 3 c * sh f 0 1 t c := by
  show (if 3 ≤ place t + 2 ∧ place t + 2 < 4354 + 3 then w 3 c * apart f (place t + 2 - 3) c else 0) = _
  unfold apart place sh
  split_ifs <;> first | omega | rfl | exact (mul_zero _).symm | (congr 2; omega)
theorem after_2 : after 2 (fun s => w 2 c * apart f s c) (place t + 2) = w 2 c * f t c := by
  show (if 2 ≤ place t + 2 ∧ place t + 2 < 4354 + 2 then w 2 c * apart f (place t + 2 - 2) c else 0) = _
  unfold apart place
  split_ifs <;> first | omega | rfl | exact (mul_zero _).symm | (congr 2; omega)
theorem after_1 : after 1 (fun s => w 1 c * apart f s c) (place t + 2) = w 1 c * sh f 1 0 t c := by
  show (if 1 ≤ place t + 2 ∧ place t + 2 < 4354 + 1 then w 1 c * apart f (place t + 2 - 1) c else 0) = _
  unfold apart place sh
  split_ifs <;> first | omega | rfl | exact (mul_zero _).symm | (congr 2; omega)
theorem after_0 : after 0 (fun s => w 0 c * apart f s c) (place t + 2) = w 0 c * sh f 2 0 t c := by
  show (if 0 ≤ place t + 2 ∧ place t + 2 < 4354 + 0 then w 0 c * apart f (place t + 2 - 0) c else 0) = _
  unfold apart place sh
  split_ifs <;> first | omega | rfl | exact (mul_zero _).symm | (congr 2; omega)
end

/-- The rows between the two kinds of tokens add nothing. -/
theorem sum_place (g : ℕ → EReal) (h0 : g 4096 = 0) (h1 : g 4097 = 0) : ∑ s : Fin 4354, g s = ∑ t : Fin 4352, g (place t) := by
  have hl : ∀ t ∈ Finset.range 4096, g (place t) = g t := fun t ht => by
    unfold place; rw [if_pos (Finset.mem_range.mp ht)]
  have hr : ∀ t ∈ Finset.range 256, g (place (4096 + t)) = g (4096 + (2 + t)) := fun t _ => by
    unfold place; rw [if_neg (by omega)]; exact congrArg g (by omega)
  have hm : ∑ t ∈ Finset.range 2, g (4096 + t) = 0 := by
    rw [Finset.sum_range_succ, Finset.sum_range_one, h0, h1, add_zero]
  rw [← Finset.sum_range g, ← Finset.sum_range fun t => g (place t), show 4354 = 4096 + (2 + 256) from rfl, show 4352 = 4096 + 256 from rfl,
    Finset.sum_range_add, Finset.sum_range_add _ 2, Finset.sum_range_add, Finset.sum_congr rfl hl, Finset.sum_congr rfl hr,
    hm, zero_add]

theorem side_at {φ : FTy} (X : FVec Ideal ⟨3, ![3, 4352, 2048]⟩ φ) (g : Fin 3) (i : Fin 4352) (c : Fin 2048) (n : ℕ) (hn : n = 2048 * g.val + c.val) :
    X (ix3 g i c) = side X i n := by
  have := g.isLt; have := c.isLt
  subst hn
  unfold side
  rw [dif_pos ⟨i.isLt, by omega⟩]
  refine congrArg X ?_
  congr 1 <;> exact Fin.ext (by simp only []; omega)

end Cert.Qkv

namespace Cert.Reference14Ideal.Qkv

open Cert.Reference14Ideal Cert.Reference14Ideal.Read Cert.Reference14Ideal.Gen Cert.ShortConv Cert.Norm Cert.Qkv

variable (x : FVec Ideal S4352x12288 .f32) (w : FVec Ideal S4x6144 .f32) (d : FVec Ideal S3x4352x2048 .f32)

/-- Rows of zeros before and after. -/
theorem padded_at {n N m a b : ℕ} (hp : (⟨2, ![n, m]⟩ : Shape).Pads (![a, 0] : Fin 2 → Nat) ![b, 0] ![0, 0] ⟨2, ![N, m]⟩) (A : FVec Ideal ⟨2, ![n, m]⟩ .f32)
    (z : FVec Ideal S_ .f32) (hz : z ix0 = 0) (f : ℕ → EReal) (j : Fin m) (hA : ∀ s : Fin n, A (ix2 s j) = f s.val) (s : Fin N) :
    pad ⟨2, ![N, m]⟩ (![a, 0] : Fin 2 → Nat) ![b, 0] ![0, 0] A z hp h_S_ (ix2 s j) = if a ≤ s.val ∧ s.val < n + a then f (s.val - a) else 0 := by
  by_cases h : a ≤ s.val ∧ s.val < n + a
  · rw [if_pos h]
    refine (pad_apply_of_inside _ _ _ A z hp h_S_ (ix2 s j) (ix2 ⟨s.val - a, by omega⟩ j) fun e => ?_).trans (hA _)
    match e with
    | ⟨0, _⟩ => show s.val = a + (s.val - a) * (0 + 1); omega
    | ⟨1, _⟩ => show j.val = 0 + j.val * (0 + 1); omega
  · rw [if_neg h]
    refine (pad_apply_of_not_inside _ _ _ A z hp h_S_ (ix2 s j) 0 fun hh => h ?_).trans ((congrArg z (funext fun b => b.elim0)).trans hz)
    have h1 : a ≤ s.val := hh.1
    have h3 : (s.val - a) / (0 + 1) < n := hh.2.2
    rw [Nat.zero_add, Nat.div_one] at h3
    omega

/-! The convolution. -/

theorem v0_at (i : Fin 4352) (j : Fin 6144) : val_main_v0 (F := Ideal) x (ix2 i j) = rd x i j := by
  have := j.isLt
  refine Eq.trans ?_ (rd_eq x i ⟨j.val, by omega⟩)
  pointwise [val_main_v0]

theorem v4_at (s : Fin 4357) (j : Fin 6144) : val_main_v4 (F := Ideal) x (ix2 s j) = wide (rd x) s j := by
  have hs := s.isLt
  have e1 : ∀ (i : Fin 4096) (n : ℕ), n = i.val → val_main_v1 (F := Ideal) x (ix2 i j) = rd x n j := fun i n hn => by
    subst hn
    rw [← v0_at x ⟨i.val, by omega⟩ j]
    pointwise [val_main_v1]
  have e2 : ∀ (i : Fin 256) (n : ℕ), n = 4096 + i.val → val_main_v2 (F := Ideal) x (ix2 i j) = rd x n j := fun i n hn => by
    subst hn
    rw [← v0_at x ⟨4096 + i.val, by omega⟩ j]
    pointwise [val_main_v2]
  have e3 : ∀ i : Fin 1, val_main_v3 (F := Ideal) (ix2 i j) = 0 := fun i => by
    pointwise [val_main_v3, val_main_cst]
  unfold val_main_v4
  generalize val_main_v1 (F := Ideal) x = A at e1 ⊢
  generalize val_main_v2 (F := Ideal) x = B at e2 ⊢
  generalize val_main_v3 (F := Ideal) = E at e3 ⊢
  have w0 : ¬(2 ≤ s.val ∧ s.val < 4098) → ¬(4100 ≤ s.val ∧ s.val < 4356) → 0 = wide (rd x) s j := fun h h' => ((if_neg h).trans (if_neg h')).symm
  have w1 : ∀ i : Fin 4096, s.val - 1 - 1 = i.val → 2 ≤ s.val ∧ s.val < 4098 → A (ix2 i j) = wide (rd x) s j := fun i h h' =>
    (e1 i (s.val - 2) (by omega)).trans (if_pos h').symm
  have w2 : ∀ i : Fin 256, s.val - 1 - 1 - 4096 - 1 - 1 = i.val → 4100 ≤ s.val ∧ s.val < 4356 → B (ix2 i j) = wide (rd x) s j := fun i h h' =>
    (e2 i (s.val - 4) (by omega)).trans ((if_neg fun h => absurd h.2 (by omega)).trans (if_pos h')).symm
  pointwise
  split_ifs <;> first | omega | exact (e3 _).trans (w0 (by omega) (by omega)) | exact w1 _ rfl (by omega) | exact w2 _ rfl (by omega)

/-- What each tap reads, and the taps' weights. -/
theorem read0_at (s : Fin 4354) (j : Fin 6144) : val_main_v12 (F := Ideal) x (ix2 s j) = wide (rd x) (s + 0) j := by
  have := s.isLt
  rw [show val_main_v12 (F := Ideal) x (ix2 s j) = val_main_v4 (F := Ideal) x (ix2 ⟨0 + s.val, by omega⟩ j) by pointwise [val_main_v12], v4_at]
  exact congrArg (wide (rd x) · j) (Nat.add_comm _ _)
theorem tap0_at (s : Fin 4354) (j : Fin 6144) : val_main_v14 (F := Ideal) w (ix2 s j) = rd w 0 j := by
  refine Eq.trans ?_ (rd_eq w 0 j)
  pointwise [val_main_v14, val_main_v13, val_main_v11, val_main_v10]
theorem read1_at (s : Fin 4354) (j : Fin 6144) : val_main_v18 (F := Ideal) x (ix2 s j) = wide (rd x) (s + 1) j := by
  have := s.isLt
  rw [show val_main_v18 (F := Ideal) x (ix2 s j) = val_main_v4 (F := Ideal) x (ix2 ⟨1 + s.val, by omega⟩ j) by pointwise [val_main_v18], v4_at]
  exact congrArg (wide (rd x) · j) (Nat.add_comm _ _)
theorem tap1_at (s : Fin 4354) (j : Fin 6144) : val_main_v20 (F := Ideal) w (ix2 s j) = rd w 1 j := by
  refine Eq.trans ?_ (rd_eq w 1 j)
  pointwise [val_main_v20, val_main_v19, val_main_v17, val_main_v16]
theorem read2_at (s : Fin 4354) (j : Fin 6144) : val_main_v25 (F := Ideal) x (ix2 s j) = wide (rd x) (s + 2) j := by
  have := s.isLt
  rw [show val_main_v25 (F := Ideal) x (ix2 s j) = val_main_v4 (F := Ideal) x (ix2 ⟨2 + s.val, by omega⟩ j) by pointwise [val_main_v25], v4_at]
  exact congrArg (wide (rd x) · j) (Nat.add_comm _ _)
theorem tap2_at (s : Fin 4354) (j : Fin 6144) : val_main_v27 (F := Ideal) w (ix2 s j) = rd w 2 j := by
  refine Eq.trans ?_ (rd_eq w 2 j)
  pointwise [val_main_v27, val_main_v26, val_main_v24, val_main_v23]
theorem read3_at (s : Fin 4354) (j : Fin 6144) : val_main_v32 (F := Ideal) x (ix2 s j) = wide (rd x) (s + 3) j := by
  have := s.isLt
  rw [show val_main_v32 (F := Ideal) x (ix2 s j) = val_main_v4 (F := Ideal) x (ix2 ⟨3 + s.val, by omega⟩ j) by pointwise [val_main_v32], v4_at]
  exact congrArg (wide (rd x) · j) (Nat.add_comm _ _)
theorem tap3_at (s : Fin 4354) (j : Fin 6144) : val_main_v34 (F := Ideal) w (ix2 s j) = rd w 3 j := by
  refine Eq.trans ?_ (rd_eq w 3 j)
  pointwise [val_main_v34, val_main_v33, val_main_v31, val_main_v30]

theorem v36_at (s : Fin 4354) (j : Fin 6144) : val_main_v36 (F := Ideal) x w (ix2 s j)
    = rd w 0 j * wide (rd x) s j + rd w 1 j * wide (rd x) (s + 1) j + rd w 2 j * wide (rd x) (s + 2) j + rd w 3 j * wide (rd x) (s + 3) j := by
  rw [show val_main_v36 (F := Ideal) x w (ix2 s j)
      = val_main_v14 (F := Ideal) w (ix2 s j) * val_main_v12 (F := Ideal) x (ix2 s j) + val_main_v20 (F := Ideal) w (ix2 s j) * val_main_v18 (F := Ideal) x (ix2 s j)
        + val_main_v27 (F := Ideal) w (ix2 s j) * val_main_v25 (F := Ideal) x (ix2 s j) + val_main_v34 (F := Ideal) w (ix2 s j) * val_main_v32 (F := Ideal) x (ix2 s j) from rfl,
    tap0_at, tap1_at, tap2_at, tap3_at, read0_at, read1_at, read2_at, read3_at]
  rfl

theorem place_lt (i : Fin 4352) : place i < 4354 := by
  have := i.isLt
  unfold place; split_ifs <;> omega

/-- The rows of the two kinds of tokens, put together again. -/
theorem joined_at (A : FVec Ideal S4096x6144 .f32) (B : FVec Ideal S256x6144 .f32) (f : ℕ → EReal) (j : Fin 6144)
    (hA : ∀ i : Fin 4096, A (ix2 i j) = f i.val) (hB : ∀ i : Fin 256, B (ix2 i j) = f (4098 + i.val)) (i : Fin 4352) :
    concatenate S4352x6144 0 [⟨S4096x6144, A⟩, ⟨S256x6144, B⟩] concatenates_S4096x6144_S256x6144_S4352x6144_d0 (ix2 i j) = f (place i) := by
  have := i.isLt
  pointwise
  unfold place
  by_cases h : i.val < 4096
  · simp only [if_pos h, dif_pos h]; exact hA _
  · simp only [if_neg h, dif_neg h]; exact (hB _).trans (congrArg f (by dsimp only; omega))

theorem y_at (i : Fin 4352) (j : Fin 6144) : val_main_v39 (F := Ideal) x w (ix2 i j) = y (rd x) (rd w) i j := by
  have hi := i.isLt
  unfold y
  rw [← wide_0 _ _ _ hi, ← wide_1 _ _ _ hi, ← wide_2 (rd x) _ _ hi, ← wide_3 _ _ _ hi]
  refine joined_at _ _ (fun s => rd w 0 j * wide (rd x) s j + rd w 1 j * wide (rd x) (s + 1) j + rd w 2 j * wide (rd x) (s + 2) j + rd w 3 j * wide (rd x) (s + 3) j)
    j (fun i => ?_) (fun i => ?_) i
  · rw [show val_main_v37 (F := Ideal) x w (ix2 i j) = val_main_v36 (F := Ideal) x w (ix2 ⟨i.val, by omega⟩ j) by pointwise [val_main_v37], v36_at]
  · rw [show val_main_v38 (F := Ideal) x w (ix2 i j) = val_main_v36 (F := Ideal) x w (ix2 ⟨4098 + i.val, by omega⟩ j) by pointwise [val_main_v38], v36_at]

/-! The activation, and the norm of each head. -/

theorem sigma_at (i : Fin 4352) (j : Fin 6144) : val_main_v40_2 (F := Ideal) x w (ix2 i j) = Ideal.logistic (y (rd x) (rd w) i j) := by
  rw [← y_at]
  have e : ∀ Y : FVec Ideal S4352x6144 .f32, Host.divf (val_main_call0_v4 (F := Ideal)) (addf (val_main_call0_v2 (F := Ideal)) (Host.exp (Host.negf Y))) (ix2 i j)
      = Ideal.logistic (Y (ix2 i j)) := fun Y => by
    pointwise [val_main_call0_v4, val_main_call0_v2, val_main_call0_cst, val_main_call0_cst_0]
    rfl
  exact e _

theorem act_at (i : Fin 4352) (j : Fin 6144) : val_main_v40_0 (F := Ideal) x w (ix2 i j) = act (rd x) (rd w) i j := by
  rw [show val_main_v40_0 (F := Ideal) x w (ix2 i j) = val_main_v39 (F := Ideal) x w (ix2 i j) * val_main_v40_2 (F := Ideal) x w (ix2 i j) from rfl, y_at, sigma_at]
  rfl

theorem split_at (Y : FVec Ideal S4352x4096 .f32) (f : ℕ → EReal) (i : Fin 4352) (hY : ∀ j : Fin 4096, Y (ix2 i j) = f j.val) (h : Fin 32) (k : Fin 128) :
    shapeCast S4352x32x128 Y shapeCasts_S4352x4096_S4352x32x128 (ix3 i h k) = f (128 * h + k) := by
  have := h.isLt; have := k.isLt
  rw [show (128 * h.val + k.val : ℕ) = h.val * 128 + k.val from by omega]
  refine Eq.trans ?_ (hY ⟨h.val * 128 + k.val, by omega⟩)
  pointwise []

theorem head_at (i : Fin 4352) (h : Fin 32) (k : Fin 128) : val_main_v43 (F := Ideal) x w (ix3 i h k) = act (rd x) (rd w) i (128 * h + k) := by
  refine split_at _ (fun c => act (rd x) (rd w) i c) i (fun j => ?_) h k
  rw [show val_main_v41 (F := Ideal) x w (ix2 i j) = val_main_v40_0 (F := Ideal) x w (ix2 i ⟨j.val, by omega⟩) by pointwise [val_main_v41], act_at]

theorem out0_at (i : Fin 4352) (j : Fin 2048) : val_main_v61 (F := Ideal) d (ix2 i j) = side d i j := by
  refine Eq.trans ?_ (side_at d 0 i j _ (by simp))
  pointwise [val_main_v61, val_main_v60]
theorem out1_at (i : Fin 4352) (j : Fin 2048) : val_main_v63 (F := Ideal) d (ix2 i j) = side d i (2048 + j) := by
  refine Eq.trans ?_ (side_at d 1 i j _ (by simp))
  pointwise [val_main_v63, val_main_v62]
theorem out2_at (i : Fin 4352) (j : Fin 2048) : val_main_v65 (F := Ideal) d (ix2 i j) = side d i (4096 + j) := by
  refine Eq.trans ?_ (side_at d 2 i j _ (by simp))
  pointwise [val_main_v65, val_main_v64]

theorem dout_at (i : Fin 4352) (j : Fin 4096) : val_main_v68 (F := Ideal) d (ix2 i j) = dout (side d) i j := by
  have hj := j.isLt
  have e : ∀ i j, val_main_v67 (F := Ideal) d (ix2 i j) = val_main_v61 (F := Ideal) d (ix2 i j) * factor := fun i j => by
    pointwise [val_main_v67, val_main_v66, val_main_cst_9]
  unfold val_main_v68
  generalize val_main_v67 (F := Ideal) d = A at e ⊢
  unfold dout
  pointwise
  by_cases h : j.val < 2048
  · rw [dif_pos h, if_pos h, e, out0_at]
  · rw [dif_neg h, if_neg h, out1_at, mul_one]
    exact congrArg (side d i) (by dsimp only; omega)

theorem dhead_at (i : Fin 4352) (h : Fin 32) (k : Fin 128) : val_main_v69 (F := Ideal) d (ix3 i h k) = dout (side d) i (128 * h + k) :=
  split_at _ (fun c => dout (side d) i c) i (fun j => dout_at d i j) h k

/-- A head's activations and their gradient, and the norm's factor. -/
abbrev vals (i h : ℕ) : Fin 128 → EReal := fun k => act (rd x) (rd w) i (128 * h + k)
abbrev grads (i h : ℕ) : Fin 128 → EReal := fun k => dout (side d) i (128 * h + k)

theorem root_at (i : Fin 4352) (h : Fin 32) : val_main_v49 (F := Ideal) x w (ix3 i h 0) = scl ((1 : ℝ) : EReal) offset (vals x w i h) := by
  unfold scl vals
  rw [div_one]
  simp only [← head_at]
  pointwise [val_main_v49, val_main_v48, val_main_v47, val_main_v46, val_main_v45, val_main_v44, val_main_cst_5, val_main_cst_6]

theorem chain_at (i : Fin 4352) (h : Fin 32) : val_main_v76 (F := Ideal) x w d (ix2 i h)
    = chain ((1 : ℝ) : EReal) offset ((-1 / 2 : ℝ) : EReal) (vals x w i h) (grads d i h) := by
  unfold chain
  rw [← half_eq, div_one, div_one, ← root_at]
  unfold vals grads
  simp only [← dhead_at, ← head_at]
  pointwise [val_main_v76, val_main_v75, val_main_v72, val_main_v71, val_main_v70, val_main_v52, val_main_v51, val_main_v50,
    val_main_v48, val_main_v47, val_main_v46, val_main_v45, val_main_v44, val_main_cst_5, val_main_cst_6, val_main_cst_7, val_main_cst_10, val_main_cst_11]
  rw [Fin.sum_univ_one]

section
variable (hx : ∀ i, Fine (x i)) (hw : ∀ i, Fine (w i)) (hd : ∀ i, Fine (d i))
include hx hw hd

theorem norm_at (i : Fin 4352) (h : Fin 32) (k : Fin 128) :
    val_main_v81 (F := Ideal) x w d (ix3 i h k) = dx ((1 : ℝ) : EReal) offset (vals x w i h) (grads d i h) k := by
  rw [show val_main_v81 (F := Ideal) x w d (ix3 i h k) = val_main_v69 (F := Ideal) d (ix3 i h k) * val_main_v49 (F := Ideal) x w (ix3 i h 0)
      + val_main_v43 (F := Ideal) x w (ix3 i h k) * val_main_v76 (F := Ideal) x w d (ix2 i h)
      + val_main_v76 (F := Ideal) x w d (ix2 i h) * val_main_v43 (F := Ideal) x w (ix3 i h k) by
    pointwise [val_main_v81, val_main_v80, val_main_v79, val_main_v78, val_main_v77, val_main_v74, val_main_v73],
    dhead_at, root_at, chain_at, head_at]
  unfold offset
  rw [eps_eq]
  exact chain_eq (N := 1) (x := vals x w i h) (c := grads d i h) one_pos eps_pos
    (fun k => fine_act (fine_rd hx) (fine_rd hw) _ _) (fun k => fine_dout (fine_side hd) _ _) k

theorem da_at (i : Fin 4352) (j : Fin 6144) : val_main_v83 (F := Ideal) x w d (ix2 i j) = da (rd x) (rd w) (side d) i j := by
  have hj := j.isLt
  have e : ∀ j : Fin 4096, val_main_v82 (F := Ideal) x w d (ix2 i j) = dn (rd x) (rd w) (side d) i j := fun j => by
    have := j.isLt
    rw [show val_main_v82 (F := Ideal) x w d (ix2 i j) = val_main_v81 (F := Ideal) x w d (ix3 i ⟨j.val / 128, by omega⟩ (lane j.val)) by
      pointwise [val_main_v82]
      rfl, norm_at x w d hx hw hd]
    rfl
  unfold val_main_v83
  generalize val_main_v82 (F := Ideal) x w d = A at e ⊢
  unfold da
  pointwise
  by_cases h : j.val < 4096
  · rw [dif_pos h, if_pos h, e]
  · rw [dif_neg h, if_neg h, out2_at]
    unfold dout
    rw [if_neg (show ¬j.val < 2048 by omega), mul_one]
    exact congrArg (side d i) (by dsimp only; omega)

theorem dy_at (i : Fin 4352) (j : Fin 6144) : val_main_v84 (F := Ideal) x w d (ix2 i j) = dy (rd x) (rd w) (side d) i j := by
  have hone : val_main_call0_v6 (F := Ideal) (ix2 i j) = 1 := by
    pointwise [val_main_call0_v6, val_main_call0_cst_1]
  rw [show val_main_v84 (F := Ideal) x w d (ix2 i j) = val_main_v83 (F := Ideal) x w d (ix2 i j) * val_main_v40_2 (F := Ideal) x w (ix2 i j)
      + val_main_v39 (F := Ideal) x w (ix2 i j) * val_main_v83 (F := Ideal) x w d (ix2 i j)
        * (val_main_v40_2 (F := Ideal) x w (ix2 i j) * (val_main_call0_v6 (F := Ideal) (ix2 i j) - val_main_v40_2 (F := Ideal) x w (ix2 i j))) from rfl,
    hone, da_at x w d hx hw hd, y_at, sigma_at,
    dsg_distrib (fine_da (fine_rd hx) (fine_rd hw) (fine_side hd) _ _) (fine_y (fine_rd hx) (fine_rd hw) _ _)]
  rfl

/-! The convolution backwards. -/

theorem apart_at (s : Fin 4354) (j : Fin 6144) : val_main_v89 (F := Ideal) x w d (ix2 s j) = apart (dy (rd x) (rd w) (side d)) s j := by
  have hs := s.isLt
  have e1 : ∀ i : Fin 4096, val_main_v85 (F := Ideal) x w d (ix2 i j) = dy (rd x) (rd w) (side d) i j := fun i => by
    rw [← dy_at x w d hx hw hd ⟨i.val, by omega⟩ j]
    pointwise [val_main_v85]
  have e2 : ∀ i : Fin 256, val_main_v86 (F := Ideal) x w d (ix2 i j) = dy (rd x) (rd w) (side d) (4096 + i) j := fun i => by
    rw [← dy_at x w d hx hw hd ⟨4096 + i.val, by omega⟩ j]
    pointwise [val_main_v86]
  rw [show val_main_v89 (F := Ideal) x w d (ix2 s j) = val_main_v87 (F := Ideal) x w d (ix2 s j) + val_main_v88 (F := Ideal) x w d (ix2 s j) from rfl]
  unfold val_main_v87 val_main_v88
  rw [padded_at pads_S256x6144_S4354x6144_409800_000 _ _ (by pointwise [val_main_cst_12]) (fun i => dy (rd x) (rd w) (side d) (4096 + i) j) j e2,
    padded_at pads_S4096x6144_S4354x6144_02580_000 _ _ (by pointwise [val_main_cst_13]) (fun i => dy (rd x) (rd w) (side d) i j) j e1]
  unfold apart
  split_ifs <;> first | omega | rfl | exact (zero_add _).trans (congrArg (dy (rd x) (rd w) (side d) · j) (by omega)) | exact (add_zero _).trans (congrArg (dy (rd x) (rd w) (side d) · j) (by omega)) | exact add_zero 0

end

/-- A column's sum, which the reference writes as a sum and a sum of one. -/
theorem sum_at (A : FVec Ideal S4354x6144 .f32) (z z' : FVec Ideal S_ .f32) (hz : z ix0 = 0) (hz' : z' ix0 = 0) (j : Fin 6144) :
    Host.reduceAdd (shapeCast S1x6144 (Host.reduceAdd A z reducesTo_S4354x6144_S6144_d0 h_S_) shapeCasts_S6144_S1x6144) z' reducesTo_S1x6144_S6144_d0 h_S_ (ix1 j)
      = ∑ s : Fin 4354, A (ix2 s j) := by
  have e : Shape.Idx.first h_S_ = ix0 := funext fun b => b.elim0
  pointwise [e, hz, hz']
  exact Fin.sum_univ_one _

section
variable (hx : ∀ i, Fine (x i)) (hw : ∀ i, Fine (w i)) (hd : ∀ i, Fine (d i))
include hx hw hd

/-- A tap's gradient: the rows of zeros between the tokens add nothing. -/
theorem tap_sum (k : ℕ) (A : FVec Ideal S4354x6144 .f32) (j : Fin 6144) (hA : ∀ s, A (ix2 s j) = val_main_v89 (F := Ideal) x w d (ix2 s j) * wide (rd x) (s.val + k) j)
    (hk : ∀ t < 4352, wide (rd x) (place t + k) j = tap (rd x) k t j) : ∑ s : Fin 4354, A (ix2 s j) = gw (rd x) (rd w) (side d) k j := by
  simp only [hA, apart_at x w d hx hw hd]
  refine (sum_place (fun s => apart (dy (rd x) (rd w) (side d)) s j * wide (rd x) (s + k) j) (zero_mul _) (zero_mul _)).trans ?_
  exact Finset.sum_congr rfl fun t _ => congrArg₂ (· * ·) (apart_0 _ _ _ t.isLt) (hk t t.isLt)

theorem gw3_at (j : Fin 6144) : val_main_v95 (F := Ideal) x w d (ix1 j) = gw (rd x) (rd w) (side d) 3 j :=
  (sum_at (val_main_v92 (F := Ideal) x w d) _ _ (by pointwise [val_main_cst_14]) (by pointwise [val_main_cst_15]) j).trans
    (tap_sum x w d hx hw hd 3 _ j (fun s => congrArg (val_main_v89 (F := Ideal) x w d (ix2 s j) * ·) (read3_at x s j)) fun t ht => wide_3 (rd x) t j ht)
theorem gw2_at (j : Fin 6144) : val_main_v104 (F := Ideal) x w d (ix1 j) = gw (rd x) (rd w) (side d) 2 j :=
  (sum_at (val_main_v101 (F := Ideal) x w d) _ _ (by pointwise [val_main_cst_18]) (by pointwise [val_main_cst_19]) j).trans
    (tap_sum x w d hx hw hd 2 _ j (fun s => congrArg (val_main_v89 (F := Ideal) x w d (ix2 s j) * ·) (read2_at x s j)) fun t ht => wide_2 (rd x) t j ht)
theorem gw1_at (j : Fin 6144) : val_main_v115 (F := Ideal) x w d (ix1 j) = gw (rd x) (rd w) (side d) 1 j :=
  (sum_at (val_main_v112 (F := Ideal) x w d) _ _ (by pointwise [val_main_cst_22]) (by pointwise [val_main_cst_23]) j).trans
    (tap_sum x w d hx hw hd 1 _ j (fun s => congrArg (val_main_v89 (F := Ideal) x w d (ix2 s j) * ·) (read1_at x s j)) fun t ht => wide_1 (rd x) t j ht)
theorem gw0_at (j : Fin 6144) : val_main_v126 (F := Ideal) x w d (ix1 j) = gw (rd x) (rd w) (side d) 0 j :=
  (sum_at (val_main_v123 (F := Ideal) x w d) _ _ (by pointwise [val_main_cst_26]) (by pointwise [val_main_cst_27]) j).trans
    (tap_sum x w d hx hw hd 0 _ j (fun s => congrArg (val_main_v89 (F := Ideal) x w d (ix2 s j) * ·) (read0_at x s j)) fun t ht => wide_0 (rd x) t j ht)

/-- The taps' gradient, put together from its four rows. -/
theorem dw_at (k : Fin 4) (j : Fin 6144) : val_main_v131 (F := Ideal) x w d (ix2 k j) = gw (rd x) (rd w) (side d) k j := by
  have row : ∀ (A : FVec Ideal S6144 .f32) (i : Fin 1), broadcastInDim S1x6144 ![1] bcast_S6144_S1x6144_1 A (ix2 i j) = A (ix1 j) := fun A i => by
    pointwise
  rw [show val_main_v131 (F := Ideal) x w d (ix2 k j) = val_main_v98 (F := Ideal) x w d (ix2 k j) + val_main_v108 (F := Ideal) x w d (ix2 k j)
    + val_main_v119 (F := Ideal) x w d (ix2 k j) + val_main_v130 (F := Ideal) x w d (ix2 k j) from rfl]
  unfold val_main_v98 val_main_v108 val_main_v119 val_main_v130
  rw [padded_at pads_S1x6144_S4x6144_300_000 _ _ (by pointwise [val_main_cst_17]) (fun _ => gw (rd x) (rd w) (side d) 3 j) j (fun i => (show val_main_v97 (F := Ideal) x w d (ix2 i j) = _ from row _ i).trans (gw3_at x w d hx hw hd j)),
    padded_at pads_S1x6144_S4x6144_210_000 _ _ (by pointwise [val_main_cst_21]) (fun _ => gw (rd x) (rd w) (side d) 2 j) j (fun i => (show val_main_v107 (F := Ideal) x w d (ix2 i j) = _ from row _ i).trans (gw2_at x w d hx hw hd j)),
    padded_at pads_S1x6144_S4x6144_120_000 _ _ (by pointwise [val_main_cst_25]) (fun _ => gw (rd x) (rd w) (side d) 1 j) j (fun i => (show val_main_v118 (F := Ideal) x w d (ix2 i j) = _ from row _ i).trans (gw1_at x w d hx hw hd j)),
    padded_at pads_S1x6144_S4x6144_030_000 _ _ (by pointwise [val_main_cst_29]) (fun _ => gw (rd x) (rd w) (side d) 0 j) j (fun i => (show val_main_v129 (F := Ideal) x w d (ix2 i j) = _ from row _ i).trans (gw0_at x w d hx hw hd j))]
  fin_cases k <;> simp

/-- The operand's gradient. -/
theorem v128_at (s : Fin 4357) (j : Fin 6144) : val_main_v128 (F := Ideal) x w d (ix2 s j)
    = after 3 (fun s => rd w 3 j * apart (dy (rd x) (rd w) (side d)) s j) s + after 2 (fun s => rd w 2 j * apart (dy (rd x) (rd w) (side d)) s j) s
      + after 1 (fun s => rd w 1 j * apart (dy (rd x) (rd w) (side d)) s j) s + after 0 (fun s => rd w 0 j * apart (dy (rd x) (rd w) (side d)) s j) s := by
  have e := fun s => apart_at x w d hx hw hd s j
  rw [show val_main_v128 (F := Ideal) x w d (ix2 s j) = val_main_v96 (F := Ideal) x w d (ix2 s j) + val_main_v105 (F := Ideal) x w d (ix2 s j)
    + val_main_v116 (F := Ideal) x w d (ix2 s j) + val_main_v127 (F := Ideal) x w d (ix2 s j) from rfl]
  unfold val_main_v96 val_main_v105 val_main_v116 val_main_v127 after
  rw [padded_at pads_S4354x6144_S4357x6144_300_000 _ _ (by pointwise [val_main_cst_16]) (fun s => rd w 3 j * apart (dy (rd x) (rd w) (side d)) s j) j (fun s => congrArg₂ (· * ·) (tap3_at w s j) (e s)),
    padded_at pads_S4354x6144_S4357x6144_210_000 _ _ (by pointwise [val_main_cst_20]) (fun s => rd w 2 j * apart (dy (rd x) (rd w) (side d)) s j) j (fun s => congrArg₂ (· * ·) (tap2_at w s j) (e s)),
    padded_at pads_S4354x6144_S4357x6144_120_000 _ _ (by pointwise [val_main_cst_24]) (fun s => rd w 1 j * apart (dy (rd x) (rd w) (side d)) s j) j (fun s => congrArg₂ (· * ·) (tap1_at w s j) (e s)),
    padded_at pads_S4354x6144_S4357x6144_030_000 _ _ (by pointwise [val_main_cst_28]) (fun s => rd w 0 j * apart (dy (rd x) (rd w) (side d)) s j) j (fun s => congrArg₂ (· * ·) (tap0_at w s j) (e s))]

theorem dx_at (i : Fin 4352) (j : Fin 6144) : val_main_v140 (F := Ideal) x w d (ix2 i j) = back (rd w) (dy (rd x) (rd w) (side d)) i j := by
  have hi := i.isLt
  have e := fun s => v128_at x w d hx hw hd s j
  rw [show val_main_v140 (F := Ideal) x w d (ix2 i j) = val_main_v139 (F := Ideal) x w d (ix2 i j) by pointwise [val_main_v140]]
  generalize dy (rd x) (rd w) (side d) = f at e ⊢
  refine (joined_at _ _ (fun s => after 3 (fun s => rd w 3 j * apart f s j) (s + 2) + after 2 (fun s => rd w 2 j * apart f s j) (s + 2)
      + after 1 (fun s => rd w 1 j * apart f s j) (s + 2) + after 0 (fun s => rd w 0 j * apart f s j) (s + 2)) j (fun i => ?_) (fun i => ?_) i).trans ?_
  · rw [show val_main_v134 (F := Ideal) x w d (ix2 i j) = val_main_v128 (F := Ideal) x w d (ix2 ⟨i.val + 2, by omega⟩ j) by
      rw [show (⟨i.val + 2, by omega⟩ : Fin 4357) = ⟨2 + i.val, by omega⟩ from Fin.ext (Nat.add_comm _ _)]
      pointwise [val_main_v134], e]
  · rw [show val_main_v137 (F := Ideal) x w d (ix2 i j) = val_main_v128 (F := Ideal) x w d (ix2 ⟨4098 + i.val + 2, by omega⟩ j) by
      rw [show (⟨4098 + i.val + 2, by omega⟩ : Fin 4357) = ⟨4100 + i.val, by omega⟩ from Fin.ext (by show 4098 + i.val + 2 = 4100 + i.val; omega)]
      pointwise [val_main_v137], e]
  · show after 3 _ (place i + 2) + after 2 _ (place i + 2) + after 1 _ (place i + 2) + after 0 _ (place i + 2) = _
    rw [after_3 _ _ _ _ hi, after_2 _ _ _ _ hi, after_1 _ _ _ _ hi, after_0 _ _ _ _ hi]
    unfold back
    abel

end

end Cert.Reference14Ideal.Qkv

end
-- ==== Proof.QkvConv.lean ====
/- The delta rule's q, k and v, backwards: the kernel's gradients are the reference's. -/
module

public import proofs.«01_k».proof.Defs
public import proofs.«01_k».proof.Proof.QkvKernel
public import proofs.«01_k».proof.Proof.QkvReference
public import proofs.«01_k».proof.Proof.ShortConvFinite
public import proofs.«01_k».proof.Proof.Gen.Pre_finite14

@[expose] public section

set_option maxRecDepth 16384

noncomputable section

open Idealize.ShloMosaic Idealize.ShloMosaic.TcCoe Idealize.SL.Sem

namespace Cert.Proof

open Cert.ShortConv

theorem qkv_conv_reference_frame : Cert.quiescent_Reference14Ideal := fun m g _ =>
  (θ_run Cert.Reference14Ideal.defs _ _).mono
    (fun r h => ⟨fun c => (h c).2.2, sem_eq_zero_of_no_sems (by decide) r.2⟩) (Cert.Reference14Ideal.Value.run m g)

theorem qkv_conv_algebraic : Cert.algebraic_Kernel14Ideal_Reference14Ideal_pre_finite14 := by
  intro m g m' g' hpre hagree
  have hf := fun c => (⟨fun i => fine_of_mask _ _ i (congrFun (hpre c).1 i), fun i => fine_of_mask _ _ i (congrFun (hpre c).2.1 i),
    fun i => fine_of_mask _ _ i (congrFun (hpre c).2.2 i)⟩ : _ ∧ _ ∧ _)
  refine ⟨fun c => (Cert.Kernel14Ideal.Gen.dats m 0 c).arrAt 3 Cert.Kernel14Ideal.cfg0.N,
    fun c => (Cert.Kernel14Ideal.Gen.dats m 0 c).arrAt 4 Cert.Kernel14Ideal.cfg0.N, Cert.Kernel14Ideal.Value.run_blocks m g, ?_⟩
  refine (θ_run Cert.Reference14Ideal.defs _ _).mono
    (fun r h c => ⟨(h c).1.trans ?_, (h c).2.1.trans ?_, (h c).2.2⟩) (Cert.Reference14Ideal.Value.run m' g')
  · refine Eq.trans ?_ (Cert.Kernel14Ideal.Value.final_x m c).symm
    rw [Cert.Reference14Ideal.Read.val_main_v140_eq]
    show Cert.Reference14Ideal.Read.val_main_v140 (F := Ideal) (m' (c.tc.loc Cert.Reference14Ideal.main_arg0)) (m' (c.tc.loc Cert.Reference14Ideal.main_arg1))
      (m' (c.tc.loc Cert.Reference14Ideal.main_arg2)) = _
    rw [(hagree c).1, (hagree c).2.1, (hagree c).2.2]
    funext x
    obtain ⟨i, j, rfl⟩ : ∃ i j, x = ix2 i j := ⟨x 0, x 1, by ext a; fin_cases a <;> rfl⟩
    exact Cert.Reference14Ideal.Qkv.dx_at _ _ _ (hf c).1 (hf c).2.1 (hf c).2.2 i j
  · refine Eq.trans ?_ (Cert.Kernel14Ideal.Value.final_w m c).symm
    rw [Cert.Reference14Ideal.Read.val_main_v131_eq]
    show Cert.Reference14Ideal.Read.val_main_v131 (F := Ideal) (m' (c.tc.loc Cert.Reference14Ideal.main_arg0)) (m' (c.tc.loc Cert.Reference14Ideal.main_arg1))
      (m' (c.tc.loc Cert.Reference14Ideal.main_arg2)) = _
    rw [(hagree c).1, (hagree c).2.1, (hagree c).2.2]
    funext x
    obtain ⟨k, j, rfl⟩ : ∃ k j, x = ix2 k j := ⟨x 0, x 1, by ext a; fin_cases a <;> rfl⟩
    exact Cert.Reference14Ideal.Qkv.dw_at _ _ _ (hf c).1 (hf c).2.1 (hf c).2.2 k j

end Cert.Proof

end
-- ==== Proof.LossHead.lean ====
/- The loss and its backward call: the tile the loss fills, the stream's gradient, and the gradient of the last norm's
   weight, summed over all rows. -/
module

public import proofs.«01_k».proof.Defs
public import proofs.«01_k».proof.Proof.NormSpec
public import proofs.«01_k».proof.Proof.ShortConvFinite
public import proofs.«01_k».proof.Proof.RowSum
public import proofs.«01_k».proof.Proof.Gen.Kernel15Ideal.Value
public import proofs.«01_k».proof.Proof.Gen.Pre_finite15
public import proofs.«01_k».proof.Proof.Gen.Reference15Ideal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen Cert.ShortConv Cert.Norm

/-- The constants as both programs write them. -/
abbrev width : EReal := Ideal.ofBits .f32 0x45800000#32
abbrev offset : EReal := Ideal.ofBits .f32 0x358637BD#32
abbrev half : EReal := Ideal.ofBits .f32 0x3F000000#32
abbrev recip : EReal := Ideal.ofBits .f32 0x39800000#32

/-- What a block stores: its rows' part of the loss, the stream's gradient, its rows' part of the weight's. -/
theorem root_at (x : Vec Ideal S256x4096 .f32) (i : Fin 256) :
    k0_pay5 (F := Ideal) x (ix2 i 0) = scl width offset fun k : Fin 4096 => x (ix2 i k) := by
  pointwise [k0_pay5]
  rfl

theorem err_at (x g : Vec Ideal S256x4096 .f32) (w : Vec Ideal S1x4096 .f32) (i : Fin 256) (j : Fin 4096) :
    k0_pay7 (F := Ideal) x w g (ix2 i j) = x (ix2 i j) * (scl width offset fun k : Fin 4096 => x (ix2 i k)) * w (ix2 0 j) - g (ix2 i j) := by
  simp only [← root_at]
  pointwise [k0_pay7, k0_pay6]

theorem cot_at (x g : Vec Ideal S256x4096 .f32) (w : Vec Ideal S1x4096 .f32) (i : Fin 256) (j : Fin 4096) :
    k0_pay9 (F := Ideal) x w g (ix2 i j) = k0_pay7 (F := Ideal) x w g (ix2 i j) * recip := by
  pointwise [k0_pay9]

theorem loss_at (x g : Vec Ideal S256x4096 .f32) (w : Vec Ideal S1x4096 .f32) (a : Vec Ideal S8x128 .f32) (p : S8x128.Idx) :
    k0_pay8 (F := Ideal) x w g a p
      = a p + half * ∑ i : Fin 256, Ideal.div (∑ k : Fin 4096, k0_pay7 (F := Ideal) x w g (ix2 i k) * k0_pay7 (F := Ideal) x w g (ix2 i k)) width := by
  pointwise [k0_pay8]
  simp only [Fin.sum_univ_one]

theorem dx_at (x : Vec Ideal S256x4096 .f32) (w : Vec Ideal S1x4096 .f32) (d : FVec Ideal S256x4096 .f32) (i : Fin 256) (j : Fin 4096) :
    k0_pay2 (F := Ideal) (k0_pay5 x) (k0_pay6 x) w d (ix2 i j)
      = dx width offset (fun k : Fin 4096 => x (ix2 i k)) (fun k => d (ix2 i k) * w (ix2 0 k)) j := by
  unfold dx
  simp only [← root_at]
  pointwise [k0_pay2, k0_pay6]

theorem dw_at (x : Vec Ideal S256x4096 .f32) (d : FVec Ideal S256x4096 .f32) (a : Vec Ideal S1x4096 .f32) (j : Fin 4096) :
    k0_pay1 (F := Ideal) (k0_pay6 x) d a (ix2 0 j)
      = a (ix2 0 j) + ∑ i : Fin 256, d (ix2 i j) * (x (ix2 i j) * scl width offset fun k : Fin 4096 => x (ix2 i k)) := by
  simp only [← root_at]
  pointwise [k0_pay1, k0_pay6]

variable (m : (ℓ : Loc nD τ sig) → Buf (Elt Ideal) ℓ) (c : Dev nD)

/-- The stream, the norm's weight, the target. -/
abbrev X : ℕ → ℕ → EReal := rd (a := 4096) (b := 4096) (φ := .f32) (m ((c : Thread nD τ).loc main_arg0))
abbrev W : ℕ → ℕ → EReal := rd (a := 1) (b := 4096) (φ := .f32) (m ((c : Thread nD τ).loc main_arg1))
abbrev G : ℕ → ℕ → EReal := rd (a := 4096) (b := 4096) (φ := .f32) (m ((c : Thread nD τ).loc main_arg2))

/-- A row's factor, the error, a row's mean square error, and the gradients. -/
def rs (x : ℕ → ℕ → EReal) (r : ℕ) : EReal := scl width offset fun k : Fin 4096 => x r k
def err (x w g : ℕ → ℕ → EReal) (r j : ℕ) : EReal := x r j * rs x r * w 0 j - g r j
def mse (x w g : ℕ → ℕ → EReal) (r : ℕ) : EReal := Ideal.div (∑ k : Fin 4096, err x w g r k * err x w g r k) width
def gx (x w g : ℕ → ℕ → EReal) (r : ℕ) (j : Fin 4096) : EReal :=
  dx width offset (fun k : Fin 4096 => x r k) (fun k => err x w g r k * recip * w 0 k) j
def gw (x w g : ℕ → ℕ → EReal) (r j : ℕ) : EReal := err x w g r j * recip * (x r j * rs x r)

theorem fine_err {x w g : ℕ → ℕ → EReal} (hx : ∀ r j, Fine (x r j)) (hw : ∀ r j, Fine (w r j)) (hg : ∀ r j, Fine (g r j)) (r j : ℕ) :
    Fine (err x w g r j) := by
  unfold err rs width offset
  rw [width_eq, eps_eq]
  exact (((hx _ _).mul (fine_scl (by norm_num) eps_pos fun k => hx _ _)).mul (hw _ _)).sub (hg _ _)

theorem fine_mse {x w g : ℕ → ℕ → EReal} (hx : ∀ r j, Fine (x r j)) (hw : ∀ r j, Fine (w r j)) (hg : ∀ r j, Fine (g r j)) (r : ℕ) :
    Fine (mse x w g r) := by
  unfold mse width
  rw [width_eq]
  exact Fine.div (by norm_num) (Fine.sum fun k => (fine_err hx hw hg _ _).mul (fine_err hx hw hg _ _))

theorem fine_half : Fine half := by unfold half; rw [pos_half_eq]; exact .coe _

/-- The blocks' indices. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![0, 0])

theorem block0 (t : Fin cfg0.N) (i : Fin 256) (j : Fin 4096) :
    (iblk m c 0 t : Vec Ideal S256x4096 .f32) (ix2 i j) = X m c (256 * t.val + i) j := by
  have hN : cfg0.N = 16 := N_0
  have := t.isLt; have := i.isLt
  unfold X rd
  rw [dif_pos ⟨by omega, j.isLt⟩]
  blk_ext [iblk, V, idx t]

theorem block1 (t : Fin cfg0.N) (j : Fin 4096) : (iblk m c 1 t : Vec Ideal S1x4096 .f32) (ix2 0 j) = W m c 0 j := by
  unfold W rd
  rw [dif_pos ⟨by omega, j.isLt⟩]
  blk_ext [iblk, V, idx t]

theorem block2 (t : Fin cfg0.N) (i : Fin 256) (j : Fin 4096) :
    (iblk m c 2 t : Vec Ideal S256x4096 .f32) (ix2 i j) = G m c (256 * t.val + i) j := by
  have hN : cfg0.N = 16 := N_0
  have := t.isLt; have := i.isLt
  unfold G rd
  rw [dif_pos ⟨by omega, j.isLt⟩]
  blk_ext [iblk, V, idx t]

theorem err_block (t : Fin cfg0.N) (i : Fin 256) (j : Fin 4096) :
    k0_pay7 (F := Ideal) (iblk m c 0 t) (iblk m c 1 t) (iblk m c 2 t) (ix2 i j) = err (X m c) (W m c) (G m c) (256 * t.val + i) j := by
  have e := err_at (iblk m c 0 t) (iblk m c 2 t) (iblk m c 1 t) i j
  simp only [block0, block1, block2] at e
  exact e

/-- What a point leaves in its block of the stream's gradient, in both of the body's cases. -/
theorem dx_out (t : Fin cfg0.N) (i : Fin 256) (j : Fin 4096) :
    (outsAt0 m c t.val t.isLt).2.1 (ix2 i j) = gx (X m c) (W m c) (G m c) (256 * t.val + i) j := by
  have e := dx_at (iblk m c 0 t) (iblk m c 1 t) (k0_pay9 (iblk m c 0 t) (iblk m c 1 t) (iblk m c 2 t)) i j
  simp only [cot_at, err_block, block0, block1] at e
  by_cases h : t.val % 16 = 0
  · rw [outsAt0_A m c t h]; frame_out
    exact e
  · rw [outsAt0_B m c t h]; frame_out
    exact e

theorem final_dx : (dats m 0 c).arrAt 4 cfg0.N = (fun y => gx (X m c) (W m c) (G m c) (y 0).val (y 1) : FVec Ideal S4096x4096 .f32) := by
  refine (dats m 0 c).arrAt_eq_of_covers 4 (fun y => gx (X m c) (W m c) (G m c) (y 0).val (y 1) : FVec Ideal S4096x4096 .f32)
    (by decide +kernel) fun t hf y => ?_
  rw [after0_4]
  obtain ⟨i, j, e⟩ : ∃ (i : Fin 256) (j : Fin 4096), (((cfg0.win 4).xinj (grid0.coords t) y : S256x4096.Idx)) = ix2 i j :=
    ⟨((cfg0.win 4).xinj (grid0.coords t) y : S256x4096.Idx) 0, ((cfg0.win 4).xinj (grid0.coords t) y : S256x4096.Idx) 1, by ext a; fin_cases a <;> rfl⟩
  refine (congrArg (outsAt0 m c t.val t.isLt).2.1 e).trans ((dx_out m c t i j).trans ?_)
  have h0 : (((cfg0.win 4).blk t).view.emb y 0).val = 256 * t.val + i := by
    have e0' : (y 0).val = i.val := congrArg (fun z : S256x4096.Idx => (z 0).val) e
    rw [← e0']; blk_simp [idx t]; omega
  have h1 : ((cfg0.win 4).blk t).view.emb y 1 = j := by
    have e1' : (y 1).val = j.val := congrArg (fun z : S256x4096.Idx => (z 1).val) e
    apply Fin.ext
    rw [← e1']; blk_simp [idx t]
  show _ = gx _ _ _ (((cfg0.win 4).blk t).view.emb y 0).val (((cfg0.win 4).blk t).view.emb y 1)
  rw [h0, h1]

theorem dw_out (t : Fin cfg0.N) (ht : t.val % 16 = 15) (x : S1x4096.Idx) :
    (outsAt0 m c t.val t.isLt).2.2 x = ∑ r : Fin 4096, gw (X m c) (W m c) (G m c) r (x 1).val := by
  have e := fun (t : Fin cfg0.N) a j => dw_at (iblk m c 0 t) (k0_pay9 (iblk m c 0 t) (iblk m c 1 t) (iblk m c 2 t)) a j
  simp only [cot_at, err_block, block0] at e
  refine RowSum.acc_row N_0 (fun n h => (outsAt0 m c n h).2.2) _ (fun t h j => ?_) (fun t h j => ?_) t ht x
  · rw [outsAt0_A m c t h]; frame_out
    refine (e t _ j).trans ?_
    rw [show k0_pay4 (F := Ideal) (ix2 0 j) = 0 by pointwise [k0_pay4]]; rfl
  · rw [outsAt0_B m c t h]; frame_out
    exact e t _ j

theorem final_dw : (dats m 0 c).arrAt 5 cfg0.N = (fun y => ∑ r : Fin 4096, gw (X m c) (W m c) (G m c) r (y 1).val : FVec Ideal S1x4096 .f32) := by
  refine (dats m 0 c).arrAt_eq_of_covers 5 (fun y => ∑ r : Fin 4096, gw (X m c) (W m c) (G m c) r (y 1).val : FVec Ideal S1x4096 .f32)
    (by decide +kernel) fun t hf y => ?_
  rw [after0_5]
  refine (dw_out m c t ((flush0_5 t).mp hf) _).trans ?_
  have h1 : (((cfg0.win 5).blk t).view.emb y 1).val = ((cfg0.win 5).xinj (cfg0.grid.coords t) y 1).val := by
    blk_simp [idx t]
  exact Finset.sum_congr rfl fun r _ => congrArg (gw _ _ _ r) h1.symm

/-- The loss: a block adds half its rows' sum, so with finite rows the tile holds the sum of the rows' halves. -/
theorem loss_out (hm : ∀ r, Fine (mse (X m c) (W m c) (G m c) r)) (t : Fin cfg0.N) (ht : t.val % 16 = 15) (x : S8x128.Idx) :
    (outsAt0 m c t.val t.isLt).1 x = ∑ r : Fin 4096, half * mse (X m c) (W m c) (G m c) r := by
  have e := fun (t : Fin cfg0.N) a p => loss_at (iblk m c 0 t) (iblk m c 2 t) (iblk m c 1 t) a p
  simp only [err_block] at e
  have e' := fun (t : Fin cfg0.N) a p => (e t a p).trans (congrArg (a p + ·) (mul_sum fine_half fun i => hm (256 * t.val + i.val)))
  refine RowSum.acc N_0 (fun n h => (outsAt0 m c n h).1) (fun r _ => half * mse (X m c) (W m c) (G m c) r) (fun t h p => ?_) (fun t h p => ?_) t ht x
  · rw [outsAt0_A m c t h]; frame_out
    refine (e' t _ p).trans ?_
    rw [show k0_pay3 (F := Ideal) p = 0 by pointwise [k0_pay3]]; rfl
  · rw [outsAt0_B m c t h]; frame_out
    exact e' t _ p

theorem final_loss (hm : ∀ r, Fine (mse (X m c) (W m c) (G m c) r)) :
    (dats m 0 c).arrAt 3 cfg0.N = (fun _ => half * ∑ r : Fin 4096, mse (X m c) (W m c) (G m c) r : FVec Ideal S8x128 .f32) := by
  refine (dats m 0 c).arrAt_eq_of_covers 3 (fun _ => half * ∑ r : Fin 4096, mse (X m c) (W m c) (G m c) r : FVec Ideal S8x128 .f32)
    (by decide +kernel) fun t hf y => ?_
  rw [after0_3]
  exact (loss_out m c hm t ((flush0_3 t).mp hf) _).trans (mul_sum fine_half fun r => hm r).symm

end Cert.Kernel15Ideal.Value

namespace Cert.Reference15Ideal.Norm

open Cert.Reference15Ideal Cert.Reference15Ideal.Read Cert.ShortConv Cert.Norm
open Cert.Kernel15Ideal.Value (width offset half recip rs err mse gx gw fine_err)

variable (x : FVec Ideal S4096x4096 .f32) (w : FVec Ideal S1x4096 .f32) (g : FVec Ideal S4096x4096 .f32)

theorem root_at (i : Fin 4096) : val_main_v7 (F := Ideal) x (ix2 i 0) = rs (rd x) i := by
  unfold rs scl
  simp only [← rd_eq]
  pointwise [val_main_v7, val_main_v6, val_main_v5, val_main_v4, val_main_v3, val_main_v2, val_main_v1, val_main_v0,
    val_main_cst, val_main_cst_0, val_main_cst_1]

theorem err_at (i j : Fin 4096) : val_main_v15 (F := Ideal) x w g (ix2 i j) = err (rd x) (rd w) (rd g) i j := by
  unfold err
  rw [← root_at, ← rd_eq x, ← rd_eq g, show rd w 0 j = w (ix2 0 j) from (rd_eq w 0 j).symm]
  pointwise [val_main_v15, val_main_v14, val_main_v13, val_main_v12, val_main_v11]

theorem loss_at (p : S8x128.Idx) : val_main_v49 (F := Ideal) x w g p = half * ∑ r : Fin 4096, mse (rd x) (rd w) (rd g) r := by
  unfold mse
  simp only [← err_at]
  pointwise [val_main_v49, val_main_v21, val_main_v20, val_main_v19, val_main_v18, val_main_v17, val_main_v16,
    val_main_cst_3, val_main_cst_4, val_main_cst_5, val_main_cst_6]

variable (hx : ∀ i, Fine (x i)) (hw : ∀ i, Fine (w i)) (hg : ∀ i, Fine (g i))
include hx hw hg

theorem cot_at (i j : Fin 4096) : val_main_v29 (F := Ideal) x w g (ix2 i j) = err (rd x) (rd w) (rd g) i j * recip := by
  refine Eq.trans ?_ (halves (fine_err (fine_rd hx) (fine_rd hw) (fine_rd hg) i j))
  rw [← err_at]
  pointwise [val_main_v29, val_main_v28, val_main_v27, val_main_v26, val_main_v25, val_main_v24, val_main_v23, val_main_v22,
    val_main_cst_7, val_main_cst_8, val_main_cst_9]

theorem dw_at (j : Fin 4096) : val_main_v32 (F := Ideal) x w g (ix2 0 j) = ∑ r : Fin 4096, gw (rd x) (rd w) (rd g) r j := by
  unfold gw
  simp only [← cot_at x w g hx hw hg, ← root_at, ← rd_eq x]
  rw [show val_main_v32 (F := Ideal) x w g (ix2 0 j) = ∑ r : Fin 4096, x (ix2 r j) * val_main_v7 (F := Ideal) x (ix2 r 0) * val_main_v29 (F := Ideal) x w g (ix2 r j) by
    pointwise [val_main_v32, val_main_v31, val_main_v30, val_main_v12, val_main_v11, val_main_cst_10]]
  exact Finset.sum_congr rfl fun r _ => mul_comm _ _

theorem dn_at (i j : Fin 4096) : val_main_v34 (F := Ideal) x w g (ix2 i j) = err (rd x) (rd w) (rd g) i j * recip * rd w 0 j := by
  rw [← cot_at x w g hx hw hg, show rd w 0 j = w (ix2 0 j) from (rd_eq w 0 j).symm]
  pointwise [val_main_v34, val_main_v33]

/-- The square's factor of the gradient, of a row. -/
theorem chain_at (i : Fin 4096) : val_main_v43 (F := Ideal) x w g (ix1 i)
    = chain width offset ((-1 / 2 : ℝ) : EReal) (fun k : Fin 4096 => rd x i k) (fun k : Fin 4096 => err (rd x) (rd w) (rd g) i k * recip * rd w 0 k) := by
  unfold chain
  rw [← half_eq, show scl width offset (fun k : Fin 4096 => rd x i k) = val_main_v7 (F := Ideal) x (ix2 i 0) from (root_at x i).symm]
  simp only [show ∀ k : Fin 4096, err (rd x) (rd w) (rd g) i k * recip * rd w 0 k = val_main_v34 (F := Ideal) x w g (ix2 i k)
    from fun k => (dn_at x w g hx hw hg i k).symm, ← rd_eq x]
  pointwise [val_main_v43, val_main_v42, val_main_v41, val_main_v40, val_main_v37, val_main_v36, val_main_v35, val_main_v10, val_main_v9, val_main_v8,
    val_main_v6, val_main_v5, val_main_v4, val_main_v3, val_main_v2, val_main_v1, val_main_v0, val_main_cst, val_main_cst_0, val_main_cst_1, val_main_cst_2,
    val_main_cst_11, val_main_cst_12, val_main_cst_13]
  rw [Fin.sum_univ_one]

theorem dx_at (i j : Fin 4096) : val_main_v48 (F := Ideal) x w g (ix2 i j) = gx (rd x) (rd w) (rd g) i j := by
  rw [show val_main_v48 (F := Ideal) x w g (ix2 i j) = val_main_v34 (F := Ideal) x w g (ix2 i j) * val_main_v7 (F := Ideal) x (ix2 i 0)
      + x (ix2 i j) * val_main_v43 (F := Ideal) x w g (ix1 i) + val_main_v43 (F := Ideal) x w g (ix1 i) * x (ix2 i j) by
    pointwise [val_main_v48, val_main_v47, val_main_v46, val_main_v45, val_main_v44, val_main_v39, val_main_v38],
    dn_at x w g hx hw hg, root_at, chain_at x w g hx hw hg, rd_eq x]
  unfold gx rs width offset
  rw [width_eq, eps_eq]
  refine chain_eq (by norm_num) eps_pos (fun k => fine_rd hx _ _) (fun k => ((fine_err (fine_rd hx) (fine_rd hw) (fine_rd hg) _ _).mul ?_).mul (fine_rd hw _ _)) j
  unfold recip
  rw [recip_eq]
  exact .coe _

end Cert.Reference15Ideal.Norm

namespace Cert.Proof

open Cert.ShortConv

theorem loss_reference_frame : Cert.quiescent_Reference15Ideal := fun m g _ =>
  (θ_run Cert.Reference15Ideal.defs _ _).mono
    (fun r h => ⟨fun c => (h c).2.2.2, sem_eq_zero_of_no_sems (by decide) r.2⟩) (Cert.Reference15Ideal.Value.run m g)

theorem loss_algebraic : Cert.algebraic_Kernel15Ideal_Reference15Ideal_pre_finite15 := by
  intro m g m' g' hpre hagree
  have hf := fun c => (⟨fun i => fine_of_mask _ _ i (congrFun (hpre c).1 i), fun i => fine_of_mask _ _ i (congrFun (hpre c).2.1 i),
    fun i => fine_of_mask _ _ i (congrFun (hpre c).2.2 i)⟩ : _ ∧ _ ∧ _)
  refine ⟨fun c => (Cert.Kernel15Ideal.Gen.dats m 0 c).arrAt 3 Cert.Kernel15Ideal.cfg0.N,
    fun c => (Cert.Kernel15Ideal.Gen.dats m 0 c).arrAt 4 Cert.Kernel15Ideal.cfg0.N,
    fun c => (Cert.Kernel15Ideal.Gen.dats m 0 c).arrAt 5 Cert.Kernel15Ideal.cfg0.N, Cert.Kernel15Ideal.Value.run_blocks m g, ?_⟩
  refine (θ_run Cert.Reference15Ideal.defs _ _).mono
    (fun r h c => ⟨(h c).1.trans ?_, (h c).2.1.trans ?_, (h c).2.2.1.trans ?_, (h c).2.2.2⟩) (Cert.Reference15Ideal.Value.run m' g')
  · refine Eq.trans ?_ (Cert.Kernel15Ideal.Value.final_loss m c
      (Cert.Kernel15Ideal.Value.fine_mse (fine_rd (hf c).1) (fine_rd (hf c).2.1) (fine_rd (hf c).2.2))).symm
    refine (Cert.Reference15Ideal.Read.val_main_v49_eq _ _ _).trans ?_
    rw [(hagree c).1, (hagree c).2.1, (hagree c).2.2]
    funext p
    exact Cert.Reference15Ideal.Norm.loss_at _ _ _ p
  · refine Eq.trans ?_ (Cert.Kernel15Ideal.Value.final_dx m c).symm
    rw [Cert.Reference15Ideal.Read.val_main_v48_eq, (hagree c).1, (hagree c).2.1, (hagree c).2.2]
    funext x
    obtain ⟨i, j, rfl⟩ : ∃ i j, x = ix2 i j := ⟨x 0, x 1, by ext a; fin_cases a <;> rfl⟩
    exact Cert.Reference15Ideal.Norm.dx_at _ _ _ (hf c).1 (hf c).2.1 (hf c).2.2 i j
  · refine Eq.trans ?_ (Cert.Kernel15Ideal.Value.final_dw m c).symm
    refine (Cert.Reference15Ideal.Read.val_main_v32_eq _ _ _).trans ?_
    rw [(hagree c).1, (hagree c).2.1, (hagree c).2.2]
    funext x
    rw [RowSum.row x]
    exact Cert.Reference15Ideal.Norm.dw_at _ _ _ (hf c).1 (hf c).2.1 (hf c).2.2 _

end Cert.Proof

end
-- ==== Proof.Norm0.lean ====
/- The first block's norm, backward over the latent tokens: as the second's, with the weight's gradient added to the
   context's part of it. -/
module

public import proofs.«01_k».proof.Defs
public import proofs.«01_k».proof.Proof.Norm1
public import proofs.«01_k».proof.Proof.Gen.Pre_finite17
public import proofs.«01_k».proof.Proof.Gen.Kernel17Ideal.Value
public import proofs.«01_k».proof.Proof.Gen.Reference17Ideal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel17Ideal.Value

open Cert.Kernel17Ideal Cert.Kernel17Ideal.Gen Cert.ShortConv Cert.Norm
open Cert.Kernel12Ideal.Value (gx gw gs)

variable (m : (ℓ : Loc nD τ sig) → Buf (Elt Ideal) ℓ) (c : Dev nD)

/-- The stream, the norm's weight, the scale, the gradient, the residual's gradient, the context's part. -/
abbrev X : ℕ → ℕ → EReal := rd (a := 4096) (b := 4096) (φ := .f32) (m ((c : Thread nD τ).loc main_arg0))
abbrev W : ℕ → ℕ → EReal := rd (a := 1) (b := 4096) (φ := .f32) (m ((c : Thread nD τ).loc main_arg1))
abbrev S : ℕ → ℕ → EReal := rd (a := 1) (b := 4096) (φ := .f32) (m ((c : Thread nD τ).loc main_arg2))
abbrev D : ℕ → ℕ → EReal := rd (a := 4352) (b := 4096) (φ := .f32) (m ((c : Thread nD τ).loc main_arg3))
abbrev E : ℕ → ℕ → EReal := rd (a := 4096) (b := 4096) (φ := .f32) (m ((c : Thread nD τ).loc main_arg4))
abbrev C : ℕ → ℕ → EReal := rd (a := 1) (b := 4096) (φ := .f32) (m ((c : Thread nD τ).loc main_arg5))

/-- The blocks' indices. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![t.val, 0]
    ∧ win0_7.index t = ![0, 0] ∧ win0_8.index t = ![0, 0] ∧ win0_9.index t = ![0, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![t.val, 0]
    ∧ win0_7.index t = ![0, 0] ∧ win0_8.index t = ![0, 0] ∧ win0_9.index t = ![0, 0])

theorem block0 (t : Fin cfg0.N) (i : Fin 256) (j : Fin 4096) :
    (iblk m c 0 t : Vec Ideal S256x4096 .f32) (ix2 i j) = X m c (256 * t.val + i) j := by
  have hN : cfg0.N = 16 := N_0
  have := t.isLt; have := i.isLt
  unfold X rd
  rw [dif_pos ⟨by omega, j.isLt⟩]
  blk_ext [iblk, V, idx t]

theorem block1 (t : Fin cfg0.N) (j : Fin 4096) : (iblk m c 1 t : Vec Ideal S1x4096 .f32) (ix2 0 j) = W m c 0 j := by
  unfold W rd
  rw [dif_pos ⟨by omega, j.isLt⟩]
  blk_ext [iblk, V, idx t]

theorem block2 (t : Fin cfg0.N) (j : Fin 4096) : (iblk m c 2 t : Vec Ideal S1x4096 .f32) (ix2 0 j) = S m c 0 j := by
  unfold S rd
  rw [dif_pos ⟨by omega, j.isLt⟩]
  blk_ext [iblk, V, idx t]

theorem block3 (t : Fin cfg0.N) (i : Fin 256) (j : Fin 4096) :
    (iblk m c 3 t : Vec Ideal S256x4096 .f32) (ix2 i j) = D m c (256 * t.val + i) j := by
  have hN : cfg0.N = 16 := N_0
  have := t.isLt; have := i.isLt
  unfold D rd
  rw [dif_pos ⟨by omega, j.isLt⟩]
  blk_ext [iblk, V, idx t]

theorem block4 (t : Fin cfg0.N) (i : Fin 256) (j : Fin 4096) :
    (iblk m c 4 t : Vec Ideal S256x4096 .f32) (ix2 i j) = E m c (256 * t.val + i) j := by
  have hN : cfg0.N = 16 := N_0
  have := t.isLt; have := i.isLt
  unfold E rd
  rw [dif_pos ⟨by omega, j.isLt⟩]
  blk_ext [iblk, V, idx t]

theorem block5 (t : Fin cfg0.N) (j : Fin 4096) : (iblk m c 5 t : Vec Ideal S1x4096 .f32) (ix2 0 j) = C m c 0 j := by
  unfold C rd
  rw [dif_pos ⟨by omega, j.isLt⟩]
  blk_ext [iblk, V, idx t]

theorem dx_out (t : Fin cfg0.N) (i : Fin 256) (j : Fin 4096) :
    (outsAt0 m c t.val t.isLt).1 (ix2 i j) = gx (X m c) (W m c) (S m c) (D m c) (E m c) (256 * t.val + i) j := by
  have e := Cert.Kernel12Ideal.Value.dx_at (iblk m c 0 t) (iblk m c 3 t) (iblk m c 4 t) (iblk m c 1 t) (iblk m c 2 t) i j
  simp only [block0, block1, block2, block3, block4] at e
  by_cases h : t.val % 16 = 0
  · rw [outsAt0_A m c t h]; frame_out
    exact e
  · rw [outsAt0_B m c t h]; frame_out
    exact e

theorem final_dx : (dats m 0 c).arrAt 6 cfg0.N = (fun y => gx (X m c) (W m c) (S m c) (D m c) (E m c) (y 0).val (y 1) : FVec Ideal S4096x4096 .f32) := by
  refine (dats m 0 c).arrAt_eq_of_covers 6 (fun y => gx (X m c) (W m c) (S m c) (D m c) (E m c) (y 0).val (y 1) : FVec Ideal S4096x4096 .f32)
    (by decide +kernel) fun t hf y => ?_
  rw [after0_6]
  obtain ⟨i, j, e⟩ : ∃ (i : Fin 256) (j : Fin 4096), (((cfg0.win 6).xinj (grid0.coords t) y : S256x4096.Idx)) = ix2 i j :=
    ⟨((cfg0.win 6).xinj (grid0.coords t) y : S256x4096.Idx) 0, ((cfg0.win 6).xinj (grid0.coords t) y : S256x4096.Idx) 1, by ext a; fin_cases a <;> rfl⟩
  refine (congrArg (outsAt0 m c t.val t.isLt).1 e).trans ((dx_out m c t i j).trans ?_)
  have h0 : (((cfg0.win 6).blk t).view.emb y 0).val = 256 * t.val + i := by
    have e0' : (y 0).val = i.val := congrArg (fun z : S256x4096.Idx => (z 0).val) e
    rw [← e0']; blk_simp [idx t]; omega
  have h1 : ((cfg0.win 6).blk t).view.emb y 1 = j := by
    have e1' : (y 1).val = j.val := congrArg (fun z : S256x4096.Idx => (z 1).val) e
    apply Fin.ext
    rw [← e1']; blk_simp [idx t]
  show _ = gx _ _ _ _ _ (((cfg0.win 6).blk t).view.emb y 0).val (((cfg0.win 6).blk t).view.emb y 1)
  rw [h0, h1]

theorem dw_out (t : Fin cfg0.N) (ht : t.val % 16 = 15) (x : S1x4096.Idx) :
    (outsAt0 m c t.val t.isLt).2.1 x = C m c 0 (x 1).val + ∑ r : Fin 4096, gw (X m c) (S m c) (D m c) r (x 1).val := by
  have e := fun (t : Fin cfg0.N) a j => Cert.Kernel12Ideal.Value.dw_at (iblk m c 0 t) (iblk m c 3 t) (iblk m c 2 t) a j
  simp only [block0, block2, block3] at e
  refine RowSum.acc_row_from N_0 (fun n h => (outsAt0 m c n h).2.1) (C m c 0) _ (fun t h j => ?_) (fun t h j => ?_) t ht x
  · rw [outsAt0_A m c t h]; frame_out
    refine (e t (iblk m c 5 t) j).trans ?_
    rw [block5]; rfl
  · rw [outsAt0_B m c t h]; frame_out
    exact e t _ j

theorem ds_out (t : Fin cfg0.N) (ht : t.val % 16 = 15) (x : S1x4096.Idx) :
    (outsAt0 m c t.val t.isLt).2.2.1 x = ∑ r : Fin 4096, gs (X m c) (W m c) (D m c) r (x 1).val := by
  have e := fun (t : Fin cfg0.N) a j => Cert.Kernel12Ideal.Value.ds_at (iblk m c 0 t) (iblk m c 3 t) (iblk m c 1 t) a j
  simp only [block0, block1, block3] at e
  refine RowSum.acc_row N_0 (fun n h => (outsAt0 m c n h).2.2.1) _ (fun t h j => ?_) (fun t h j => ?_) t ht x
  · rw [outsAt0_A m c t h]; frame_out
    refine (e t _ j).trans ?_
    rw [show k0_pay4 (F := Ideal) (ix2 0 j) = 0 by pointwise [k0_pay4]]; rfl
  · rw [outsAt0_B m c t h]; frame_out
    exact e t _ j

theorem db_out (t : Fin cfg0.N) (ht : t.val % 16 = 15) (x : S1x4096.Idx) :
    (outsAt0 m c t.val t.isLt).2.2.2 x = ∑ r : Fin 4096, D m c r (x 1).val := by
  have e := fun (t : Fin cfg0.N) a j => Cert.Kernel12Ideal.Value.db_at (iblk m c 3 t) a j
  simp only [block3] at e
  refine RowSum.acc_row N_0 (fun n h => (outsAt0 m c n h).2.2.2) _ (fun t h j => ?_) (fun t h j => ?_) t ht x
  · rw [outsAt0_A m c t h]; frame_out
    refine (e t _ j).trans ?_
    rw [show k0_pay5 (F := Ideal) (ix2 0 j) = 0 by pointwise [k0_pay5]]
  · rw [outsAt0_B m c t h]; frame_out
    exact e t _ j

theorem final_dw : (dats m 0 c).arrAt 7 cfg0.N = (fun y => C m c 0 (y 1).val + ∑ r : Fin 4096, gw (X m c) (S m c) (D m c) r (y 1).val : FVec Ideal S1x4096 .f32) := by
  refine (dats m 0 c).arrAt_eq_of_covers 7 (fun y => C m c 0 (y 1).val + ∑ r : Fin 4096, gw (X m c) (S m c) (D m c) r (y 1).val : FVec Ideal S1x4096 .f32)
    (by decide +kernel) fun t hf y => ?_
  rw [after0_7]
  refine (dw_out m c t ((flush0_7 t).mp hf) _).trans ?_
  have h1 : (((cfg0.win 7).blk t).view.emb y 1).val = ((cfg0.win 7).xinj (cfg0.grid.coords t) y 1).val := by
    blk_simp [idx t]
  exact congrArg (fun k => C m c 0 k + ∑ r : Fin 4096, gw (X m c) (S m c) (D m c) r k) h1.symm

theorem final_ds : (dats m 0 c).arrAt 8 cfg0.N = (fun y => ∑ r : Fin 4096, gs (X m c) (W m c) (D m c) r (y 1).val : FVec Ideal S1x4096 .f32) := by
  refine (dats m 0 c).arrAt_eq_of_covers 8 (fun y => ∑ r : Fin 4096, gs (X m c) (W m c) (D m c) r (y 1).val : FVec Ideal S1x4096 .f32)
    (by decide +kernel) fun t hf y => ?_
  rw [after0_8]
  refine (ds_out m c t ((flush0_8 t).mp hf) _).trans ?_
  have h1 : (((cfg0.win 8).blk t).view.emb y 1).val = ((cfg0.win 8).xinj (cfg0.grid.coords t) y 1).val := by
    blk_simp [idx t]
  exact congrArg (fun k => ∑ r : Fin 4096, gs (X m c) (W m c) (D m c) r k) h1.symm

theorem final_db : (dats m 0 c).arrAt 9 cfg0.N = (fun y => ∑ r : Fin 4096, D m c r (y 1).val : FVec Ideal S1x4096 .f32) := by
  refine (dats m 0 c).arrAt_eq_of_covers 9 (fun y => ∑ r : Fin 4096, D m c r (y 1).val : FVec Ideal S1x4096 .f32)
    (by decide +kernel) fun t hf y => ?_
  rw [after0_9]
  refine (db_out m c t ((flush0_9 t).mp hf) _).trans ?_
  have h1 : (((cfg0.win 9).blk t).view.emb y 1).val = ((cfg0.win 9).xinj (cfg0.grid.coords t) y 1).val := by
    blk_simp [idx t]
  exact congrArg (fun k => ∑ r : Fin 4096, D m c r k) h1.symm

end Cert.Kernel17Ideal.Value

namespace Cert.Reference17Ideal.Norm

open Cert.Reference17Ideal Cert.Reference17Ideal.Read Cert.ShortConv Cert.Norm
open Cert.Kernel12Ideal.Value (gx gw gs)

variable (x : FVec Ideal S4096x4096 .f32) (w s : FVec Ideal S1x4096 .f32) (d : FVec Ideal S4352x4096 .f32) (e : FVec Ideal S4096x4096 .f32)
  (g : FVec Ideal S1x4096 .f32)

/-- The gradient's rows of the latent tokens. -/
theorem slice_at (i j : Fin 4096) : val_main_v22 (F := Ideal) d (ix2 i j) = rd d i j := by
  rw [show rd d i j = d (ix2 ⟨i.val, by omega⟩ j) from (rd_eq d ⟨i.val, by omega⟩ j).symm]
  pointwise [val_main_v22]

theorem rd_slice (i : Fin 4096) (j : Fin 4096) : rd (φ := .f32) (val_main_v22 (F := Ideal) d) i j = rd d i j :=
  (rd_eq _ i j).symm.trans (slice_at d i j)

theorem whole (d : FVec Ideal S4096x4096 .f32) : Cert.Reference12Ideal.Read.val_main_v22 (F := Ideal) d = d := by
  funext y
  obtain ⟨i, j, rfl⟩ : ∃ i j, y = ix2 i j := ⟨y 0, y 1, by ext a; fin_cases a <;> rfl⟩
  pointwise [Cert.Reference12Ideal.Read.val_main_v22]

/-- The values are the second norm's of those rows. -/
theorem cot_eq : val_main_v29 (F := Ideal) s d = Cert.Reference12Ideal.Read.val_main_v29 (F := Ideal) s (val_main_v22 d) := by
  unfold Cert.Reference12Ideal.Read.val_main_v29
  rw [whole]; rfl

theorem dx_eq : val_main_v49 (F := Ideal) x w s d e = Cert.Reference12Ideal.Read.val_main_v49 (F := Ideal) x w s (val_main_v22 d) e := by
  have h : val_main_v34 (F := Ideal) w s d = Cert.Reference12Ideal.Read.val_main_v34 (F := Ideal) w s (val_main_v22 d) := by
    unfold val_main_v34; rw [cot_eq]; rfl
  have h' : val_main_v43 (F := Ideal) x w s d = Cert.Reference12Ideal.Read.val_main_v43 (F := Ideal) x w s (val_main_v22 d) := by
    unfold val_main_v43 val_main_v42 val_main_v40 val_main_v37 val_main_v36 val_main_v35; rw [h]; rfl
  unfold val_main_v49 val_main_v48 val_main_v46 val_main_v47 val_main_v45 val_main_v44 val_main_v39; rw [h, h']; rfl

theorem dw_eq : val_main_v32 (F := Ideal) x s d = Cert.Reference12Ideal.Read.val_main_v32 (F := Ideal) x s (val_main_v22 d) := by
  unfold val_main_v32 val_main_v31 val_main_v30; rw [cot_eq]; rfl

theorem ds_eq : val_main_v27 (F := Ideal) x w d = Cert.Reference12Ideal.Read.val_main_v27 (F := Ideal) x w (val_main_v22 d) := by
  unfold Cert.Reference12Ideal.Read.val_main_v27 Cert.Reference12Ideal.Read.val_main_v26 Cert.Reference12Ideal.Read.val_main_v25
  rw [whole]; rfl

theorem db_eq : val_main_v24 (F := Ideal) d = Cert.Reference12Ideal.Read.val_main_v24 (F := Ideal) (val_main_v22 d) := rfl

theorem dx_at (hx : ∀ i, Fine (x i)) (hw : ∀ i, Fine (w i)) (hs : ∀ i, Fine (s i)) (hd : ∀ i, Fine (d i)) (i j : Fin 4096) :
    val_main_v49 (F := Ideal) x w s d e (ix2 i j) = gx (rd x) (rd w) (rd s) (rd d) (rd e) i j := by
  rw [dx_eq, Cert.Reference12Ideal.Norm.dx_at x w s _ e hx hw hs fun y => ?_]
  · unfold gx
    simp only [rd_slice]
  · obtain ⟨i, j, rfl⟩ : ∃ i j, y = ix2 i j := ⟨y 0, y 1, by ext a; fin_cases a <;> rfl⟩
    rw [slice_at]
    exact fine_rd hd _ _

theorem dw_at (j : Fin 4096) : val_main_v50 (F := Ideal) x s d g (ix2 0 j) = rd g 0 j + ∑ r : Fin 4096, gw (rd x) (rd s) (rd d) r j := by
  rw [show val_main_v50 (F := Ideal) x s d g (ix2 0 j) = g (ix2 0 j) + val_main_v32 (F := Ideal) x s d (ix2 0 j) by pointwise [val_main_v50],
    dw_eq, Cert.Reference12Ideal.Norm.dw_at, rd_eq g]
  simp only [gw, rd_slice]
  rfl

theorem ds_at (j : Fin 4096) : val_main_v27 (F := Ideal) x w d (ix2 0 j) = ∑ r : Fin 4096, gs (rd x) (rd w) (rd d) r j := by
  rw [ds_eq, Cert.Reference12Ideal.Norm.ds_at]
  simp only [gs, rd_slice]

theorem db_at (j : Fin 4096) : val_main_v24 (F := Ideal) d (ix2 0 j) = ∑ r : Fin 4096, rd d r j := by
  rw [db_eq, Cert.Reference12Ideal.Norm.db_at]
  simp only [rd_slice]

end Cert.Reference17Ideal.Norm

namespace Cert.Proof

open Cert.ShortConv

theorem norm0_reference_frame : Cert.quiescent_Reference17Ideal := fun m g _ =>
  (θ_run Cert.Reference17Ideal.defs _ _).mono
    (fun r h => ⟨fun c => (h c).2.2.2.2, sem_eq_zero_of_no_sems (by decide) r.2⟩) (Cert.Reference17Ideal.Value.run m g)

theorem norm0_algebraic : Cert.algebraic_Kernel17Ideal_Reference17Ideal_pre_finite17 := by
  intro m g m' g' hpre hagree
  have hf := fun c => (⟨fun i => fine_of_mask _ _ i (congrFun (hpre c).1 i), fun i => fine_of_mask _ _ i (congrFun (hpre c).2.1 i),
    fun i => fine_of_mask _ _ i (congrFun (hpre c).2.2.1 i), fun i => fine_of_mask _ _ i (congrFun (hpre c).2.2.2 i)⟩ : _ ∧ _ ∧ _ ∧ _)
  refine ⟨fun c => (Cert.Kernel17Ideal.Gen.dats m 0 c).arrAt 6 Cert.Kernel17Ideal.cfg0.N,
    fun c => (Cert.Kernel17Ideal.Gen.dats m 0 c).arrAt 7 Cert.Kernel17Ideal.cfg0.N,
    fun c => (Cert.Kernel17Ideal.Gen.dats m 0 c).arrAt 8 Cert.Kernel17Ideal.cfg0.N,
    fun c => (Cert.Kernel17Ideal.Gen.dats m 0 c).arrAt 9 Cert.Kernel17Ideal.cfg0.N, Cert.Kernel17Ideal.Value.run_blocks m g, ?_⟩
  refine (θ_run Cert.Reference17Ideal.defs _ _).mono
    (fun r h c => ⟨(h c).1.trans ?_, (h c).2.1.trans ?_, (h c).2.2.1.trans ?_, (h c).2.2.2.1.trans ?_, (h c).2.2.2.2⟩) (Cert.Reference17Ideal.Value.run m' g')
  · refine Eq.trans ?_ (Cert.Kernel17Ideal.Value.final_dx m c).symm
    rw [Cert.Reference17Ideal.Read.val_main_v49_eq, (hagree c).1, (hagree c).2.1, (hagree c).2.2.1, (hagree c).2.2.2.1, (hagree c).2.2.2.2.1]
    funext x
    obtain ⟨i, j, rfl⟩ : ∃ i j, x = ix2 i j := ⟨x 0, x 1, by ext a; fin_cases a <;> rfl⟩
    exact Cert.Reference17Ideal.Norm.dx_at _ _ _ _ _ (hf c).1 (hf c).2.1 (hf c).2.2.1 (hf c).2.2.2 i j
  · refine Eq.trans ?_ (Cert.Kernel17Ideal.Value.final_dw m c).symm
    refine (Cert.Reference17Ideal.Read.val_main_v50_eq _ _ _ _).trans ?_
    rw [(hagree c).1, (hagree c).2.2.1, (hagree c).2.2.2.1, (hagree c).2.2.2.2.2]
    funext x
    rw [RowSum.row x]
    exact Cert.Reference17Ideal.Norm.dw_at _ _ _ _ _
  · refine Eq.trans ?_ (Cert.Kernel17Ideal.Value.final_ds m c).symm
    refine (Cert.Reference17Ideal.Read.val_main_v27_eq _ _ _).trans ?_
    rw [(hagree c).1, (hagree c).2.1, (hagree c).2.2.2.1]
    funext x
    rw [RowSum.row x]
    exact Cert.Reference17Ideal.Norm.ds_at _ _ _ _
  · refine Eq.trans ?_ (Cert.Kernel17Ideal.Value.final_db m c).symm
    refine (Cert.Reference17Ideal.Read.val_main_v24_eq _).trans ?_
    rw [(hagree c).2.2.2.1]
    funext x
    rw [RowSum.row x]
    exact Cert.Reference17Ideal.Norm.db_at _ _

end Cert.Proof

end
-- ==== Proof.Norm0Ctx.lean ====
/- The first block's norm, backward over the context: only the gradients of the norm's weight, the scale and the shift. -/
module

public import proofs.«01_k».proof.Defs
public import proofs.«01_k».proof.Proof.Norm1
public import proofs.«01_k».proof.Proof.Gen.Kernel18Ideal.Value
public import proofs.«01_k».proof.Proof.Gen.Reference18Ideal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel18Ideal.Value

open Cert.Kernel18Ideal Cert.Kernel18Ideal.Gen Cert.ShortConv Cert.Norm
open Cert.Kernel12Ideal.Value (rs gw gs)

variable (m : (ℓ : Loc nD τ sig) → Buf (Elt Ideal) ℓ) (c : Dev nD)

/-- The context, the norm's weight, the scale, and the gradient's rows of the context. -/
abbrev X : ℕ → ℕ → EReal := rd (a := 256) (b := 4096) (φ := .f32) (m ((c : Thread nD τ).loc main_arg0))
abbrev W : ℕ → ℕ → EReal := rd (a := 1) (b := 4096) (φ := .f32) (m ((c : Thread nD τ).loc main_arg1))
abbrev S : ℕ → ℕ → EReal := rd (a := 1) (b := 4096) (φ := .f32) (m ((c : Thread nD τ).loc main_arg2))
abbrev D : ℕ → ℕ → EReal := fun r => rd (a := 4352) (b := 4096) (φ := .f32) (m ((c : Thread nD τ).loc main_arg3)) (4096 + r)

/-- The blocks' indices. -/
theorem idx : ∀ t : Fin cfg0.N, win0_0.index t = ![0, 0] ∧ win0_1.index t = ![0, 0] ∧ win0_2.index t = ![0, 0]
    ∧ win0_3.index t = ![16, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0]
    ∧ win0_3.index t = ![16, 0] ∧ win0_4.index t = ![0, 0] ∧ win0_5.index t = ![0, 0] ∧ win0_6.index t = ![0, 0])

theorem block0 (t : Fin cfg0.N) (i : Fin 256) (j : Fin 4096) :
    (iblk m c 0 t : Vec Ideal S256x4096 .f32) (ix2 i j) = X m c (i) j := by
  have hN : cfg0.N = 1 := N_0
  have := t.isLt; have := i.isLt
  unfold X rd
  rw [dif_pos ⟨by omega, j.isLt⟩]
  blk_ext [iblk, V, idx t]

theorem block1 (t : Fin cfg0.N) (j : Fin 4096) : (iblk m c 1 t : Vec Ideal S1x4096 .f32) (ix2 0 j) = W m c 0 j := by
  unfold W rd
  rw [dif_pos ⟨by omega, j.isLt⟩]
  blk_ext [iblk, V, idx t]

theorem block2 (t : Fin cfg0.N) (j : Fin 4096) : (iblk m c 2 t : Vec Ideal S1x4096 .f32) (ix2 0 j) = S m c 0 j := by
  unfold S rd
  rw [dif_pos ⟨by omega, j.isLt⟩]
  blk_ext [iblk, V, idx t]

theorem block3 (t : Fin cfg0.N) (i : Fin 256) (j : Fin 4096) :
    (iblk m c 3 t : Vec Ideal S256x4096 .f32) (ix2 i j) = D m c (i) j := by
  have hN : cfg0.N = 1 := N_0
  have := t.isLt; have := i.isLt
  unfold D rd
  rw [dif_pos ⟨by omega, j.isLt⟩]
  blk_ext [iblk, V, idx t]

theorem dw_out (t : Fin cfg0.N) (x : S1x4096.Idx) :
    (outsAt0 m c t).1 x = ∑ r : Fin 256, gw (X m c) (S m c) (D m c) r (x 1).val := by
  have e := fun a j => Cert.Kernel12Ideal.Value.dw_at (iblk m c 0 t) (iblk m c 3 t) (iblk m c 2 t) a j
  simp only [block0, block2, block3] at e
  rw [RowSum.row x]
  generalize (x 1 : Fin 4096) = j
  unfold outsAt0; frame_out
  refine (e _ j).trans ?_
  rw [show k0_pay2 (F := Ideal) (ix2 0 j) = 0 by pointwise [k0_pay2], zero_add]; rfl

theorem ds_out (t : Fin cfg0.N) (x : S1x4096.Idx) :
    (outsAt0 m c t).2.1 x = ∑ r : Fin 256, gs (X m c) (W m c) (D m c) r (x 1).val := by
  have e := fun a j => Cert.Kernel12Ideal.Value.ds_at (iblk m c 0 t) (iblk m c 3 t) (iblk m c 1 t) a j
  simp only [block0, block1, block3] at e
  rw [RowSum.row x]
  generalize (x 1 : Fin 4096) = j
  unfold outsAt0; frame_out
  refine (e _ j).trans ?_
  rw [show k0_pay3 (F := Ideal) (ix2 0 j) = 0 by pointwise [k0_pay3], zero_add]; rfl

theorem db_out (t : Fin cfg0.N) (x : S1x4096.Idx) :
    (outsAt0 m c t).2.2 x = ∑ r : Fin 256, D m c r (x 1).val := by
  have e := fun a j => Cert.Kernel12Ideal.Value.db_at (iblk m c 3 t) a j
  simp only [block3] at e
  rw [RowSum.row x]
  generalize (x 1 : Fin 4096) = j
  unfold outsAt0; frame_out
  refine (e _ j).trans ?_
  rw [show k0_pay4 (F := Ideal) (ix2 0 j) = 0 by pointwise [k0_pay4], zero_add]; rfl

theorem final_dw : (dats m 0 c).arrAt 4 cfg0.N = (fun y => ∑ r : Fin 256, gw (X m c) (S m c) (D m c) r (y 1).val : FVec Ideal S1x4096 .f32) := by
  refine (dats m 0 c).arrAt_eq_of_covers 4 (fun y => ∑ r : Fin 256, gw (X m c) (S m c) (D m c) r (y 1).val : FVec Ideal S1x4096 .f32)
    (by decide +kernel) fun t hf y => ?_
  rw [after0_4]
  refine (dw_out m c t _).trans ?_
  have h1 : (((cfg0.win 4).blk t).view.emb y 1).val = ((cfg0.win 4).xinj (cfg0.grid.coords t) y 1).val := by
    blk_simp [idx t]
  exact congrArg (fun k => ∑ r : Fin 256, gw (X m c) (S m c) (D m c) r k) h1.symm

theorem final_ds : (dats m 0 c).arrAt 5 cfg0.N = (fun y => ∑ r : Fin 256, gs (X m c) (W m c) (D m c) r (y 1).val : FVec Ideal S1x4096 .f32) := by
  refine (dats m 0 c).arrAt_eq_of_covers 5 (fun y => ∑ r : Fin 256, gs (X m c) (W m c) (D m c) r (y 1).val : FVec Ideal S1x4096 .f32)
    (by decide +kernel) fun t hf y => ?_
  rw [after0_5]
  refine (ds_out m c t _).trans ?_
  have h1 : (((cfg0.win 5).blk t).view.emb y 1).val = ((cfg0.win 5).xinj (cfg0.grid.coords t) y 1).val := by
    blk_simp [idx t]
  exact congrArg (fun k => ∑ r : Fin 256, gs (X m c) (W m c) (D m c) r k) h1.symm

theorem final_db : (dats m 0 c).arrAt 6 cfg0.N = (fun y => ∑ r : Fin 256, D m c r (y 1).val : FVec Ideal S1x4096 .f32) := by
  refine (dats m 0 c).arrAt_eq_of_covers 6 (fun y => ∑ r : Fin 256, D m c r (y 1).val : FVec Ideal S1x4096 .f32)
    (by decide +kernel) fun t hf y => ?_
  rw [after0_6]
  refine (db_out m c t _).trans ?_
  have h1 : (((cfg0.win 6).blk t).view.emb y 1).val = ((cfg0.win 6).xinj (cfg0.grid.coords t) y 1).val := by
    blk_simp [idx t]
  exact congrArg (fun k => ∑ r : Fin 256, D m c r k) h1.symm

end Cert.Kernel18Ideal.Value

namespace Cert.Reference18Ideal.Norm

open Cert.Reference18Ideal Cert.Reference18Ideal.Read Cert.ShortConv Cert.Norm
open Cert.Kernel12Ideal.Value (width offset rs gw gs)

variable (x : FVec Ideal S256x4096 .f32) (w s : FVec Ideal S1x4096 .f32) (d : FVec Ideal S4352x4096 .f32)

theorem root_at (i : Fin 256) : val_main_v8 (F := Ideal) x (ix2 i 0) = rs (rd x) i := by
  unfold rs scl
  simp only [← rd_eq]
  pointwise [val_main_v8, val_main_v7, val_main_v6, val_main_v5, val_main_v4, val_main_v3, val_main_v2, val_main_v1,
    val_main_cst_0, val_main_cst_1, val_main_cst_2]

/-- The gradient's rows of the context. -/
theorem slice_at (i : Fin 256) (j : Fin 4096) : val_main_v22 (F := Ideal) d (ix2 i j) = rd d (4096 + i) j := by
  rw [show rd d (4096 + i) j = d (ix2 ⟨4096 + i.val, by omega⟩ j) from (rd_eq d ⟨4096 + i.val, by omega⟩ j).symm]
  pointwise [val_main_v22]

theorem dw_at (j : Fin 4096) : val_main_v32 (F := Ideal) x s d (ix2 0 j) = ∑ r : Fin 256, gw (rd x) (rd s) (fun r => rd d (4096 + r)) r j := by
  unfold gw
  simp only [← root_at, ← slice_at, ← rd_eq, show rd s 0 j = s (ix2 0 j) from (rd_eq s 0 j).symm]
  rw [show val_main_v32 (F := Ideal) x s d (ix2 0 j) = ∑ r : Fin 256, x (ix2 r j) * val_main_v8 (F := Ideal) x (ix2 r 0)
      * (val_main_v22 (F := Ideal) d (ix2 r j) * (1 + s (ix2 0 j))) by
    pointwise [val_main_v32, val_main_v31, val_main_v30, val_main_v29, val_main_v28, val_main_v17, val_main_v16, val_main_v13, val_main_v12, val_main_cst_4, val_main_cst_7]]
  exact Finset.sum_congr rfl fun r _ => mul_comm _ _

theorem ds_at (j : Fin 4096) : val_main_v27 (F := Ideal) x w d (ix2 0 j) = ∑ r : Fin 256, gs (rd x) (rd w) (fun r => rd d (4096 + r)) r j := by
  unfold gs
  simp only [← root_at, ← slice_at, ← rd_eq, show rd w 0 j = w (ix2 0 j) from (rd_eq w 0 j).symm]
  rw [show val_main_v27 (F := Ideal) x w d (ix2 0 j) = ∑ r : Fin 256, x (ix2 r j) * val_main_v8 (F := Ideal) x (ix2 r 0) * w (ix2 0 j)
      * val_main_v22 (F := Ideal) d (ix2 r j) by
    pointwise [val_main_v27, val_main_v26, val_main_v25, val_main_v15, val_main_v14, val_main_v13, val_main_v12, val_main_cst_6]]
  exact Finset.sum_congr rfl fun r _ => mul_comm _ _

theorem db_at (j : Fin 4096) : val_main_v24 (F := Ideal) d (ix2 0 j) = ∑ r : Fin 256, rd d (4096 + r) j := by
  simp only [← slice_at]
  pointwise [val_main_v24, val_main_v23, val_main_cst_5]

end Cert.Reference18Ideal.Norm

namespace Cert.Proof

open Cert.ShortConv

theorem norm0_ctx_reference_frame : Cert.quiescent_Reference18Ideal := fun m g _ =>
  (θ_run Cert.Reference18Ideal.defs _ _).mono
    (fun r h => ⟨fun c => (h c).2.2.2, sem_eq_zero_of_no_sems (by decide) r.2⟩) (Cert.Reference18Ideal.Value.run m g)

theorem norm0_ctx_algebraic : Cert.algebraic_Kernel18Ideal_Reference18Ideal := by
  intro m g m' g' _ hagree
  refine ⟨fun c => (Cert.Kernel18Ideal.Gen.dats m 0 c).arrAt 4 Cert.Kernel18Ideal.cfg0.N,
    fun c => (Cert.Kernel18Ideal.Gen.dats m 0 c).arrAt 5 Cert.Kernel18Ideal.cfg0.N,
    fun c => (Cert.Kernel18Ideal.Gen.dats m 0 c).arrAt 6 Cert.Kernel18Ideal.cfg0.N, Cert.Kernel18Ideal.Value.run_blocks m g, ?_⟩
  refine (θ_run Cert.Reference18Ideal.defs _ _).mono
    (fun r h c => ⟨(h c).1.trans ?_, (h c).2.1.trans ?_, (h c).2.2.1.trans ?_, (h c).2.2.2⟩) (Cert.Reference18Ideal.Value.run m' g')
  · refine Eq.trans ?_ (Cert.Kernel18Ideal.Value.final_dw m c).symm
    refine (Cert.Reference18Ideal.Read.val_main_v32_eq _ _ _).trans ?_
    rw [(hagree c).1, (hagree c).2.2.1, (hagree c).2.2.2]
    funext x
    rw [RowSum.row x]
    exact Cert.Reference18Ideal.Norm.dw_at _ _ _ _
  · refine Eq.trans ?_ (Cert.Kernel18Ideal.Value.final_ds m c).symm
    refine (Cert.Reference18Ideal.Read.val_main_v27_eq _ _ _).trans ?_
    rw [(hagree c).1, (hagree c).2.1, (hagree c).2.2.2]
    funext x
    rw [RowSum.row x]
    exact Cert.Reference18Ideal.Norm.ds_at _ _ _ _
  · refine Eq.trans ?_ (Cert.Kernel18Ideal.Value.final_db m c).symm
    refine (Cert.Reference18Ideal.Read.val_main_v24_eq _).trans ?_
    rw [(hagree c).2.2.2]
    funext x
    rw [RowSum.row x]
    exact Cert.Reference18Ideal.Norm.db_at _ _

end Cert.Proof

end
-- ==== Proof.Norm1Fwd.lean ====
/- The second norm with its modulation, forwards, in blocks of 256 rows. -/
module

public import proofs.«01_k».proof.Defs
public import proofs.«01_k».proof.Proof.Norm1
public import proofs.«01_k».proof.Proof.Gen.Kernel19Ideal.Value
public import proofs.«01_k».proof.Proof.Gen.Reference19Ideal.Run
public import proofs.«01_k».proof.Proof.Gen.Reference19Ideal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel19Ideal.Value

open Cert.Kernel19Ideal Cert.Kernel19Ideal.Gen Cert.ShortConv Cert.Norm
open Cert.Kernel12Ideal.Value (width offset rs)

/-- What a block stores, element by element. -/
theorem modulated_at (x : Vec Ideal S256x4096 .f32) (w : Vec Ideal S1x4096 .f32) (s b : Vec Ideal S1x1x4096 .f32) (i : Fin 256) (j : Fin 4096) :
    k0_pay1 (F := Ideal) x w s b (ix2 i j)
      = x (ix2 i j) * (scl width offset fun k : Fin 4096 => x (ix2 i k)) * w (ix2 0 j) * (1 + s (ix3 0 0 j)) + b (ix3 0 0 j) := by
  rw [show scl width offset (fun k : Fin 4096 => x (ix2 i k)) = Cert.Kernel12Ideal.Gen.k0_pay7 (F := Ideal) x (ix2 i 0) from
    (Cert.Kernel12Ideal.Value.root_at x i).symm]
  pointwise [k0_pay1, Cert.Kernel12Ideal.Gen.k0_pay7]

variable (m : (ℓ : Loc nD τ sig) → Buf (Elt Ideal) ℓ) (c : Dev nD)

/-- The stream, the norm's weight, the scale and the shift. -/
abbrev X : ℕ → ℕ → EReal := rd (a := 4096) (b := 4096) (φ := .f32) (m ((c : Thread nD τ).loc main_arg0))
abbrev W : ℕ → ℕ → EReal := rd (a := 1) (b := 4096) (φ := .f32) (m ((c : Thread nD τ).loc main_arg1))
abbrev S : FVec Ideal S1x1x4096 .f32 := m ((c : Thread nD τ).loc main_arg2)
abbrev B : FVec Ideal S1x1x4096 .f32 := m ((c : Thread nD τ).loc main_arg3)

/-- The modulated norm of a row, with a scale and a shift per column. -/
def modulated (x w : ℕ → ℕ → EReal) (s b : Fin 4096 → EReal) (r : ℕ) (j : Fin 4096) : EReal := x r j * rs x r * w 0 j * (1 + s j) + b j

/-- The blocks' indices. -/
theorem idx : ∀ t : Fin cfg0.N, win0_0.index t = ![t.val, 0] ∧ win0_1.index t = ![0, 0] ∧ win0_2.index t = ![0, 0, 0]
    ∧ win0_3.index t = ![0, 0, 0] ∧ win0_4.index t = ![t.val, 0] :=
  (by decide +kernel : ∀ t : Fin grid0.N, win0_0.index t = ![t.val, 0] ∧ win0_1.index t = ![0, 0] ∧ win0_2.index t = ![0, 0, 0]
    ∧ win0_3.index t = ![0, 0, 0] ∧ win0_4.index t = ![t.val, 0])

theorem block0 (t : Fin cfg0.N) (i : Fin 256) (j : Fin 4096) :
    (iblk m c 0 t : Vec Ideal S256x4096 .f32) (ix2 i j) = X m c (256 * t.val + i) j := by
  have hN : cfg0.N = 16 := N_0
  have := t.isLt; have := i.isLt
  unfold X rd
  rw [dif_pos ⟨by omega, j.isLt⟩]
  blk_ext [iblk, V, idx t]

theorem block1 (t : Fin cfg0.N) (j : Fin 4096) : (iblk m c 1 t : Vec Ideal S1x4096 .f32) (ix2 0 j) = W m c 0 j := by
  unfold W rd
  rw [dif_pos ⟨by omega, j.isLt⟩]
  blk_ext [iblk, V, idx t]

theorem block2 (t : Fin cfg0.N) (j : Fin 4096) : (iblk m c 2 t : Vec Ideal S1x1x4096 .f32) (ix3 0 0 j) = S m c (ix3 0 0 j) := by
  blk_ext [iblk, V, idx t]

theorem block3 (t : Fin cfg0.N) (j : Fin 4096) : (iblk m c 3 t : Vec Ideal S1x1x4096 .f32) (ix3 0 0 j) = B m c (ix3 0 0 j) := by
  blk_ext [iblk, V, idx t]

def G : FVec Ideal S4096x4096 .bf16 := fun y => modulated (X m c) (W m c) (fun k => S m c (ix3 0 0 k)) (fun k => B m c (ix3 0 0 k)) (y 0).val (y 1)

theorem final : (dats m 0 c).arrAt 4 cfg0.N = G m c := by
  refine (dats m 0 c).arrAt_eq_of_covers 4 (G m c) (by decide +kernel) fun t hf y => ?_
  rw [after0_4]
  unfold out0_4
  canon_tiles x e
  obtain ⟨i, j, rfl⟩ : ∃ i j, x = ix2 i j := ⟨x 0, x 1, by ext a; fin_cases a <;> rfl⟩
  have h0 : (((cfg0.win 4).blk t).view.emb y 0).val = 256 * t.val + i := by
    have e0' : (y 0).val = i.val := e0
    rw [← e0']; blk_simp [idx t]; omega
  have h1 : (((cfg0.win 4).blk t).view.emb y 1) = j := Fin.ext (by
    have e1' : (y 1).val = j.val := e1
    rw [← e1']; blk_simp [idx t])
  refine (modulated_at _ _ _ _ i j).trans ?_
  iterate 4 rw [View.ld_unit_zero (by funext a; fin_cases a <;> rfl)]
  unfold G
  rw [h0, h1]
  simp only [block0, block1, block2, block3]
  rfl

end Cert.Kernel19Ideal.Value

namespace Cert.Reference19Ideal.Norm

open Cert.Reference19Ideal Cert.Reference19Ideal.Read Cert.ShortConv Cert.Norm
open Cert.Kernel12Ideal.Value (width offset rs)
open Cert.Kernel19Ideal.Value (modulated)

variable (x : FVec Ideal S4096x4096 .f32) (w : FVec Ideal S1x4096 .f32) (s b : FVec Ideal S1x1x4096 .f32)

theorem root_at (i : Fin 4096) : val_main_v9 (F := Ideal) x (ix2 i 0) = rs (rd x) i := by
  unfold rs scl
  simp only [← rd_eq]
  pointwise [val_main_v9, val_main_v8, val_main_v7, val_main_v6, val_main_v5, val_main_v4, val_main_v3, val_main_v2,
    val_main_cst, val_main_cst_0, val_main_cst_1]

theorem modulated_at (i j : Fin 4096) : val_main_v20 (F := Ideal) x w s b (ix2 i j)
    = modulated (rd x) (rd w) (fun k => s (ix3 0 0 k)) (fun k => b (ix3 0 0 k)) i j := by
  unfold modulated
  rw [← root_at, show rd x i j = x (ix2 i j) from (rd_eq x i j).symm, show rd w 0 j = w (ix2 0 j) from (rd_eq w 0 j).symm]
  pointwise [val_main_v20, val_main_v19, val_main_v18, val_main_v17, val_main_v16, val_main_v15, val_main_v14, val_main_v13,
    val_main_v12, val_main_v11, val_main_v10, val_main_v1, val_main_v0, val_main_cst_2]

end Cert.Reference19Ideal.Norm

namespace Cert.Proof

theorem norm1_fwd_reference_frame : Cert.quiescent_Reference19Ideal := fun m g _ =>
  (θ_run Cert.Reference19Ideal.defs _ _).mono
    (fun r h => ⟨fun c => (h c).2, sem_eq_zero_of_no_sems (by decide) r.2⟩) (Cert.Reference19Ideal.Value.run m g)

theorem norm1_fwd_algebraic : Cert.algebraic_Kernel19Ideal_Reference19Ideal := by
  intro m g m' g' _ hagree
  refine ⟨fun c => (Cert.Kernel19Ideal.Gen.dats m 0 c).arrAt 4 Cert.Kernel19Ideal.cfg0.N, Cert.Kernel19Ideal.Value.run_blocks m g, ?_⟩
  refine (θ_run Cert.Reference19Ideal.defs _ _).mono (fun r h c => ⟨(h c).1.trans ?_, (h c).2⟩) (Cert.Reference19Ideal.Value.run m' g')
  refine Eq.trans ?_ (Cert.Kernel19Ideal.Value.final m c).symm
  refine (Cert.Reference19Ideal.Read.val_main_v20_eq _ _ _ _).trans ?_
  rw [(hagree c).1, (hagree c).2.1, (hagree c).2.2.1, (hagree c).2.2.2]
  funext y
  obtain ⟨i, j, rfl⟩ : ∃ i j, y = ix2 i j := ⟨y 0, y 1, by ext a; fin_cases a <;> rfl⟩
  exact Cert.Reference19Ideal.Norm.modulated_at _ _ _ _ i j

end Cert.Proof

end
-- ==== Proof.Norm0Fwd.lean ====
/- The first norm with its modulation, forwards, in blocks of 256 rows: sixteen of the stream and one of the context. -/
module

public import proofs.«01_k».proof.Defs
public import proofs.«01_k».proof.Proof.Norm1Fwd
public import proofs.«01_k».proof.Proof.Gen.Kernel20Ideal.Value
public import proofs.«01_k».proof.Proof.Gen.Reference20Ideal.Run
public import proofs.«01_k».proof.Proof.Gen.Reference20Ideal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel20Ideal.Value

open Cert.Kernel20Ideal Cert.Kernel20Ideal.Gen Cert.ShortConv Cert.Norm
open Cert.Kernel12Ideal.Value (width offset rs)
open Cert.Kernel19Ideal.Value (modulated)

variable (m : (ℓ : Loc nD τ sig) → Buf (Elt Ideal) ℓ) (c : Dev nD)

/-- The stream, the context, the norm's weight, the two scales and the two shifts. -/
abbrev X : ℕ → ℕ → EReal := rd (a := 4096) (b := 4096) (φ := .f32) (m ((c : Thread nD τ).loc main_arg0))
abbrev C : ℕ → ℕ → EReal := rd (a := 256) (b := 4096) (φ := .f32) (m ((c : Thread nD τ).loc main_arg1))
abbrev W : ℕ → ℕ → EReal := rd (a := 1) (b := 4096) (φ := .f32) (m ((c : Thread nD τ).loc main_arg2))
abbrev S : FVec Ideal S2x1x4096 .f32 := m ((c : Thread nD τ).loc main_arg3)
abbrev B : FVec Ideal S2x1x4096 .f32 := m ((c : Thread nD τ).loc main_arg4)

/-- The blocks' indices: the stream's last block stays while the context's is normed. -/
theorem idx : ∀ t : Fin cfg0.N, win0_0.index t = ![min t.val 15, 0] ∧ win0_1.index t = ![0, 0] ∧ win0_2.index t = ![0, 0]
    ∧ win0_3.index t = ![t.val / 16, 0, 0] ∧ win0_4.index t = ![t.val / 16, 0, 0] ∧ win0_5.index t = ![t.val, 0] :=
  (by decide +kernel : ∀ t : Fin grid0.N, win0_0.index t = ![min t.val 15, 0] ∧ win0_1.index t = ![0, 0] ∧ win0_2.index t = ![0, 0]
    ∧ win0_3.index t = ![t.val / 16, 0, 0] ∧ win0_4.index t = ![t.val / 16, 0, 0] ∧ win0_5.index t = ![t.val, 0])

/-- Whether a point works on the stream. -/
theorem stream : ∀ t : Fin cfg0.N, Scalar.cmpi .slt (BitVec.ofNat 32 (grid0.coords t 0).val) 16#32 = if t.val < 16 then 1#1 else 0#1 :=
  (by decide +kernel : ∀ t : Fin grid0.N, Scalar.cmpi .slt (BitVec.ofNat 32 (grid0.coords t 0).val) 16#32 = if t.val < 16 then 1#1 else 0#1)

theorem block0 (t : Fin cfg0.N) (h : t.val < 16) (i : Fin 256) (j : Fin 4096) :
    (iblk m c 0 t : Vec Ideal S256x4096 .f32) (ix2 i j) = X m c (256 * t.val + i) j := by
  have := i.isLt
  unfold X rd
  rw [dif_pos ⟨by omega, j.isLt⟩]
  blk_ext [iblk, V, idx t]

theorem block1 (t : Fin cfg0.N) (i : Fin 256) (j : Fin 4096) : (iblk m c 1 t : Vec Ideal S256x4096 .f32) (ix2 i j) = C m c i j := by
  unfold C rd
  rw [dif_pos ⟨i.isLt, j.isLt⟩]
  blk_ext [iblk, V, idx t]

theorem block2 (t : Fin cfg0.N) (j : Fin 4096) : (iblk m c 2 t : Vec Ideal S1x4096 .f32) (ix2 0 j) = W m c 0 j := by
  unfold W rd
  rw [dif_pos ⟨by omega, j.isLt⟩]
  blk_ext [iblk, V, idx t]

theorem block3 (t : Fin cfg0.N) (k : Fin 2) (h : t.val / 16 = k.val) (j : Fin 4096) :
    (iblk m c 3 t : Vec Ideal S1x1x4096 .f32) (ix3 0 0 j) = S m c (ix3 k 0 j) := by
  blk_ext [iblk, V, idx t, h]

theorem block4 (t : Fin cfg0.N) (k : Fin 2) (h : t.val / 16 = k.val) (j : Fin 4096) :
    (iblk m c 4 t : Vec Ideal S1x1x4096 .f32) (ix3 0 0 j) = B m c (ix3 k 0 j) := by
  blk_ext [iblk, V, idx t, h]

/-- The stream's rows, then the context's. -/
def normed (x y w : ℕ → ℕ → EReal) (s b : Fin 2 → Fin 4096 → EReal) (r : ℕ) (j : Fin 4096) : EReal :=
  if r < 4096 then modulated x w (s 0) (b 0) r j else modulated y w (s 1) (b 1) (r - 4096) j

def G : FVec Ideal S4352x4096 .bf16 := fun y => normed (X m c) (C m c) (W m c) (fun k j => S m c (ix3 k 0 j)) (fun k j => B m c (ix3 k 0 j)) (y 0).val (y 1)

/-- What a point stores. -/
theorem normed_out (t : Fin cfg0.N) (i : Fin 256) (j : Fin 4096) :
    k0_pay1 (F := Ideal) (grid0.coords t) (iblk m c 0 t) (iblk m c 1 t) (iblk m c 2 t) (iblk m c 3 t) (iblk m c 4 t) (ix2 i j)
      = normed (X m c) (C m c) (W m c) (fun k j => S m c (ix3 k 0 j)) (fun k j => B m c (ix3 k 0 j)) (256 * t.val + i) j := by
  have hN : cfg0.N = 17 := N_0
  have := t.isLt; have := i.isLt
  rw [show k0_pay1 (F := Ideal) (grid0.coords t) (iblk m c 0 t) (iblk m c 1 t) (iblk m c 2 t) (iblk m c 3 t) (iblk m c 4 t) (ix2 i j)
    = Cert.Kernel19Ideal.Gen.k0_pay1 (F := Ideal) (Scalar.select (Scalar.cmpi .slt (BitVec.ofNat 32 (grid0.coords t 0).val) 16#32)
      (iblk m c 0 t : Vec Ideal S256x4096 .f32) (iblk m c 1 t)) (iblk m c 2 t) (iblk m c 3 t) (iblk m c 4 t) (ix2 i j) from rfl, stream]
  unfold normed modulated
  by_cases h : t.val < 16
  · rw [if_pos h, if_pos (by omega), show ∀ a b : Vec Ideal S256x4096 .f32, Scalar.select 1#1 a b = a from fun _ _ => rfl]
    have e := Cert.Kernel19Ideal.Value.modulated_at (iblk m c 0 t) (iblk m c 2 t) (iblk m c 3 t) (iblk m c 4 t) i j
    simp only [block0 m c t h, block2, block3 m c t 0 (Nat.div_eq_of_lt h), block4 m c t 0 (Nat.div_eq_of_lt h)] at e
    exact e
  · have ht : t.val = 16 := by omega
    rw [if_neg h, if_neg (by omega), show ∀ a b : Vec Ideal S256x4096 .f32, Scalar.select 0#1 a b = b from fun _ _ => rfl,
      show 256 * t.val + i.val - 4096 = i.val by omega]
    have e := Cert.Kernel19Ideal.Value.modulated_at (iblk m c 1 t) (iblk m c 2 t) (iblk m c 3 t) (iblk m c 4 t) i j
    simp only [block1, block2, block3 m c t 1 (by rw [ht]; rfl), block4 m c t 1 (by rw [ht]; rfl)] at e
    exact e

theorem final : (dats m 0 c).arrAt 5 cfg0.N = G m c := by
  refine (dats m 0 c).arrAt_eq_of_covers 5 (G m c) (by decide +kernel) fun t hf y => ?_
  rw [after0_5]
  unfold out0_5
  canon_tiles x e
  obtain ⟨i, j, rfl⟩ : ∃ i j, x = ix2 i j := ⟨x 0, x 1, by ext a; fin_cases a <;> rfl⟩
  have h0 : (((cfg0.win 5).blk t).view.emb y 0).val = 256 * t.val + i := by
    have e0' : (y 0).val = i.val := e0
    rw [← e0']; blk_simp [idx t]; omega
  have h1 : (((cfg0.win 5).blk t).view.emb y 1) = j := Fin.ext (by
    have e1' : (y 1).val = j.val := e1
    rw [← e1']; blk_simp [idx t])
  iterate 5 rw [View.ld_unit_zero (by funext a; fin_cases a <;> rfl)]
  refine (normed_out m c t i j).trans ?_
  unfold G
  rw [h0, h1]

end Cert.Kernel20Ideal.Value

namespace Cert.Reference20Ideal.Norm

open Cert.Reference20Ideal Cert.Reference20Ideal.Read Cert.Reference20Ideal.Gen Cert.ShortConv Cert.Norm
open Cert.Kernel12Ideal.Value (width offset rs)
open Cert.Kernel19Ideal.Value (modulated)
open Cert.Kernel20Ideal.Value (normed)

variable (x : FVec Ideal S4096x4096 .f32) (y : FVec Ideal S256x4096 .f32) (w : FVec Ideal S1x4096 .f32) (s b : FVec Ideal S2x1x4096 .f32)

theorem root_at (i : Fin 4096) : val_main_v11 (F := Ideal) x (ix2 i 0) = rs (rd x) i := Cert.Reference19Ideal.Norm.root_at x i

theorem stream_at (i j : Fin 4096) : val_main_v21 (F := Ideal) x w s b (ix2 i j)
    = modulated (rd x) (rd w) (fun k => s (ix3 0 0 k)) (fun k => b (ix3 0 0 k)) i j := by
  unfold modulated
  rw [← root_at, show rd x i j = x (ix2 i j) from (rd_eq x i j).symm, show rd w 0 j = w (ix2 0 j) from (rd_eq w 0 j).symm]
  pointwise [val_main_v21, val_main_v20, val_main_v19, val_main_v18, val_main_v17, val_main_v16, val_main_v15, val_main_v14, val_main_v13,
    val_main_v12, val_main_v3, val_main_v2, val_main_v1, val_main_v0, val_main_cst_2]

theorem context_root_at (i : Fin 256) : val_main_v33 (F := Ideal) y (ix2 i 0) = rs (rd y) i := by
  unfold rs scl
  simp only [← rd_eq]
  pointwise [val_main_v33, val_main_v32, val_main_v31, val_main_v30, val_main_v29, val_main_v28, val_main_v27, val_main_v26,
    val_main_cst_3, val_main_cst_4, val_main_cst_5]

theorem context_at (i : Fin 256) (j : Fin 4096) : val_main_v43 (F := Ideal) y w s b (ix2 i j)
    = modulated (rd y) (rd w) (fun k => s (ix3 1 0 k)) (fun k => b (ix3 1 0 k)) i j := by
  unfold modulated
  rw [← context_root_at, show rd y i j = y (ix2 i j) from (rd_eq y i j).symm, show rd w 0 j = w (ix2 0 j) from (rd_eq w 0 j).symm]
  pointwise [val_main_v43, val_main_v42, val_main_v41, val_main_v40, val_main_v39, val_main_v38, val_main_v37, val_main_v36, val_main_v35,
    val_main_v34, val_main_v25, val_main_v24, val_main_v23, val_main_v22, val_main_cst_6]

theorem stack_at (p : FVec Ideal S4096x4096 .f32) (q : FVec Ideal S256x4096 .f32) (i : Fin 4352) (j : Fin 4096) :
    concatenate S4352x4096 0 [⟨S4096x4096, p⟩, ⟨S256x4096, q⟩] concatenates_S4096x4096_S256x4096_S4352x4096_d0 (ix2 i j)
      = if h : i.val < 4096 then p (ix2 ⟨i.val, h⟩ j) else q (ix2 ⟨i.val - 4096, by omega⟩ j) := by
  pointwise

theorem normed_at (i : Fin 4352) (j : Fin 4096) : val_main_v45 (F := Ideal) x y w s b (ix2 i j)
    = normed (rd x) (rd y) (rd w) (fun k j => s (ix3 k 0 j)) (fun k j => b (ix3 k 0 j)) i j := by
  refine (show val_main_v45 (F := Ideal) x y w s b (ix2 i j) = val_main_v44 (F := Ideal) x y w s b (ix2 i j) from rfl).trans ((stack_at _ _ i j).trans ?_)
  unfold normed
  by_cases h : i.val < 4096
  · rw [dif_pos h, if_pos h, stream_at]
  · rw [dif_neg h, if_neg h, context_at]

end Cert.Reference20Ideal.Norm

namespace Cert.Proof

theorem norm0_fwd_reference_frame : Cert.quiescent_Reference20Ideal := fun m g _ =>
  (θ_run Cert.Reference20Ideal.defs _ _).mono
    (fun r h => ⟨fun c => (h c).2, sem_eq_zero_of_no_sems (by decide) r.2⟩) (Cert.Reference20Ideal.Value.run m g)

theorem norm0_fwd_algebraic : Cert.algebraic_Kernel20Ideal_Reference20Ideal := by
  intro m g m' g' _ hagree
  refine ⟨fun c => (Cert.Kernel20Ideal.Gen.dats m 0 c).arrAt 5 Cert.Kernel20Ideal.cfg0.N, Cert.Kernel20Ideal.Value.run_blocks m g, ?_⟩
  refine (θ_run Cert.Reference20Ideal.defs _ _).mono (fun r h c => ⟨(h c).1.trans ?_, (h c).2⟩) (Cert.Reference20Ideal.Value.run m' g')
  refine Eq.trans ?_ (Cert.Kernel20Ideal.Value.final m c).symm
  refine (Cert.Reference20Ideal.Read.val_main_v45_eq _ _ _ _ _).trans ?_
  rw [(hagree c).1, (hagree c).2.1, (hagree c).2.2.1, (hagree c).2.2.2.1, (hagree c).2.2.2.2]
  funext x
  obtain ⟨i, j, rfl⟩ : ∃ i j, x = ix2 i j := ⟨x 0, x 1, by ext a; fin_cases a <;> rfl⟩
  exact Cert.Reference20Ideal.Norm.normed_at _ _ _ _ _ i j

end Cert.Proof

end
-- ==== Proof.LruGateFwd.lean ====
/- The recurrence's output gate, forwards: the states times the gate, in blocks of 512 rows and columns. -/
module

public import proofs.«01_k».proof.Defs
public import proofs.«01_k».proof.Proof.ShortConvSpec
public import proofs.«01_k».proof.Proof.Gen.Kernel21Ideal.Value
public import proofs.«01_k».proof.Proof.Gen.Reference21Ideal.Run
public import proofs.«01_k».proof.Proof.Gen.Reference21Ideal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel21Ideal.Value

open Cert.Kernel21Ideal Cert.Kernel21Ideal.Gen Cert.ShortConv

/-- What a block stores, element by element. -/
theorem gated_at (h g : Vec Ideal S512x512 .f32) (i j : Fin 512) :
    k0_pay1 (F := Ideal) h g (ix2 i j) = h (ix2 i j) * (g (ix2 i j) * Ideal.logistic (g (ix2 i j))) := by
  pointwise [k0_pay1]

variable (m : (ℓ : Loc nD τ sig) → Buf (Elt Ideal) ℓ) (c : Dev nD)

/-- The states, the projection. -/
abbrev H : ℕ → ℕ → EReal := rd (a := 4096) (b := 2048) (φ := .f32) (m ((c : Thread nD τ).loc main_arg0))
abbrev P : ℕ → ℕ → EReal := rd (a := 4352) (b := 12288) (φ := .f32) (m ((c : Thread nD τ).loc main_arg1))

/-- The blocks' indices: the gate's columns are 20 blocks to the right. -/
theorem idx : ∀ t : Fin cfg0.N, win0_0.index t = ![t.val / 4, t.val % 4] ∧ win0_1.index t = ![t.val / 4, 20 + t.val % 4]
    ∧ win0_2.index t = ![t.val / 4, t.val % 4] :=
  (by decide +kernel : ∀ t : Fin grid0.N, win0_0.index t = ![t.val / 4, t.val % 4] ∧ win0_1.index t = ![t.val / 4, 20 + t.val % 4]
    ∧ win0_2.index t = ![t.val / 4, t.val % 4])

theorem block0 (t : Fin cfg0.N) (i j : Fin 512) :
    (iblk m c 0 t : Vec Ideal S512x512 .f32) (ix2 i j) = H m c (512 * (t.val / 4) + i) (512 * (t.val % 4) + j) := by
  have hN : cfg0.N = 32 := N_0
  have := t.isLt; have := i.isLt; have := j.isLt
  unfold H rd
  rw [dif_pos ⟨by omega, by omega⟩]
  blk_ext [iblk, V, idx t]

theorem block1 (t : Fin cfg0.N) (i j : Fin 512) :
    (X0_1 m c t : Vec Ideal S512x512 .f32) (ix2 i j) = P m c (512 * (t.val / 4) + i) (10240 + (512 * (t.val % 4) + j)) := by
  have hN : cfg0.N = 32 := N_0
  have := t.isLt; have := i.isLt; have := j.isLt
  unfold P rd
  rw [dif_pos ⟨by omega, by omega⟩]
  unfold X0_1 Pipeline.Window.fill
  rw [dif_pos (moved0_1 t _)]
  blk_ext [iblk, V, idx t]

/-- The gated states. -/
def gated (h p : ℕ → ℕ → EReal) (i j : ℕ) : EReal := h i j * (p i (10240 + j) * Ideal.logistic (p i (10240 + j)))
def G : FVec Ideal S4096x2048 .bf16 := fun y => gated (H m c) (P m c) (y 0).val (y 1).val

theorem gated_out (t : Fin cfg0.N) (i j : Fin 512) :
    outsAt0 m c t (ix2 i j) = gated (H m c) (P m c) (512 * (t.val / 4) + i) (512 * (t.val % 4) + j) := by
  unfold outsAt0; frame_out
  exact (gated_at _ _ i j).trans (congrArg₂ _ (block0 m c t i j) (congrArg (fun x => x * Ideal.logistic x) (block1 m c t i j)))

theorem final : (dats m 0 c).arrAt 2 cfg0.N = G m c := by
  refine (dats m 0 c).arrAt_eq_of_covers 2 (G m c) (by decide +kernel) fun t hf y => ?_
  rw [after0_2]
  have key := gated_out m c t
  generalize outsAt0 m c t = K at key ⊢
  obtain ⟨i, j, e⟩ : ∃ (i j : Fin 512), (((cfg0.win 2).xinj (grid0.coords t) y : S512x512.Idx)) = ix2 i j :=
    ⟨((cfg0.win 2).xinj (grid0.coords t) y : S512x512.Idx) 0, ((cfg0.win 2).xinj (grid0.coords t) y : S512x512.Idx) 1, by ext a; fin_cases a <;> rfl⟩
  refine (congrArg K e).trans ((key i j).trans ?_)
  have h0 : (((cfg0.win 2).blk t).view.emb y 0).val = 512 * (t.val / 4) + i := by
    have e0' : (y 0).val = i.val := congrArg (fun z : S512x512.Idx => (z 0).val) e
    rw [← e0']; blk_simp [idx t]; omega
  have h1 : (((cfg0.win 2).blk t).view.emb y 1).val = 512 * (t.val % 4) + j := by
    have e1' : (y 1).val = j.val := congrArg (fun z : S512x512.Idx => (z 1).val) e
    rw [← e1']; blk_simp [idx t]; omega
  unfold G
  rw [h0, h1]

end Cert.Kernel21Ideal.Value

namespace Cert.Reference21Ideal.Gate

open Cert.Reference21Ideal Cert.Reference21Ideal.Read Cert.ShortConv

variable (h : FVec Ideal S4096x2048 .f32) (p : FVec Ideal S4352x12288 .f32)

theorem gate_at (i : Fin 4096) (j : Fin 2048) : val_main_v0 (F := Ideal) p (ix2 i j) = rd p i (10240 + j) := by
  rw [show val_main_v0 (F := Ideal) p (ix2 i j) = p (ix2 ⟨i.val, by omega⟩ ⟨10240 + j.val, by omega⟩) by pointwise [val_main_v0], rd_eq p]

theorem sigma_at (i : Fin 4096) (j : Fin 2048) : val_main_call0_v5 (F := Ideal) p (ix2 i j) = Ideal.logistic (rd p i (10240 + j)) := by
  rw [← gate_at]
  have e : ∀ Y : FVec Ideal S4096x2048 .f32, Host.divf (val_main_call0_v4 (F := Ideal)) (addf (val_main_call0_v2 (F := Ideal)) (Host.exp (Host.negf Y))) (ix2 i j)
      = Ideal.logistic (Y (ix2 i j)) := fun Y => by
    pointwise [val_main_call0_v4, val_main_call0_v2, val_main_call0_cst, val_main_call0_cst_0]
    rfl
  exact e _

theorem gated_at (i : Fin 4096) (j : Fin 2048) :
    val_main_v3 (F := Ideal) h p (ix2 i j) = Cert.Kernel21Ideal.Value.gated (rd h) (rd p) i j := by
  rw [show val_main_v3 (F := Ideal) h p (ix2 i j) = h (ix2 i j)
    * (val_main_v0 (F := Ideal) p (ix2 i j) * val_main_call0_v5 (F := Ideal) p (ix2 i j)) from rfl, gate_at, sigma_at, rd_eq h]; rfl

end Cert.Reference21Ideal.Gate

namespace Cert.Proof

theorem lru_gate_fwd_reference_frame : Cert.quiescent_Reference21Ideal := fun m g _ =>
  (θ_run Cert.Reference21Ideal.defs _ _).mono
    (fun r h => ⟨fun c => (h c).2, sem_eq_zero_of_no_sems (by decide) r.2⟩) (Cert.Reference21Ideal.Value.run m g)

theorem lru_gate_fwd_algebraic : Cert.algebraic_Kernel21Ideal_Reference21Ideal := by
  intro m g m' g' _ hagree
  refine ⟨fun c => (Cert.Kernel21Ideal.Gen.dats m 0 c).arrAt 2 Cert.Kernel21Ideal.cfg0.N, Cert.Kernel21Ideal.Value.run_blocks m g, ?_⟩
  refine (θ_run Cert.Reference21Ideal.defs _ _).mono (fun r h c => ⟨(h c).1.trans ?_, (h c).2⟩) (Cert.Reference21Ideal.Value.run m' g')
  refine Eq.trans ?_ (Cert.Kernel21Ideal.Value.final m c).symm
  refine (Cert.Reference21Ideal.Read.val_main_v3_eq _ _).trans ?_
  rw [(hagree c).1, (hagree c).2]
  funext x
  obtain ⟨i, j, rfl⟩ : ∃ i j, x = ix2 i j := ⟨x 0, x 1, by ext a; fin_cases a <;> rfl⟩
  exact Cert.Reference21Ideal.Gate.gated_at _ _ i j

end Cert.Proof

end
-- ==== Proof.DnOutFwd.lean ====
/- The delta rule's output, forwards: each head normed, weighted and gated, in blocks of 1024 rows and one head. -/
module

public import proofs.«01_k».proof.Defs
public import proofs.«01_k».proof.Proof.DnOut
public import proofs.«01_k».proof.Proof.Gen.Kernel22Ideal.Value
public import proofs.«01_k».proof.Proof.Gen.Reference22Ideal.Run
public import proofs.«01_k».proof.Proof.Gen.Reference22Ideal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel22Ideal.Value

open Cert.Kernel22Ideal Cert.Kernel22Ideal.Gen Cert.ShortConv Cert.Norm
open Cert.Kernel13Ideal.Value (width offset rs lane)

/-- What a block stores, element by element. -/
theorem out_at (x : Vec Ideal S1024x128 .f32) (w : Vec Ideal S1x128 .f32) (g : Vec Ideal S1024x128 .f32) (i : Fin 1024) (j : Fin 128) :
    k0_pay1 (F := Ideal) x w g (ix2 i j)
      = x (ix2 i j) * (scl width offset fun k : Fin 128 => x (ix2 i k)) * w (ix2 0 j) * (g (ix2 i j) * Ideal.logistic (g (ix2 i j))) := by
  rw [show scl width offset (fun k : Fin 128 => x (ix2 i k)) = Cert.Kernel13Ideal.Gen.k0_pay4 (F := Ideal) x (ix2 i 0) from
    (Cert.Kernel13Ideal.Value.root_at x i).symm]
  pointwise [k0_pay1, Cert.Kernel13Ideal.Gen.k0_pay4]

variable (m : (ℓ : Loc nD τ sig) → Buf (Elt Ideal) ℓ) (c : Dev nD)

/-- The delta rule's output, the projection, the norm's weight. -/
abbrev O : ℕ → ℕ → EReal := rd (a := 4096) (b := 2048) (φ := .f32) (m ((c : Thread nD τ).loc main_arg0))
abbrev P : ℕ → ℕ → EReal := rd (a := 4352) (b := 12288) (φ := .f32) (m ((c : Thread nD τ).loc main_arg1))
abbrev W : ℕ → ℕ → EReal := rd (a := 1) (b := 128) (φ := .f32) (m ((c : Thread nD τ).loc main_arg2))

/-- Row `r`, head `h`, column `j` of the head. -/
def out (o p w : ℕ → ℕ → EReal) (r h j : ℕ) : EReal :=
  o r (128 * h + j) * rs o r h * w 0 j * (p r (8192 + (128 * h + j)) * Ideal.logistic (p r (8192 + (128 * h + j))))

/-- The blocks' indices: four row blocks, sixteen heads; the gate's columns are 64 heads' widths to the right. -/
theorem idx : ∀ t : Fin cfg0.N, win0_0.index t = ![t.val / 16, t.val % 16] ∧ win0_1.index t = ![t.val / 16, 64 + t.val % 16]
    ∧ win0_2.index t = ![0, 0] ∧ win0_3.index t = ![t.val / 16, t.val % 16] :=
  (by decide +kernel : ∀ t : Fin grid0.N, win0_0.index t = ![t.val / 16, t.val % 16] ∧ win0_1.index t = ![t.val / 16, 64 + t.val % 16]
    ∧ win0_2.index t = ![0, 0] ∧ win0_3.index t = ![t.val / 16, t.val % 16])

theorem block0 (t : Fin cfg0.N) (i : Fin 1024) (j : Fin 128) :
    (iblk m c 0 t : Vec Ideal S1024x128 .f32) (ix2 i j) = O m c (1024 * (t.val / 16) + i) (128 * (t.val % 16) + j) := by
  have hN : cfg0.N = 64 := N_0
  have := t.isLt; have := i.isLt; have := j.isLt
  unfold O rd
  rw [dif_pos ⟨by omega, by omega⟩]
  blk_ext [iblk, V, idx t]

theorem block1 (t : Fin cfg0.N) (i : Fin 1024) (j : Fin 128) :
    (X0_1 m c t : Vec Ideal S1024x128 .f32) (ix2 i j) = P m c (1024 * (t.val / 16) + i) (8192 + (128 * (t.val % 16) + j)) := by
  have hN : cfg0.N = 64 := N_0
  have := t.isLt; have := i.isLt; have := j.isLt
  unfold P rd
  rw [dif_pos ⟨by omega, by omega⟩]
  unfold X0_1 Pipeline.Window.fill
  rw [dif_pos (moved0_1 t _)]
  blk_ext [iblk, V, idx t]

theorem block2 (t : Fin cfg0.N) (j : Fin 128) : (iblk m c 2 t : Vec Ideal S1x128 .f32) (ix2 0 j) = W m c 0 j := by
  unfold W rd
  rw [dif_pos ⟨by omega, j.isLt⟩]
  blk_ext [iblk, V, idx t]

theorem out_block (t : Fin cfg0.N) (i : Fin 1024) (j : Fin 128) :
    outsAt0 m c t (ix2 i j) = out (O m c) (P m c) (W m c) (1024 * (t.val / 16) + i) (t.val % 16) j := by
  have e := out_at (iblk m c 0 t) (iblk m c 2 t) (X0_1 m c t) i j
  simp only [block0, block1, block2] at e
  unfold outsAt0; frame_out
  exact e

def G : FVec Ideal S4096x2048 .bf16 := fun y => out (O m c) (P m c) (W m c) (y 0).val ((y 1).val / 128) (lane (y 1).val)

theorem final : (dats m 0 c).arrAt 3 cfg0.N = G m c := by
  refine (dats m 0 c).arrAt_eq_of_covers 3 (G m c) (by decide +kernel) fun t hf y => ?_
  rw [after0_3]
  have key := out_block m c t
  generalize outsAt0 m c t = K at key ⊢
  obtain ⟨i, j, e⟩ : ∃ (i : Fin 1024) (j : Fin 128), (((cfg0.win 3).xinj (grid0.coords t) y : S1024x128.Idx)) = ix2 i j :=
    ⟨((cfg0.win 3).xinj (grid0.coords t) y : S1024x128.Idx) 0, ((cfg0.win 3).xinj (grid0.coords t) y : S1024x128.Idx) 1, by ext a; fin_cases a <;> rfl⟩
  refine (congrArg K e).trans ((key i j).trans ?_)
  have h0 : (((cfg0.win 3).blk t).view.emb y 0).val = 1024 * (t.val / 16) + i := by
    have e0' : (y 0).val = i.val := congrArg (fun z : S1024x128.Idx => (z 0).val) e
    rw [← e0']; blk_simp [idx t]; omega
  have h1 : (((cfg0.win 3).blk t).view.emb y 1).val = 128 * (t.val % 16) + j := by
    have e1' : (y 1).val = j.val := congrArg (fun z : S1024x128.Idx => (z 1).val) e
    rw [← e1']; blk_simp [idx t]; omega
  have := j.isLt
  unfold G
  rw [h0, h1, show (128 * (t.val % 16) + j.val) / 128 = t.val % 16 by omega,
    show lane (128 * (t.val % 16) + j.val) = j from Fin.ext (by show (128 * (t.val % 16) + j.val) % 128 = j.val; omega)]

end Cert.Kernel22Ideal.Value

namespace Cert.Reference22Ideal.Out

open Cert.Reference22Ideal Cert.Reference22Ideal.Read Cert.Reference22Ideal.Gen Cert.ShortConv Cert.Norm
open Cert.Kernel13Ideal.Value (width offset rs lane)

variable (o : FVec Ideal S4096x2048 .f32) (p : FVec Ideal S4352x12288 .f32) (w : FVec Ideal S1x128 .f32)

theorem head_at (i : Fin 4096) (h : Fin 16) (k : Fin 128) : val_main_v2 (F := Ideal) o (ix3 i h k) = rd o i (128 * h + k) :=
  Cert.Reference13Ideal.Norm.split_at o i h k

theorem root_at (i : Fin 4096) (h : Fin 16) : val_main_v10 (F := Ideal) o (ix3 i h 0) = rs (rd o) i h :=
  Cert.Reference13Ideal.Norm.root_at o i h

theorem weight_at (i : Fin 4096) (h : Fin 16) (k : Fin 128) : val_main_v14 (F := Ideal) w (ix3 i h k) = rd w 0 k := by
  rw [show rd w 0 k = w (ix2 0 k) from (rd_eq w 0 k).symm]
  pointwise [val_main_v14, val_main_v13, val_main_v1]

theorem sigma_at (i : Fin 4096) (c : Fin 2048) : val_main_call0_v5 (F := Ideal) p (ix2 i c) = Ideal.logistic (rd p i (8192 + c)) :=
  Cert.Reference13Ideal.Norm.sigma_at p i c

theorem gate_at (i : Fin 4096) (c : Fin 2048) : val_main_v0 (F := Ideal) p (ix2 i c) = rd p i (8192 + c) :=
  Cert.Reference13Ideal.Norm.gate_at p i c

theorem out_at (i : Fin 4096) (c : Fin 2048) :
    val_main_v19 (F := Ideal) o p w (ix2 i c) = Cert.Kernel22Ideal.Value.out (rd o) (rd p) (rd w) i (c.val / 128) (lane c) := by
  have hc := c.isLt
  have hl : 128 * (c.val / 128) + (lane c).val = c.val := by show 128 * (c.val / 128) + c.val % 128 = c.val; omega
  have e16 : val_main_v16 (F := Ideal) o w (ix2 i c) = rd o i c * rs (rd o) i (c.val / 128) * rd w 0 (lane c) := by
    rw [show val_main_v16 (F := Ideal) o w (ix2 i c) = val_main_v2 (F := Ideal) o (ix3 i ⟨c.val / 128, by omega⟩ (lane c))
        * val_main_v10 (F := Ideal) o (ix3 i ⟨c.val / 128, by omega⟩ 0) * val_main_v14 (F := Ideal) w (ix3 i ⟨c.val / 128, by omega⟩ (lane c)) by
      pointwise [val_main_v16, val_main_v15, val_main_v12, val_main_v11]
      rfl, head_at, root_at, weight_at]
    show rd o i (128 * (c.val / 128) + (lane c).val) * _ * _ = _
    rw [hl]
  rw [show val_main_v19 (F := Ideal) o p w (ix2 i c) = val_main_v16 (F := Ideal) o w (ix2 i c)
    * (val_main_v0 (F := Ideal) p (ix2 i c) * val_main_call0_v5 (F := Ideal) p (ix2 i c)) from rfl, e16, gate_at, sigma_at]
  unfold Cert.Kernel22Ideal.Value.out
  rw [hl]

end Cert.Reference22Ideal.Out

namespace Cert.Proof

theorem dn_out_fwd_reference_frame : Cert.quiescent_Reference22Ideal := fun m g _ =>
  (θ_run Cert.Reference22Ideal.defs _ _).mono
    (fun r h => ⟨fun c => (h c).2, sem_eq_zero_of_no_sems (by decide) r.2⟩) (Cert.Reference22Ideal.Value.run m g)

theorem dn_out_fwd_algebraic : Cert.algebraic_Kernel22Ideal_Reference22Ideal := by
  intro m g m' g' _ hagree
  refine ⟨fun c => (Cert.Kernel22Ideal.Gen.dats m 0 c).arrAt 3 Cert.Kernel22Ideal.cfg0.N, Cert.Kernel22Ideal.Value.run_blocks m g, ?_⟩
  refine (θ_run Cert.Reference22Ideal.defs _ _).mono (fun r h c => ⟨(h c).1.trans ?_, (h c).2⟩) (Cert.Reference22Ideal.Value.run m' g')
  refine Eq.trans ?_ (Cert.Kernel22Ideal.Value.final m c).symm
  refine (Cert.Reference22Ideal.Read.val_main_v19_eq _ _ _).trans ?_
  rw [(hagree c).1, (hagree c).2.1, (hagree c).2.2]
  funext x
  obtain ⟨i, j, rfl⟩ : ∃ i j, x = ix2 i j := ⟨x 0, x 1, by ext a; fin_cases a <;> rfl⟩
  exact Cert.Reference22Ideal.Out.out_at _ _ _ i j

end Cert.Proof

end
-- ==== Proof.ShortConvBlock.lean ====
/- What one grid point of the short convolution's backward kernel stores: the four parts of the
   gradient over its 128 rows, and its contribution to the taps' gradient. -/
module

public import proofs.«01_k».proof.Proof.ShortConvSpec
public import proofs.«01_k».proof.Proof.Gen.KernelIdeal.Skeleton

@[expose] public section

set_option maxRecDepth 16384

noncomputable section

open Idealize.ShloMosaic Idealize.ShloMosaic.TcCoe Idealize.SL.Sem

namespace Cert.KernelIdeal.Block

open Cert.KernelIdeal Cert.KernelIdeal.Gen Cert.ShortConv

variable (X : FVec Ideal S128x16384 .f32) (D : FVec Ideal S128x4096 .f32) (W : FVec Ideal S3x4096 .f32)

/-- A selection by a word that tests a proposition. -/
theorem select_word {p : Prop} [Decidable p] {b : BitVec 1} (h : b = if p then 1#1 else 0#1) (x y : EReal) :
    Scalar.select b x y = if p then x else y := by
  subst h; by_cases hp : p <;> simp [Scalar.select, hp]

/-- The grid row's length as the kernel writes it: one in place of a length of zero. -/
theorem width_word : Scalar.select (Scalar.cmpi .eq 64#32 0#32) 1#32 64#32 = 64#32 := by decide

/-- The position of row `i` in its grid row, as the kernel computes it: the remainder with its sign corrected. -/
def pos (i : ℕ) : BitVec 32 :=
  Scalar.select
    (IntOp.andi
      (IntOp.xori
        (IntOp.cmpi .slt (IntOp.remsi .vector (BitVec.ofNat 32 i) 64#32) 0#32)
        (Scalar.cmpi .slt 64#32 0#32))
      (IntOp.cmpi .ne (IntOp.remsi .vector (BitVec.ofNat 32 i) 64#32) 0#32))
    (IntOp.addi (IntOp.remsi .vector (BitVec.ofNat 32 i) 64#32)
      64#32)
    (IntOp.remsi .vector (BitVec.ofNat 32 i) 64#32)

/-- Whether the neighbour at offset `o` lies in the same grid row. -/
def inRow (i : ℕ) (o : BitVec 32) : BitVec 1 :=
  IntOp.andi (IntOp.cmpi .sge (IntOp.addi (pos i) o) 0#32) (IntOp.cmpi .slt (IntOp.addi (pos i) o) 64#32)

theorem inRow_prev : ∀ i : Fin 128, inRow i 4294967295#32 = if i.val % 64 = 0 then 0#1 else 1#1 := by decide +kernel
theorem inRow_next : ∀ i : Fin 128, inRow i 1#32 = if i.val % 64 = 63 then 0#1 else 1#1 := by decide +kernel

theorem pay13_at (i : Fin 128) (a : Fin 1) : k0_pay13 (ix2 i a) = inRow i 4294967295#32 := by
  pointwise [k0_pay13, inRow, pos, width_word]

/-- The row before and the row after, as the rotations of the block's 128 rows number them. -/
abbrev rowPrev (i : Fin 128) : Fin 128 := ⟨(i.val + 128 - 1) % 128, Nat.mod_lt _ (by decide)⟩
abbrev rowNext (i : Fin 128) : Fin 128 := ⟨(i.val + 128 - 127) % 128, Nat.mod_lt _ (by decide)⟩

theorem pay12_at (i : Fin 128) (j : Fin 4096) : k0_pay12 (F := Ideal) X (ix2 i j) = k0_pay10 (F := Ideal) X (ix2 (rowPrev i) j) := by
  pointwise [k0_pay12]

theorem pay14_at (U V : FVec Ideal S128x4096 .f32) (R : FVec Ideal S1x4096 .f32) (B : IVec S128x1 1) (i : Fin 128) (j : Fin 4096) :
    k0_pay14 W U R V B (ix2 i j) = R (ix2 0 j) * Scalar.select (B (ix2 i 0)) (V (ix2 i j)) 0
      + W (ix2 1 j) * U (ix2 i j)
      + W (ix2 2 j) * Scalar.select (inRow i 1#32) (U (ix2 (rowNext i) j)) 0 := by
  pointwise [k0_pay14, inRow, pos, width_word]

theorem pay18_at (P Z : FVec Ideal S128x4096 .f32) (i : Fin 128) (j : Fin 4096) :
    k0_pay18 P W D Z (ix2 i j) = W (ix2 0 j) * Scalar.select (inRow i 1#32) (k0_pay16 P D Z (ix2 (rowNext i) j)) 0 := by
  pointwise [k0_pay18, inRow, pos, width_word]

theorem pay21_at (Z V : FVec Ideal S128x4096 .f32) (i : Fin 128) (j : Fin 4096) :
    k0_pay21 W Z V (ix2 i j) = V (ix2 i j) + W (ix2 1 j) * Z (ix2 i j) := by
  pointwise [k0_pay21]

theorem pay25_at (Z V : FVec Ideal S128x4096 .f32) (i : Fin 128) (j : Fin 4096) :
    k0_pay25 W Z V (ix2 i j) = V (ix2 i j)
      + W (ix2 2 j) * Scalar.select (inRow i 4294967295#32) (Z (ix2 (rowPrev i) j)) 0 := by
  pointwise [k0_pay25, inRow, pos, width_word]

/-- A rotation of the block's rows, zero where `o` rows further is another grid row; `M` is the remainder of the row number. -/
def masked (r o a c : BitVec 32) (M : IVec S128x1 32) (U : FVec Ideal S128x4096 .f32) : FVec Ideal S128x4096 .f32 :=
  have p : IVec S128x1 32 :=
    select (andi (xori (cmpi .slt M (broadcast S128x1 0#32))
        (broadcastTo S128x1 (broadcast S128x1 (Scalar.cmpi .slt a 0#32)) broadcasts_S128x1_S128x1))
      (cmpi .ne M (broadcast S128x1 c))) (addi M (broadcast S128x1 a)) M
  select (broadcastTo S128x4096 (shapeCast S128x1
      (andi (cmpi .sge (addi p (broadcast S128x1 o)) (broadcast S128x1 0#32))
        (cmpi .slt (addi p (broadcast S128x1 o)) (broadcast S128x1 64#32))) shapeCasts_S128x1_S128x1) broadcasts_S128x1_S128x4096)
    (dynamicRotate 0 r none U rotates_S128x4096_d0) (broadcast S128x4096 (Scalar.ofBits (F := Ideal) .f32 0x00000000#32))

/-- A sum of the block's rows, in the row of the taps' gradient that `K` marks with `k`. -/
def placed (k : BitVec 32) (K : IVec S3x4096 32) (V : FVec Ideal S128x4096 .f32) : FVec Ideal S3x4096 .f32 :=
  select (cmpi .eq K (broadcast S3x4096 k))
    (broadcastTo S3x4096 (shapeCast S1x4096 (shapeCast S1x4096
      (multiReduction .add [0] S4096 V 0x00000000#32 reduces_S128x4096_S4096 (.inl rfl) rfl)
      shapeCasts_S4096_S1x4096) shapeCasts_S1x4096_S1x4096) broadcasts_S1x4096_S3x4096)
    (broadcast S3x4096 (Scalar.ofBits (F := Ideal) .f32 0x00000000#32))

theorem placed_at (n : BitVec 32) (K : IVec S3x4096 32) (V : FVec Ideal S128x4096 .f32) (k : Fin 3) (j : Fin 4096) :
    placed n K V (ix2 k j) = Scalar.select (IntOp.cmpi .eq (K (ix2 k j)) n) (∑ i : Fin 128, V (ix2 i j)) 0 := by
  pointwise [placed]

theorem masked_prev (U : FVec Ideal S128x4096 .f32) (i : Fin 128) (j : Fin 4096) :
    masked 1#32 4294967295#32 64#32 0#32 k0_pay19 U (ix2 i j)
      = Scalar.select (inRow i 4294967295#32) (U (ix2 (rowPrev i) j)) 0 := by
  pointwise [masked, k0_pay19, inRow, pos, width_word]

theorem masked_next (U : FVec Ideal S128x4096 .f32) (i : Fin 128) (j : Fin 4096) :
    masked 127#32 1#32 64#32 0#32 k0_pay26 U (ix2 i j)
      = Scalar.select (inRow i 1#32) (U (ix2 (rowNext i) j)) 0 := by
  pointwise [masked, k0_pay26, inRow, pos, width_word]

theorem pay20_eq (U Z : FVec Ideal S128x4096 .f32) (A : FVec Ideal S3x4096 .f32) (K : IVec S3x4096 32) :
    k0_pay20 U Z A K 64#32 k0_pay19 0#32 = addf A (placed 0#32 K (mulf Z (masked 1#32 4294967295#32 64#32 0#32 k0_pay19 U))) := rfl

theorem pay24_eq (U Z : FVec Ideal S128x4096 .f32) (A : FVec Ideal S3x4096 .f32) (K : IVec S3x4096 32) :
    k0_pay24 A (k0_pay22 K) (FloatOps.ofBits .f32 0#32) (k0_pay23 U Z) = addf A (placed 1#32 K (mulf Z U)) := rfl

theorem pay27_eq (U Z : FVec Ideal S128x4096 .f32) (A B : FVec Ideal S3x4096 .f32) (K : IVec S3x4096 32) :
    k0_pay27 U Z K B 64#32 k0_pay26 0#32 A
      = addf (shapeCast S3x4096 A shapeCasts_S3x4096_S3x4096) (addf B (placed 2#32 K (mulf Z (masked 127#32 1#32 64#32 0#32 k0_pay26 U)))) := rfl

/-- The selected rotations are the neighbours of the specification. -/
theorem select_prev {U : FVec Ideal S128x4096 .f32} {f : ℕ → ℕ → EReal} (h : ∀ i j, U (ix2 i j) = f i.val j.val)
    (i : Fin 128) (j : Fin 4096) :
    Scalar.select (inRow i 4294967295#32) (U (ix2 (rowPrev i) j)) 0 = prev f i j := by
  rw [inRow_prev, h]
  unfold prev
  by_cases hi : i.val % 64 = 0
  · rw [if_pos hi, if_pos hi]; rfl
  · rw [if_neg hi, if_neg hi, show (rowPrev i).val = i.val - 1 by have := i.isLt; show (i.val + 128 - 1) % 128 = _; omega]; rfl

theorem select_next {U : FVec Ideal S128x4096 .f32} {f : ℕ → ℕ → EReal} (h : ∀ i j, U (ix2 i j) = f i.val j.val)
    (i : Fin 128) (j : Fin 4096) :
    Scalar.select (inRow i 1#32) (U (ix2 (rowNext i) j)) 0 = next f i j := by
  rw [inRow_next, h]
  unfold next
  by_cases hi : i.val % 64 = 63
  · rw [if_pos hi, if_pos hi]; rfl
  · rw [if_neg hi, if_neg hi, show (rowNext i).val = i.val + 1 by have := i.isLt; show (i.val + 128 - 127) % 128 = _; omega]; rfl

/-- The four parts of the projection's block. -/
theorem gate_at (i : Fin 128) (j : Fin 4096) : k0_pay6 (F := Ideal) X (ix2 i j) = rd X i j := by
  rw [show k0_pay6 (F := Ideal) X (ix2 i j) = X (ix2 i ⟨j.val, by omega⟩) by pointwise [k0_pay6], rd_eq X]

theorem left_at (i : Fin 128) (j : Fin 4096) : k0_pay7 (F := Ideal) X (ix2 i j) = rd X i (4096 + j) := by
  rw [show k0_pay7 (F := Ideal) X (ix2 i j) = X (ix2 i ⟨4096 + j.val, by omega⟩) by pointwise [k0_pay7], rd_eq X]

theorem right_at (i : Fin 128) (j : Fin 4096) : k0_pay8 (F := Ideal) X (ix2 i j) = rd X i (8192 + j) := by
  rw [show k0_pay8 (F := Ideal) X (ix2 i j) = X (ix2 i ⟨8192 + j.val, by omega⟩) by pointwise [k0_pay8], rd_eq X]

theorem act_at (i : Fin 128) (j : Fin 4096) : k0_pay9 (F := Ideal) X (ix2 i j) = rd X i (12288 + j) := by
  rw [show k0_pay9 (F := Ideal) X (ix2 i j) = X (ix2 i ⟨12288 + j.val, by omega⟩) by pointwise [k0_pay9], rd_eq X]

/-- The convolution's operand. -/
theorem u_at (i : Fin 128) (j : Fin 4096) : k0_pay10 (F := Ideal) X (ix2 i j) = u (rd X) i j := by
  rw [show k0_pay10 (F := Ideal) X (ix2 i j) = k0_pay7 (F := Ideal) X (ix2 i j) * k0_pay8 (F := Ideal) X (ix2 i j) by
    pointwise [k0_pay10], left_at, right_at]; rfl

/-- The gate. -/
theorem sg_at (i : Fin 128) (j : Fin 4096) : k0_pay15 (F := Ideal) (k0_pay9 X) (ix2 i j) = sg (rd X) i j := by
  rw [show k0_pay15 (F := Ideal) (k0_pay9 X) (ix2 i j) = k0_pay9 (F := Ideal) X (ix2 i j) * Ideal.logistic (k0_pay9 (F := Ideal) X (ix2 i j)) by
    pointwise [k0_pay15], act_at]; rfl

/-- The convolution's result. -/
theorem z_at (i : Fin 128) (j : Fin 4096) :
    k0_pay14 (F := Ideal) W (k0_pay10 X) (k0_pay11 W) (k0_pay12 X) k0_pay13 (ix2 i j) = z (rd X) (rd W) i j := by
  rw [pay14_at, pay13_at, pay12_at, select_prev (u_at X), select_next (u_at X), u_at,
    show k0_pay11 W (ix2 0 j) = W (ix2 0 j) by pointwise [k0_pay11], rd_eq W, rd_eq W, rd_eq W]; rfl

/-- The gradient arriving at the convolution's result. -/
abbrev Z : FVec Ideal S128x4096 .f32 := k0_pay16 (F := Ideal) (k0_pay6 X) D (k0_pay15 (k0_pay9 X))

theorem dz_at (i : Fin 128) (j : Fin 4096) : Z X D (ix2 i j) = dz (rd X) (rd D) i j := by
  rw [show Z X D (ix2 i j) = D (ix2 i j) * k0_pay6 (F := Ideal) X (ix2 i j) * k0_pay15 (F := Ideal) (k0_pay9 X) (ix2 i j) by
    pointwise [Z, k0_pay16], gate_at, sg_at, rd_eq D]; rfl

/-- The gradient of the convolution's operand. -/
abbrev DU : FVec Ideal S128x4096 .f32 :=
  k0_pay25 (F := Ideal) W (Z X D) (k0_pay21 W (Z X D) (k0_pay18 (k0_pay6 X) W D (k0_pay15 (k0_pay9 X))))

theorem du_at (i : Fin 128) (j : Fin 4096) : DU X D W (ix2 i j) = du (rd X) (rd D) (rd W) i j := by
  rw [DU, pay25_at, pay21_at, pay18_at, select_prev (dz_at X D), select_next (dz_at X D), dz_at, rd_eq W, rd_eq W, rd_eq W]; rfl

/-- The four parts a point stores. -/
theorem part0_at (i : Fin 128) (j : Fin 4096) :
    k0_pay1 (k0_pay28 (F := Ideal) D (k0_pay14 (F := Ideal) W (k0_pay10 X) (k0_pay11 W) (k0_pay12 X) k0_pay13) (k0_pay15 (k0_pay9 X))) (ix2 i j)
      = dp (rd X) (rd D) (rd W) 0 i j := by
  rw [dp, if_pos rfl, ← z_at, ← sg_at, ← rd_eq D]
  generalize k0_pay14 (F := Ideal) W (k0_pay10 X) (k0_pay11 W) (k0_pay12 X) k0_pay13 = V
  generalize k0_pay15 (F := Ideal) (k0_pay9 X) = S
  pointwise [k0_pay1, k0_pay28]

theorem part1_at (i : Fin 128) (j : Fin 4096) :
    k0_pay2 (k0_pay29 (F := Ideal) (k0_pay8 X) (DU X D W)) (ix2 i j) = dp (rd X) (rd D) (rd W) 1 i j := by
  rw [dp, if_neg (by decide), if_pos rfl, ← du_at, ← right_at]
  generalize DU X D W = V
  generalize k0_pay8 (F := Ideal) X = S
  pointwise [k0_pay2, k0_pay29]

theorem part2_at (i : Fin 128) (j : Fin 4096) :
    k0_pay3 (k0_pay30 (F := Ideal) (k0_pay7 X) (DU X D W)) (ix2 i j) = dp (rd X) (rd D) (rd W) 2 i j := by
  rw [dp, if_neg (by decide), if_neg (by decide), if_pos rfl, ← du_at, ← left_at]
  generalize DU X D W = V
  generalize k0_pay7 (F := Ideal) X = S
  pointwise [k0_pay3, k0_pay30]

theorem part3_at (i : Fin 128) (j : Fin 4096) :
    k0_pay4 (F := Ideal) (k0_pay6 X) (k0_pay9 X) D (k0_pay14 (F := Ideal) W (k0_pay10 X) (k0_pay11 W) (k0_pay12 X) k0_pay13) (ix2 i j)
      = dp (rd X) (rd D) (rd W) 3 i j := by
  rw [dp, if_neg (by decide), if_neg (by decide), if_neg (by decide), ← z_at, ← act_at, ← rd_eq D, ← gate_at, dsg]
  generalize k0_pay14 (F := Ideal) W (k0_pay10 X) (k0_pay11 W) (k0_pay12 X) k0_pay13 = V
  generalize k0_pay6 (F := Ideal) X = B
  generalize k0_pay9 (F := Ideal) X = S
  pointwise [k0_pay4]

/-- The mark of the taps' rows. -/
abbrev taps : IVec S3x4096 32 := iota Kind.tc S3x4096 32 [0] iota_S3x4096_d0_w32

theorem taps_at (k : Fin 3) (j : Fin 4096) : taps (ix2 k j) = BitVec.ofNat 32 k := by
  pointwise [taps]

theorem placed_spec {V : FVec Ideal S128x4096 .f32} {f : ℕ → ℕ → EReal} (h : ∀ i j, V (ix2 i j) = f i.val j.val)
    (n : ℕ) (hn : n < 3) (k : Fin 3) (j : Fin 4096) :
    placed (BitVec.ofNat 32 n) taps V (ix2 k j) = if k.val = n then ∑ i : Fin 128, f i j else 0 := by
  rw [placed_at, taps_at, Finset.sum_congr rfl fun i _ => h i j]
  refine select_word ?_ _ _
  interval_cases n <;> fin_cases k <;> decide

/-- What a point adds to the taps' gradient. -/
theorem dw_at (A : FVec Ideal S3x4096 .f32) (k : Fin 3) (j : Fin 4096) :
    k0_pay27 (F := Ideal) (k0_pay10 X) (Z X D) taps
      (k0_pay24 (k0_pay20 (k0_pay10 X) (Z X D) k0_pay17 taps 64#32 k0_pay19 0#32) (k0_pay22 taps)
        (FloatOps.ofBits .f32 0#32) (k0_pay23 (k0_pay10 X) (Z X D))) 64#32 k0_pay26 0#32 A (ix2 k j)
      = A (ix2 k j) + ∑ i : Fin 128, dwTerm (rd X) (rd D) k i j := by
  have h0 := placed_spec (V := mulf (Z X D) (masked 1#32 4294967295#32 64#32 0#32 k0_pay19 (k0_pay10 X)))
    (f := dwTerm (rd X) (rd D) 0) (fun i j => by
      rw [mulf_apply, masked_prev, select_prev (u_at X), dz_at]; rfl) 0 (by decide) k j
  have h1 := placed_spec (V := mulf (Z X D) (k0_pay10 X))
    (f := dwTerm (rd X) (rd D) 1) (fun i j => by rw [mulf_apply, u_at, dz_at]; rfl) 1 (by decide) k j
  have h2 := placed_spec (V := mulf (Z X D) (masked 127#32 1#32 64#32 0#32 k0_pay26 (k0_pay10 X)))
    (f := dwTerm (rd X) (rd D) 2) (fun i j => by
      rw [mulf_apply, masked_next, select_next (u_at X), dz_at]; rfl) 2 (by decide) k j
  rw [pay27_eq, pay24_eq, pay20_eq, addf_apply, addf_apply, addf_apply, addf_apply]
  rw [h0, h1, h2]
  rw [show k0_pay17 (F := Ideal) (ix2 k j) = 0 by pointwise [k0_pay17],
    show shapeCast S3x4096 A shapeCasts_S3x4096_S3x4096 (ix2 k j) = A (ix2 k j) by pointwise]
  congr 1
  fin_cases k <;> simp

end Cert.KernelIdeal.Block

end
-- ==== Proof.ShortConvKernel.lean ====
/- What the backward kernel's two arrays hold after the run: the four parts of the projection's gradient,
   and the taps' gradient as a sum over all rows. -/
module

public import proofs.«01_k».proof.Proof.ShortConvBlock
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Rows of a block of 128 are rows of the array: a block starts a row of 64 positions. -/

namespace Cert.ShortConv

section Shift
variable {p p' d d' w w' : ℕ → ℕ → EReal} {b : ℕ}

theorem prev_shift {f f' : ℕ → ℕ → EReal} (h : ∀ r < 128, ∀ c, f r c = f' (128 * b + r) c) (r : ℕ) (hr : r < 128) (c : ℕ) :
    prev f r c = prev f' (128 * b + r) c := by
  unfold prev
  by_cases h0 : r % 64 = 0
  · rw [if_pos h0, if_pos (by omega)]
  · rw [if_neg h0, if_neg (by omega), h _ (by omega), show 128 * b + (r - 1) = 128 * b + r - 1 by omega]

theorem next_shift {f f' : ℕ → ℕ → EReal} (h : ∀ r < 128, ∀ c, f r c = f' (128 * b + r) c) (r : ℕ) (hr : r < 128) (c : ℕ) :
    next f r c = next f' (128 * b + r) c := by
  unfold next
  by_cases h0 : r % 64 = 63
  · rw [if_pos h0, if_pos (by omega)]
  · rw [if_neg h0, if_neg (by omega), h _ (by omega), show 128 * b + (r + 1) = 128 * b + r + 1 by omega]

variable (hp : ∀ r < 128, ∀ c, p r c = p' (128 * b + r) c) (hd : ∀ r < 128, ∀ c, d r c = d' (128 * b + r) c)
include hp

theorem u_shift (r : ℕ) (hr : r < 128) (c : ℕ) : u p r c = u p' (128 * b + r) c := by
  unfold u; rw [hp r hr, hp r hr]

theorem z_shift (r : ℕ) (hr : r < 128) (c : ℕ) : z p w r c = z p' w (128 * b + r) c := by
  unfold z; rw [prev_shift (u_shift hp) r hr, next_shift (u_shift hp) r hr, u_shift hp r hr]

theorem sg_shift (r : ℕ) (hr : r < 128) (c : ℕ) : sg p r c = sg p' (128 * b + r) c := by
  unfold sg; rw [hp r hr]

include hd

theorem dz_shift (r : ℕ) (hr : r < 128) (c : ℕ) : dz p d r c = dz p' d' (128 * b + r) c := by
  unfold dz; rw [hp r hr, hd r hr, sg_shift hp r hr]

theorem du_shift (r : ℕ) (hr : r < 128) (c : ℕ) : du p d w r c = du p' d' w (128 * b + r) c := by
  unfold du; rw [prev_shift (dz_shift hp hd) r hr, next_shift (dz_shift hp hd) r hr, dz_shift hp hd r hr]

theorem dp_shift (k r : ℕ) (hr : r < 128) (c : ℕ) : dp p d w k r c = dp p' d' w k (128 * b + r) c := by
  unfold dp; rw [du_shift hp hd r hr, z_shift hp r hr, sg_shift hp r hr, hd r hr, hp r hr, hp r hr, hp r hr, hp r hr]

theorem dwTerm_shift (j r : ℕ) (hr : r < 128) (c : ℕ) : dwTerm p d j r c = dwTerm p' d' j (128 * b + r) c := by
  unfold dwTerm
  rw [dz_shift hp hd r hr, prev_shift (u_shift hp) r hr, next_shift (u_shift hp) r hr, u_shift hp r hr]

end Shift

end Cert.ShortConv

namespace Cert.KernelIdeal.Value

open Cert.KernelIdeal Cert.KernelIdeal.Gen Cert.KernelIdeal.Block Cert.ShortConv

variable (m : (ℓ : Loc nD τ sig) → Buf (Elt Ideal) ℓ) (c : Dev nD)

/-- The three arguments: the projection, the arriving gradient, the taps. -/
abbrev P : ℕ → ℕ → EReal := rd (a := 4096) (b := 16384) (φ := .f32) (m ((c : Thread nD τ).loc main_arg0))
abbrev D : ℕ → ℕ → EReal := rd (a := 4096) (b := 4096) (φ := .f32) (m ((c : Thread nD τ).loc main_arg1))
abbrev W : ℕ → ℕ → EReal := rd (a := 3) (b := 4096) (φ := .f32) (m ((c : Thread nD τ).loc main_arg2))

/-- The blocks' indices. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![0, 0])

/-- A block of the projection holds 128 rows of the array. -/
theorem block0 (t : Fin cfg0.N) (r : ℕ) (hr : r < 128) (k : ℕ) :
    rd (a := 128) (b := 16384) (φ := .f32) (iblk m c 0 t) r k = P m c (128 * t.val + r) k := by
  have hN : cfg0.N = 32 := N_0
  have ht := t.isLt
  unfold P rd
  by_cases hk : k < 16384
  · rw [dif_pos ⟨hr, hk⟩, dif_pos ⟨by omega, hk⟩]
    blk_ext [iblk, V, idx t]
  · rw [dif_neg fun h => hk h.2, dif_neg fun h => hk h.2]

theorem block1 (t : Fin cfg0.N) (r : ℕ) (hr : r < 128) (k : ℕ) :
    rd (a := 128) (b := 4096) (φ := .f32) (iblk m c 1 t) r k = D m c (128 * t.val + r) k := by
  have hN : cfg0.N = 32 := N_0
  have ht := t.isLt
  unfold D rd
  by_cases hk : k < 4096
  · rw [dif_pos ⟨hr, hk⟩, dif_pos ⟨by omega, hk⟩]
    blk_ext [iblk, V, idx t]
  · rw [dif_neg fun h => hk h.2, dif_neg fun h => hk h.2]

theorem block2 (t : Fin cfg0.N) : rd (a := 3) (b := 4096) (φ := .f32) (iblk m c 2 t) = W m c := by
  funext r k
  unfold W rd
  by_cases hk : r < 3 ∧ k < 4096
  · rw [dif_pos hk, dif_pos hk]
    blk_ext [iblk, V, idx t]
  · rw [dif_neg hk, dif_neg hk]

/-- The first result: column `4096 k + j` holds part `k` of the gradient at column `j`. -/
def G : FVec Ideal S4096x16384 .bf16 :=
  fun y => dp (P m c) (D m c) (W m c) ((y 1).val / 4096) (y 0).val ((y 1).val % 4096)

theorem G_emb (t : Fin cfg0.N) (y : ((cfg0.win 3).xblock (cfg0.grid.coords t)).Idx) (i : Fin 128) (j : Fin 4096) (k : ℕ)
    (e0 : ((win0 3).xinj (grid0.coords t) y 0).val = i.val) (e1 : ((win0 3).xinj (grid0.coords t) y 1).val = 4096 * k + j.val) :
    G m c (((View.whole main_v0_0).slice ((win0 3).rect t)).emb y) = dp (P m c) (D m c) (W m c) k (128 * t.val + i) j := by
  have hj := j.isLt
  have h0 : (((View.whole main_v0_0).slice ((win0 3).rect t)).emb y 0).val = 128 * t.val + i := by
    have e0' : (y 0).val = i.val := e0
    rw [← e0']; blk_simp [idx t]; omega
  have h1 : (((View.whole main_v0_0).slice ((win0 3).rect t)).emb y 1).val = 4096 * k + j := by
    rw [← e1]; blk_simp [idx t]
  unfold G
  rw [h0, h1, show (4096 * k + j.val) / 4096 = k by omega, show (4096 * k + j.val) % 4096 = j by omega]

/-- Part `k` of a block, from the block's rows to the array's. -/
theorem part_rows (t : Fin cfg0.N) (k : ℕ) (i : Fin 128) (j : Fin 4096) :
    dp (rd (a := 128) (b := 16384) (φ := .f32) (iblk m c 0 t)) (rd (a := 128) (b := 4096) (φ := .f32) (iblk m c 1 t))
      (rd (a := 3) (b := 4096) (φ := .f32) (iblk m c 2 t)) k i j = dp (P m c) (D m c) (W m c) k (128 * t.val + i) j := by
  rw [dp_shift (block0 m c t) (block1 m c t) k i.val i.isLt, block2]

theorem final_dp : (dats m 0 c).arrAt 3 cfg0.N = G m c := by
  refine (dats m 0 c).arrAt_eq_of_covers 3 (G m c) (by decide +kernel) fun t hf y => ?_
  rw [after0_3]
  by_cases h : t.val % 32 = 0
  all_goals
    first | rw [outsAt0_A m c t h] | rw [outsAt0_B m c t h]
    frame_out
    canon_tiles x e
    all_goals obtain ⟨i, j, rfl⟩ : ∃ i j, x = ix2 i j := ⟨x 0, x 1, by ext a; fin_cases a <;> rfl⟩
    case piece0 =>
      exact ((part3_at _ _ _ i j).trans (part_rows m c t 3 i j)).trans (G_emb m c t y i j 3 e0 e1).symm
    case piece1 =>
      exact ((part2_at _ _ _ i j).trans (part_rows m c t 2 i j)).trans (G_emb m c t y i j 2 e0 e1).symm
    case piece2 =>
      exact ((part1_at _ _ _ i j).trans (part_rows m c t 1 i j)).trans (G_emb m c t y i j 1 e0 e1).symm
    case piece3 =>
      exact ((part0_at _ _ _ i j).trans (part_rows m c t 0 i j)).trans (G_emb m c t y i j 0 e0 (e1.trans (by simp [ix2]))).symm

/-- The second result: row `k` holds the gradient of tap `k`, summed over all rows of the projection. -/
def H : FVec Ideal S3x4096 .f32 :=
  fun y => ∑ r : Fin 4096, dwTerm (P m c) (D m c) (y 0).val r.val (y 1).val

/-- What a point adds to the taps' gradient, from the block's rows to the array's. -/
theorem rows_term (t : Fin cfg0.N) (k : Fin 3) (i : Fin 128) (j : Fin 4096) :
    dwTerm (rd (a := 128) (b := 16384) (φ := .f32) (iblk m c 0 t)) (rd (a := 128) (b := 4096) (φ := .f32) (iblk m c 1 t)) k i j
      = dwTerm (P m c) (D m c) k (128 * t.val + i) j :=
  dwTerm_shift (block0 m c t) (block1 m c t) k.val i.val i.isLt j.val

theorem final_dw : (dats m 0 c).arrAt 4 cfg0.N = H m c := by
  refine (dats m 0 c).arrAt_eq_of_covers 4 (H m c) (by decide +kernel) fun t hf y => ?_
  rw [after0_4, Pipeline.eq_sum_fin_of_reset_step_apply_of_flush (fun n h => (outsAt0 m c n h).2) 32 (fun _ => 0)
    (fun t x => ∑ i : Fin 128, dwTerm (P m c) (D m c) (x 0).val (128 * t.val + i) (x 1).val)
    (fun t h x => by
      obtain ⟨k, j, rfl⟩ : ∃ k j, x = ix2 k j := ⟨x 0, x 1, by ext a; fin_cases a <;> rfl⟩
      rw [outsAt0_A m c t h]; frame_out
      refine (dw_at _ _ _ k j).trans ?_
      rw [show k0_pay5 (F := Ideal) (ix2 k j) = 0 by pointwise [k0_pay5]]
      exact congrArg _ (Finset.sum_congr rfl fun i _ => rows_term m c t k i j))
    (fun t h x => by
      obtain ⟨k, j, rfl⟩ : ∃ k j, x = ix2 k j := ⟨x 0, x 1, by ext a; fin_cases a <;> rfl⟩
      rw [outsAt0_B m c t h]; frame_out
      refine (dw_at _ _ _ k j).trans ?_
      exact congrArg _ (Finset.sum_congr rfl fun i _ => rows_term m c t k i j))
    t ((flush0_4 t).mp hf) _]
  have h0 : (((cfg0.win 4).blk t).view.emb y 0).val = ((cfg0.win 4).xinj (cfg0.grid.coords t) y 0).val := by
    blk_simp [idx t]
  have h1 : (((cfg0.win 4).blk t).view.emb y 1).val = ((cfg0.win 4).xinj (cfg0.grid.coords t) y 1).val := by
    blk_simp [idx t]
  have ht : t.val / 32 = 0 := Nat.div_eq_of_lt (lt_of_lt_of_eq t.isLt N_0)
  show 0 + _ = ∑ r : Fin 4096, dwTerm (P m c) (D m c) (((cfg0.win 4).blk t).view.emb y 0).val r.val (((cfg0.win 4).blk t).view.emb y 1).val
  rw [h0, h1, zero_add]
  refine Fin.sum_mul_add_congr fun s i h => ?_
  exact congrArg (fun r => dwTerm (P m c) (D m c) _ r _) (by
    show 128 * (32 * (t.val / 32) + s.val) + i.val = s.val * 128 + i.val
    omega)

end Cert.KernelIdeal.Value

end
-- ==== Proof.ShortConvReference.lean ====
/- What the reference's two results hold, element by element: the same four parts of the projection's
   gradient and the same sums for the taps. Row `64 a + l` of an array is position `l` of grid row `a`. -/
module

public import proofs.«01_k».proof.Proof.ShortConvSpec
public import proofs.«01_k».proof.Proof.Gen.ReferenceIdeal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem

namespace Cert.ReferenceIdeal.Mix

open Cert.ReferenceIdeal Cert.ReferenceIdeal.Gen Cert.ReferenceIdeal.Read Cert.ShortConv

variable (X : FVec Ideal S4096x16384 .f32) (D : FVec Ideal S4096x4096 .f32) (W : FVec Ideal S3x4096 .f32)

/-- The four gates. -/
theorem v0_at (i j : Fin 4096) : val_main_v0 (F := Ideal) X (ix2 i j) = rd X i j := by
  rw [show val_main_v0 (F := Ideal) X (ix2 i j) = X (ix2 i ⟨j.val, by omega⟩) by pointwise [val_main_v0], rd_eq X]

theorem v1_at (i j : Fin 4096) : val_main_v1 (F := Ideal) X (ix2 i j) = rd X i (4096 + j) := by
  rw [show val_main_v1 (F := Ideal) X (ix2 i j) = X (ix2 i ⟨4096 + j.val, by omega⟩) by pointwise [val_main_v1], rd_eq X]

theorem v2_at (i j : Fin 4096) : val_main_v2 (F := Ideal) X (ix2 i j) = rd X i (8192 + j) := by
  rw [show val_main_v2 (F := Ideal) X (ix2 i j) = X (ix2 i ⟨8192 + j.val, by omega⟩) by pointwise [val_main_v2], rd_eq X]

theorem v3_at (i j : Fin 4096) : val_main_v3 (F := Ideal) X (ix2 i j) = rd X i (12288 + j) := by
  rw [show val_main_v3 (F := Ideal) X (ix2 i j) = X (ix2 i ⟨12288 + j.val, by omega⟩) by pointwise [val_main_v3], rd_eq X]

theorem v4_at (i j : Fin 4096) : val_main_v4 (F := Ideal) X (ix2 i j) = u (rd X) i j := by
  rw [show val_main_v4 (F := Ideal) X (ix2 i j) = val_main_v1 (F := Ideal) X (ix2 i j) * val_main_v2 (F := Ideal) X (ix2 i j) by
    pointwise [val_main_v4], v1_at, v2_at]; rfl

/-- The row of the array that is position `l` of grid row `a`, and back. -/
abbrev row (a l : Fin 64) : Fin 4096 := ⟨a.val * 64 + l.val, by omega⟩
abbrev gridRow (i : Fin 4096) : Fin 64 := ⟨i.val / 64, by omega⟩
abbrev position (i : Fin 4096) : Fin 64 := ⟨i.val % 64, by omega⟩

theorem row_eq (i : Fin 4096) : row (gridRow i) (position i) = i := Fin.ext (by show i.val / 64 * 64 + i.val % 64 = i.val; omega)

theorem split_at (A : FVec Ideal S4096x4096 .f32) (a l : Fin 64) (j : Fin 4096) :
    shapeCast S64x64x4096 A shapeCasts_S4096x4096_S64x64x4096 (ix3 a l j) = A (ix2 (row a l) j) := by
  pointwise

theorem join_at (A : FVec Ideal S64x64x4096 .f32) (i j : Fin 4096) :
    shapeCast S4096x4096 A shapeCasts_S64x64x4096_S4096x4096 (ix2 i j) = A (ix3 (gridRow i) (position i) j) := by
  pointwise

theorem v5_at (a l : Fin 64) (j : Fin 4096) : val_main_v5 (F := Ideal) X (ix3 a l j) = u (rd X) (row a l) j := by
  rw [val_main_v5, split_at, v4_at]

theorem before_at (A : FVec Ideal S64x63x4096 .f32) (E : FVec Ideal S64x1x4096 .f32) (a l : Fin 64) (j : Fin 4096) :
    concatenate S64x64x4096 1 [⟨S64x1x4096, E⟩, ⟨S64x63x4096, A⟩] concatenates_S64x1x4096_S64x63x4096_S64x64x4096_d1 (ix3 a l j)
      = if h : l.val = 0 then E (ix3 a 0 j) else A (ix3 a ⟨l.val - 1, by omega⟩ j) := by
  pointwise
  by_cases hl : l.val = 0
  · rw [dif_pos (by omega), dif_pos hl]; exact congrArg (fun b => E (ix3 a b j)) (Subsingleton.elim _ _)
  · rw [dif_neg (by omega), dif_neg hl]

theorem after_at (A : FVec Ideal S64x63x4096 .f32) (E : FVec Ideal S64x1x4096 .f32) (a l : Fin 64) (j : Fin 4096) :
    concatenate S64x64x4096 1 [⟨S64x63x4096, A⟩, ⟨S64x1x4096, E⟩] concatenates_S64x63x4096_S64x1x4096_S64x64x4096_d1 (ix3 a l j)
      = if h : l.val = 63 then E (ix3 a 0 j) else A (ix3 a ⟨l.val, by omega⟩ j) := by
  pointwise
  by_cases hl : l.val = 63
  · rw [dif_neg (by omega), dif_pos hl]; exact congrArg (fun b => E (ix3 a b j)) (Subsingleton.elim _ _)
  · rw [dif_pos (by omega), dif_neg hl]

theorem padBefore_at (A : FVec Ideal S64x63x4096 .f32) (z : FVec Ideal S_ .f32) (a l : Fin 64) (j : Fin 4096) :
    pad S64x64x4096 ![0, 1, 0] ![0, 0, 0] ![0, 0, 0] A z pads_S64x63x4096_S64x64x4096_000_100_000 h_S_ (ix3 a l j)
      = if h : l.val = 0 then z ix0 else A (ix3 a ⟨l.val - 1, by omega⟩ j) := by
  pointwise
  split_ifs <;> first | rfl | (exfalso; omega) | exact congrArg z (funext fun b => b.elim0)

theorem padAfter_at (A : FVec Ideal S64x63x4096 .f32) (z : FVec Ideal S_ .f32) (a l : Fin 64) (j : Fin 4096) :
    pad S64x64x4096 ![0, 0, 0] ![0, 1, 0] ![0, 0, 0] A z pads_S64x63x4096_S64x64x4096_000_010_000 h_S_ (ix3 a l j)
      = if h : l.val = 63 then z ix0 else A (ix3 a ⟨l.val, by omega⟩ j) := by
  pointwise
  split_ifs <;> first | rfl | (exfalso; omega) | exact congrArg z (funext fun b => b.elim0)

/-- A sum over the first two axes of three, read at a position of the third. -/
theorem sum_two {A B C : ℕ} (h : (⟨3, ![A, B, C]⟩ : Shape).ReducesTo [0, 1] ⟨1, ![C]⟩) (v : (⟨3, ![A, B, C]⟩ : Shape).Idx → EReal)
    (s : EReal) (j : Fin C) : Ideal.hostReduceAdd h v s (ix1 j) = s + ∑ a : Fin A, ∑ l : Fin B, v (ix3 a l j) := by
  unfold Ideal.hostReduceAdd
  rw [← Fintype.sum_prod_type' (f := fun a l => v (ix3 a l j))]
  refine congrArg (s + ·) (Finset.sum_bij (fun k _ => ix3 k.1 k.2 j) (fun k _ => ?_) (fun k _ k' _ e => ?_) (fun i hi => ?_)
    (fun _ _ => rfl)).symm
  · refine Finset.mem_filter.mpr ⟨Finset.mem_univ _, ?_⟩
    funext b; apply Fin.ext
    match b with
    | ⟨0, _⟩ => rfl
  · exact Prod.ext (congrFun e 0) (congrFun e 1)
  · refine ⟨(i 0, i 1), Finset.mem_univ _, ?_⟩
    funext b; apply Fin.ext
    match b with
    | ⟨0, _⟩ => rfl
    | ⟨1, _⟩ => rfl
    | ⟨2, _⟩ => exact (congrArg Fin.val (congrFun (Finset.mem_filter.mp hi).2 ⟨0, Nat.one_pos⟩)).symm

theorem sum_at (A : FVec Ideal S64x64x4096 .f32) (z : FVec Ideal S_ .f32) (j : Fin 4096) :
    Host.reduceAdd A z reducesTo_S64x64x4096_S4096_d0_1 h_S_ (ix1 j) = z ix0 + ∑ a : Fin 64, ∑ l : Fin 64, A (ix3 a l j) := by
  rw [Idealize.ShloMosaic.ValueIdx.hostReduceAdd_apply, sum_two, show Shape.Idx.first h_S_ = ix0 from funext fun b => b.elim0]

theorem sum1_at (A : FVec Ideal S1x1x4096 .f32) (z : FVec Ideal S_ .f32) (j : Fin 4096) :
    Host.reduceAdd A z reducesTo_S1x1x4096_S4096_d0_1 h_S_ (ix1 j) = z ix0 + A (ix3 0 0 j) := by
  rw [Idealize.ShloMosaic.ValueIdx.hostReduceAdd_apply, sum_two, show Shape.Idx.first h_S_ = ix0 from funext fun b => b.elim0]
  simp

theorem tap0_at (a l : Fin 64) (j : Fin 4096) : val_main_v17 (F := Ideal) W (ix3 a l j) = W (ix2 0 j) := by
  pointwise [val_main_v17, val_main_v16, val_main_v15, val_main_v14]

theorem tap1_at (a l : Fin 64) (j : Fin 4096) : val_main_v22 (F := Ideal) W (ix3 a l j) = W (ix2 1 j) := by
  pointwise [val_main_v22, val_main_v21, val_main_v20, val_main_v19]

theorem tap2_at (a l : Fin 64) (j : Fin 4096) : val_main_v28 (F := Ideal) W (ix3 a l j) = W (ix2 2 j) := by
  pointwise [val_main_v28, val_main_v27, val_main_v26, val_main_v25]

theorem tap0'_at (a l : Fin 64) (j : Fin 4096) : val_main_v58 (F := Ideal) W (ix3 a l j) = W (ix2 0 j) := by
  pointwise [val_main_v58, val_main_v16, val_main_v15, val_main_v14]

theorem tap1'_at (a l : Fin 64) (j : Fin 4096) : val_main_v49 (F := Ideal) W (ix3 a l j) = W (ix2 1 j) := by
  pointwise [val_main_v49, val_main_v21, val_main_v20, val_main_v19]

theorem tap2'_at (a l : Fin 64) (j : Fin 4096) : val_main_v41 (F := Ideal) W (ix3 a l j) = W (ix2 2 j) := by
  pointwise [val_main_v41, val_main_v27, val_main_v26, val_main_v25]

theorem place0_at (A : FVec Ideal S4096 .f32) (z : FVec Ideal S_ .f32) (k : Fin 3) (j : Fin 4096) :
    pad S3x4096 ![0, 0] ![2, 0] ![0, 0] (broadcastInDim S1x4096 ![1] bcast_S4096_S1x4096_1 A) z pads_S1x4096_S3x4096_020_000 h_S_ (ix2 k j)
      = if k.val = 0 then A (ix1 j) else z ix0 := by
  pointwise
  split_ifs <;> first | rfl | (exfalso; omega) | exact congrArg z (funext fun b => b.elim0)

theorem place1_at (A : FVec Ideal S4096 .f32) (z : FVec Ideal S_ .f32) (k : Fin 3) (j : Fin 4096) :
    pad S3x4096 ![1, 0] ![1, 0] ![0, 0] (broadcastInDim S1x4096 ![1] bcast_S4096_S1x4096_1 A) z pads_S1x4096_S3x4096_110_000 h_S_ (ix2 k j)
      = if k.val = 1 then A (ix1 j) else z ix0 := by
  pointwise
  split_ifs <;> first | rfl | (exfalso; omega) | exact congrArg z (funext fun b => b.elim0)

theorem place2_at (A : FVec Ideal S4096 .f32) (z : FVec Ideal S_ .f32) (k : Fin 3) (j : Fin 4096) :
    pad S3x4096 ![2, 0] ![0, 0] ![0, 0] (broadcastInDim S1x4096 ![1] bcast_S4096_S1x4096_1 A) z pads_S1x4096_S3x4096_200_000 h_S_ (ix2 k j)
      = if k.val = 2 then A (ix1 j) else z ix0 := by
  pointwise
  split_ifs <;> first | rfl | (exfalso; omega) | exact congrArg z (funext fun b => b.elim0)

/-! The neighbours in a grid row, by the position in it. -/

theorem prev_row (f : ℕ → ℕ → EReal) (a l : Fin 64) (j : ℕ) :
    prev f (row a l) j = if l.val = 0 then 0 else f (a.val * 64 + (l.val - 1)) j := by
  have hl := l.isLt
  show (if (a.val * 64 + l.val) % 64 = 0 then 0 else f (a.val * 64 + l.val - 1) j) = _
  rw [show (a.val * 64 + l.val) % 64 = l.val by omega]
  by_cases h : l.val = 0
  · rw [if_pos h, if_pos h]
  · rw [if_neg h, if_neg h, show a.val * 64 + l.val - 1 = a.val * 64 + (l.val - 1) by omega]

theorem next_row (f : ℕ → ℕ → EReal) (a l : Fin 64) (j : ℕ) :
    next f (row a l) j = if l.val = 63 then 0 else f (a.val * 64 + (l.val + 1)) j := by
  have hl := l.isLt
  show (if (a.val * 64 + l.val) % 64 = 63 then 0 else f (a.val * 64 + l.val + 1) j) = _
  rw [show (a.val * 64 + l.val) % 64 = l.val by omega, Nat.add_assoc]

theorem zero_at : (constant (F := Ideal) S_ .f32 0x00000000#32 : FVec Ideal S_ .f32) ix0 = 0 := by
  pointwise

theorem edge_at (a : Fin 64) (j : Fin 4096) : val_main_v7 (F := Ideal) (ix3 a 0 j) = 0 := by
  pointwise [val_main_v7, val_main_cst]

theorem v8_at (a : Fin 64) (l : Fin 63) (j : Fin 4096) :
    val_main_v8 (F := Ideal) X (ix3 a l j) = val_main_v5 (F := Ideal) X (ix3 a ⟨l.val, by omega⟩ j) := by
  pointwise [val_main_v8]

theorem v11_at (a : Fin 64) (l : Fin 63) (j : Fin 4096) :
    val_main_v11 (F := Ideal) X (ix3 a l j) = val_main_v5 (F := Ideal) X (ix3 a ⟨1 + l.val, by omega⟩ j) := by
  pointwise [val_main_v11]

theorem v9_at (a l : Fin 64) (j : Fin 4096) : val_main_v9 (F := Ideal) X (ix3 a l j) = prev (u (rd X)) (row a l) j := by
  rw [val_main_v9, before_at, prev_row]
  by_cases h : l.val = 0
  · rw [dif_pos h, if_pos h, edge_at]
  · rw [dif_neg h, if_neg h, v8_at, v5_at]

theorem v12_at (a l : Fin 64) (j : Fin 4096) : val_main_v12 (F := Ideal) X (ix3 a l j) = next (u (rd X)) (row a l) j := by
  rw [val_main_v12, after_at, next_row]
  by_cases h : l.val = 63
  · rw [dif_pos h, if_pos h, edge_at]
  · rw [dif_neg h, if_neg h, v11_at, v5_at]
    show u (rd X) (a.val * 64 + (1 + l.val)) j = _
    rw [Nat.add_comm 1]

/-- The convolution's result. -/
theorem v30_at (a l : Fin 64) (j : Fin 4096) : val_main_v30 (F := Ideal) X W (ix3 a l j) = z (rd X) (rd W) (row a l) j := by
  rw [show val_main_v30 (F := Ideal) X W (ix3 a l j)
      = val_main_v17 (F := Ideal) W (ix3 a l j) * val_main_v9 (F := Ideal) X (ix3 a l j)
        + val_main_v22 (F := Ideal) W (ix3 a l j) * val_main_v5 (F := Ideal) X (ix3 a l j)
        + val_main_v28 (F := Ideal) W (ix3 a l j) * val_main_v12 (F := Ideal) X (ix3 a l j) from rfl,
    tap0_at, tap1_at, tap2_at, v9_at, v5_at, v12_at, rd_eq W, rd_eq W, rd_eq W]; rfl

theorem v31_at (i j : Fin 4096) : val_main_v31 (F := Ideal) X W (ix2 i j) = z (rd X) (rd W) i j := by
  rw [val_main_v31, join_at, v30_at, row_eq]

/-- The gate's sigmoid, and the gate. -/
theorem sigma_at (i j : Fin 4096) : val_main_v33_2 (F := Ideal) X (ix2 i j) = Ideal.logistic (rd X i (12288 + j)) := by
  rw [← v3_at]
  have h : ∀ Y : FVec Ideal S4096x4096 .f32, Host.divf (val_main_call0_v4 (F := Ideal)) (addf (val_main_call0_v2 (F := Ideal)) (Host.exp (Host.negf Y))) (ix2 i j)
      = Ideal.logistic (Y (ix2 i j)) := fun Y => by
    pointwise [val_main_call0_v4, val_main_call0_v2, val_main_call0_cst, val_main_call0_cst_0]
    rfl
  exact h _

theorem sg_at (i j : Fin 4096) : val_main_v33_0 (F := Ideal) X (ix2 i j) = sg (rd X) i j := by
  rw [show val_main_v33_0 (F := Ideal) X (ix2 i j) = val_main_v3 (F := Ideal) X (ix2 i j) * val_main_v33_2 (F := Ideal) X (ix2 i j) from rfl,
    v3_at, sigma_at]; rfl

/-- The gradient arriving at the convolution's result. -/
theorem v38_at (i j : Fin 4096) : val_main_v38 (F := Ideal) X D (ix2 i j) = dz (rd X) (rd D) i j := by
  rw [show val_main_v38 (F := Ideal) X D (ix2 i j)
      = val_main_v0 (F := Ideal) X (ix2 i j) * (D (ix2 i j) * val_main_v33_0 (F := Ideal) X (ix2 i j)) from rfl,
    v0_at, sg_at, rd_eq D, dz, mul_left_comm, mul_assoc]

theorem v40_at (a l : Fin 64) (j : Fin 4096) : val_main_v40 (F := Ideal) X D (ix3 a l j) = dz (rd X) (rd D) (row a l) j := by
  rw [val_main_v40, split_at, v38_at]

/-- The gradient of the convolution's operand. -/
theorem v69_at (a l : Fin 64) (j : Fin 4096) :
    val_main_v69 (F := Ideal) X D W (ix3 a l j) = rd W 2 j * prev (dz (rd X) (rd D)) (row a l) j := by
  rw [val_main_v69, padBefore_at, prev_row]
  by_cases h : l.val = 0
  · rw [dif_pos h, if_pos h, mul_zero]; exact zero_at
  · rw [dif_neg h, if_neg h,
      show ∀ b : Fin 63, val_main_v67 (F := Ideal) X D W (ix3 a b j) = val_main_v42 (F := Ideal) X D W (ix3 a ⟨b.val, by omega⟩ j) from
        fun b => by pointwise [val_main_v67],
      show ∀ b : Fin 64, val_main_v42 (F := Ideal) X D W (ix3 a b j)
        = val_main_v41 (F := Ideal) W (ix3 a b j) * val_main_v40 (F := Ideal) X D (ix3 a b j) from fun _ => rfl,
      tap2'_at, v40_at, rd_eq W]; rfl

theorem v73_at (a l : Fin 64) (j : Fin 4096) :
    val_main_v73 (F := Ideal) X D W (ix3 a l j) = rd W 0 j * next (dz (rd X) (rd D)) (row a l) j := by
  rw [val_main_v73, padAfter_at, next_row]
  by_cases h : l.val = 63
  · rw [dif_pos h, if_pos h, mul_zero]; exact zero_at
  · rw [dif_neg h, if_neg h,
      show ∀ b : Fin 63, val_main_v72 (F := Ideal) X D W (ix3 a b j) = val_main_v59 (F := Ideal) X D W (ix3 a ⟨1 + b.val, by omega⟩ j) from
        fun b => by pointwise [val_main_v72],
      show ∀ b : Fin 64, val_main_v59 (F := Ideal) X D W (ix3 a b j)
        = val_main_v58 (F := Ideal) W (ix3 a b j) * val_main_v40 (F := Ideal) X D (ix3 a b j) from fun _ => rfl,
      tap0'_at, v40_at, rd_eq W]
    show _ * dz (rd X) (rd D) (a.val * 64 + (1 + l.val)) j = _
    rw [Nat.add_comm 1]; rfl

theorem v75_at (i j : Fin 4096) : val_main_v75 (F := Ideal) X D W (ix2 i j) = du (rd X) (rd D) (rd W) i j := by
  rw [val_main_v75, join_at,
    show ∀ a l : Fin 64, val_main_v74 (F := Ideal) X D W (ix3 a l j)
      = val_main_v49 (F := Ideal) W (ix3 a l j) * val_main_v40 (F := Ideal) X D (ix3 a l j) + val_main_v69 (F := Ideal) X D W (ix3 a l j)
        + val_main_v73 (F := Ideal) X D W (ix3 a l j) from fun _ _ => rfl,
    tap1'_at, v40_at, v69_at, v73_at, row_eq, rd_eq W, du, add_comm, add_assoc]; rfl

/-- One tap's gradient: the sum over grid rows and positions. -/
theorem rows_sum (f : ℕ → EReal) : ∑ a : Fin 64, ∑ l : Fin 64, f (row a l) = ∑ r : Fin 4096, f r.val :=
  Fin.sum_mul_add_congr fun a l h => rfl

theorem tap_sum (A : FVec Ideal S64x64x4096 .f32) (f : ℕ → EReal) (j : Fin 4096) (h : ∀ a l, A (ix3 a l j) = f (row a l)) :
    Host.reduceAdd (shapeCast S1x1x4096 (Host.reduceAdd A (constant (F := Ideal) S_ .f32 0x00000000#32)
      reducesTo_S64x64x4096_S4096_d0_1 h_S_) shapeCasts_S4096_S1x1x4096) (constant (F := Ideal) S_ .f32 0x00000000#32)
      reducesTo_S1x1x4096_S4096_d0_1 h_S_ (ix1 j) = ∑ r : Fin 4096, f r.val := by
  rw [sum1_at, zero_at, zero_add,
    show ∀ B : FVec Ideal S4096 .f32, shapeCast S1x1x4096 B shapeCasts_S4096_S1x1x4096 (ix3 0 0 j) = B (ix1 j) from fun B => by pointwise,
    sum_at, zero_at, zero_add, ← rows_sum]
  exact Finset.sum_congr rfl fun a _ => Finset.sum_congr rfl fun l _ => h a l

theorem v66_at (k : Fin 3) (j : Fin 4096) :
    val_main_v66 (F := Ideal) X D (ix2 k j) = ∑ r : Fin 4096, dwTerm (rd X) (rd D) k r j := by
  have h0 := tap_sum (val_main_v60 (F := Ideal) X D) (fun r => dwTerm (rd X) (rd D) 0 r j) j fun a l => by
    rw [show val_main_v60 (F := Ideal) X D (ix3 a l j)
      = val_main_v40 (F := Ideal) X D (ix3 a l j) * val_main_v9 (F := Ideal) X (ix3 a l j) from rfl, v40_at, v9_at]; rfl
  have h1 := tap_sum (val_main_v51 (F := Ideal) X D) (fun r => dwTerm (rd X) (rd D) 1 r j) j fun a l => by
    rw [show val_main_v51 (F := Ideal) X D (ix3 a l j)
      = val_main_v40 (F := Ideal) X D (ix3 a l j) * val_main_v5 (F := Ideal) X (ix3 a l j) from rfl, v40_at, v5_at]; rfl
  have h2 := tap_sum (val_main_v43 (F := Ideal) X D) (fun r => dwTerm (rd X) (rd D) 2 r j) j fun a l => by
    rw [show val_main_v43 (F := Ideal) X D (ix3 a l j)
      = val_main_v40 (F := Ideal) X D (ix3 a l j) * val_main_v12 (F := Ideal) X (ix3 a l j) from rfl, v40_at, v12_at]; rfl
  rw [show val_main_v66 (F := Ideal) X D (ix2 k j) = val_main_v48 (F := Ideal) X D (ix2 k j) + val_main_v56 (F := Ideal) X D (ix2 k j)
      + val_main_v65 (F := Ideal) X D (ix2 k j) from rfl,
    val_main_v48, val_main_v47, place2_at, val_main_v46, val_main_v45, val_main_v44,
    val_main_v56, val_main_v55, place1_at, val_main_v54, val_main_v53, val_main_v52,
    val_main_v65, val_main_v64, place0_at, val_main_v63, val_main_v62, val_main_v61]
  simp only [val_main_cst_2, val_main_cst_3, val_main_cst_4, val_main_cst_5, val_main_cst_6, val_main_cst_7, val_main_cst_8,
    val_main_cst_9, val_main_cst_10, h0, h1, h2, zero_at]
  fin_cases k <;> simp

/-- The gate's part, for finite arguments. -/
theorem v37_at (hX : ∀ i, Fine (X i)) (hD : ∀ i, Fine (D i)) (hW : ∀ i, Fine (W i)) (i j : Fin 4096) :
    val_main_v37 (F := Ideal) X D W (ix2 i j) = dp (rd X) (rd D) (rd W) 3 i j := by
  have hone : val_main_v33_1 (F := Ideal) X (ix2 i j)
      = val_main_v33_2 (F := Ideal) X (ix2 i j) * (1 - val_main_v33_2 (F := Ideal) X (ix2 i j)) := by
    rw [show val_main_v33_1 (F := Ideal) X (ix2 i j)
      = val_main_v33_2 (F := Ideal) X (ix2 i j) * (val_main_call0_v6 (F := Ideal) (ix2 i j) - val_main_v33_2 (F := Ideal) X (ix2 i j)) from rfl,
      show val_main_call0_v6 (F := Ideal) (ix2 i j) = 1 by pointwise [val_main_call0_v6, val_main_call0_cst_1]]
  rw [show val_main_v37 (F := Ideal) X D W (ix2 i j)
      = val_main_v0 (F := Ideal) X (ix2 i j) * val_main_v31 (F := Ideal) X W (ix2 i j) * D (ix2 i j) * val_main_v33_2 (F := Ideal) X (ix2 i j)
        + val_main_v3 (F := Ideal) X (ix2 i j)
          * (val_main_v0 (F := Ideal) X (ix2 i j) * val_main_v31 (F := Ideal) X W (ix2 i j) * D (ix2 i j))
          * val_main_v33_1 (F := Ideal) X (ix2 i j) from rfl,
    hone, v0_at, v31_at, v3_at, sigma_at, rd_eq D, dp, if_neg (by decide), if_neg (by decide), if_neg (by decide),
    dsg_distrib (((fine_rd hX _ _).mul (fine_z (fine_rd hX) (fine_rd hW) _ _)).mul (fine_rd hD _ _)) (fine_rd hX _ _),
    mul_comm (rd X i j * _) (rd D i j), mul_assoc (rd D i j) (rd X i j)]

theorem v39_at (i j : Fin 4096) : val_main_v39 (F := Ideal) X D W (ix2 i j) = dp (rd X) (rd D) (rd W) 0 i j := by
  rw [show val_main_v39 (F := Ideal) X D W (ix2 i j)
      = D (ix2 i j) * val_main_v33_0 (F := Ideal) X (ix2 i j) * val_main_v31 (F := Ideal) X W (ix2 i j) from rfl,
    sg_at, v31_at, rd_eq D, dp, if_pos rfl, mul_right_comm]

theorem v77_at (i j : Fin 4096) : val_main_v77 (F := Ideal) X D W (ix2 i j) = dp (rd X) (rd D) (rd W) 1 i j := by
  rw [show val_main_v77 (F := Ideal) X D W (ix2 i j)
      = val_main_v75 (F := Ideal) X D W (ix2 i j) * val_main_v2 (F := Ideal) X (ix2 i j) from rfl,
    v75_at, v2_at, dp, if_neg (by decide), if_pos rfl]

theorem v76_at (i j : Fin 4096) : val_main_v76 (F := Ideal) X D W (ix2 i j) = dp (rd X) (rd D) (rd W) 2 i j := by
  rw [show val_main_v76 (F := Ideal) X D W (ix2 i j)
      = val_main_v1 (F := Ideal) X (ix2 i j) * val_main_v75 (F := Ideal) X D W (ix2 i j) from rfl,
    v75_at, v1_at, dp, if_neg (by decide), if_neg (by decide), if_pos rfl, mul_comm]

/-- Four arrays side by side. -/
theorem beside_at (A B C E : FVec Ideal S4096x4096 .f32) (i : Fin 4096) (j : Fin 16384) :
    truncf .bf16 (concatenate S4096x16384 1 [⟨S4096x4096, A⟩, ⟨S4096x4096, B⟩, ⟨S4096x4096, C⟩, ⟨S4096x4096, E⟩]
      concatenates_S4096x4096_S4096x4096_S4096x4096_S4096x4096_S4096x16384_d1) bitsLt_bf16_f32 (ix2 i j)
      = (if j.val / 4096 = 0 then A else if j.val / 4096 = 1 then B else if j.val / 4096 = 2 then C else E)
          (ix2 i ⟨j.val % 4096, Nat.mod_lt _ (by decide)⟩) := by
  pointwise
  have hj := j.isLt
  by_cases h0 : j.val < 4096
  · have e : (if j.val / 4096 = 0 then A else if j.val / 4096 = 1 then B else if j.val / 4096 = 2 then C else E) = A := by rw [if_pos (by omega)]
    refine Eq.trans ?_ (congrFun e.symm _)
    exact (dif_pos h0).trans (congrArg (fun k => A (ix2 i k)) (Fin.ext (by show j.val = j.val % 4096; omega)))
  by_cases h1 : j.val - 4096 < 4096
  · have e : (if j.val / 4096 = 0 then A else if j.val / 4096 = 1 then B else if j.val / 4096 = 2 then C else E) = B := by rw [if_neg (by omega), if_pos (by omega)]
    refine Eq.trans ?_ (congrFun e.symm _)
    exact (dif_neg h0).trans <| (dif_pos h1).trans (congrArg (fun k => B (ix2 i k)) (Fin.ext (by show j.val - 4096 = j.val % 4096; omega)))
  by_cases h2 : j.val - 4096 - 4096 < 4096
  · have e : (if j.val / 4096 = 0 then A else if j.val / 4096 = 1 then B else if j.val / 4096 = 2 then C else E) = C := by rw [if_neg (by omega), if_neg (by omega), if_pos (by omega)]
    refine Eq.trans ?_ (congrFun e.symm _)
    exact (dif_neg h0).trans <| (dif_neg h1).trans <| (dif_pos h2).trans (congrArg (fun k => C (ix2 i k)) (Fin.ext (by show j.val - 4096 - 4096 = j.val % 4096; omega)))
  · have e : (if j.val / 4096 = 0 then A else if j.val / 4096 = 1 then B else if j.val / 4096 = 2 then C else E) = E := by rw [if_neg (by omega), if_neg (by omega), if_neg (by omega)]
    refine Eq.trans ?_ (congrFun e.symm _)
    exact (dif_neg h0).trans <| (dif_neg h1).trans <| (dif_neg h2).trans (congrArg (fun k => E (ix2 i k)) (Fin.ext (by show j.val - 4096 - 4096 - 4096 = j.val % 4096; omega)))

theorem v79_at (hX : ∀ i, Fine (X i)) (hD : ∀ i, Fine (D i)) (hW : ∀ i, Fine (W i)) (i : Fin 4096) (j : Fin 16384) :
    val_main_v79 (F := Ideal) X D W (ix2 i j) = dp (rd X) (rd D) (rd W) (j.val / 4096) i (j.val % 4096) := by
  have hj := j.isLt
  rw [val_main_v79, val_main_v78, beside_at]
  split_ifs with h0 h1 h2
  · rw [h0, v39_at]
  · rw [h1, v77_at]
  · rw [h2, v76_at]
  · rw [show j.val / 4096 = 3 by omega, v37_at X D W hX hD hW]

end Cert.ReferenceIdeal.Mix

end
-- ==== Proof.ScMixFwd.lean ====
/- The short gated convolution mixer, forwards, in blocks of 128 rows. -/
module

public import proofs.«01_k».proof.Defs
public import proofs.«01_k».proof.Proof.ShortConvKernel
public import proofs.«01_k».proof.Proof.ShortConvReference
public import proofs.«01_k».proof.Proof.Gen.Kernel23Ideal.Value
public import proofs.«01_k».proof.Proof.Gen.Reference23Ideal.Run
public import proofs.«01_k».proof.Proof.Gen.Reference23Ideal.Read
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel23Ideal.Value

open Cert.Kernel23Ideal Cert.Kernel23Ideal.Gen Cert.ShortConv
open Cert.KernelIdeal.Block (inRow pos width_word rowPrev rowNext select_prev select_next)

section Block
variable (X : FVec Ideal S128x16384 .f32) (W : FVec Ideal S3x4096 .f32)

theorem before_at (i : Fin 128) (j : Fin 4096) :
    k0_pay5 (F := Ideal) X W (ix2 i j) = W (ix2 0 j) * Scalar.select (inRow i 4294967295#32) (k0_pay4 X (ix2 (rowPrev i) j)) 0 := by
  pointwise [k0_pay5, inRow, pos, width_word]

theorem mixed_at (v g u y : FVec Ideal S128x4096 .f32) (i : Fin 128) (j : Fin 4096) :
    k0_pay1 (F := Ideal) v g u W y (k0_pay6 W) (ix2 i j)
      = v (ix2 i j) * (y (ix2 i j) + W (ix2 1 j) * u (ix2 i j) + W (ix2 2 j) * Scalar.select (inRow i 1#32) (u (ix2 (rowNext i) j)) 0)
        * (g (ix2 i j) * Ideal.logistic (g (ix2 i j))) := by
  pointwise [k0_pay1, k0_pay6, inRow, pos, width_word]

theorem u_at (i : Fin 128) (j : Fin 4096) : k0_pay4 (F := Ideal) X (ix2 i j) = u (rd X) i j := Cert.KernelIdeal.Block.u_at X i j

/-- The mixer, element by element. -/
def mix (p w : ℕ → ℕ → EReal) (r c : ℕ) : EReal := p r c * z p w r c * sg p r c

/-- What a block stores. -/
theorem mix_at (i : Fin 128) (j : Fin 4096) :
    k0_pay1 (F := Ideal) (k0_pay2 X) (k0_pay3 X) (k0_pay4 X) W (k0_pay5 X W) (k0_pay6 W) (ix2 i j) = mix (rd X) (rd W) i j := by
  rw [mixed_at, before_at, select_prev (u_at X), select_next (u_at X), u_at, rd_eq W, rd_eq W, rd_eq W,
    show k0_pay2 (F := Ideal) X (ix2 i j) = rd X i j from Cert.KernelIdeal.Block.gate_at X i j,
    show k0_pay3 (F := Ideal) X (ix2 i j) = rd X i (12288 + j) from Cert.KernelIdeal.Block.act_at X i j]
  rfl

end Block

variable (m : (ℓ : Loc nD τ sig) → Buf (Elt Ideal) ℓ) (c : Dev nD)

/-- The projection, the taps. -/
abbrev P : ℕ → ℕ → EReal := rd (a := 4096) (b := 16384) (φ := .f32) (m ((c : Thread nD τ).loc main_arg0))
abbrev W : ℕ → ℕ → EReal := rd (a := 3) (b := 4096) (φ := .f32) (m ((c : Thread nD τ).loc main_arg1))

/-- The blocks' indices. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem block0 (t : Fin cfg0.N) (r : ℕ) (hr : r < 128) (k : ℕ) :
    rd (a := 128) (b := 16384) (φ := .f32) (iblk m c 0 t) r k = P m c (128 * t.val + r) k := by
  have hN : cfg0.N = 32 := N_0
  have ht := t.isLt
  unfold P rd
  by_cases hk : k < 16384
  · rw [dif_pos ⟨hr, hk⟩, dif_pos ⟨by omega, hk⟩]
    blk_ext [iblk, V, idx t]
  · rw [dif_neg fun h => hk h.2, dif_neg fun h => hk h.2]

theorem block1 (t : Fin cfg0.N) : rd (a := 3) (b := 4096) (φ := .f32) (iblk m c 1 t) = W m c := by
  funext r k
  unfold W rd
  by_cases hk : r < 3 ∧ k < 4096
  · rw [dif_pos hk, dif_pos hk]
    blk_ext [iblk, V, idx t]
  · rw [dif_neg hk, dif_neg hk]

def G : FVec Ideal S4096x4096 .bf16 := fun y => mix (P m c) (W m c) (y 0).val (y 1).val

theorem mix_rows (t : Fin cfg0.N) (i : Fin 128) (j : Fin 4096) :
    mix (rd (a := 128) (b := 16384) (φ := .f32) (iblk m c 0 t)) (rd (a := 3) (b := 4096) (φ := .f32) (iblk m c 1 t)) i j
      = mix (P m c) (W m c) (128 * t.val + i) j := by
  unfold mix
  rw [block1, z_shift (block0 m c t) i.val i.isLt, sg_shift (block0 m c t) i.val i.isLt, block0 m c t i.val i.isLt]

theorem final : (dats m 0 c).arrAt 2 cfg0.N = G m c := by
  refine (dats m 0 c).arrAt_eq_of_covers 2 (G m c) (by decide +kernel) fun t hf y => ?_
  rw [after0_2]
  unfold out0_2
  canon_tiles x e
  obtain ⟨i, j, rfl⟩ : ∃ i j, x = ix2 i j := ⟨x 0, x 1, by ext a; fin_cases a <;> rfl⟩
  have h0 : (((cfg0.win 2).blk t).view.emb y 0).val = 128 * t.val + i := by
    have e0' : (y 0).val = i.val := e0
    rw [← e0']; blk_simp [idx t]; omega
  have h1 : (((cfg0.win 2).blk t).view.emb y 1).val = j := by
    have e1' : (y 1).val = j.val := e1
    rw [← e1']; blk_simp [idx t]
  rw [View.ld_unit_zero (by funext a; fin_cases a <;> rfl), View.ld_unit_zero (by funext a; fin_cases a <;> rfl)]
  refine (mix_at _ _ i j).trans ((mix_rows m c t i j).trans ?_)
  unfold G
  rw [h0, h1]

end Cert.Kernel23Ideal.Value

namespace Cert.Reference23Ideal.Mix

open Cert.Reference23Ideal Cert.Reference23Ideal.Read Cert.ShortConv

theorem mix_at (x : FVec Ideal S4096x16384 .f32) (w : FVec Ideal S3x4096 .f32) (i j : Fin 4096) :
    val_main_v33 (F := Ideal) x w (ix2 i j) = Cert.Kernel23Ideal.Value.mix (rd x) (rd w) i j := by
  rw [show val_main_v33 (F := Ideal) x w (ix2 i j)
      = val_main_v0 (F := Ideal) x (ix2 i j) * val_main_v29 (F := Ideal) x w (ix2 i j) * val_main_v31 (F := Ideal) x (ix2 i j) from rfl,
    show val_main_v0 (F := Ideal) x (ix2 i j) = rd x i j from Cert.ReferenceIdeal.Mix.v0_at x i j,
    show val_main_v29 (F := Ideal) x w (ix2 i j) = z (rd x) (rd w) i j from Cert.ReferenceIdeal.Mix.v31_at x w i j,
    show val_main_v31 (F := Ideal) x (ix2 i j) = sg (rd x) i j from Cert.ReferenceIdeal.Mix.sg_at x i j]
  rfl

end Cert.Reference23Ideal.Mix

namespace Cert.Proof

theorem sc_mix_fwd_reference_frame : Cert.quiescent_Reference23Ideal := fun m g _ =>
  (θ_run Cert.Reference23Ideal.defs _ _).mono
    (fun r h => ⟨fun c => (h c).2, sem_eq_zero_of_no_sems (by decide) r.2⟩) (Cert.Reference23Ideal.Value.run m g)

theorem sc_mix_fwd_algebraic : Cert.algebraic_Kernel23Ideal_Reference23Ideal := by
  intro m g m' g' _ hagree
  refine ⟨fun c => (Cert.Kernel23Ideal.Gen.dats m 0 c).arrAt 2 Cert.Kernel23Ideal.cfg0.N, Cert.Kernel23Ideal.Value.run_blocks m g, ?_⟩
  refine (θ_run Cert.Reference23Ideal.defs _ _).mono (fun r h c => ⟨(h c).1.trans ?_, (h c).2⟩) (Cert.Reference23Ideal.Value.run m' g')
  refine Eq.trans ?_ (Cert.Kernel23Ideal.Value.final m c).symm
  refine (Cert.Reference23Ideal.Read.val_main_v33_eq _ _).trans ?_
  rw [(hagree c).1, (hagree c).2]
  funext y
  obtain ⟨i, j, rfl⟩ : ∃ i j, y = ix2 i j := ⟨y 0, y 1, by ext a; fin_cases a <;> rfl⟩
  exact Cert.Reference23Ideal.Mix.mix_at _ _ i j

end Cert.Proof

end
-- ==== Proof.QkvConvFwd.lean ====
/- The delta rule's q, k and v. -/
module

public import proofs.«01_k».proof.Defs
public import proofs.«01_k».proof.Proof.QkvKernel
public import proofs.«01_k».proof.Proof.QkvReference
public import proofs.«01_k».proof.Proof.Gen.Kernel24Ideal.Value
public import proofs.«01_k».proof.Proof.Gen.Reference24Ideal.Run
public import proofs.«01_k».proof.Proof.Gen.Reference24Ideal.Read
public import Idealize.ShloMosaic.Lib.VecWindow
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Qkv

open Cert.ShortConv Cert.Norm

/-- A head at unit length, and the result: the query scaled, the key, the value as it is. -/
def unit (p w : ℕ → ℕ → EReal) (t c : ℕ) : EReal :=
  act p w t c * scl ((1 : ℝ) : EReal) offset fun k : Fin 128 => act p w t (128 * (c / 128) + k)
def scaled (p w : ℕ → ℕ → EReal) (t c : ℕ) : EReal :=
  if c < 2048 then unit p w t c * factor else if c < 4096 then unit p w t c else act p w t c

end Cert.Qkv

namespace Cert.Kernel24Ideal.Block

open Cert.Kernel24Ideal Cert.Kernel24Ideal.Gen Cert.ShortConv Cert.Norm Cert.Qkv
open Cert.Kernel14Ideal.Block (select_word first_group act_block)

/-- What a block stores, from the activations and the heads' reciprocal root. -/
def stored (g : BitVec 32) (A : FVec Ideal S4352x128 .f32) (R : FVec Ideal S4352x1 .f32) : FVec Ideal S4352x128 .bf16 :=
  truncf .bf16 (Scalar.select (Scalar.cmpi .eq g 0#32)
    (mulf (mulf A (broadcastTo S4352x128 R broadcasts_S4352x1_S4352x128)) (broadcast S4352x128 (Scalar.ofBits (F := Ideal) .f32 0x3DB504F3#32)))
    (Scalar.select (Scalar.cmpi .eq g 1#32) (mulf A (broadcastTo S4352x128 R broadcasts_S4352x1_S4352x128)) A)) bitsLt_bf16_f32

theorem pick (b : BitVec 1) (A B : FVec Ideal S4352x128 .f32) (x : S4352x128.Idx) : Scalar.select b A B x = Scalar.select b (A x) (B x) := by
  unfold Scalar.select; split <;> rfl

theorem stored_at (g : BitVec 32) (A : FVec Ideal S4352x128 .f32) (R : FVec Ideal S4352x1 .f32) (i : Fin 4352) (j : Fin 128) :
    stored g A R (ix2 i j) = Scalar.select (Scalar.cmpi .eq g 0#32) (A (ix2 i j) * R (ix2 i 0) * factor)
      (Scalar.select (Scalar.cmpi .eq g 1#32) (A (ix2 i j) * R (ix2 i 0)) (A (ix2 i j))) := by
  have e : mulf A (broadcastTo S4352x128 R broadcasts_S4352x1_S4352x128) (ix2 i j) = A (ix2 i j) * R (ix2 i 0) := by pointwise
  rw [← e]
  unfold stored
  generalize mulf A (broadcastTo S4352x128 R broadcasts_S4352x1_S4352x128) = B
  show Scalar.select (Scalar.cmpi .eq g 0#32) (mulf B (broadcast S4352x128 (Scalar.ofBits (F := Ideal) .f32 0x3DB504F3#32)))
    (Scalar.select (Scalar.cmpi .eq g 1#32) B A) (ix2 i j) = _
  rw [pick, pick]
  rfl

/-- The payload in the terms of the way back, which computes the same activations and root. -/
theorem pay_eq (g : BitVec 32) (X : Vec Ideal S4352x128 .f32) (V : FVec Ideal S4352x128 .f32) (R : FVec Ideal S1x128 .f32) (I J : IVec S4352x1 32) (n : BitVec 32) :
    k0_pay1 g X V R I J n = stored g (Cert.Kernel14Ideal.Gen.k0_pay10 X V R I J n) (Cert.Kernel14Ideal.Gen.k0_pay11 X V R I J n) := rfl

theorem key_group {b : ℕ} (hb : b < 48) (j : Fin 128) (h : ¬128 * b + j.val < 2048) :
    Scalar.cmpi .eq (BitVec.ofNat 32 (b / 16)) 1#32 = if 128 * b + j.val < 4096 then 1#1 else 0#1 := by
  have := j.isLt
  rw [(by decide : ∀ b : Fin 48, Scalar.cmpi .eq (BitVec.ofNat 32 (b.val / 16)) 1#32 = if ¬b.val < 16 ∧ b.val < 32 then 1#1 else 0#1) ⟨b, hb⟩]
  exact if_congr (by show ¬b < 16 ∧ b < 32 ↔ _; omega) rfl rfl

theorem scaled_at {X : Vec Ideal S4352x128 .f32} {W : Vec Ideal S4x128 .f32} {p w : ℕ → ℕ → EReal} {b : ℕ}
    (hX : ∀ i j, X (ix2 i j) = p i.val (128 * b + j.val)) (hW : ∀ k j, W (ix2 k j) = w k.val (128 * b + j.val)) (hb : b < 48)
    (i : Fin 4352) (j : Fin 128) :
    k0_pay1 (BitVec.ofNat 32 (b / 16)) X (k0_pay7 X W (k0_pay2 W) (k0_pay4 X) k0_pay5 k0_pay6) (k0_pay8 W)
      (iota .tc S4352x1 32 [0] iota_S4352x1_d0_w32) k0_pay9 4096#32 (ix2 i j) = scaled p w i (128 * b + j) := by
  have := j.isLt
  have ha : ∀ k : Fin 128, Cert.Kernel14Ideal.Gen.k0_pay10 (F := Ideal) X (k0_pay7 X W (k0_pay2 W) (k0_pay4 X) k0_pay5 k0_pay6) (k0_pay8 W)
      (iota .tc S4352x1 32 [0] iota_S4352x1_d0_w32) k0_pay9 4096#32 (ix2 i k) = act p w i (128 * b + k) := fun k => act_block hX hW i k
  rw [pay_eq, stored_at, Cert.Kernel14Ideal.Block.root_at]
  simp only [ha]
  unfold scaled unit
  rw [show (128 * b + j.val) / 128 = b by omega, select_word (first_group hb j)]
  by_cases h : 128 * b + j.val < 2048
  · rw [if_pos h, if_pos h]
  · rw [if_neg h, if_neg h, select_word (key_group hb j h)]

end Cert.Kernel24Ideal.Block

namespace Cert.Kernel24Ideal.Value

open Cert.Kernel24Ideal Cert.Kernel24Ideal.Gen Cert.Kernel24Ideal.Block Cert.ShortConv Cert.Norm Cert.Qkv

variable (m : (ℓ : Loc nD τ sig) → Buf (Elt Ideal) ℓ) (c : Dev nD)

/-- The projection, the taps. -/
abbrev P : ℕ → ℕ → EReal := rd (a := 4352) (b := 12288) (φ := .f32) (m ((c : Thread nD τ).loc main_arg0))
abbrev W : ℕ → ℕ → EReal := rd (a := 4) (b := 6144) (φ := .f32) (m ((c : Thread nD τ).loc main_arg1))

/-- The blocks' indices, and the group as the block computes it. -/
theorem idx : ∀ t : Fin cfg0.N, win0_0.index t = ![0, t.val] ∧ win0_1.index t = ![0, t.val] ∧ win0_2.index t = ![0, t.val] :=
  (by decide +kernel : ∀ t : Fin grid0.N, win0_0.index t = ![0, t.val] ∧ win0_1.index t = ![0, t.val] ∧ win0_2.index t = ![0, t.val])

def group (i : grid0.Coords) : BitVec 32 :=
  Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 16#32 0#32)) (Scalar.extui (Scalar.cmpi .slt 16#32 0#32)))) (Scalar.cmpi .ne (Scalar.remsi (BitVec.ofNat 32 (i 0).val) 16#32) 0#32)) (Scalar.subi (Scalar.divsi (BitVec.ofNat 32 (i 0).val) 16#32) 1#32) (Scalar.divsi (BitVec.ofNat 32 (i 0).val) 16#32)

theorem group_at : ∀ t : Fin cfg0.N, group (grid0.coords t) = BitVec.ofNat 32 (t.val / 16) :=
  (by decide +kernel : ∀ t : Fin grid0.N, group (grid0.coords t) = BitVec.ofNat 32 (t.val / 16))

theorem lt48 (t : Fin cfg0.N) : t.val < 48 := lt_of_lt_of_eq t.isLt N_0

theorem block0 (t : Fin cfg0.N) (i : Fin 4352) (j : Fin 128) :
    (iblk m c 0 t : Vec Ideal S4352x128 .f32) (ix2 i j) = P m c i (128 * t.val + j) := by
  have := lt48 t; have := i.isLt; have := j.isLt
  unfold P rd
  rw [dif_pos ⟨by omega, by omega⟩]
  blk_ext [iblk, V, idx t]

theorem block1 (t : Fin cfg0.N) (k : Fin 4) (j : Fin 128) :
    (iblk m c 1 t : Vec Ideal S4x128 .f32) (ix2 k j) = W m c k (128 * t.val + j) := by
  have := lt48 t; have := k.isLt; have := j.isLt
  unfold W rd
  rw [dif_pos ⟨by omega, by omega⟩]
  blk_ext [iblk, V, idx t]

def G : FVec Ideal S4352x6144 .bf16 := fun x => scaled (P m c) (W m c) (x 0).val (x 1).val

theorem out_eq (i : grid0.Coords) (x : Vec Ideal S4352x128 .f32) (w : Vec Ideal S4x128 .f32) :
    out0_2 i x w = k0_pay1 (group i) x (k0_pay7 x w (k0_pay2 w) (k0_pay4 x) k0_pay5 k0_pay6) (k0_pay8 w)
      (iota .tc S4352x1 32 [0] iota_S4352x1_d0_w32) k0_pay9 4096#32 := by
  unfold out0_2
  rw [View.canon_unit_zero (by funext a; fin_cases a <;> rfl), (View.ld_unit_zero (by funext a; fin_cases a <;> rfl) _ _ : View.ld x r0_0 = x),
    (View.ld_unit_zero (by funext a; fin_cases a <;> rfl) _ _ : View.ld w r0_1 = w)]
  rfl

theorem out (t : Fin cfg0.N) (i : Fin 4352) (j : Fin 128) :
    out0_2 (grid0.coords t) (iblk m c 0 t) (iblk m c 1 t) (ix2 i j) = scaled (P m c) (W m c) i (128 * t.val + j) := by
  refine (congrFun (out_eq _ _ _) _).trans ?_
  rw [group_at]
  exact scaled_at (block0 m c t) (block1 m c t) (lt48 t) i j

theorem final : (dats m 0 c).arrAt 2 cfg0.N = G m c := by
  refine (dats m 0 c).arrAt_eq_of_covers 2 (G m c) (by decide +kernel) fun t hf y => ?_
  rw [after0_2]
  obtain ⟨i, j, e⟩ : ∃ (i : Fin 4352) (j : Fin 128), (((cfg0.win 2).xinj (grid0.coords t) y : S4352x128.Idx)) = ix2 i j :=
    ⟨((cfg0.win 2).xinj (grid0.coords t) y : S4352x128.Idx) 0, ((cfg0.win 2).xinj (grid0.coords t) y : S4352x128.Idx) 1, by ext a; fin_cases a <;> rfl⟩
  have key := out m c t i j
  generalize out0_2 (grid0.coords t) (iblk m c 0 t) (iblk m c 1 t) = K at key ⊢
  refine (congrArg K e).trans (key.trans ?_)
  have h0 : (((cfg0.win 2).blk t).view.emb y 0).val = i := by
    have e0' : (y 0).val = i.val := congrArg (fun z : S4352x128.Idx => (z 0).val) e
    rw [← e0']; blk_simp [idx t]
  have h1 : (((cfg0.win 2).blk t).view.emb y 1).val = 128 * t.val + j := by
    have e1' : (y 1).val = j.val := congrArg (fun z : S4352x128.Idx => (z 1).val) e
    rw [← e1']; blk_simp [idx t]; omega
  unfold G
  rw [h0, h1]

end Cert.Kernel24Ideal.Value

namespace Cert.Reference24Ideal.Qkv

open Cert.Reference24Ideal Cert.Reference24Ideal.Read Cert.Reference24Ideal.Gen Cert.ShortConv Cert.Norm Cert.Qkv

variable (x : FVec Ideal S4352x12288 .f32) (w : FVec Ideal S4x6144 .f32)

/-! The stages up to the heads are those the gradient's reference begins with. -/

theorem act_at (i : Fin 4352) (j : Fin 6144) : val_main_v35 (F := Ideal) x w (ix2 i j) = act (rd x) (rd w) i j :=
  Cert.Reference14Ideal.Qkv.act_at x w i j

theorem head_at (i : Fin 4352) (h : Fin 32) (k : Fin 128) : val_main_v38 (F := Ideal) x w (ix3 i h k) = act (rd x) (rd w) i (128 * h + k) :=
  Cert.Reference14Ideal.Qkv.head_at x w i h k

theorem root_at (i : Fin 4352) (h : Fin 32) :
    val_main_v44 (F := Ideal) x w (ix3 i h 0) = scl ((1 : ℝ) : EReal) offset fun k : Fin 128 => act (rd x) (rd w) i (128 * h + k) :=
  Cert.Reference14Ideal.Qkv.root_at x w i h

theorem unit_at (i : Fin 4352) (j : Fin 4096) : val_main_v47 (F := Ideal) x w (ix2 i j) = unit (rd x) (rd w) i j := by
  have := j.isLt
  rw [show val_main_v47 (F := Ideal) x w (ix2 i j) = val_main_v46 (F := Ideal) x w (ix3 i ⟨j.val / 128, by omega⟩ (lane j.val)) by
      pointwise [val_main_v47]
      rfl,
    show val_main_v46 (F := Ideal) x w (ix3 i ⟨j.val / 128, by omega⟩ (lane j.val))
      = val_main_v38 (F := Ideal) x w (ix3 i ⟨j.val / 128, by omega⟩ (lane j.val)) * val_main_v44 (F := Ideal) x w (ix3 i ⟨j.val / 128, by omega⟩ 0) by
      pointwise [val_main_v46, val_main_v45],
    head_at, root_at]
  unfold unit lane
  exact congrArg (fun n => act (rd x) (rd w) i n * _) (by dsimp only; omega)

theorem query_at (i : Fin 4352) (j : Fin 2048) : val_main_v51 (F := Ideal) x w (ix2 i j) = unit (rd x) (rd w) i j * factor := by
  have := j.isLt
  rw [show val_main_v51 (F := Ideal) x w (ix2 i j) = val_main_v47 (F := Ideal) x w (ix2 i ⟨j.val, by omega⟩) * factor by
    pointwise [val_main_v51, val_main_v50, val_main_v48, val_main_cst_2], unit_at]
theorem key_at (i : Fin 4352) (j : Fin 2048) : val_main_v49 (F := Ideal) x w (ix2 i j) = unit (rd x) (rd w) i (2048 + j) := by
  have := j.isLt
  rw [show val_main_v49 (F := Ideal) x w (ix2 i j) = val_main_v47 (F := Ideal) x w (ix2 i ⟨2048 + j.val, by omega⟩) by
    pointwise [val_main_v49], unit_at]
theorem value_at (i : Fin 4352) (j : Fin 2048) : val_main_v37 (F := Ideal) x w (ix2 i j) = act (rd x) (rd w) i (4096 + j) := by
  have := j.isLt
  rw [show val_main_v37 (F := Ideal) x w (ix2 i j) = val_main_v35 (F := Ideal) x w (ix2 i ⟨4096 + j.val, by omega⟩) by
    pointwise [val_main_v37], act_at]

/-- Three arrays side by side. -/
theorem beside_at (A B C : FVec Ideal S4352x2048 .f32) (a b d : ℕ → EReal) (i : Fin 4352) (hA : ∀ j : Fin 2048, A (ix2 i j) = a j.val)
    (hB : ∀ j : Fin 2048, B (ix2 i j) = b (2048 + j.val)) (hC : ∀ j : Fin 2048, C (ix2 i j) = d (4096 + j.val)) (j : Fin 6144) :
    concatenate S4352x6144 1 [⟨S4352x2048, A⟩, ⟨S4352x2048, B⟩, ⟨S4352x2048, C⟩] concatenates_S4352x2048_S4352x2048_S4352x2048_S4352x6144_d1 (ix2 i j)
      = if j.val < 2048 then a j.val else if j.val < 4096 then b j.val else d j.val := by
  have := j.isLt
  pointwise
  by_cases h : j.val < 2048
  · simp only [if_pos h, dif_pos h]; exact hA _
  · by_cases h' : j.val < 4096
    · simp only [if_neg h, dif_neg h, if_pos h']
      rw [dif_pos (by omega)]
      exact (hB _).trans (congrArg b (by dsimp only; omega))
    · simp only [if_neg h, dif_neg h, if_neg h']
      rw [dif_neg (by omega)]
      exact (hC _).trans (congrArg d (by dsimp only; omega))

theorem scaled_at (i : Fin 4352) (j : Fin 6144) : val_main_v53 (F := Ideal) x w (ix2 i j) = scaled (rd x) (rd w) i j :=
  beside_at _ _ _ (fun n => unit (rd x) (rd w) i n * factor) (fun n => unit (rd x) (rd w) i n) (fun n => act (rd x) (rd w) i n) i
    (query_at x w i) (key_at x w i) (value_at x w i) j

end Cert.Reference24Ideal.Qkv

namespace Cert.Proof

theorem qkv_conv_fwd_reference_frame : Cert.quiescent_Reference24Ideal := fun m g _ =>
  (θ_run Cert.Reference24Ideal.defs _ _).mono
    (fun r h => ⟨fun c => (h c).2, sem_eq_zero_of_no_sems (by decide) r.2⟩) (Cert.Reference24Ideal.Value.run m g)

theorem qkv_conv_fwd_algebraic : Cert.algebraic_Kernel24Ideal_Reference24Ideal := by
  intro m g m' g' _ hagree
  refine ⟨fun c => (Cert.Kernel24Ideal.Gen.dats m 0 c).arrAt 2 Cert.Kernel24Ideal.cfg0.N, Cert.Kernel24Ideal.Value.run_blocks m g, ?_⟩
  refine (θ_run Cert.Reference24Ideal.defs _ _).mono (fun r h c => ⟨(h c).1.trans ?_, (h c).2⟩) (Cert.Reference24Ideal.Value.run m' g')
  refine Eq.trans ?_ (Cert.Kernel24Ideal.Value.final m c).symm
  rw [Cert.Reference24Ideal.Read.val_main_v53_eq]
  show Cert.Reference24Ideal.Read.val_main_v53 (F := Ideal) (m' (c.tc.loc Cert.Reference24Ideal.main_arg0)) (m' (c.tc.loc Cert.Reference24Ideal.main_arg1)) = _
  rw [(hagree c).1, (hagree c).2]
  funext x
  obtain ⟨i, j, rfl⟩ : ∃ i j, x = ix2 i j := ⟨x 0, x 1, by ext a; fin_cases a <;> rfl⟩
  exact Cert.Reference24Ideal.Qkv.scaled_at _ _ i j

end Cert.Proof

end
-- ==== Proof.ProductSpec.lean ====
/- A product of two matrices, element by element, and its sum cut into equal chunks. -/
module

public import proofs.«01_k».proof.Proof.ShortConvSpec
public import Idealize.ShloMosaic.Lib.Pipeline.ValueKit

@[expose] public section

noncomputable section

open Idealize.ShloMosaic

namespace Cert.Product

/-- The sum of the products of two rows of `n` elements. -/
def dot (n : ℕ) (f g : ℕ → EReal) : EReal := ∑ k : Fin n, f k * g k

theorem dot_comm (n : ℕ) (f g : ℕ → EReal) : dot n f g = dot n g f :=
  Finset.sum_congr rfl fun _ _ => mul_comm _ _

/-- A row of `b · n` elements, `b` chunks of `n` one after another. -/
theorem dot_chunks (b n : ℕ) (f g : ℕ → EReal) :
    ∑ s : Fin b, dot n (fun k => f (s * n + k)) (fun k => g (s * n + k)) = dot (b * n) f g :=
  Fin.sum_mul_add_congr fun _ _ _ => rfl

/-- A stack of matrices read at natural numbers. -/
def sl {n a b : ℕ} {φ : FTy} (X : FVec Ideal ⟨3, ![n, a, b]⟩ φ) (q r c : ℕ) : EReal :=
  if h : q < n ∧ r < a ∧ c < b then X (ix3 ⟨q, h.1⟩ ⟨r, h.2.1⟩ ⟨c, h.2.2⟩) else 0

theorem sl_eq {n a b : ℕ} {φ : FTy} (X : FVec Ideal ⟨3, ![n, a, b]⟩ φ) (q : Fin n) (i : Fin a) (j : Fin b) :
    X (ix3 q i j) = sl X q i j := by
  unfold sl; rw [dif_pos ⟨q.isLt, i.isLt, j.isLt⟩]

/-- Four rows of 4096 elements one after another, read as slots of one family. -/
theorem slots (g : ℕ → ℕ → EReal) (f0 f1 f2 f3 : Fin 4096 → EReal) (h0 : ∀ l, f0 l = g 0 l) (h1 : ∀ l, f1 l = g 1 l)
    (h2 : ∀ l, f2 l = g 2 l) (h3 : ∀ l, f3 l = g 3 l) (j : Fin 16384) :
    (if h : j.val < 4096 then f0 ⟨j, h⟩ else if h : j.val - 4096 < 4096 then f1 ⟨j - 4096, h⟩
      else if h : j.val - 4096 - 4096 < 4096 then f2 ⟨j - 4096 - 4096, h⟩
      else f3 ⟨j - 4096 - 4096 - 4096, by omega⟩) = g (j.val / 4096) (j.val % 4096) := by
  split_ifs with a b c
  · rw [h0, show j.val / 4096 = 0 by omega, show j.val % 4096 = j.val by omega]
  · rw [h1, show j.val / 4096 = 1 by omega, show j.val % 4096 = j.val - 4096 by omega]
  · rw [h2, show j.val / 4096 = 2 by omega, show j.val % 4096 = j.val - 4096 - 4096 by omega]
  · rw [h3, show j.val / 4096 = 3 by omega, show j.val % 4096 = j.val - 4096 - 4096 - 4096 by omega]

end Cert.Product

end
-- ==== Proof.Proj0Ba.lean ====
/- The product that gives the delta rule's beta and alpha, and its two gradients. -/
module

public import proofs.«01_k».proof.Proof.ProductSpec
public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27Ideal.Value
public import proofs.«01_k».proof.Proof.Gen.Reference27Ideal.Run
public import proofs.«01_k».proof.Proof.Gen.Reference27Ideal.Read

@[expose] public section

set_option maxRecDepth 16384

noncomputable section

open Idealize.ShloMosaic Idealize.ShloMosaic.TcCoe Idealize.SL.Sem
open Idealize.ShloMosaic.Pipeline (Dat)

namespace Cert.Kernel25Ideal.Value

open Cert.Kernel25Ideal Cert.Kernel25Ideal.Gen Cert.ShortConv Cert.Product

/-! The product itself: a block of rows times the whole weight. -/

theorem pay_at (x : Vec Ideal S1088x4096 .bf16) (y : Vec Ideal S4096x128 .bf16) (i : Fin 1088) (j : Fin 128) :
    k0_pay1 (F := Ideal) x y (ix2 i j) = ∑ k : Fin 4096, x (ix2 i k) * y (ix2 k j) := by
  pointwise [k0_pay1]

variable (m : (ℓ : Loc nD τ sig) → Buf (Elt Ideal) ℓ) (c : Dev nD)

/-- The normed rows, the weight. -/
abbrev A : ℕ → ℕ → EReal := rd (a := 4352) (b := 4096) (φ := .bf16) (m ((c : Thread nD τ).loc main_arg0))
abbrev B : ℕ → ℕ → EReal := rd (a := 4096) (b := 128) (φ := .bf16) (m ((c : Thread nD τ).loc main_arg1))

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem block0 (t : Fin cfg0.N) (k : Fin 4096) (i : Fin 1088) :
    (iblk m c 0 t : Vec Ideal S1088x4096 .bf16) (ix2 i k) = A m c (1088 * t.val + i) k := by
  have hN : cfg0.N = 4 := N_0
  have := t.isLt; have := i.isLt
  unfold A rd
  rw [dif_pos ⟨by omega, k.isLt⟩]
  blk_ext [iblk, V, idx t]

theorem block1 (t : Fin cfg0.N) (k : Fin 4096) (j : Fin 128) : (iblk m c 1 t : Vec Ideal S4096x128 .bf16) (ix2 k j) = B m c k j := by
  unfold B rd
  rw [dif_pos ⟨k.isLt, j.isLt⟩]
  blk_ext [iblk, V, idx t]

def G : FVec Ideal S4352x128 .f32 := fun y => dot 4096 (fun k => A m c (y 0).val k) (fun k => B m c k (y 1).val)

theorem final : (dats m 0 c).arrAt 2 cfg0.N = G m c := by
  refine (dats m 0 c).arrAt_eq_of_covers 2 (G m c) (by decide +kernel) fun t hf y => ?_
  rw [after0_2]
  unfold out0_2
  canon_tiles x e
  obtain ⟨i, j, rfl⟩ : ∃ i j, x = ix2 i j := ⟨x 0, x 1, by ext a; fin_cases a <;> rfl⟩
  have h0 : (((cfg0.win 2).blk t).view.emb y 0).val = 1088 * t.val + i := by
    have e0' : (y 0).val = i.val := e0
    rw [← e0']; blk_simp [idx t]; omega
  have h1 : (((cfg0.win 2).blk t).view.emb y 1).val = j := by
    have e1' : (y 1).val = j.val := e1
    rw [← e1']; blk_simp [idx t]
  refine (pay_at _ _ i j).trans ?_
  rw [View.ld_unit_zero (by funext a; fin_cases a <;> rfl), View.ld_unit_zero (by funext a; fin_cases a <;> rfl)]
  unfold G dot
  rw [h0, h1]
  exact Finset.sum_congr rfl fun k _ => congrArg₂ _ (block0 m c t k i) (block1 m c t k j)

theorem reference_at (x : FVec Ideal S4352x4096 .bf16) (y : FVec Ideal S4096x128 .bf16) (i : Fin 4352) (j : Fin 128) :
    Cert.Reference25Ideal.Read.val_main_v0 (F := Ideal) x y (ix2 i j) = dot 4096 (fun k => rd x i k) (fun k => rd y k j) := by
  unfold dot
  pointwise [Cert.Reference25Ideal.Read.val_main_v0]
  exact Finset.sum_congr rfl fun k _ => by rw [rd_eq x, rd_eq y]

end Cert.Kernel25Ideal.Value

namespace Cert.Kernel26Ideal.Value

open Cert.Kernel26Ideal Cert.Kernel26Ideal.Gen Cert.ShortConv Cert.Product

/-! The weight's gradient: a block of the normed rows' columns times the product's gradient. -/

theorem pay_at (x : Vec Ideal S4352x1024 .bf16) (y : Vec Ideal S4352x128 .f32) (i : Fin 1024) (j : Fin 128) :
    k0_pay1 (F := Ideal) x y (ix2 i j) = ∑ k : Fin 4352, x (ix2 k i) * y (ix2 k j) := by
  pointwise [k0_pay1]

variable (m : (ℓ : Loc nD τ sig) → Buf (Elt Ideal) ℓ) (c : Dev nD)

/-- The normed rows, the product's gradient. -/
abbrev A : ℕ → ℕ → EReal := rd (a := 4352) (b := 4096) (φ := .bf16) (m ((c : Thread nD τ).loc main_arg0))
abbrev B : ℕ → ℕ → EReal := rd (a := 4352) (b := 128) (φ := .f32) (m ((c : Thread nD τ).loc main_arg1))

theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

theorem block0 (t : Fin cfg0.N) (k : Fin 4352) (i : Fin 1024) :
    (iblk m c 0 t : Vec Ideal S4352x1024 .bf16) (ix2 k i) = A m c k (1024 * t.val + i) := by
  have hN : cfg0.N = 4 := N_0
  have := t.isLt; have := i.isLt
  unfold A rd
  rw [dif_pos ⟨k.isLt, by omega⟩]
  blk_ext [iblk, V, idx t]

theorem block1 (t : Fin cfg0.N) (k : Fin 4352) (j : Fin 128) : (iblk m c 1 t : Vec Ideal S4352x128 .f32) (ix2 k j) = B m c k j := by
  unfold B rd
  rw [dif_pos ⟨k.isLt, j.isLt⟩]
  blk_ext [iblk, V, idx t]

def G : FVec Ideal S4096x128 .bf16 := fun y => dot 4352 (fun k => A m c k (y 0).val) (fun k => B m c k (y 1).val)

theorem final : (dats m 0 c).arrAt 2 cfg0.N = G m c := by
  refine (dats m 0 c).arrAt_eq_of_covers 2 (G m c) (by decide +kernel) fun t hf y => ?_
  rw [after0_2]
  unfold out0_2
  canon_tiles x e
  obtain ⟨i, j, rfl⟩ : ∃ i j, x = ix2 i j := ⟨x 0, x 1, by ext a; fin_cases a <;> rfl⟩
  have h0 : (((cfg0.win 2).blk t).view.emb y 0).val = 1024 * t.val + i := by
    have e0' : (y 0).val = i.val := e0
    rw [← e0']; blk_simp [idx t]; omega
  have h1 : (((cfg0.win 2).blk t).view.emb y 1).val = j := by
    have e1' : (y 1).val = j.val := e1
    rw [← e1']; blk_simp [idx t]
  refine (pay_at _ _ i j).trans ?_
  rw [View.ld_unit_zero (by funext a; fin_cases a <;> rfl), View.ld_unit_zero (by funext a; fin_cases a <;> rfl)]
  unfold G dot
  rw [h0, h1]
  exact Finset.sum_congr rfl fun k _ => congrArg₂ _ (block0 m c t k i) (block1 m c t k j)

theorem reference_at (x : FVec Ideal S4352x4096 .bf16) (y : FVec Ideal S4352x128 .f32) (i : Fin 4096) (j : Fin 128) :
    Cert.Reference26Ideal.Read.val_main_v5 (F := Ideal) x y (ix2 i j) = dot 4352 (fun k => rd x k i) (fun k => rd y k j) := by
  rw [dot_comm]
  unfold dot
  pointwise [Cert.Reference26Ideal.Read.val_main_v5, Cert.Reference26Ideal.Read.val_main_v4, Cert.Reference26Ideal.Read.val_main_v3,
    Cert.Reference26Ideal.Read.val_main_v1]
  exact Finset.sum_congr rfl fun k _ => by rw [rd_eq x, rd_eq y]

end Cert.Kernel26Ideal.Value

namespace Cert.Kernel27Ideal.Value

open Cert.Kernel27Ideal Cert.Kernel27Ideal.Gen Cert.ShortConv Cert.Product

/-! The normed rows' gradient: a block of the product's gradient times a block of the weight's rows. -/

theorem pay_at (x : Vec Ideal S1088x128 .f32) (y : Vec Ideal S1024x128 .bf16) (i : Fin 1088) (j : Fin 1024) :
    k0_pay1 (F := Ideal) x y (ix2 i j) = ∑ k : Fin 128, x (ix2 i k) * y (ix2 j k) := by
  pointwise [k0_pay1]

variable (m : (ℓ : Loc nD τ sig) → Buf (Elt Ideal) ℓ) (c : Dev nD)

/-- The product's gradient, the weight. -/
abbrev A : ℕ → ℕ → EReal := rd (a := 4352) (b := 128) (φ := .f32) (m ((c : Thread nD τ).loc main_arg0))
abbrev B : ℕ → ℕ → EReal := rd (a := 4096) (b := 128) (φ := .bf16) (m ((c : Thread nD τ).loc main_arg1))

theorem idx : ∀ t : Fin cfg0.N, win0_0.index t = ![t.val / 4, 0] ∧ win0_1.index t = ![t.val % 4, 0] ∧ win0_2.index t = ![t.val / 4, t.val % 4] :=
  (by decide +kernel : ∀ t : Fin grid0.N, win0_0.index t = ![t.val / 4, 0] ∧ win0_1.index t = ![t.val % 4, 0] ∧ win0_2.index t = ![t.val / 4, t.val % 4])

theorem block0 (t : Fin cfg0.N) (k : Fin 128) (i : Fin 1088) :
    (iblk m c 0 t : Vec Ideal S1088x128 .f32) (ix2 i k) = A m c (1088 * (t.val / 4) + i) k := by
  have hN : cfg0.N = 16 := N_0
  have := t.isLt; have := i.isLt
  unfold A rd
  rw [dif_pos ⟨by omega, k.isLt⟩]
  blk_ext [iblk, V, idx t]

theorem block1 (t : Fin cfg0.N) (k : Fin 128) (j : Fin 1024) :
    (iblk m c 1 t : Vec Ideal S1024x128 .bf16) (ix2 j k) = B m c (1024 * (t.val % 4) + j) k := by
  have := j.isLt
  unfold B rd
  rw [dif_pos ⟨by omega, k.isLt⟩]
  blk_ext [iblk, V, idx t]

def G : FVec Ideal S4352x4096 .f32 := fun y => dot 128 (fun k => A m c (y 0).val k) (fun k => B m c (y 1).val k)

theorem final : (dats m 0 c).arrAt 2 cfg0.N = G m c := by
  refine (dats m 0 c).arrAt_eq_of_covers 2 (G m c) (by decide +kernel) fun t hf y => ?_
  rw [after0_2]
  unfold out0_2
  canon_tiles x e
  obtain ⟨i, j, rfl⟩ : ∃ i j, x = ix2 i j := ⟨x 0, x 1, by ext a; fin_cases a <;> rfl⟩
  have h0 : (((cfg0.win 2).blk t).view.emb y 0).val = 1088 * (t.val / 4) + i := by
    have e0' : (y 0).val = i.val := e0
    rw [← e0']; blk_simp [idx t]; omega
  have h1 : (((cfg0.win 2).blk t).view.emb y 1).val = 1024 * (t.val % 4) + j := by
    have e1' : (y 1).val = j.val := e1
    rw [← e1']; blk_simp [idx t]; omega
  refine (pay_at _ _ i j).trans ?_
  rw [View.ld_unit_zero (by funext a; fin_cases a <;> rfl), View.ld_unit_zero (by funext a; fin_cases a <;> rfl)]
  unfold G dot
  rw [h0, h1]
  exact Finset.sum_congr rfl fun k _ => congrArg₂ _ (block0 m c t k i) (block1 m c t k j)

theorem reference_at (x : FVec Ideal S4352x128 .f32) (y : FVec Ideal S4096x128 .bf16) (i : Fin 4352) (j : Fin 4096) :
    Cert.Reference27Ideal.Read.val_main_v3 (F := Ideal) x y (ix2 i j) = dot 128 (fun k => rd x i k) (fun k => rd y j k) := by
  unfold dot
  pointwise [Cert.Reference27Ideal.Read.val_main_v3, Cert.Reference27Ideal.Read.val_main_v1]
  exact Finset.sum_congr rfl fun k _ => by rw [rd_eq x, rd_eq y]

end Cert.Kernel27Ideal.Value

namespace Cert.Proof

theorem proj0_ba_reference_frame : Cert.quiescent_Reference25Ideal := fun m g _ =>
  (θ_run Cert.Reference25Ideal.defs _ _).mono
    (fun r h => ⟨fun c => (h c).2, sem_eq_zero_of_no_sems (by decide) r.2⟩) (Cert.Reference25Ideal.Value.run m g)

theorem proj0_ba_algebraic : Cert.algebraic_Kernel25Ideal_Reference25Ideal := by
  intro m g m' g' _ hagree
  refine ⟨fun c => (Cert.Kernel25Ideal.Gen.dats m 0 c).arrAt 2 Cert.Kernel25Ideal.cfg0.N, Cert.Kernel25Ideal.Value.run_blocks m g, ?_⟩
  refine (θ_run Cert.Reference25Ideal.defs _ _).mono (fun r h c => ⟨(h c).1.trans ?_, (h c).2⟩) (Cert.Reference25Ideal.Value.run m' g')
  refine Eq.trans ?_ (Cert.Kernel25Ideal.Value.final m c).symm
  rw [Cert.Reference25Ideal.Read.val_main_v0_eq, (hagree c).1, (hagree c).2]
  funext x
  obtain ⟨i, j, rfl⟩ : ∃ i j, x = ix2 i j := ⟨x 0, x 1, by ext a; fin_cases a <;> rfl⟩
  exact Cert.Kernel25Ideal.Value.reference_at _ _ i j

theorem proj0_ba_dw_reference_frame : Cert.quiescent_Reference26Ideal := fun m g _ =>
  (θ_run Cert.Reference26Ideal.defs _ _).mono
    (fun r h => ⟨fun c => (h c).2, sem_eq_zero_of_no_sems (by decide) r.2⟩) (Cert.Reference26Ideal.Value.run m g)

theorem proj0_ba_dw_algebraic : Cert.algebraic_Kernel26Ideal_Reference26Ideal := by
  intro m g m' g' _ hagree
  refine ⟨fun c => (Cert.Kernel26Ideal.Gen.dats m 0 c).arrAt 2 Cert.Kernel26Ideal.cfg0.N, Cert.Kernel26Ideal.Value.run_blocks m g, ?_⟩
  refine (θ_run Cert.Reference26Ideal.defs _ _).mono (fun r h c => ⟨(h c).1.trans ?_, (h c).2⟩) (Cert.Reference26Ideal.Value.run m' g')
  refine Eq.trans ?_ (Cert.Kernel26Ideal.Value.final m c).symm
  rw [Cert.Reference26Ideal.Read.val_main_v5_eq, (hagree c).1, (hagree c).2]
  funext x
  obtain ⟨i, j, rfl⟩ : ∃ i j, x = ix2 i j := ⟨x 0, x 1, by ext a; fin_cases a <;> rfl⟩
  exact Cert.Kernel26Ideal.Value.reference_at _ _ i j

theorem proj0_ba_dx_reference_frame : Cert.quiescent_Reference27Ideal := fun m g _ =>
  (θ_run Cert.Reference27Ideal.defs _ _).mono
    (fun r h => ⟨fun c => (h c).2, sem_eq_zero_of_no_sems (by decide) r.2⟩) (Cert.Reference27Ideal.Value.run m g)

theorem proj0_ba_dx_algebraic : Cert.algebraic_Kernel27Ideal_Reference27Ideal := by
  intro m g m' g' _ hagree
  refine ⟨fun c => (Cert.Kernel27Ideal.Gen.dats m 0 c).arrAt 2 Cert.Kernel27Ideal.cfg0.N, Cert.Kernel27Ideal.Value.run_blocks m g, ?_⟩
  refine (θ_run Cert.Reference27Ideal.defs _ _).mono (fun r h c => ⟨(h c).1.trans ?_, (h c).2⟩) (Cert.Reference27Ideal.Value.run m' g')
  refine Eq.trans ?_ (Cert.Kernel27Ideal.Value.final m c).symm
  rw [Cert.Reference27Ideal.Read.val_main_v3_eq, (hagree c).1, (hagree c).2]
  funext x
  obtain ⟨i, j, rfl⟩ : ∃ i j, x = ix2 i j := ⟨x 0, x 1, by ext a; fin_cases a <;> rfl⟩
  exact Cert.Kernel27Ideal.Value.reference_at _ _ i j

end Cert.Proof

end
-- ==== Proof.Proj1Dx.lean ====
/- The gradient of the second layer's input: one block product per slot, summed in a scratch. -/
module

public import proofs.«01_k».proof.Proof.ProductSpec
public import proofs.«01_k».proof.Defs
public import Idealize.ShloMosaic.Lib.Pipeline.ReadBack
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.ShortConv Cert.Product

/-- What a block product holds, alone and onto the sum so far. -/
theorem pay_at (x : Vec Ideal S1024x4096 .bf16) (y : Vec Ideal S1x1024x4096 .bf16) (i j : Fin 1024) :
    k0_pay1 (F := Ideal) x y (ix2 i j) = ∑ k : Fin 4096, x (ix2 i k) * y (ix3 0 j k) := by
  pointwise [k0_pay1]

theorem first_pay_at (x : Vec Ideal S1024x4096 .bf16) (y : Vec Ideal S1x1024x4096 .bf16) (i j : Fin 1024) :
    k0_pay2 (F := Ideal) x y (ix2 i j) = k0_pay1 (F := Ideal) x y (ix2 i j) := by
  pointwise [k0_pay2]

theorem next_pay_at (x : Vec Ideal S1024x4096 .bf16) (y : Vec Ideal S1x1024x4096 .bf16) (s : Vec Ideal S1024x1024 .f32) (i j : Fin 1024) :
    k0_pay3 (F := Ideal) x y s (ix2 i j) = s (ix2 i j) + k0_pay1 (F := Ideal) x y (ix2 i j) := by
  pointwise [k0_pay3]

theorem last_pay_at (x : Vec Ideal S1024x4096 .bf16) (y : Vec Ideal S1x1024x4096 .bf16) (s : Vec Ideal S1024x1024 .f32) (i j : Fin 1024) :
    k0_pay4 (F := Ideal) x y s (ix2 i j) = s (ix2 i j) + k0_pay1 (F := Ideal) x y (ix2 i j) := by
  pointwise [k0_pay4]

variable (m : (ℓ : Loc nD τ sig) → Buf (Elt Ideal) ℓ) (c : Dev nD)

/-- The two operands, the slots of the second side by side. -/
abbrev A : ℕ → ℕ → EReal := rd (a := 4096) (b := 16384) (φ := .bf16) (m ((c : Thread nD τ).loc main_arg0))
abbrev B (j k : ℕ) : EReal := sl (n := 4) (a := 4096) (b := 4096) (φ := .bf16) (m ((c : Thread nD τ).loc main_arg1)) (k / 4096) j (k % 4096)

/-- The blocks' indices. -/
theorem idx : ∀ t : Fin cfg0.N, win0_0.index t = ![t.val / 16, t.val % 4] ∧ win0_1.index t = ![t.val % 4, t.val / 4 % 4, 0] ∧ win0_2.index t = ![t.val / 16, t.val / 4 % 4] :=
  (by decide +kernel : ∀ t : Fin grid0.N, win0_0.index t = ![t.val / 16, t.val % 4] ∧ win0_1.index t = ![t.val % 4, t.val / 4 % 4, 0] ∧ win0_2.index t = ![t.val / 16, t.val / 4 % 4])

theorem block0 (t : Fin cfg0.N) (k : Fin 4096) (i : Fin 1024) :
    (iblk m c 0 t : Vec Ideal S1024x4096 .bf16) (ix2 i k) = A m c (1024 * (t.val / 16) + i) (t.val % 4 * 4096 + k) := by
  have hN : cfg0.N = 64 := N_0
  have := t.isLt; have := i.isLt; have := k.isLt
  unfold A rd
  rw [dif_pos ⟨by omega, by omega⟩]
  blk_ext [iblk, V, idx t]

theorem block1 (t : Fin cfg0.N) (k : Fin 4096) (j : Fin 1024) :
    (iblk m c 1 t : Vec Ideal S1x1024x4096 .bf16) (ix3 0 j k) = B m c (1024 * (t.val / 4 % 4) + j) (t.val % 4 * 4096 + k) := by
  have hN : cfg0.N = 64 := N_0
  have := t.isLt; have := j.isLt; have := k.isLt
  unfold B sl
  rw [show (t.val % 4 * 4096 + k.val) / 4096 = t.val % 4 by omega, show (t.val % 4 * 4096 + k.val) % 4096 = k by omega,
    dif_pos ⟨by omega, by omega, k.isLt⟩]
  blk_ext [iblk, V, idx t]

/-- The part of element `(i, j)`'s sum over slot `s`. -/
def part (i j s : ℕ) : EReal := dot 4096 (fun k => A m c i (s * 4096 + k)) (fun k => B m c j (s * 4096 + k))

theorem part_eq (t : Fin cfg0.N) (i j : Fin 1024) :
    k0_pay1 (F := Ideal) (iblk m c 0 t) (iblk m c 1 t) (ix2 i j)
      = part m c (1024 * (t.val / 16) + i) (1024 * (t.val / 4 % 4) + j) (t.val % 4) :=
  (pay_at _ _ i j).trans <| Finset.sum_congr rfl fun k _ => congrArg₂ _ (block0 m c t k i) (block1 m c t k j)

/-- What a block's points leave in the scratch: the first its part, the next two theirs onto the sum so far. -/
theorem first_at (t : Fin cfg0.N) (h : t.val % 4 = 0) (i j : Fin 1024) :
    (outsAt0 m c t.val t.isLt).2 (ix2 i j) = part m c (1024 * (t.val / 16) + i) (1024 * (t.val / 4 % 4) + j) (t.val % 4) := by
  rw [outsAt0_A m c t h (by omega) (by omega)]
  frame_out
  rw [first_pay_at, part_eq]

theorem next_at (t : Fin cfg0.N) (h : 1 ≤ t.val % 4 ∧ t.val % 4 ≤ 2) (i j : Fin 1024) :
    (outsAt0 m c t.val t.isLt).2 (ix2 i j) = (outsAt0 m c (t.val - 1) (Nat.lt_of_le_of_lt (Nat.sub_le _ _) t.isLt)).2 (ix2 i j)
      + part m c (1024 * (t.val / 16) + i) (1024 * (t.val / 4 % 4) + j) (t.val % 4) := by
  rw [outsAt0_B m c t (by omega) h (by omega)]
  frame_out
  simp only [read_unread_whole]
  rw [next_pay_at, part_eq]

/-- What its last point leaves in the output block. -/
theorem out_at (t : Fin cfg0.N) (h : t.val % 4 = 3) (i j : Fin 1024) :
    (outsAt0 m c t.val t.isLt).1 (ix2 i j) = dot 16384 (fun k => A m c (1024 * (t.val / 16) + i) k) (fun k => B m c (1024 * (t.val / 4 % 4) + j) k) := by
  have hN : cfg0.N = 64 := N_0
  rw [outsAt0_C m c t (by omega) (by omega) h]
  frame_out
  simp only [read_unread_whole]
  rw [last_pay_at]
  have hp := next_at m c ⟨t.val - 1, by omega⟩ (by show 1 ≤ (t.val - 1) % 4 ∧ (t.val - 1) % 4 ≤ 2; omega) i j
  have hq := next_at m c ⟨t.val - 1 - 1, by omega⟩ (by show 1 ≤ (t.val - 1 - 1) % 4 ∧ (t.val - 1 - 1) % 4 ≤ 2; omega) i j
  have hr := first_at m c ⟨t.val - 1 - 1 - 1, by omega⟩ (by show (t.val - 1 - 1 - 1) % 4 = 0; omega) i j
  refine (congrArg₂ _ (hp.trans (congrArg (· + _) (hq.trans (congrArg (· + _) hr)))) (part_eq m c t i j)).trans ?_
  rw [← dot_chunks 4 4096, Fin.sum_univ_four]
  dsimp only
  rw [show (t.val - 1 - 1 - 1) / 16 = t.val / 16 by omega, show (t.val - 1 - 1 - 1) / 4 % 4 = t.val / 4 % 4 by omega,
    show (t.val - 1 - 1) / 16 = t.val / 16 by omega, show (t.val - 1 - 1) / 4 % 4 = t.val / 4 % 4 by omega,
    show (t.val - 1) / 16 = t.val / 16 by omega, show (t.val - 1) / 4 % 4 = t.val / 4 % 4 by omega,
    show (t.val - 1 - 1 - 1) % 4 = 0 by omega, show (t.val - 1 - 1) % 4 = 1 by omega, show (t.val - 1) % 4 = 2 by omega, h]
  rfl

/-- The array after the run: element `(i, j)` is row `i` of the one operand times row `j` of the slots side by side. -/
def G : FVec Ideal S4096x4096 .f32 :=
  fun y => dot 16384 (fun k => A m c (y 0).val k) (fun k => B m c (y 1).val k)

theorem final : (dats m 0 c).arrAt 2 cfg0.N = G m c := by
  refine (dats m 0 c).arrAt_eq_of_covers 2 (G m c) (by decide +kernel) fun t hf y => ?_
  rw [after0_2]
  obtain ⟨i, j, e⟩ : ∃ i j : Fin 1024, (((cfg0.win 2).xinj (grid0.coords t) y : S1024x1024.Idx)) = ix2 i j :=
    ⟨((cfg0.win 2).xinj (grid0.coords t) y : S1024x1024.Idx) 0, ((cfg0.win 2).xinj (grid0.coords t) y : S1024x1024.Idx) 1, by ext a; fin_cases a <;> rfl⟩
  refine (congrArg (outsAt0 m c t.val t.isLt).1 e).trans ((out_at m c t ((flush0_2 t).mp hf) i j).trans ?_)
  have h0 : (((cfg0.win 2).blk t).view.emb y 0).val = 1024 * (t.val / 16) + i := by
    have e0' : (y 0).val = i.val := congrArg (fun z : S1024x1024.Idx => (z 0).val) e
    rw [← e0']; blk_simp [idx t]; omega
  have h1 : (((cfg0.win 2).blk t).view.emb y 1).val = 1024 * (t.val / 4 % 4) + j := by
    have e1' : (y 1).val = j.val := congrArg (fun z : S1024x1024.Idx => (z 1).val) e
    rw [← e1']; blk_simp [idx t]; omega
  unfold G
  rw [h0, h1]

/-- The reference's weight: its columns are the slots' columns, one slot after another. -/
theorem weight_at (y : FVec Ideal S4x4096x4096 .bf16) (k : Fin 4096) (j : Fin 16384) :
    Cert.Reference2Ideal.Read.val_main_v10 (F := Ideal) y (ix2 k j) = sl y (j.val / 4096) k (j.val % 4096) := by
  pointwise [Cert.Reference2Ideal.Read.val_main_v10]
  refine slots (fun q l => sl y q k l) (fun l => Cert.Reference2Ideal.Read.val_main_v3 (F := Ideal) y (ix2 k l))
    (fun l => Cert.Reference2Ideal.Read.val_main_v5 (F := Ideal) y (ix2 k l))
    (fun l => Cert.Reference2Ideal.Read.val_main_v7 (F := Ideal) y (ix2 k l))
    (fun l => Cert.Reference2Ideal.Read.val_main_v9 (F := Ideal) y (ix2 k l)) ?_ ?_ ?_ ?_ j <;> intro l
  · pointwise [Cert.Reference2Ideal.Read.val_main_v3, Cert.Reference2Ideal.Read.val_main_v2, Cert.Reference2Ideal.Read.val_main_v1]; exact sl_eq y 0 k l
  · pointwise [Cert.Reference2Ideal.Read.val_main_v5, Cert.Reference2Ideal.Read.val_main_v4, Cert.Reference2Ideal.Read.val_main_v1]; exact sl_eq y 1 k l
  · pointwise [Cert.Reference2Ideal.Read.val_main_v7, Cert.Reference2Ideal.Read.val_main_v6, Cert.Reference2Ideal.Read.val_main_v1]; exact sl_eq y 2 k l
  · pointwise [Cert.Reference2Ideal.Read.val_main_v9, Cert.Reference2Ideal.Read.val_main_v8, Cert.Reference2Ideal.Read.val_main_v1]; exact sl_eq y 3 k l

/-- The reference's array. -/
theorem reference_at (x : FVec Ideal S4096x16384 .bf16) (y : FVec Ideal S4x4096x4096 .bf16) (i j : Fin 4096) :
    Cert.Reference2Ideal.Read.val_main_v13 (F := Ideal) x y (ix2 i j)
      = dot 16384 (fun k => rd x i k) (fun k => sl y (k / 4096) j (k % 4096)) := by
  unfold dot
  pointwise [Cert.Reference2Ideal.Read.val_main_v13, Cert.Reference2Ideal.Read.val_main_v12]
  exact Finset.sum_congr rfl fun k _ => by rw [rd_eq x, weight_at y]

end Cert.Kernel2Ideal.Value

namespace Cert.Proof

theorem proj1_dx_reference_frame : Cert.quiescent_Reference2Ideal := fun m g _ =>
  (θ_run Cert.Reference2Ideal.defs _ _).mono
    (fun r h => ⟨fun c => (h c).2, sem_eq_zero_of_no_sems (by decide) r.2⟩) (Cert.Reference2Ideal.Value.run m g)

theorem proj1_dx_algebraic : Cert.algebraic_Kernel2Ideal_Reference2Ideal := by
  intro m g m' g' _ hagree
  refine ⟨fun c => (Cert.Kernel2Ideal.Gen.dats m 0 c).arrAt 2 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run m' g')
  refine Eq.trans ?_ (Cert.Kernel2Ideal.Value.final m c).symm
  rw [Cert.Reference2Ideal.Read.val_main_v13_eq, (hagree c).1, (hagree c).2]
  funext x
  obtain ⟨i, j, rfl⟩ : ∃ i j, x = ix2 i j := ⟨x 0, x 1, by ext a; fin_cases a <;> rfl⟩
  exact Cert.Kernel2Ideal.Value.reference_at _ _ i j

end Cert.Proof

end
-- ==== Proof.Proj1Dw.lean ====
/- The gradient of the second layer's stacked projection weights: one block product per grid point. -/
module

public import proofs.«01_k».proof.Proof.ProductSpec
public import proofs.«01_k».proof.Defs
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.ShortConv Cert.Product

/-- What a block product holds. -/
theorem pay_at (x y : Vec Ideal S4096x1024 .bf16) (i j : Fin 1024) :
    k0_pay1 (F := Ideal) x y (ix3 0 i j) = ∑ k : Fin 4096, x (ix2 k i) * y (ix2 k j) := by
  pointwise [k0_pay1]

variable (m : (ℓ : Loc nD τ sig) → Buf (Elt Ideal) ℓ) (c : Dev nD)

/-- The two operands. -/
abbrev A : ℕ → ℕ → EReal := rd (a := 4096) (b := 4096) (φ := .bf16) (m ((c : Thread nD τ).loc main_arg0))
abbrev B : ℕ → ℕ → EReal := rd (a := 4096) (b := 16384) (φ := .bf16) (m ((c : Thread nD τ).loc main_arg1))

/-- The blocks' indices. -/
theorem idx : ∀ t : Fin cfg0.N, win0_0.index t = ![0, t.val / 16] ∧ win0_1.index t = ![0, t.val % 16] ∧ win0_2.index t = ![t.val % 16 / 4, t.val / 16, t.val % 16 % 4] :=
  (by decide +kernel : ∀ t : Fin grid0.N, win0_0.index t = ![0, t.val / 16] ∧ win0_1.index t = ![0, t.val % 16] ∧ win0_2.index t = ![t.val % 16 / 4, t.val / 16, t.val % 16 % 4])

theorem block0 (t : Fin cfg0.N) (k : Fin 4096) (i : Fin 1024) :
    (iblk m c 0 t : Vec Ideal S4096x1024 .bf16) (ix2 k i) = A m c k (1024 * (t.val / 16) + i) := by
  have hN : cfg0.N = 64 := N_0
  have := t.isLt; have := i.isLt
  unfold A rd
  rw [dif_pos ⟨k.isLt, by omega⟩]
  blk_ext [iblk, V, idx t]

theorem block1 (t : Fin cfg0.N) (k : Fin 4096) (j : Fin 1024) :
    (iblk m c 1 t : Vec Ideal S4096x1024 .bf16) (ix2 k j) = B m c k (1024 * (t.val % 16) + j) := by
  have := j.isLt
  unfold B rd
  rw [dif_pos ⟨k.isLt, by omega⟩]
  blk_ext [iblk, V, idx t]

/-- The array after the run: element `(i, j)` of slot `q` is column `i` of the one operand times column `4096 q + j` of the other. -/
def G : FVec Ideal S4x4096x4096 .bf16 :=
  fun y => dot 4096 (fun k => A m c k (y 1).val) (fun k => B m c k (4096 * (y 0).val + (y 2).val))

theorem final : (dats m 0 c).arrAt 2 cfg0.N = G m c := by
  refine (dats m 0 c).arrAt_eq_of_covers 2 (G m c) (by decide +kernel) fun t hf y => ?_
  rw [after0_2]
  unfold out0_2
  canon_tiles x e
  obtain ⟨i, j, rfl⟩ : ∃ i j, x = ix3 0 i j := ⟨x 1, x 2, by ext a; fin_cases a <;> simp⟩
  have h0 : (((cfg0.win 2).blk t).view.emb y 0).val = t.val % 16 / 4 := by
    have e0' : (y 0).val = 0 := e0
    blk_simp [idx t]
  have h1 : (((cfg0.win 2).blk t).view.emb y 1).val = 1024 * (t.val / 16) + i := by
    have e1' : (y 1).val = i.val := e1
    rw [← e1']; blk_simp [idx t]; omega
  have h2 : (((cfg0.win 2).blk t).view.emb y 2).val = 1024 * (t.val % 16 % 4) + j := by
    have e2' : (y 2).val = j.val := e2
    rw [← e2']; blk_simp [idx t]; omega
  refine (pay_at _ _ i j).trans ?_
  rw [View.ld_unit_zero (by funext a; fin_cases a <;> rfl), View.ld_unit_zero (by funext a; fin_cases a <;> rfl)]
  unfold G dot
  rw [h0, h1, h2, show 4096 * (t.val % 16 / 4) + (1024 * (t.val % 16 % 4) + j.val) = 1024 * (t.val % 16) + j by omega]
  exact Finset.sum_congr rfl fun k _ => congrArg₂ _ (block0 m c t k i) (block1 m c t k j)

/-- The reference's arrays: the gradient of the slots laid side by side, and its slots. -/
theorem beside_at (x : FVec Ideal S4096x4096 .bf16) (y : FVec Ideal S4096x16384 .bf16) (i : Fin 4096) (j : Fin 16384) :
    Cert.Reference3Ideal.Read.val_main_v14 (F := Ideal) x y (ix2 i j) = dot 4096 (fun k => rd x k i) (fun k => rd y k j) := by
  rw [dot_comm]
  unfold dot
  pointwise [Cert.Reference3Ideal.Read.val_main_v14, Cert.Reference3Ideal.Read.val_main_v13, Cert.Reference3Ideal.Read.val_main_v12,
    Cert.Reference3Ideal.Read.val_main_v1]
  exact Finset.sum_congr rfl fun k _ => by rw [rd_eq x, rd_eq y]

theorem reference_at (x : FVec Ideal S4096x4096 .bf16) (y : FVec Ideal S4096x16384 .bf16) (q : Fin 4) (i j : Fin 4096) :
    Cert.Reference3Ideal.Read.val_main_v24 (F := Ideal) x y (ix3 q i j)
      = dot 4096 (fun k => rd x k i) (fun k => rd y k (4096 * q.val + j.val)) := by
  have := j.isLt; have := q.isLt
  refine Eq.trans ?_ (beside_at x y i ⟨4096 * q.val + j.val, by omega⟩)
  fin_cases q
  · pointwise [Cert.Reference3Ideal.Read.val_main_v24, Cert.Reference3Ideal.Read.val_main_v23, Cert.Reference3Ideal.Read.val_main_v19, Cert.Reference3Ideal.Read.val_main_v15]
  · pointwise [Cert.Reference3Ideal.Read.val_main_v24, Cert.Reference3Ideal.Read.val_main_v23, Cert.Reference3Ideal.Read.val_main_v20, Cert.Reference3Ideal.Read.val_main_v16]
  · pointwise [Cert.Reference3Ideal.Read.val_main_v24, Cert.Reference3Ideal.Read.val_main_v23, Cert.Reference3Ideal.Read.val_main_v21, Cert.Reference3Ideal.Read.val_main_v17]
  · pointwise [Cert.Reference3Ideal.Read.val_main_v24, Cert.Reference3Ideal.Read.val_main_v23, Cert.Reference3Ideal.Read.val_main_v22, Cert.Reference3Ideal.Read.val_main_v18]

end Cert.Kernel3Ideal.Value

namespace Cert.Proof

theorem proj1_dw_reference_frame : Cert.quiescent_Reference3Ideal := fun m g _ =>
  (θ_run Cert.Reference3Ideal.defs _ _).mono
    (fun r h => ⟨fun c => (h c).2, sem_eq_zero_of_no_sems (by decide) r.2⟩) (Cert.Reference3Ideal.Value.run m g)

theorem proj1_dw_algebraic : Cert.algebraic_Kernel3Ideal_Reference3Ideal := by
  intro m g m' g' _ hagree
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run m' g')
  refine Eq.trans ?_ (Cert.Kernel3Ideal.Value.final m c).symm
  rw [Cert.Reference3Ideal.Read.val_main_v24_eq, (hagree c).1, (hagree c).2]
  funext x
  obtain ⟨q, i, j, rfl⟩ : ∃ q i j, x = ix3 q i j := ⟨x 0, x 1, x 2, by ext a; fin_cases a <;> rfl⟩
  exact Cert.Kernel3Ideal.Value.reference_at _ _ q i j

end Cert.Proof

end
-- ==== Proof.Out1Dx.lean ====
/- The gradient of the output projection's input: two block products per block, summed in a scratch. -/
module

public import proofs.«01_k».proof.Proof.ProductSpec
public import proofs.«01_k».proof.Defs
public import Idealize.ShloMosaic.Lib.Pipeline.ReadBack
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.ShortConv Cert.Product

/-- What a block product holds, alone and onto the sum so far. -/
theorem pay_at (x y : Vec Ideal S1024x2048 .bf16) (i j : Fin 1024) :
    k0_pay1 (F := Ideal) x y (ix2 i j) = ∑ k : Fin 2048, x (ix2 i k) * y (ix2 j k) := by
  pointwise [k0_pay1]

theorem first_pay_at (x y : Vec Ideal S1024x2048 .bf16) (i j : Fin 1024) :
    k0_pay2 (F := Ideal) x y (ix2 i j) = k0_pay1 (F := Ideal) x y (ix2 i j) := by
  pointwise [k0_pay2]

theorem last_pay_at (x y : Vec Ideal S1024x2048 .bf16) (s : Vec Ideal S1024x1024 .f32) (i j : Fin 1024) :
    k0_pay4 (F := Ideal) x y s (ix2 i j) = s (ix2 i j) + k0_pay1 (F := Ideal) x y (ix2 i j) := by
  pointwise [k0_pay4]

variable (m : (ℓ : Loc nD τ sig) → Buf (Elt Ideal) ℓ) (c : Dev nD)

/-- The two operands. -/
abbrev A : ℕ → ℕ → EReal := rd (a := 4096) (b := 4096) (φ := .bf16) (m ((c : Thread nD τ).loc main_arg0))
abbrev B : ℕ → ℕ → EReal := rd (a := 4096) (b := 4096) (φ := .bf16) (m ((c : Thread nD τ).loc main_arg1))

/-- The blocks' indices. -/
theorem idx : ∀ t : Fin cfg0.N, win0_0.index t = ![t.val / 8, t.val % 2] ∧ win0_1.index t = ![t.val / 2 % 4, t.val % 2] ∧ win0_2.index t = ![t.val / 8, t.val / 2 % 4] :=
  (by decide +kernel : ∀ t : Fin grid0.N, win0_0.index t = ![t.val / 8, t.val % 2] ∧ win0_1.index t = ![t.val / 2 % 4, t.val % 2] ∧ win0_2.index t = ![t.val / 8, t.val / 2 % 4])

theorem block0 (t : Fin cfg0.N) (k : Fin 2048) (i : Fin 1024) :
    (iblk m c 0 t : Vec Ideal S1024x2048 .bf16) (ix2 i k) = A m c (1024 * (t.val / 8) + i) (t.val % 2 * 2048 + k) := by
  have hN : cfg0.N = 32 := N_0
  have := t.isLt; have := i.isLt; have := k.isLt
  unfold A rd
  rw [dif_pos ⟨by omega, by omega⟩]
  blk_ext [iblk, V, idx t]

theorem block1 (t : Fin cfg0.N) (k : Fin 2048) (j : Fin 1024) :
    (iblk m c 1 t : Vec Ideal S1024x2048 .bf16) (ix2 j k) = B m c (1024 * (t.val / 2 % 4) + j) (t.val % 2 * 2048 + k) := by
  have hN : cfg0.N = 32 := N_0
  have := t.isLt; have := j.isLt; have := k.isLt
  unfold B rd
  rw [dif_pos ⟨by omega, by omega⟩]
  blk_ext [iblk, V, idx t]

/-- The part of element `(i, j)`'s sum over the `s`-th run of columns. -/
def part (i j s : ℕ) : EReal := dot 2048 (fun k => A m c i (s * 2048 + k)) (fun k => B m c j (s * 2048 + k))

theorem part_eq (t : Fin cfg0.N) (i j : Fin 1024) :
    k0_pay1 (F := Ideal) (iblk m c 0 t) (iblk m c 1 t) (ix2 i j)
      = part m c (1024 * (t.val / 8) + i) (1024 * (t.val / 2 % 4) + j) (t.val % 2) :=
  (pay_at _ _ i j).trans <| Finset.sum_congr rfl fun k _ => congrArg₂ _ (block0 m c t k i) (block1 m c t k j)

/-- The first of a block's points leaves its part in the scratch. -/
theorem scratch_at (t : Fin cfg0.N) (h : t.val % 2 = 0) (i j : Fin 1024) :
    (outsAt0 m c t.val t.isLt).2 (ix2 i j) = part m c (1024 * (t.val / 8) + i) (1024 * (t.val / 2 % 4) + j) 0 := by
  rw [outsAt0_A m c t h (by omega)]
  frame_out
  rw [first_pay_at, part_eq, h]

/-- What its last point leaves in the output block. -/
theorem out_at (t : Fin cfg0.N) (h : t.val % 2 = 1) (i j : Fin 1024) :
    (outsAt0 m c t.val t.isLt).1 (ix2 i j) = dot 4096 (fun k => A m c (1024 * (t.val / 8) + i) k) (fun k => B m c (1024 * (t.val / 2 % 4) + j) k) := by
  have hN : cfg0.N = 32 := N_0
  rw [outsAt0_B m c t (by omega) h]
  frame_out
  simp only [read_unread_whole]
  rw [last_pay_at]
  have hp := scratch_at m c ⟨t.val - 1, by omega⟩ (by show (t.val - 1) % 2 = 0; omega) i j
  refine (congrArg₂ _ hp (part_eq m c t i j)).trans ?_
  rw [← dot_chunks 2 2048, Fin.sum_univ_two]
  dsimp only
  rw [show (t.val - 1) / 8 = t.val / 8 by omega, show (t.val - 1) / 2 % 4 = t.val / 2 % 4 by omega, h]
  rfl

/-- The array after the run: element `(i, j)` is row `i` of the one operand times row `j` of the other. -/
def G : FVec Ideal S4096x4096 .f32 :=
  fun y => dot 4096 (fun k => A m c (y 0).val k) (fun k => B m c (y 1).val k)

theorem final : (dats m 0 c).arrAt 2 cfg0.N = G m c := by
  refine (dats m 0 c).arrAt_eq_of_covers 2 (G m c) (by decide +kernel) fun t hf y => ?_
  rw [after0_2]
  obtain ⟨i, j, e⟩ : ∃ i j : Fin 1024, (((cfg0.win 2).xinj (grid0.coords t) y : S1024x1024.Idx)) = ix2 i j :=
    ⟨((cfg0.win 2).xinj (grid0.coords t) y : S1024x1024.Idx) 0, ((cfg0.win 2).xinj (grid0.coords t) y : S1024x1024.Idx) 1, by ext a; fin_cases a <;> rfl⟩
  refine (congrArg (outsAt0 m c t.val t.isLt).1 e).trans ((out_at m c t ((flush0_2 t).mp hf) i j).trans ?_)
  have h0 : (((cfg0.win 2).blk t).view.emb y 0).val = 1024 * (t.val / 8) + i := by
    have e0' : (y 0).val = i.val := congrArg (fun z : S1024x1024.Idx => (z 0).val) e
    rw [← e0']; blk_simp [idx t]; omega
  have h1 : (((cfg0.win 2).blk t).view.emb y 1).val = 1024 * (t.val / 2 % 4) + j := by
    have e1' : (y 1).val = j.val := congrArg (fun z : S1024x1024.Idx => (z 1).val) e
    rw [← e1']; blk_simp [idx t]; omega
  unfold G
  rw [h0, h1]

/-- The reference's array. -/
theorem reference_at (x y : FVec Ideal S4096x4096 .bf16) (i j : Fin 4096) :
    Cert.Reference4Ideal.Read.val_main_v4 (F := Ideal) x y (ix2 i j)
      = dot 4096 (fun k => rd x i k) (fun k => rd y j k) := by
  unfold dot
  pointwise [Cert.Reference4Ideal.Read.val_main_v4, Cert.Reference4Ideal.Read.val_main_v3, Cert.Reference4Ideal.Read.val_main_v1]
  exact Finset.sum_congr rfl fun k _ => by rw [rd_eq x, rd_eq y]

end Cert.Kernel4Ideal.Value

namespace Cert.Proof

theorem out1_dx_reference_frame : Cert.quiescent_Reference4Ideal := fun m g _ =>
  (θ_run Cert.Reference4Ideal.defs _ _).mono
    (fun r h => ⟨fun c => (h c).2, sem_eq_zero_of_no_sems (by decide) r.2⟩) (Cert.Reference4Ideal.Value.run m g)

theorem out1_dx_algebraic : Cert.algebraic_Kernel4Ideal_Reference4Ideal := by
  intro m g m' g' _ hagree
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run m' g')
  refine Eq.trans ?_ (Cert.Kernel4Ideal.Value.final m c).symm
  rw [Cert.Reference4Ideal.Read.val_main_v4_eq, (hagree c).1, (hagree c).2]
  funext x
  obtain ⟨i, j, rfl⟩ : ∃ i j, x = ix2 i j := ⟨x 0, x 1, by ext a; fin_cases a <;> rfl⟩
  exact Cert.Kernel4Ideal.Value.reference_at _ _ i j

end Cert.Proof

end
-- ==== Proof.Out1Dw.lean ====
/- The gradient of the output projection's weight: one block product per grid point. -/
module

public import proofs.«01_k».proof.Proof.ProductSpec
public import proofs.«01_k».proof.Defs
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.ShortConv Cert.Product

/-- What a block product holds. -/
theorem pay_at (x : Vec Ideal S4096x1024 .bf16) (y : Vec Ideal S4096x1024 .bf16) (i j : Fin 1024) :
    k0_pay1 (F := Ideal) x y (ix2 i j) = ∑ k : Fin 4096, x (ix2 k i) * y (ix2 k j) := by
  pointwise [k0_pay1]

variable (m : (ℓ : Loc nD τ sig) → Buf (Elt Ideal) ℓ) (c : Dev nD)

/-- The two operands. -/
abbrev A : ℕ → ℕ → EReal := rd (a := 4096) (b := 4096) (φ := .bf16) (m ((c : Thread nD τ).loc main_arg0))
abbrev B : ℕ → ℕ → EReal := rd (a := 4096) (b := 4096) (φ := .bf16) (m ((c : Thread nD τ).loc main_arg1))

/-- The blocks' indices. -/
theorem idx : ∀ t : Fin cfg0.N, win0_0.index t = ![0, t.val / 4] ∧ win0_1.index t = ![0, t.val % 4] ∧ win0_2.index t = ![t.val / 4, t.val % 4] :=
  (by decide +kernel : ∀ t : Fin grid0.N, win0_0.index t = ![0, t.val / 4] ∧ win0_1.index t = ![0, t.val % 4] ∧ win0_2.index t = ![t.val / 4, t.val % 4])

theorem block0 (t : Fin cfg0.N) (k : Fin 4096) (i : Fin 1024) :
    (iblk m c 0 t : Vec Ideal S4096x1024 .bf16) (ix2 k i) = A m c k (1024 * (t.val / 4) + i) := by
  have hN : cfg0.N = 16 := N_0
  have := t.isLt; have := i.isLt
  unfold A rd
  rw [dif_pos ⟨k.isLt, by omega⟩]
  blk_ext [iblk, V, idx t]

theorem block1 (t : Fin cfg0.N) (k : Fin 4096) (j : Fin 1024) :
    (iblk m c 1 t : Vec Ideal S4096x1024 .bf16) (ix2 k j) = B m c k (1024 * (t.val % 4) + j) := by
  have := j.isLt
  unfold B rd
  rw [dif_pos ⟨k.isLt, by omega⟩]
  blk_ext [iblk, V, idx t]

/-- The array after the run: element `(i, j)` is column `i` of the one operand times column `j` of the other. -/
def G : FVec Ideal S4096x4096 .bf16 :=
  fun y => dot 4096 (fun k => A m c k (y 0).val) (fun k => B m c k (y 1).val)

theorem final : (dats m 0 c).arrAt 2 cfg0.N = G m c := by
  refine (dats m 0 c).arrAt_eq_of_covers 2 (G m c) (by decide +kernel) fun t hf y => ?_
  rw [after0_2]
  unfold out0_2
  canon_tiles x e
  obtain ⟨i, j, rfl⟩ : ∃ i j, x = ix2 i j := ⟨x 0, x 1, by ext a; fin_cases a <;> rfl⟩
  have h0 : (((cfg0.win 2).blk t).view.emb y 0).val = 1024 * (t.val / 4) + i := by
    have e0' : (y 0).val = i.val := e0
    rw [← e0']; blk_simp [idx t]; omega
  have h1 : (((cfg0.win 2).blk t).view.emb y 1).val = 1024 * (t.val % 4) + j := by
    have e1' : (y 1).val = j.val := e1
    rw [← e1']; blk_simp [idx t]; omega
  refine (pay_at _ _ i j).trans ?_
  rw [View.ld_unit_zero (by funext a; fin_cases a <;> rfl), View.ld_unit_zero (by funext a; fin_cases a <;> rfl)]
  unfold G dot
  rw [h0, h1]
  exact Finset.sum_congr rfl fun k _ => congrArg₂ _ (block0 m c t k i) (block1 m c t k j)

/-- The reference's array. -/
theorem reference_at (x y : FVec Ideal S4096x4096 .bf16) (i j : Fin 4096) :
    Cert.Reference5Ideal.Read.val_main_v6 (F := Ideal) x y (ix2 i j) = dot 4096 (fun k => rd x k i) (fun k => rd y k j) := by
  rw [dot_comm]
  unfold dot
  pointwise [Cert.Reference5Ideal.Read.val_main_v6, Cert.Reference5Ideal.Read.val_main_v5, Cert.Reference5Ideal.Read.val_main_v4,
    Cert.Reference5Ideal.Read.val_main_v3, Cert.Reference5Ideal.Read.val_main_v1]
  exact Finset.sum_congr rfl fun k _ => by rw [rd_eq x, rd_eq y]

end Cert.Kernel5Ideal.Value

namespace Cert.Proof

theorem out1_dw_reference_frame : Cert.quiescent_Reference5Ideal := fun m g _ =>
  (θ_run Cert.Reference5Ideal.defs _ _).mono
    (fun r h => ⟨fun c => (h c).2, sem_eq_zero_of_no_sems (by decide) r.2⟩) (Cert.Reference5Ideal.Value.run m g)

theorem out1_dw_algebraic : Cert.algebraic_Kernel5Ideal_Reference5Ideal := by
  intro m g m' g' _ hagree
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run m' g')
  refine Eq.trans ?_ (Cert.Kernel5Ideal.Value.final m c).symm
  rw [Cert.Reference5Ideal.Read.val_main_v6_eq, (hagree c).1, (hagree c).2]
  funext x
  obtain ⟨i, j, rfl⟩ : ∃ i j, x = ix2 i j := ⟨x 0, x 1, by ext a; fin_cases a <;> rfl⟩
  exact Cert.Kernel5Ideal.Value.reference_at _ _ i j

end Cert.Proof

end
-- ==== Proof.Proj0Dw.lean ====
/- The gradient of the first layer's input weight, context rows included: one block product per grid point. -/
module

public import proofs.«01_k».proof.Proof.ProductSpec
public import proofs.«01_k».proof.Defs
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen Cert.ShortConv Cert.Product

/-- What a block product holds. -/
theorem pay_at (x : Vec Ideal S4352x1024 .bf16) (y : Vec Ideal S4352x1024 .bf16) (i j : Fin 1024) :
    k0_pay1 (F := Ideal) x y (ix2 i j) = ∑ k : Fin 4352, x (ix2 k i) * y (ix2 k j) := by
  pointwise [k0_pay1]

variable (m : (ℓ : Loc nD τ sig) → Buf (Elt Ideal) ℓ) (c : Dev nD)

/-- The two operands. -/
abbrev A : ℕ → ℕ → EReal := rd (a := 4352) (b := 4096) (φ := .bf16) (m ((c : Thread nD τ).loc main_arg0))
abbrev B : ℕ → ℕ → EReal := rd (a := 4352) (b := 12288) (φ := .bf16) (m ((c : Thread nD τ).loc main_arg1))

/-- The blocks' indices. -/
theorem idx : ∀ t : Fin cfg0.N, win0_0.index t = ![0, t.val / 12] ∧ win0_1.index t = ![0, t.val % 12] ∧ win0_2.index t = ![t.val / 12, t.val % 12] :=
  (by decide +kernel : ∀ t : Fin grid0.N, win0_0.index t = ![0, t.val / 12] ∧ win0_1.index t = ![0, t.val % 12] ∧ win0_2.index t = ![t.val / 12, t.val % 12])

theorem block0 (t : Fin cfg0.N) (k : Fin 4352) (i : Fin 1024) :
    (iblk m c 0 t : Vec Ideal S4352x1024 .bf16) (ix2 k i) = A m c k (1024 * (t.val / 12) + i) := by
  have hN : cfg0.N = 48 := N_0
  have := t.isLt; have := i.isLt
  unfold A rd
  rw [dif_pos ⟨k.isLt, by omega⟩]
  blk_ext [iblk, V, idx t]

theorem block1 (t : Fin cfg0.N) (k : Fin 4352) (j : Fin 1024) :
    (iblk m c 1 t : Vec Ideal S4352x1024 .bf16) (ix2 k j) = B m c k (1024 * (t.val % 12) + j) := by
  have := j.isLt
  unfold B rd
  rw [dif_pos ⟨k.isLt, by omega⟩]
  blk_ext [iblk, V, idx t]

/-- The array after the run: element `(i, j)` is column `i` of the one operand times column `j` of the other. -/
def G : FVec Ideal S4096x12288 .bf16 :=
  fun y => dot 4352 (fun k => A m c k (y 0).val) (fun k => B m c k (y 1).val)

theorem final : (dats m 0 c).arrAt 2 cfg0.N = G m c := by
  refine (dats m 0 c).arrAt_eq_of_covers 2 (G m c) (by decide +kernel) fun t hf y => ?_
  rw [after0_2]
  unfold out0_2
  canon_tiles x e
  obtain ⟨i, j, rfl⟩ : ∃ i j, x = ix2 i j := ⟨x 0, x 1, by ext a; fin_cases a <;> rfl⟩
  have h0 : (((cfg0.win 2).blk t).view.emb y 0).val = 1024 * (t.val / 12) + i := by
    have e0' : (y 0).val = i.val := e0
    rw [← e0']; blk_simp [idx t]; omega
  have h1 : (((cfg0.win 2).blk t).view.emb y 1).val = 1024 * (t.val % 12) + j := by
    have e1' : (y 1).val = j.val := e1
    rw [← e1']; blk_simp [idx t]; omega
  refine (pay_at _ _ i j).trans ?_
  rw [View.ld_unit_zero (by funext a; fin_cases a <;> rfl), View.ld_unit_zero (by funext a; fin_cases a <;> rfl)]
  unfold G dot
  rw [h0, h1]
  exact Finset.sum_congr rfl fun k _ => congrArg₂ _ (block0 m c t k i) (block1 m c t k j)

/-- The reference's array. -/
theorem reference_at (x : FVec Ideal S4352x4096 .bf16) (y : FVec Ideal S4352x12288 .bf16) (i : Fin 4096) (j : Fin 12288) :
    Cert.Reference6Ideal.Read.val_main_v6 (F := Ideal) x y (ix2 i j) = dot 4352 (fun k => rd x k i) (fun k => rd y k j) := by
  rw [dot_comm]
  unfold dot
  pointwise [Cert.Reference6Ideal.Read.val_main_v6, Cert.Reference6Ideal.Read.val_main_v5, Cert.Reference6Ideal.Read.val_main_v4,
    Cert.Reference6Ideal.Read.val_main_v3, Cert.Reference6Ideal.Read.val_main_v1]
  exact Finset.sum_congr rfl fun k _ => by rw [rd_eq x, rd_eq y]

end Cert.Kernel6Ideal.Value

namespace Cert.Proof

theorem proj0_dw_reference_frame : Cert.quiescent_Reference6Ideal := fun m g _ =>
  (θ_run Cert.Reference6Ideal.defs _ _).mono
    (fun r h => ⟨fun c => (h c).2, sem_eq_zero_of_no_sems (by decide) r.2⟩) (Cert.Reference6Ideal.Value.run m g)

theorem proj0_dw_algebraic : Cert.algebraic_Kernel6Ideal_Reference6Ideal := by
  intro m g m' g' _ hagree
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run m' g')
  refine Eq.trans ?_ (Cert.Kernel6Ideal.Value.final m c).symm
  rw [Cert.Reference6Ideal.Read.val_main_v6_eq, (hagree c).1, (hagree c).2]
  funext x
  obtain ⟨i, j, rfl⟩ : ∃ i j, x = ix2 i j := ⟨x 0, x 1, by ext a; fin_cases a <;> rfl⟩
  exact Cert.Kernel6Ideal.Value.reference_at _ _ i j

end Cert.Proof

end
-- ==== Proof.Proj1.lean ====
/- The second layer's input projection, its weight in four slots of columns: one block product per grid point. -/
module

public import proofs.«01_k».proof.Proof.ProductSpec
public import proofs.«01_k».proof.Defs
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen Cert.ShortConv Cert.Product

/-- What a block product holds. -/
theorem pay_at (x : Vec Ideal S1024x4096 .bf16) (y : Vec Ideal S1x4096x1024 .bf16) (i j : Fin 1024) :
    k0_pay1 (F := Ideal) x y (ix2 i j) = ∑ k : Fin 4096, x (ix2 i k) * y (ix3 0 k j) := by
  pointwise [k0_pay1]

variable (m : (ℓ : Loc nD τ sig) → Buf (Elt Ideal) ℓ) (c : Dev nD)

/-- The two operands. -/
abbrev A : ℕ → ℕ → EReal := rd (a := 4096) (b := 4096) (φ := .bf16) (m ((c : Thread nD τ).loc main_arg0))
abbrev B : ℕ → ℕ → ℕ → EReal := sl (n := 4) (a := 4096) (b := 4096) (φ := .bf16) (m ((c : Thread nD τ).loc main_arg1))

/-- The blocks' indices. -/
theorem idx : ∀ t : Fin cfg0.N, win0_0.index t = ![t.val / 16, 0] ∧ win0_1.index t = ![t.val % 16 / 4, 0, t.val % 16 % 4] ∧ win0_2.index t = ![t.val / 16, t.val % 16] :=
  (by decide +kernel : ∀ t : Fin grid0.N, win0_0.index t = ![t.val / 16, 0] ∧ win0_1.index t = ![t.val % 16 / 4, 0, t.val % 16 % 4] ∧ win0_2.index t = ![t.val / 16, t.val % 16])

theorem block0 (t : Fin cfg0.N) (k : Fin 4096) (i : Fin 1024) :
    (iblk m c 0 t : Vec Ideal S1024x4096 .bf16) (ix2 i k) = A m c (1024 * (t.val / 16) + i) k := by
  have hN : cfg0.N = 64 := N_0
  have := t.isLt; have := i.isLt
  unfold A rd
  rw [dif_pos ⟨by omega, k.isLt⟩]
  blk_ext [iblk, V, idx t]

theorem block1 (t : Fin cfg0.N) (k : Fin 4096) (j : Fin 1024) :
    (iblk m c 1 t : Vec Ideal S1x4096x1024 .bf16) (ix3 0 k j) = B m c (t.val % 16 / 4) k (1024 * (t.val % 16 % 4) + j) := by
  have := j.isLt
  unfold B sl
  rw [dif_pos ⟨by omega, k.isLt, by omega⟩]
  blk_ext [iblk, V, idx t]

/-- The array after the run: element `(i, j)` is row `i` of the one operand times column `j % 4096` of slot `j / 4096`. -/
def G : FVec Ideal S4096x16384 .f32 :=
  fun y => dot 4096 (fun k => A m c (y 0).val k) (fun k => B m c ((y 1).val / 4096) k ((y 1).val % 4096))

theorem final : (dats m 0 c).arrAt 2 cfg0.N = G m c := by
  refine (dats m 0 c).arrAt_eq_of_covers 2 (G m c) (by decide +kernel) fun t hf y => ?_
  rw [after0_2]
  unfold out0_2
  canon_tiles x e
  obtain ⟨i, j, rfl⟩ : ∃ i j, x = ix2 i j := ⟨x 0, x 1, by ext a; fin_cases a <;> rfl⟩
  have h0 : (((cfg0.win 2).blk t).view.emb y 0).val = 1024 * (t.val / 16) + i := by
    have e0' : (y 0).val = i.val := e0
    rw [← e0']; blk_simp [idx t]; omega
  have h1 : (((cfg0.win 2).blk t).view.emb y 1).val = 1024 * (t.val % 16) + j := by
    have e1' : (y 1).val = j.val := e1
    rw [← e1']; blk_simp [idx t]; omega
  refine (pay_at _ _ i j).trans ?_
  rw [View.ld_unit_zero (by funext a; fin_cases a <;> rfl), View.ld_unit_zero (by funext a; fin_cases a <;> rfl)]
  unfold G dot
  have := j.isLt
  rw [h0, h1, show (1024 * (t.val % 16) + j.val) / 4096 = t.val % 16 / 4 by omega,
    show (1024 * (t.val % 16) + j.val) % 4096 = 1024 * (t.val % 16 % 4) + j by omega]
  exact Finset.sum_congr rfl fun k _ => congrArg₂ _ (block0 m c t k i) (block1 m c t k j)

/-- The reference's weight: its columns are the slots' columns, one slot after another. -/
theorem weight_at (y : FVec Ideal S4x4096x4096 .bf16) (k : Fin 4096) (j : Fin 16384) :
    Cert.Reference7Ideal.Read.val_main_v8 (F := Ideal) y (ix2 k j) = sl y (j.val / 4096) k (j.val % 4096) := by
  pointwise [Cert.Reference7Ideal.Read.val_main_v8]
  refine slots (fun q l => sl y q k l) (fun l => Cert.Reference7Ideal.Read.val_main_v1 (F := Ideal) y (ix2 k l))
    (fun l => Cert.Reference7Ideal.Read.val_main_v3 (F := Ideal) y (ix2 k l))
    (fun l => Cert.Reference7Ideal.Read.val_main_v5 (F := Ideal) y (ix2 k l))
    (fun l => Cert.Reference7Ideal.Read.val_main_v7 (F := Ideal) y (ix2 k l)) ?_ ?_ ?_ ?_ j <;> intro l
  · pointwise [Cert.Reference7Ideal.Read.val_main_v1, Cert.Reference7Ideal.Read.val_main_v0]; exact sl_eq y 0 k l
  · pointwise [Cert.Reference7Ideal.Read.val_main_v3, Cert.Reference7Ideal.Read.val_main_v2]; exact sl_eq y 1 k l
  · pointwise [Cert.Reference7Ideal.Read.val_main_v5, Cert.Reference7Ideal.Read.val_main_v4]; exact sl_eq y 2 k l
  · pointwise [Cert.Reference7Ideal.Read.val_main_v7, Cert.Reference7Ideal.Read.val_main_v6]; exact sl_eq y 3 k l

/-- The reference's array. -/
theorem reference_at (x : FVec Ideal S4096x4096 .bf16) (y : FVec Ideal S4x4096x4096 .bf16) (i : Fin 4096) (j : Fin 16384) :
    Cert.Reference7Ideal.Read.val_main_v9 (F := Ideal) x y (ix2 i j)
      = dot 4096 (fun k => rd x i k) (fun k => sl y (j.val / 4096) k (j.val % 4096)) := by
  unfold dot
  pointwise [Cert.Reference7Ideal.Read.val_main_v9]
  exact Finset.sum_congr rfl fun k _ => by rw [rd_eq x, weight_at y]

end Cert.Kernel7Ideal.Value

namespace Cert.Proof

theorem proj1_reference_frame : Cert.quiescent_Reference7Ideal := fun m g _ =>
  (θ_run Cert.Reference7Ideal.defs _ _).mono
    (fun r h => ⟨fun c => (h c).2, sem_eq_zero_of_no_sems (by decide) r.2⟩) (Cert.Reference7Ideal.Value.run m g)

theorem proj1_algebraic : Cert.algebraic_Kernel7Ideal_Reference7Ideal := by
  intro m g m' g' _ hagree
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ⟨(h c).1.trans ?_, (h c).2⟩) (Cert.Reference7Ideal.Value.run m' g')
  refine Eq.trans ?_ (Cert.Kernel7Ideal.Value.final m c).symm
  rw [Cert.Reference7Ideal.Read.val_main_v9_eq, (hagree c).1, (hagree c).2]
  funext x
  obtain ⟨i, j, rfl⟩ : ∃ i j, x = ix2 i j := ⟨x 0, x 1, by ext a; fin_cases a <;> rfl⟩
  exact Cert.Kernel7Ideal.Value.reference_at _ _ i j

end Cert.Proof

end
-- ==== Proof.Proj0.lean ====
/- The first layer's input projection, context rows included: one block product per grid point. -/
module

public import proofs.«01_k».proof.Proof.ProductSpec
public import proofs.«01_k».proof.Defs
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.ShortConv Cert.Product

/-- What a block product holds. -/
theorem pay_at (x : Vec Ideal S1088x4096 .bf16) (y : Vec Ideal S4096x1024 .bf16) (i : Fin 1088) (j : Fin 1024) :
    k0_pay1 (F := Ideal) x y (ix2 i j) = ∑ k : Fin 4096, x (ix2 i k) * y (ix2 k j) := by
  pointwise [k0_pay1]

variable (m : (ℓ : Loc nD τ sig) → Buf (Elt Ideal) ℓ) (c : Dev nD)

/-- The two operands. -/
abbrev A : ℕ → ℕ → EReal := rd (a := 4352) (b := 4096) (φ := .bf16) (m ((c : Thread nD τ).loc main_arg0))
abbrev B : ℕ → ℕ → EReal := rd (a := 4096) (b := 12288) (φ := .bf16) (m ((c : Thread nD τ).loc main_arg1))

/-- The blocks' indices. -/
theorem idx : ∀ t : Fin cfg0.N, win0_0.index t = ![t.val / 12, 0] ∧ win0_1.index t = ![0, t.val % 12] ∧ win0_2.index t = ![t.val / 12, t.val % 12] :=
  (by decide +kernel : ∀ t : Fin grid0.N, win0_0.index t = ![t.val / 12, 0] ∧ win0_1.index t = ![0, t.val % 12] ∧ win0_2.index t = ![t.val / 12, t.val % 12])

theorem block0 (t : Fin cfg0.N) (k : Fin 4096) (i : Fin 1088) :
    (iblk m c 0 t : Vec Ideal S1088x4096 .bf16) (ix2 i k) = A m c (1088 * (t.val / 12) + i) k := by
  have hN : cfg0.N = 48 := N_0
  have := t.isLt; have := i.isLt
  unfold A rd
  rw [dif_pos ⟨by omega, k.isLt⟩]
  blk_ext [iblk, V, idx t]

theorem block1 (t : Fin cfg0.N) (k : Fin 4096) (j : Fin 1024) :
    (iblk m c 1 t : Vec Ideal S4096x1024 .bf16) (ix2 k j) = B m c k (1024 * (t.val % 12) + j) := by
  have := j.isLt
  unfold B rd
  rw [dif_pos ⟨k.isLt, by omega⟩]
  blk_ext [iblk, V, idx t]

/-- The array after the run: element `(i, j)` is row `i` of the one operand times column `j` of the other. -/
def G : FVec Ideal S4352x12288 .f32 :=
  fun y => dot 4096 (fun k => A m c (y 0).val k) (fun k => B m c k (y 1).val)

theorem final : (dats m 0 c).arrAt 2 cfg0.N = G m c := by
  refine (dats m 0 c).arrAt_eq_of_covers 2 (G m c) (by decide +kernel) fun t hf y => ?_
  rw [after0_2]
  unfold out0_2
  canon_tiles x e
  obtain ⟨i, j, rfl⟩ : ∃ i j, x = ix2 i j := ⟨x 0, x 1, by ext a; fin_cases a <;> rfl⟩
  have h0 : (((cfg0.win 2).blk t).view.emb y 0).val = 1088 * (t.val / 12) + i := by
    have e0' : (y 0).val = i.val := e0
    rw [← e0']; blk_simp [idx t]; omega
  have h1 : (((cfg0.win 2).blk t).view.emb y 1).val = 1024 * (t.val % 12) + j := by
    have e1' : (y 1).val = j.val := e1
    rw [← e1']; blk_simp [idx t]; omega
  refine (pay_at _ _ i j).trans ?_
  rw [View.ld_unit_zero (by funext a; fin_cases a <;> rfl), View.ld_unit_zero (by funext a; fin_cases a <;> rfl)]
  unfold G dot
  rw [h0, h1]
  exact Finset.sum_congr rfl fun k _ => congrArg₂ _ (block0 m c t k i) (block1 m c t k j)

/-- The reference's array. -/
theorem reference_at (x : FVec Ideal S4352x4096 .bf16) (y : FVec Ideal S4096x12288 .bf16) (i : Fin 4352) (j : Fin 12288) :
    Cert.Reference8Ideal.Read.val_main_v0 (F := Ideal) x y (ix2 i j) = dot 4096 (fun k => rd x i k) (fun k => rd y k j) := by
  unfold dot
  pointwise [Cert.Reference8Ideal.Read.val_main_v0]
  exact Finset.sum_congr rfl fun k _ => by rw [rd_eq x, rd_eq y]

end Cert.Kernel8Ideal.Value

namespace Cert.Proof

theorem proj0_reference_frame : Cert.quiescent_Reference8Ideal := fun m g _ =>
  (θ_run Cert.Reference8Ideal.defs _ _).mono
    (fun r h => ⟨fun c => (h c).2, sem_eq_zero_of_no_sems (by decide) r.2⟩) (Cert.Reference8Ideal.Value.run m g)

theorem proj0_algebraic : Cert.algebraic_Kernel8Ideal_Reference8Ideal := by
  intro m g m' g' _ hagree
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ⟨(h c).1.trans ?_, (h c).2⟩) (Cert.Reference8Ideal.Value.run m' g')
  refine Eq.trans ?_ (Cert.Kernel8Ideal.Value.final m c).symm
  rw [Cert.Reference8Ideal.Read.val_main_v0_eq, (hagree c).1, (hagree c).2]
  funext x
  obtain ⟨i, j, rfl⟩ : ∃ i j, x = ix2 i j := ⟨x 0, x 1, by ext a; fin_cases a <;> rfl⟩
  exact Cert.Kernel8Ideal.Value.reference_at _ _ i j

end Cert.Proof

end
-- ==== Proof.Out1.lean ====
/- The output projection with its gate and residual: one block product per grid point. -/
module

public import proofs.«01_k».proof.Proof.ProductSpec
public import proofs.«01_k».proof.Defs
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen Cert.ShortConv Cert.Product

/-- What a block product holds, kept in bf16 and gated onto the residual. -/
theorem prod_at (x : Vec Ideal S1024x4096 .bf16) (y : Vec Ideal S4096x512 .bf16) (i : Fin 1024) (j : Fin 512) :
    k0_pay2 (F := Ideal) x y (ix2 i j) = ∑ k : Fin 4096, x (ix2 i k) * y (ix2 k j) := by
  pointwise [k0_pay2, k0_pay1]

theorem gated_at (x : Vec Ideal S1024x4096 .bf16) (y : Vec Ideal S4096x512 .bf16) (g : Vec Ideal S1x512 .f32) (r : Vec Ideal S1024x512 .f32)
    (i : Fin 1024) (j : Fin 512) :
    k0_pay3 (F := Ideal) x y g r (ix2 i j) = r (ix2 i j) + g (ix2 0 j) * ∑ k : Fin 4096, x (ix2 i k) * y (ix2 k j) := by
  pointwise [k0_pay3, k0_pay1]
  exact (add_comm _ _).trans (congrArg _ (mul_comm _ _))

variable (m : (ℓ : Loc nD τ sig) → Buf (Elt Ideal) ℓ) (c : Dev nD)

/-- The two operands. -/
abbrev A : ℕ → ℕ → EReal := rd (a := 4096) (b := 4096) (φ := .bf16) (m ((c : Thread nD τ).loc main_arg0))
abbrev B : ℕ → ℕ → EReal := rd (a := 4096) (b := 4096) (φ := .bf16) (m ((c : Thread nD τ).loc main_arg1))

/-- The residual and the gate's row. -/
abbrev X : ℕ → ℕ → EReal := rd (a := 4096) (b := 4096) (φ := .f32) (m ((c : Thread nD τ).loc main_arg2))
abbrev Y : ℕ → ℕ → EReal := rd (a := 1) (b := 4096) (φ := .f32) (m ((c : Thread nD τ).loc main_arg3))

/-- The blocks' indices. -/
theorem idx : ∀ t : Fin cfg0.N, win0_0.index t = ![t.val / 8, 0] ∧ win0_1.index t = ![0, t.val % 8] ∧ win0_2.index t = ![t.val / 8, t.val % 8]
    ∧ win0_3.index t = ![0, t.val % 8] ∧ win0_4.index t = ![t.val / 8, t.val % 8] ∧ win0_5.index t = ![t.val / 8, t.val % 8] :=
  (by decide +kernel : ∀ t : Fin grid0.N, win0_0.index t = ![t.val / 8, 0] ∧ win0_1.index t = ![0, t.val % 8] ∧ win0_2.index t = ![t.val / 8, t.val % 8]
    ∧ win0_3.index t = ![0, t.val % 8] ∧ win0_4.index t = ![t.val / 8, t.val % 8] ∧ win0_5.index t = ![t.val / 8, t.val % 8])

theorem block0 (t : Fin cfg0.N) (k : Fin 4096) (i : Fin 1024) :
    (iblk m c 0 t : Vec Ideal S1024x4096 .bf16) (ix2 i k) = A m c (1024 * (t.val / 8) + i) k := by
  have hN : cfg0.N = 32 := N_0
  have := t.isLt; have := i.isLt
  unfold A rd
  rw [dif_pos ⟨by omega, k.isLt⟩]
  blk_ext [iblk, V, idx t]

theorem block1 (t : Fin cfg0.N) (k : Fin 4096) (j : Fin 512) :
    (iblk m c 1 t : Vec Ideal S4096x512 .bf16) (ix2 k j) = B m c k (512 * (t.val % 8) + j) := by
  have := j.isLt
  unfold B rd
  rw [dif_pos ⟨k.isLt, by omega⟩]
  blk_ext [iblk, V, idx t]

theorem block2 (t : Fin cfg0.N) (i : Fin 1024) (j : Fin 512) :
    (iblk m c 2 t : Vec Ideal S1024x512 .f32) (ix2 i j) = X m c (1024 * (t.val / 8) + i) (512 * (t.val % 8) + j) := by
  have hN : cfg0.N = 32 := N_0
  have := t.isLt; have := i.isLt; have := j.isLt
  unfold X rd
  rw [dif_pos ⟨by omega, by omega⟩]
  blk_ext [iblk, V, idx t]

theorem block3 (t : Fin cfg0.N) (j : Fin 512) :
    (iblk m c 3 t : Vec Ideal S1x512 .f32) (ix2 0 j) = Y m c 0 (512 * (t.val % 8) + j) := by
  have := j.isLt
  unfold Y rd
  rw [dif_pos ⟨by omega, by omega⟩]
  blk_ext [iblk, V, idx t]

/-- The product, and the product gated onto the residual. -/
def prod (i j : ℕ) : EReal := dot 4096 (fun k => A m c i k) (fun k => B m c k j)
def G : FVec Ideal S4096x4096 .f32 := fun y => X m c (y 0).val (y 1).val + Y m c 0 (y 1).val * prod m c (y 0).val (y 1).val
def H : FVec Ideal S4096x4096 .bf16 := fun y => prod m c (y 0).val (y 1).val

theorem final_prod : (dats m 0 c).arrAt 5 cfg0.N = H m c := by
  refine (dats m 0 c).arrAt_eq_of_covers 5 (H m c) (by decide +kernel) fun t hf y => ?_
  rw [after0_5]
  unfold out0_5
  canon_tiles x e
  obtain ⟨i, j, rfl⟩ : ∃ i j, x = ix2 i j := ⟨x 0, x 1, by ext a; fin_cases a <;> rfl⟩
  have h0 : (((cfg0.win 5).blk t).view.emb y 0).val = 1024 * (t.val / 8) + i := by
    have e0' : (y 0).val = i.val := e0
    rw [← e0']; blk_simp [idx t]; omega
  have h1 : (((cfg0.win 5).blk t).view.emb y 1).val = 512 * (t.val % 8) + j := by
    have e1' : (y 1).val = j.val := e1
    rw [← e1']; blk_simp [idx t]; omega
  refine (prod_at _ _ i j).trans ?_
  rw [View.ld_unit_zero (by funext a; fin_cases a <;> rfl), View.ld_unit_zero (by funext a; fin_cases a <;> rfl)]
  unfold H prod dot
  rw [h0, h1]
  exact Finset.sum_congr rfl fun k _ => congrArg₂ _ (block0 m c t k i) (block1 m c t k j)

theorem final_gated : (dats m 0 c).arrAt 4 cfg0.N = G m c := by
  refine (dats m 0 c).arrAt_eq_of_covers 4 (G m c) (by decide +kernel) fun t hf y => ?_
  rw [after0_4]
  unfold out0_4
  canon_tiles x e
  obtain ⟨i, j, rfl⟩ : ∃ i j, x = ix2 i j := ⟨x 0, x 1, by ext a; fin_cases a <;> rfl⟩
  have h0 : (((cfg0.win 4).blk t).view.emb y 0).val = 1024 * (t.val / 8) + i := by
    have e0' : (y 0).val = i.val := e0
    rw [← e0']; blk_simp [idx t]; omega
  have h1 : (((cfg0.win 4).blk t).view.emb y 1).val = 512 * (t.val % 8) + j := by
    have e1' : (y 1).val = j.val := e1
    rw [← e1']; blk_simp [idx t]; omega
  refine (gated_at _ _ _ _ i j).trans ?_
  iterate 4 rw [View.ld_unit_zero (by funext a; fin_cases a <;> rfl)]
  unfold G prod dot
  rw [h0, h1, ← block2, ← block3]
  exact congrArg _ (congrArg _ (Finset.sum_congr rfl fun k _ => congrArg₂ _ (block0 m c t k i) (block1 m c t k j)))

/-- The reference's arrays. -/
theorem reference_prod_at (x y : FVec Ideal S4096x4096 .bf16) (i j : Fin 4096) :
    Cert.Reference9Ideal.Read.val_main_v0 (F := Ideal) x y (ix2 i j) = dot 4096 (fun k => rd x i k) (fun k => rd y k j) := by
  unfold dot
  pointwise [Cert.Reference9Ideal.Read.val_main_v0]
  exact Finset.sum_congr rfl fun k _ => by rw [rd_eq x, rd_eq y]

theorem reference_gated_at (x y : FVec Ideal S4096x4096 .bf16) (r : FVec Ideal S4096x4096 .f32) (g : FVec Ideal S1x4096 .f32) (i j : Fin 4096) :
    Cert.Reference9Ideal.Read.val_main_v3 (F := Ideal) x y r g (ix2 i j)
      = rd r i j + rd g 0 j * dot 4096 (fun k => rd x i k) (fun k => rd y k j) := by
  rw [← reference_prod_at]
  pointwise [Cert.Reference9Ideal.Read.val_main_v3, Cert.Reference9Ideal.Read.val_main_v2, Cert.Reference9Ideal.Read.val_main_v1]
  exact congrArg₂ _ (rd_eq r i j) (congrArg (· * _) (rd_eq g 0 j))

end Cert.Kernel9Ideal.Value

namespace Cert.Proof

theorem out1_reference_frame : Cert.quiescent_Reference9Ideal := fun m g _ =>
  (θ_run Cert.Reference9Ideal.defs _ _).mono
    (fun r h => ⟨fun c => (h c).2.2, sem_eq_zero_of_no_sems (by decide) r.2⟩) (Cert.Reference9Ideal.Value.run m g)

theorem out1_algebraic : Cert.algebraic_Kernel9Ideal_Reference9Ideal := by
  intro m g m' g' _ hagree
  refine ⟨fun c => (Cert.Kernel9Ideal.Gen.dats m 0 c).arrAt 4 Cert.Kernel9Ideal.cfg0.N,
    fun c => (Cert.Kernel9Ideal.Gen.dats m 0 c).arrAt 5 Cert.Kernel9Ideal.cfg0.N, Cert.Kernel9Ideal.Value.run_blocks m g, ?_⟩
  refine (θ_run Cert.Reference9Ideal.defs _ _).mono
    (fun r h c => ⟨(h c).1.trans ?_, (h c).2.1.trans ?_, (h c).2.2⟩) (Cert.Reference9Ideal.Value.run m' g')
  · refine Eq.trans ?_ (Cert.Kernel9Ideal.Value.final_gated m c).symm
    rw [Cert.Reference9Ideal.Read.val_main_v3_eq, (hagree c).1, (hagree c).2.1, (hagree c).2.2.1, (hagree c).2.2.2]
    funext x
    obtain ⟨i, j, rfl⟩ : ∃ i j, x = ix2 i j := ⟨x 0, x 1, by ext a; fin_cases a <;> rfl⟩
    exact Cert.Kernel9Ideal.Value.reference_gated_at _ _ _ _ i j
  · refine Eq.trans ?_ (Cert.Kernel9Ideal.Value.final_prod m c).symm
    rw [Cert.Reference9Ideal.Read.val_main_v4_eq, (hagree c).1, (hagree c).2.1]
    funext x
    obtain ⟨i, j, rfl⟩ : ∃ i j, x = ix2 i j := ⟨x 0, x 1, by ext a; fin_cases a <;> rfl⟩
    refine Eq.trans ?_ (Cert.Kernel9Ideal.Value.reference_prod_at _ _ i j)
    pointwise [Cert.Reference9Ideal.Read.val_main_v4]

end Cert.Proof

end
-- ==== Proof.lean ====
/- Calls of the backward pass and the products around them: each runs, and computes what the plain function computes;
   the gradients through a derivative or a norm at every finite input. -/
module

public import proofs.«01_k».proof.Proof.Gate1
public import proofs.«01_k».proof.Proof.LruGate
public import proofs.«01_k».proof.Proof.Norm1
public import proofs.«01_k».proof.Proof.DnOut
public import proofs.«01_k».proof.Proof.QkvConv
public import proofs.«01_k».proof.Proof.LossHead
public import proofs.«01_k».proof.Proof.Norm0
public import proofs.«01_k».proof.Proof.Norm0Ctx
public import proofs.«01_k».proof.Proof.Norm1Fwd
public import proofs.«01_k».proof.Proof.Norm0Fwd
public import proofs.«01_k».proof.Proof.LruGateFwd
public import proofs.«01_k».proof.Proof.DnOutFwd
public import proofs.«01_k».proof.Proof.ScMixFwd
public import proofs.«01_k».proof.Proof.QkvConvFwd
public import proofs.«01_k».proof.Proof.Proj0Ba
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_finite11
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Pre_finite12
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Pre_finite13
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Pre_finite14
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Pre_finite15
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Pre_finite17
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel16.Frame
public import proofs.«01_k».proof.Proof.Gen.Kernel16Ideal.Frame
public import proofs.«01_k».proof.Proof.Proj1Dx
public import proofs.«01_k».proof.Proof.Proj1Dw
public import proofs.«01_k».proof.Proof.Out1Dx
public import proofs.«01_k».proof.Proof.Out1Dw
public import proofs.«01_k».proof.Proof.Proj0Dw
public import proofs.«01_k».proof.Proof.Proj1
public import proofs.«01_k».proof.Proof.Proj0
public import proofs.«01_k».proof.Proof.Out1
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.ShortConvKernel
public import proofs.«01_k».proof.Proof.ShortConvReference
public import proofs.«01_k».proof.Proof.ShortConvFinite
public import Idealize.ShloMosaic.Adequacy
public import Idealize.ShloMosaic.Init

@[expose] public section

noncomputable section

namespace Cert.Proof

open Idealize.ShloMosaic Idealize.ShloMosaic.TcCoe Idealize.SL.Sem
open Cert.ShortConv

/-- The reference is host operations only: its arguments are never written, and it has no semaphore. -/
theorem mix_reference_frame : Cert.quiescent_ReferenceIdeal := fun m g _ =>
  (θ_run Cert.ReferenceIdeal.defs _ _).mono
    (fun r h => ⟨fun c => ⟨(h c).2.2.1, (h c).2.2.2.1, (h c).2.2.2.2⟩, sem_eq_zero_of_no_sems (by decide) r.2⟩)
    (Cert.ReferenceIdeal.Value.run m g)

/-- The precondition read: every element of the three arguments is a real number. -/
theorem mix_fine (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, Fine (m ((c : Thread Cert.KernelIdeal.nD Cert.KernelIdeal.τ).loc Cert.KernelIdeal.main_arg0) i))
    ∧ (∀ i, Fine (m ((c : Thread Cert.KernelIdeal.nD Cert.KernelIdeal.τ).loc Cert.KernelIdeal.main_arg1) i))
    ∧ ∀ i, Fine (m ((c : Thread Cert.KernelIdeal.nD Cert.KernelIdeal.τ).loc Cert.KernelIdeal.main_arg2) i) :=
  ⟨fun i => fine_of_mask _ _ i (congrFun (h c).1 i), fun i => fine_of_mask _ _ i (congrFun (h c).2.1 i),
    fun i => fine_of_mask _ _ i (congrFun (h c).2.2 i)⟩

/-- Both programs end holding the same projection gradient and the same tap gradient. -/
theorem mix_algebraic : Cert.algebraic_KernelIdeal_ReferenceIdeal_pre_finite := by
  intro m g m' g' hpre hagree
  refine ⟨fun c => (Cert.KernelIdeal.Gen.dats m 0 c).arrAt 3 Cert.KernelIdeal.cfg0.N,
    fun c => (Cert.KernelIdeal.Gen.dats m 0 c).arrAt 4 Cert.KernelIdeal.cfg0.N,
    Cert.KernelIdeal.Value.run_blocks m g, ?_⟩
  refine (θ_run Cert.ReferenceIdeal.defs _ _).mono (fun r h c => ⟨(h c).1.trans ?_, (h c).2.1.trans ?_, (h c).2.2⟩)
    (Cert.ReferenceIdeal.Value.run m' g')
  · refine Eq.trans ?_ (Cert.KernelIdeal.Value.final_dp m c).symm
    rw [Cert.ReferenceIdeal.Read.val_main_v79_eq, (hagree c).1, (hagree c).2.1, (hagree c).2.2]
    funext x
    obtain ⟨i, j, rfl⟩ : ∃ i j, x = ix2 i j := ⟨x 0, x 1, by ext a; fin_cases a <;> rfl⟩
    exact Cert.ReferenceIdeal.Mix.v79_at _ _ _ (mix_fine m hpre c).1 (mix_fine m hpre c).2.1 (mix_fine m hpre c).2.2 i j
  · refine Eq.trans ?_ (Cert.KernelIdeal.Value.final_dw m c).symm
    rw [Cert.ReferenceIdeal.Read.val_main_v66_eq, (hagree c).1, (hagree c).2.1]
    funext x
    obtain ⟨k, j, rfl⟩ : ∃ k j, x = ix2 k j := ⟨x 0, x 1, by ext a; fin_cases a <;> rfl⟩
    exact Cert.ReferenceIdeal.Mix.v66_at _ _ k j

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel17.Gen.facts, Cert.Kernel17Ideal.Gen.facts, Cert.Reference17Ideal.Gen.facts,
  Cert.Kernel18.Gen.facts, Cert.Kernel18Ideal.Gen.facts, Cert.Reference18Ideal.Gen.facts, Cert.Kernel19.Gen.facts,
  Cert.Kernel19Ideal.Gen.facts, Cert.Reference19Ideal.Gen.facts, Cert.Kernel20.Gen.facts, Cert.Kernel20Ideal.Gen.facts,
  Cert.Reference20Ideal.Gen.facts, Cert.Kernel21.Gen.facts, Cert.Kernel21Ideal.Gen.facts, Cert.Reference21Ideal.Gen.facts,
  Cert.Kernel22.Gen.facts, Cert.Kernel22Ideal.Gen.facts, Cert.Reference22Ideal.Gen.facts, Cert.Kernel23.Gen.facts,
  Cert.Kernel23Ideal.Gen.facts, Cert.Reference23Ideal.Gen.facts, Cert.Kernel24.Gen.facts, Cert.Kernel24Ideal.Gen.facts,
  Cert.Reference24Ideal.Gen.facts, Cert.Kernel25.Gen.facts, Cert.Kernel25Ideal.Gen.facts, Cert.Reference25Ideal.Gen.facts,
  Cert.Kernel26.Gen.facts, Cert.Kernel26Ideal.Gen.facts, Cert.Reference26Ideal.Gen.facts, Cert.Kernel27.Gen.facts,
  Cert.Kernel27Ideal.Gen.facts, Cert.Reference27Ideal.Gen.facts, Cert.Kernel16.Gen.facts, Cert.Kernel16Ideal.Gen.facts,
  Cert.Pre_finite.Gen.facts, Cert.Pre_finite11.Gen.facts, Cert.Pre_finite12.Gen.facts, Cert.Pre_finite13.Gen.facts,
  Cert.Pre_finite14.Gen.facts, Cert.Pre_finite15.Gen.facts, Cert.Pre_finite17.Gen.facts,
  fun m g _ => Cert.Kernel.Gen.frame m g, fun m g _ => Cert.KernelIdeal.Gen.frame m g, fun m g _ => Cert.KernelIdeal.Gen.frame m g, mix_reference_frame, fun m g _ => mix_reference_frame m g trivial,
  fun m g _ => Cert.Kernel2.Gen.frame m g, fun m g _ => Cert.Kernel2Ideal.Gen.frame m g, proj1_dx_reference_frame,
  fun m g _ => Cert.Kernel3.Gen.frame m g, fun m g _ => Cert.Kernel3Ideal.Gen.frame m g, proj1_dw_reference_frame,
  fun m g _ => Cert.Kernel4.Gen.frame m g, fun m g _ => Cert.Kernel4Ideal.Gen.frame m g, out1_dx_reference_frame,
  fun m g _ => Cert.Kernel5.Gen.frame m g, fun m g _ => Cert.Kernel5Ideal.Gen.frame m g, out1_dw_reference_frame,
  fun m g _ => Cert.Kernel6.Gen.frame m g, fun m g _ => Cert.Kernel6Ideal.Gen.frame m g, proj0_dw_reference_frame,
  fun m g _ => Cert.Kernel7.Gen.frame m g, fun m g _ => Cert.Kernel7Ideal.Gen.frame m g, proj1_reference_frame,
  fun m g _ => Cert.Kernel8.Gen.frame m g, fun m g _ => Cert.Kernel8Ideal.Gen.frame m g, proj0_reference_frame,
  fun m g _ => Cert.Kernel9.Gen.frame m g, fun m g _ => Cert.Kernel9Ideal.Gen.frame m g, out1_reference_frame,
  fun m g _ => Cert.Kernel10.Gen.frame m g, fun m g _ => Cert.Kernel10Ideal.Gen.frame m g, gate1_reference_frame,
  fun m g _ => Cert.Kernel11.Gen.frame m g, fun m g _ => Cert.Kernel11Ideal.Gen.frame m g, fun m g _ => Cert.Kernel11Ideal.Gen.frame m g, lru_gate_reference_frame, fun m g _ => lru_gate_reference_frame m g trivial,
  fun m g _ => Cert.Kernel12.Gen.frame m g, fun m g _ => Cert.Kernel12Ideal.Gen.frame m g, fun m g _ => Cert.Kernel12Ideal.Gen.frame m g, norm1_reference_frame, fun m g _ => norm1_reference_frame m g trivial,
  fun m g _ => Cert.Kernel13.Gen.frame m g, fun m g _ => Cert.Kernel13Ideal.Gen.frame m g, fun m g _ => Cert.Kernel13Ideal.Gen.frame m g, dn_out_reference_frame, fun m g _ => dn_out_reference_frame m g trivial,
  fun m g _ => Cert.Kernel14.Gen.frame m g, fun m g _ => Cert.Kernel14Ideal.Gen.frame m g, fun m g _ => Cert.Kernel14Ideal.Gen.frame m g, qkv_conv_reference_frame, fun m g _ => qkv_conv_reference_frame m g trivial,
  fun m g _ => Cert.Kernel15.Gen.frame m g, fun m g _ => Cert.Kernel15Ideal.Gen.frame m g, fun m g _ => Cert.Kernel15Ideal.Gen.frame m g, loss_reference_frame, fun m g _ => loss_reference_frame m g trivial,
  fun m g _ => Cert.Kernel17.Gen.frame m g, fun m g _ => Cert.Kernel17Ideal.Gen.frame m g, fun m g _ => Cert.Kernel17Ideal.Gen.frame m g, norm0_reference_frame, fun m g _ => norm0_reference_frame m g trivial,
  fun m g _ => Cert.Kernel18.Gen.frame m g, fun m g _ => Cert.Kernel18Ideal.Gen.frame m g, norm0_ctx_reference_frame,
  fun m g _ => Cert.Kernel19.Gen.frame m g, fun m g _ => Cert.Kernel19Ideal.Gen.frame m g, norm1_fwd_reference_frame,
  fun m g _ => Cert.Kernel20.Gen.frame m g, fun m g _ => Cert.Kernel20Ideal.Gen.frame m g, norm0_fwd_reference_frame,
  fun m g _ => Cert.Kernel21.Gen.frame m g, fun m g _ => Cert.Kernel21Ideal.Gen.frame m g, lru_gate_fwd_reference_frame,
  fun m g _ => Cert.Kernel22.Gen.frame m g, fun m g _ => Cert.Kernel22Ideal.Gen.frame m g, dn_out_fwd_reference_frame,
  fun m g _ => Cert.Kernel23.Gen.frame m g, fun m g _ => Cert.Kernel23Ideal.Gen.frame m g, sc_mix_fwd_reference_frame,
  fun m g _ => Cert.Kernel24.Gen.frame m g, fun m g _ => Cert.Kernel24Ideal.Gen.frame m g, qkv_conv_fwd_reference_frame,
  fun m g _ => Cert.Kernel25.Gen.frame m g, fun m g _ => Cert.Kernel25Ideal.Gen.frame m g, proj0_ba_reference_frame,
  fun m g _ => Cert.Kernel26.Gen.frame m g, fun m g _ => Cert.Kernel26Ideal.Gen.frame m g, proj0_ba_dw_reference_frame,
  fun m g _ => Cert.Kernel27.Gen.frame m g, fun m g _ => Cert.Kernel27Ideal.Gen.frame m g, proj0_ba_dx_reference_frame,
  fun m g _ => Cert.Kernel16.Gen.frame m g, fun m g _ => Cert.Kernel16Ideal.Gen.frame m g,
  trivial, mix_algebraic, trivial, proj1_dx_algebraic, trivial, proj1_dw_algebraic,
  trivial, out1_dx_algebraic, trivial, out1_dw_algebraic, trivial, proj0_dw_algebraic,
  trivial, proj1_algebraic, trivial, proj0_algebraic, trivial, out1_algebraic,
  trivial, gate1_algebraic, trivial, lru_gate_algebraic, trivial, norm1_algebraic,
  trivial, dn_out_algebraic, trivial, qkv_conv_algebraic, trivial, loss_algebraic,
  trivial, norm0_algebraic, trivial, norm0_ctx_algebraic, trivial, norm1_fwd_algebraic,
  trivial, norm0_fwd_algebraic, trivial, lru_gate_fwd_algebraic, trivial, dn_out_fwd_algebraic,
  trivial, sc_mix_fwd_algebraic, trivial, qkv_conv_fwd_algebraic, trivial, proj0_ba_algebraic,
  trivial, proj0_ba_dw_algebraic, trivial, proj0_ba_dx_algebraic, trivial⟩

end Cert.Proof

end
